-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_v46) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v48) = v4 c
          ∧ r.2.mem ((c.tc : Thread Cert.Reference6Ideal.nD Cert.Reference6Ideal.τ).loc Cert.Reference6Ideal.main_v43) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v17) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v31) = v2 c
          ∧ r.2.mem ((c.tc : Thread Cert.Reference9Ideal.nD Cert.Reference9Ideal.τ).loc Cert.Reference9Ideal.main_v32) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v37) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v55) = v0 c
          ∧ r.2.mem ((c.tc : Thread Cert.Reference11Ideal.nD Cert.Reference11Ideal.τ).loc Cert.Reference11Ideal.main_v51) = v1 c
          ∧ r.2.mem ((c.tc : Thread Cert.Reference11Ideal.nD Cert.Reference11Ideal.τ).loc Cert.Reference11Ideal.main_v56) = v2 c
          ∧ r.2.mem ((c.tc : Thread Cert.Reference11Ideal.nD Cert.Reference11Ideal.τ).loc Cert.Reference11Ideal.main_v57) = v3 c
          ∧ r.2.mem ((c.tc : Thread Cert.Reference11Ideal.nD Cert.Reference11Ideal.τ).loc Cert.Reference11Ideal.main_v58) = v4 c
          ∧ r.2.mem ((c.tc : Thread Cert.Reference11Ideal.nD Cert.Reference11Ideal.τ).loc Cert.Reference11Ideal.main_v59) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel7_Kernel7Ideal
    ∧ algebraic_Kernel7Ideal_Reference7Ideal (hKernel7Ideal := hKernel7Ideal) (hReference7Ideal := hReference7Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S8192x1024 .bf16) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Kernel.lean ====
abbrev S8192x3072 : Shape := ⟨2, ![8192, 3072]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8 : Shape := ⟨1, ![8]⟩
abbrev S8x1 : Shape := ⟨2, ![8, 1]⟩
abbrev S8x2048 : Shape := ⟨2, ![8, 2048]⟩
abbrev S8x1x2048 : Shape := ⟨3, ![8, 1, 2048]⟩
abbrev S4x16x1x2048x2048 : Shape := ⟨5, ![4, 16, 1, 2048, 2048]⟩
abbrev S4x16x8x2048x2048 : Shape := ⟨5, ![4, 16, 8, 2048, 2048]⟩
abbrev S4x16x8x2048 : Shape := ⟨4, ![4, 16, 8, 2048]⟩
abbrev S4x16x8x1x2048 : Shape := ⟨5, ![4, 16, 8, 1, 2048]⟩
abbrev S4x16x8x8x2048 : Shape := ⟨5, ![4, 16, 8, 8, 2048]⟩
abbrev S2048x128 : Shape := ⟨2, ![2048, 128]⟩
abbrev S1x2x8x8x2048 : Shape := ⟨5, ![1, 2, 8, 8, 2048]⟩
abbrev S2x2048x64 : Shape := ⟨3, ![2, 2048, 64]⟩
abbrev S2x8x64x256 : Shape := ⟨4, ![2, 8, 64, 256]⟩
abbrev S2x8x256x64 : Shape := ⟨4, ![2, 8, 256, 64]⟩
abbrev S264x256 : Shape := ⟨2, ![264, 256]⟩
abbrev S256x256 : Shape := ⟨2, ![256, 256]⟩
abbrev S2048x64 : Shape := ⟨2, ![2048, 64]⟩
abbrev S1x2048x64 : Shape := ⟨3, ![1, 2048, 64]⟩
abbrev S256x64 : Shape := ⟨2, ![256, 64]⟩
abbrev S64x256 : Shape := ⟨2, ![64, 256]⟩
abbrev S1x1x64x256 : Shape := ⟨4, ![1, 1, 64, 256]⟩
abbrev S8x256 : Shape := ⟨2, ![8, 256]⟩
abbrev S1x256x64 : Shape := ⟨3, ![1, 256, 64]⟩
abbrev S1x1x1x1x256 : Shape := ⟨5, ![1, 1, 1, 1, 256]⟩
abbrev S1x256 : Shape := ⟨2, ![1, 256]⟩

abbrev nBuf : Space → Nat
  | .hbm => 83
  | .vmem => 23
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S4x2048x16x64, .f32⟩
  | .hbm, ⟨6, _⟩ => ⟨S4x16x2048x64, .f32⟩
  | .hbm, ⟨7, _⟩ => ⟨S8192x1024, .f32⟩
  | .hbm, ⟨8, _⟩ => ⟨S4x2048x16x64, .f32⟩
  | .hbm, ⟨9, _⟩ => ⟨S4x16x2048x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S8, .i32⟩
  | .hbm, ⟨44, _⟩ => ⟨S8x1, .i32⟩
  | .hbm, ⟨45, _⟩ => ⟨S2048, .i32⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S1x2048, .i32⟩
  | .hbm, ⟨65, _⟩ => ⟨S8x2048, .i32⟩
  | .hbm, ⟨66, _⟩ => ⟨S8x2048, .i32⟩
  | .hbm, ⟨67, _⟩ => ⟨S8x2048, .i1⟩
  | .hbm, ⟨68, _⟩ => ⟨S8x1x2048, .i1⟩
  | .hbm, ⟨69, _⟩ => ⟨S4x16x1x2048x2048, .f32⟩
  | .hbm, ⟨70, _⟩ => ⟨S_, .f32⟩
  | .hbm, ⟨71, _⟩ => ⟨S_, .f32⟩
  | .hbm, ⟨72, _⟩ => ⟨S4x16x8x2048x2048, .i1⟩
  | .hbm, ⟨73, _⟩ => ⟨S4x16x8x2048x2048, .f32⟩
  | .hbm, ⟨74, _⟩ => ⟨S4x16x8x2048x2048, .f32⟩
  | .hbm, ⟨75, _⟩ => ⟨S4x16x8x2048x2048, .f32⟩
  | .hbm, ⟨76, _⟩ => ⟨S_, .f32⟩
  | .hbm, ⟨77, _⟩ => ⟨S4x16x8x2048, .f32⟩
  | .hbm, ⟨78, _⟩ => ⟨S4x16x8x1x2048, .f32⟩
  | .hbm, ⟨79, _⟩ => ⟨S4x16x8x8x2048, .f32⟩
  | .hbm, ⟨80, _⟩ => ⟨S8192x1024, .bf16⟩
  | .hbm, ⟨81, _⟩ => ⟨S8192x1024, .bf16⟩
  | .hbm, ⟨82, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x8x8x2048, .f32⟩
  | .local _ .vmem, ⟨9, _⟩ => ⟨S1x2x8x8x2048, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2x2048x64, .bf16⟩
  | .local _ .vmem, ⟨17, _⟩ => ⟨S2x2048x64, .bf16⟩
  | .local _ .vmem, ⟨18, _⟩ => ⟨S2x2048x64, .bf16⟩
  | .local _ .vmem, ⟨19, _⟩ => ⟨S2x2048x64, .bf16⟩
  | .local _ .vmem, ⟨20, _⟩ => ⟨S2x8x64x256, .bf16⟩
  | .local _ .vmem, ⟨21, _⟩ => ⟨S2x8x256x64, .f32⟩
  | .local _ .vmem, ⟨22, _⟩ => ⟨S2x8x256x64, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_1 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_v31 : Ref sig .tc := ⟨.hbm, 75, rfl⟩
abbrev main_cst_2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35_0 : Ref sig .tc := ⟨.hbm, 80, rfl⟩
abbrev main_v35_1 : Ref sig .tc := ⟨.hbm, 81, rfl⟩
abbrev main_v35_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c2048_i32 : BitVec 32 := 2048#32
  let v169 : BitVec 32 := Scalar.muli c0_i32 c2048_i32
  v169
@[reducible] def k0_t1_loop : Scf.Loop 32 :=
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_159 : BitVec 32 := 1#32
  ⟨c0_i32_158, v208, c1_i32_159⟩
def k0_mult2 (k0_t1 : Fin k0_t1_loop.trips) : BitVec 32 :=
  let c0_i32_158 : BitVec 32 := 0#32
  let c1_i32_159 : BitVec 32 := 1#32
  let arg17 : BitVec 32 := Scf.iv c0_i32_158 c1_i32_159 k0_t1
  let c256_i32_2694 : BitVec 32 := 256#32
  let v6195 : BitVec 32 := Scalar.muli arg17 c256_i32_2694
  v6195
def k0_off1 (k0_t1 : Fin k0_t1_loop.trips) : Fin 3 → Nat :=
  let c0_2695 : Index := 0#32
  let c0_i32_158 : BitVec 32 := 0#32
  let c1_i32_159 : BitVec 32 := 1#32
  let arg17 : BitVec 32 := Scf.iv c0_i32_158 c1_i32_159 k0_t1
  let c256_i32_2694 : BitVec 32 := 256#32
  let v6195 : BitVec 32 := Scalar.muli arg17 c256_i32_2694
  let v6196 : BitVec 32 := v6195
  let v6197 : Index := Scalar.indexCast v6196
  let c0_2696 : Index := 0#32
  ![0, v6197.toNat, 0]
def k0_off2 (k0_t1 : Fin k0_t1_loop.trips) : Fin 3 → Nat :=
  let c1_2697 : Index := 1#32
  let c0_i32_158 : BitVec 32 := 0#32
  let c1_i32_159 : BitVec 32 := 1#32
  let arg17 : BitVec 32 := Scf.iv c0_i32_158 c1_i32_159 k0_t1
  let c256_i32_2694 : BitVec 32 := 256#32
  let v6195 : BitVec 32 := Scalar.muli arg17 c256_i32_2694
  let v6196 : BitVec 32 := v6195
  let v6200 : Index := Scalar.indexCast v6196
  let c0_2698 : Index := 0#32
  ![1, v6200.toNat, 0]
def k0_mult3 : BitVec 32 :=
  let c0_i32 : BitVec 32 := 0#32
  let c2048_i32 : BitVec 32 := 2048#32
  let v169 : BitVec 32 := Scalar.muli c0_i32 c2048_i32
  let v170 : BitVec 32 := v169
  let c0_i32_2703 : BitVec 32 := 0#32
  let v6209 : BitVec 32 := Scalar.addi v170 c0_i32_2703
  v6209
def k0_off3 (c0_i32_2703 : BitVec 32) : Fin 3 → Nat :=
  let c0_2704 : Index := 0#32
  let c0_i32 : BitVec 32 := 0#32
  let c2048_i32 : BitVec 32 := 2048#32
  let v169 : BitVec 32 := Scalar.muli c0_i32 c2048_i32
  let v170 : BitVec 32 := v169
  let v6209 : BitVec 32 := Scalar.addi v170 c0_i32_2703
  let v6210 : BitVec 32 := v6209
  let v6211 : Index := Scalar.indexCast v6210
  let c0_2705 : Index := 0#32
  ![0, v6211.toNat, 0]
def k0_mult4 : BitVec 32 :=
  let c0_i32 : BitVec 32 := 0#32
  let c2048_i32 : BitVec 32 := 2048#32
  let v169 : BitVec 32 := Scalar.muli c0_i32 c2048_i32
  let v170 : BitVec 32 := v169
  let c256_i32_2707 : BitVec 32 := 256#32
  let v6215 : BitVec 32 := Scalar.addi v170 c256_i32_2707
  v6215
def k0_mult5 : BitVec 32 :=
  let c0_i32 : BitVec 32 := 0#32
  let c2048_i32 : BitVec 32 := 2048#32
  let v169 : BitVec 32 := Scalar.muli c0_i32 c2048_i32
  let v170 : BitVec 32 := v169
  let c512_i32_2711 : BitVec 32 := 512#32
  let v6221 : BitVec 32 := Scalar.addi v170 c512_i32_2711
  v6221
def k0_mult6 : BitVec 32 :=
  let c0_i32 : BitVec 32 := 0#32
  let c2048_i32 : BitVec 32 := 2048#32
  let v169 : BitVec 32 := Scalar.muli c0_i32 c2048_i32
  let v170 : BitVec 32 := v169
  let c768_i32_2715 : BitVec 32 := 768#32
  let v6227 : BitVec 32 := Scalar.addi v170 c768_i32_2715
  v6227
def k0_mult7 : BitVec 32 :=
  let c0_i32 : BitVec 32 := 0#32
  let c2048_i32 : BitVec 32 := 2048#32
  let v169 : BitVec 32 := Scalar.muli c0_i32 c2048_i32
  let v170 : BitVec 32 := v169
  let c1024_i32_2719 : BitVec 32 := 1024#32
  let v6233 : BitVec 32 := Scalar.addi v170 c1024_i32_2719
  v6233
def k0_mult8 : BitVec 32 :=
  let c0_i32 : BitVec 32 := 0#32
  let c2048_i32 : BitVec 32 := 2048#32
  let v169 : BitVec 32 := Scalar.muli c0_i32 c2048_i32
  let v170 : BitVec 32 := v169
  let c1280_i32_2723 : BitVec 32 := 1280#32
  let v6239 : BitVec 32 := Scalar.addi v170 c1280_i32_2723
  v6239
def k0_mult9 : BitVec 32 :=
  let c0_i32 : BitVec 32 := 0#32
  let c2048_i32 : BitVec 32 := 2048#32
  let v169 : BitVec 32 := Scalar.muli c0_i32 c2048_i32
  let v170 : BitVec 32 := v169
  let c1536_i32_2727 : BitVec 32 := 1536#32
  let v6245 : BitVec 32 := Scalar.addi v170 c1536_i32_2727
  v6245
def k0_mult10 : BitVec 32 :=
  let c0_i32 : BitVec 32 := 0#32
  let c2048_i32 : BitVec 32 := 2048#32
  let v169 : BitVec 32 := Scalar.muli c0_i32 c2048_i32
  let v170 : BitVec 32 := v169
  let c1792_i32_2731 : BitVec 32 := 1792#32
  let v6251 : BitVec 32 := Scalar.addi v170 c1792_i32_2731
  v6251
def k0_mult11 : BitVec 32 :=
  let c0_i32 : BitVec 32 := 0#32
  let c2048_i32 : BitVec 32 := 2048#32
  let v169 : BitVec 32 := Scalar.muli c0_i32 c2048_i32
  let v170 : BitVec 32 := v169
  let c0_i32_2735 : BitVec 32 := 0#32
  let v6257 : BitVec 32 := Scalar.addi v170 c0_i32_2735
  v6257
def k0_off4 (c0_i32_2735 : BitVec 32) : Fin 3 → Nat :=
  let c1_2736 : Index := 1#32
  let c0_i32 : BitVec 32 := 0#32
  let c2048_i32 : BitVec 32 := 2048#32
  let v169 : BitVec 32 := Scalar.muli c0_i32 c2048_i32
  let v170 : BitVec 32 := v169
  let v6257 : BitVec 32 := Scalar.addi v170 c0_i32_2735
  let v6258 : BitVec 32 := v6257
  let v6259 : Index := Scalar.indexCast v6258
  let c0_2737 : Index := 0#32
  ![1, v6259.toNat, 0]
def k0_mult12 : BitVec 32 :=
  let c0_i32 : BitVec 32 := 0#32
  let c2048_i32 : BitVec 32 := 2048#32
  let v169 : BitVec 32 := Scalar.muli c0_i32 c2048_i32
  let v170 : BitVec 32 := v169
  let c256_i32_2739 : BitVec 32 := 256#32
  let v6263 : BitVec 32 := Scalar.addi v170 c256_i32_2739
  v6263
def k0_mult13 : BitVec 32 :=
  let c0_i32 : BitVec 32 := 0#32
  let c2048_i32 : BitVec 32 := 2048#32
  let v169 : BitVec 32 := Scalar.muli c0_i32 c2048_i32
  let v170 : BitVec 32 := v169
  let c512_i32_2743 : BitVec 32 := 512#32
  let v6269 : BitVec 32 := Scalar.addi v170 c512_i32_2743
  v6269
def k0_mult14 : BitVec 32 :=
  let c0_i32 : BitVec 32 := 0#32
  let c2048_i32 : BitVec 32 := 2048#32
  let v169 : BitVec 32 := Scalar.muli c0_i32 c2048_i32
  let v170 : BitVec 32 := v169
  let c768_i32_2747 : BitVec 32 := 768#32
  let v6275 : BitVec 32 := Scalar.addi v170 c768_i32_2747
  v6275
def k0_mult15 : BitVec 32 :=
  let c0_i32 : BitVec 32 := 0#32
  let c2048_i32 : BitVec 32 := 2048#32
  let v169 : BitVec 32 := Scalar.muli c0_i32 c2048_i32
  let v170 : BitVec 32 := v169
  let c1024_i32_2751 : BitVec 32 := 1024#32
  let v6281 : BitVec 32 := Scalar.addi v170 c1024_i32_2751
  v6281
def k0_mult16 : BitVec 32 :=
  let c0_i32 : BitVec 32 := 0#32
  let c2048_i32 : BitVec 32 := 2048#32
  let v169 : BitVec 32 := Scalar.muli c0_i32 c2048_i32
  let v170 : BitVec 32 := v169
  let c1280_i32_2755 : BitVec 32 := 1280#32
  let v6287 : BitVec 32 := Scalar.addi v170 c1280_i32_2755
  v6287
def k0_mult17 : BitVec 32 :=
  let c0_i32 : BitVec 32 := 0#32
  let c2048_i32 : BitVec 32 := 2048#32
  let v169 : BitVec 32 := Scalar.muli c0_i32 c2048_i32
  let v170 : BitVec 32 := v169
  let c1536_i32_2759 : BitVec 32 := 1536#32
  let v6293 : BitVec 32 := Scalar.addi v170 c1536_i32_2759
  v6293
def k0_mult18 : BitVec 32 :=
  let c0_i32 : BitVec 32 := 0#32
  let c2048_i32 : BitVec 32 := 2048#32
  let v169 : BitVec 32 := Scalar.muli c0_i32 c2048_i32
  let v170 : BitVec 32 := v169
  let c1792_i32_2763 : BitVec 32 := 1792#32
  let v6299 : BitVec 32 := Scalar.addi v170 c1792_i32_2763
  v6299
def k0_mult19 : BitVec 32 :=
  let c0_i32 : BitVec 32 := 0#32
  let c2048_i32 : BitVec 32 := 2048#32
  let v169 : BitVec 32 := Scalar.muli c0_i32 c2048_i32
  let v170 : BitVec 32 := v169
  let c0_i32_2767 : BitVec 32 := 0#32
  let v6305 : BitVec 32 := Scalar.addi v170 c0_i32_2767
  v6305
def k0_mult20 : BitVec 32 :=
  let c0_i32 : BitVec 32 := 0#32
  let c2048_i32 : BitVec 32 := 2048#32
  let v169 : BitVec 32 := Scalar.muli c0_i32 c2048_i32
  let v170 : BitVec 32 := v169
  let c256_i32_2771 : BitVec 32 := 256#32
  let v6311 : BitVec 32 := Scalar.addi v170 c256_i32_2771
  v6311
def k0_mult21 : BitVec 32 :=
  let c0_i32 : BitVec 32 := 0#32
  let c2048_i32 : BitVec 32 := 2048#32
  let v169 : BitVec 32 := Scalar.muli c0_i32 c2048_i32
  let v170 : BitVec 32 := v169
  let c512_i32_2775 : BitVec 32 := 512#32
  let v6317 : BitVec 32 := Scalar.addi v170 c512_i32_2775
  v6317
def k0_mult22 : BitVec 32 :=
  let c0_i32 : BitVec 32 := 0#32
  let c2048_i32 : BitVec 32 := 2048#32
  let v169 : BitVec 32 := Scalar.muli c0_i32 c2048_i32
  let v170 : BitVec 32 := v169
  let c768_i32_2779 : BitVec 32 := 768#32
  let v6323 : BitVec 32 := Scalar.addi v170 c768_i32_2779
  v6323
def k0_mult23 : BitVec 32 :=
  let c0_i32 : BitVec 32 := 0#32
  let c2048_i32 : BitVec 32 := 2048#32
  let v169 : BitVec 32 := Scalar.muli c0_i32 c2048_i32
  let v170 : BitVec 32 := v169
  let c1024_i32_2783 : BitVec 32 := 1024#32
  let v6329 : BitVec 32 := Scalar.addi v170 c1024_i32_2783
  v6329
def k0_mult24 : BitVec 32 :=
  let c0_i32 : BitVec 32 := 0#32
  let c2048_i32 : BitVec 32 := 2048#32
  let v169 : BitVec 32 := Scalar.muli c0_i32 c2048_i32
  let v170 : BitVec 32 := v169
  let c1280_i32_2787 : BitVec 32 := 1280#32
  let v6335 : BitVec 32 := Scalar.addi v170 c1280_i32_2787
  v6335
def k0_mult25 : BitVec 32 :=
  let c0_i32 : BitVec 32 := 0#32
  let c2048_i32 : BitVec 32 := 2048#32
  let v169 : BitVec 32 := Scalar.muli c0_i32 c2048_i32
  let v170 : BitVec 32 := v169
  let c1536_i32_2791 : BitVec 32 := 1536#32
  let v6341 : BitVec 32 := Scalar.addi v170 c1536_i32_2791
  v6341
def k0_mult26 : BitVec 32 :=
  let c0_i32 : BitVec 32 := 0#32
  let c2048_i32 : BitVec 32 := 2048#32
  let v169 : BitVec 32 := Scalar.muli c0_i32 c2048_i32
  let v170 : BitVec 32 := v169
  let c1792_i32_2795 : BitVec 32 := 1792#32
  let v6347 : BitVec 32 := Scalar.addi v170 c1792_i32_2795
  v6347
def k0_mult27 : BitVec 32 :=
  let c0_i32 : BitVec 32 := 0#32
  let c2048_i32 : BitVec 32 := 2048#32
  let v169 : BitVec 32 := Scalar.muli c0_i32 c2048_i32
  let v170 : BitVec 32 := v169
  let c0_i32_2799 : BitVec 32 := 0#32
  let v6353 : BitVec 32 := Scalar.addi v170 c0_i32_2799
  v6353
def k0_mult28 : BitVec 32 :=
  let c0_i32 : BitVec 32 := 0#32
  let c2048_i32 : BitVec 32 := 2048#32
  let v169 : BitVec 32 := Scalar.muli c0_i32 c2048_i32
  let v170 : BitVec 32 := v169
  let c256_i32_2803 : BitVec 32 := 256#32
  let v6359 : BitVec 32 := Scalar.addi v170 c256_i32_2803
  v6359
def k0_mult29 : BitVec 32 :=
  let c0_i32 : BitVec 32 := 0#32
  let c2048_i32 : BitVec 32 := 2048#32
  let v169 : BitVec 32 := Scalar.muli c0_i32 c2048_i32
  let v170 : BitVec 32 := v169
  let c512_i32_2807 : BitVec 32 := 512#32
  let v6365 : BitVec 32 := Scalar.addi v170 c512_i32_2807
  v6365
def k0_mult30 : BitVec 32 :=
  let c0_i32 : BitVec 32 := 0#32
  let c2048_i32 : BitVec 32 := 2048#32
  let v169 : BitVec 32 := Scalar.muli c0_i32 c2048_i32
  let v170 : BitVec 32 := v169
  let c768_i32_2811 : BitVec 32 := 768#32
  let v6371 : BitVec 32 := Scalar.addi v170 c768_i32_2811
  v6371
def k0_mult31 : BitVec 32 :=
  let c0_i32 : BitVec 32 := 0#32
  let c2048_i32 : BitVec 32 := 2048#32
  let v169 : BitVec 32 := Scalar.muli c0_i32 c2048_i32
  let v170 : BitVec 32 := v169
  let c1024_i32_2815 : BitVec 32 := 1024#32
  let v6377 : BitVec 32 := Scalar.addi v170 c1024_i32_2815
  v6377
def k0_mult32 : BitVec 32 :=
  let c0_i32 : BitVec 32 := 0#32
  let c2048_i32 : BitVec 32 := 2048#32
  let v169 : BitVec 32 := Scalar.muli c0_i32 c2048_i32
  let v170 : BitVec 32 := v169
  let c1280_i32_2819 : BitVec 32 := 1280#32
  let v6383 : BitVec 32 := Scalar.addi v170 c1280_i32_2819
  v6383
def k0_mult33 : BitVec 32 :=
  let c0_i32 : BitVec 32 := 0#32
  let c2048_i32 : BitVec 32 := 2048#32
  let v169 : BitVec 32 := Scalar.muli c0_i32 c2048_i32
  let v170 : BitVec 32 := v169
  let c1536_i32_2823 : BitVec 32 := 1536#32
  let v6389 : BitVec 32 := Scalar.addi v170 c1536_i32_2823
  v6389
def k0_mult34 : BitVec 32 :=
  let c0_i32 : BitVec 32 := 0#32
  let c2048_i32 : BitVec 32 := 2048#32
  let v169 : BitVec 32 := Scalar.muli c0_i32 c2048_i32
  let v170 : BitVec 32 := v169
  let c1792_i32_2827 : BitVec 32 := 1792#32
  let v6395 : BitVec 32 := Scalar.addi v170 c1792_i32_2827
  v6395
def k0_off5 (k0_t1 : Fin k0_t1_loop.trips) : Fin 5 → Nat :=
  let c0_2928 : Index := 0#32
  let c0_2929 : Index := 0#32
  let c0_i32 : BitVec 32 := 0#32
  let c8_i32_2927 : BitVec 32 := 8#32
  let v6706 : BitVec 32 := Scalar.muli c0_i32 c8_i32_2927
  let c0_i32_158 : BitVec 32 := 0#32
  let c1_i32_159 : BitVec 32 := 1#32
  let arg17 : BitVec 32 := Scf.iv c0_i32_158 c1_i32_159 k0_t1
  let v6707 : BitVec 32 := Scalar.addi v6706 arg17
  let v6708 : Index := Scalar.indexCast v6707
  let c0_2930 : Index := 0#32
  let c0_2931 : Index := 0#32
  ![0, 0, v6708.toNat, 0, 0]
def k0_off6 (k0_t1 : Fin k0_t1_loop.trips) : Fin 5 → Nat :=
  let c0_2933 : Index := 0#32
  let c0_2934 : Index := 0#32
  let c0_i32 : BitVec 32 := 0#32
  let c8_i32_2932 : BitVec 32 := 8#32
  let v6717 : BitVec 32 := Scalar.muli c0_i32 c8_i32_2932
  let c0_i32_158 : BitVec 32 := 0#32
  let c1_i32_159 : BitVec 32 := 1#32
  let arg17 : BitVec 32 := Scf.iv c0_i32_158 c1_i32_159 k0_t1
  let v6718 : BitVec 32 := Scalar.addi v6717 arg17
  let v6719 : Index := Scalar.indexCast v6718
  let c0_2935 : Index := 0#32
  let c256_2936 : Index := 256#32
  ![0, 0, v6719.toNat, 0, 256]
def k0_off7 (k0_t1 : Fin k0_t1_loop.trips) : Fin 5 → Nat :=
  let c0_2938 : Index := 0#32
  let c0_2939 : Index := 0#32
  let c0_i32 : BitVec 32 := 0#32
  let c8_i32_2937 : BitVec 32 := 8#32
  let v6728 : BitVec 32 := Scalar.muli c0_i32 c8_i32_2937
  let c0_i32_158 : BitVec 32 := 0#32
  let c1_i32_159 : BitVec 32 := 1#32
  let arg17 : BitVec 32 := Scf.iv c0_i32_158 c1_i32_159 k0_t1
  let v6729 : BitVec 32 := Scalar.addi v6728 arg17
  let v6730 : Index := Scalar.indexCast v6729
  let c0_2940 : Index := 0#32
  let c512_2941 : Index := 512#32
  ![0, 0, v6730.toNat, 0, 512]
def k0_off8 (k0_t1 : Fin k0_t1_loop.trips) : Fin 5 → Nat :=
  let c0_2943 : Index := 0#32
  let c0_2944 : Index := 0#32
  let c0_i32 : BitVec 32 := 0#32
  let c8_i32_2942 : BitVec 32 := 8#32
  let v6739 : BitVec 32 := Scalar.muli c0_i32 c8_i32_2942
  let c0_i32_158 : BitVec 32 := 0#32
  let c1_i32_159 : BitVec 32 := 1#32
  let arg17 : BitVec 32 := Scf.iv c0_i32_158 c1_i32_159 k0_t1
  let v6740 : BitVec 32 := Scalar.addi v6739 arg17
  let v6741 : Index := Scalar.indexCast v6740
  let c0_2945 : Index := 0#32
  let c768_2946 : Index := 768#32
  ![0, 0, v6741.toNat, 0, 768]
def k0_off9 (k0_t1 : Fin k0_t1_loop.trips) : Fin 5 → Nat :=
  let c0_2948 : Index := 0#32
  let c0_2949 : Index := 0#32
  let c0_i32 : BitVec 32 := 0#32
  let c8_i32_2947 : BitVec 32 := 8#32
  let v6750 : BitVec 32 := Scalar.muli c0_i32 c8_i32_2947
  let c0_i32_158 : BitVec 32 := 0#32
  let c1_i32_159 : BitVec 32 := 1#32
  let arg17 : BitVec 32 := Scf.iv c0_i32_158 c1_i32_159 k0_t1
  let v6751 : BitVec 32 := Scalar.addi v6750 arg17
  let v6752 : Index := Scalar.indexCast v6751
  let c0_2950 : Index := 0#32
  let c1024_2951 : Index := 1024#32
  ![0, 0, v6752.toNat, 0, 1024]
def k0_off10 (k0_t1 : Fin k0_t1_loop.trips) : Fin 5 → Nat :=
  let c0_2953 : Index := 0#32
  let c0_2954 : Index := 0#32
  let c0_i32 : BitVec 32 := 0#32
  let c8_i32_2952 : BitVec 32 := 8#32
  let v6761 : BitVec 32 := Scalar.muli c0_i32 c8_i32_2952
  let c0_i32_158 : BitVec 32 := 0#32
  let c1_i32_159 : BitVec 32 := 1#32
  let arg17 : BitVec 32 := Scf.iv c0_i32_158 c1_i32_159 k0_t1
  let v6762 : BitVec 32 := Scalar.addi v6761 arg17
  let v6763 : Index := Scalar.indexCast v6762
  let c0_2955 : Index := 0#32
  let c1280_2956 : Index := 1280#32
  ![0, 0, v6763.toNat, 0, 1280]
def k0_off11 (k0_t1 : Fin k0_t1_loop.trips) : Fin 5 → Nat :=
  let c0_2958 : Index := 0#32
  let c0_2959 : Index := 0#32
  let c0_i32 : BitVec 32 := 0#32
  let c8_i32_2957 : BitVec 32 := 8#32
  let v6772 : BitVec 32 := Scalar.muli c0_i32 c8_i32_2957
  let c0_i32_158 : BitVec 32 := 0#32
  let c1_i32_159 : BitVec 32 := 1#32
  let arg17 : BitVec 32 := Scf.iv c0_i32_158 c1_i32_159 k0_t1
  let v6773 : BitVec 32 := Scalar.addi v6772 arg17
  let v6774 : Index := Scalar.indexCast v6773
  let c0_2960 : Index := 0#32
  let c1536_2961 : Index := 1536#32
  ![0, 0, v6774.toNat, 0, 1536]
def k0_off12 (k0_t1 : Fin k0_t1_loop.trips) : Fin 5 → Nat :=
  let c0_2963 : Index := 0#32
  let c0_2964 : Index := 0#32
  let c0_i32 : BitVec 32 := 0#32
  let c8_i32_2962 : BitVec 32 := 8#32
  let v6783 : BitVec 32 := Scalar.muli c0_i32 c8_i32_2962
  let c0_i32_158 : BitVec 32 := 0#32
  let c1_i32_159 : BitVec 32 := 1#32
  let arg17 : BitVec 32 := Scf.iv c0_i32_158 c1_i32_159 k0_t1
  let v6784 : BitVec 32 := Scalar.addi v6783 arg17
  let v6785 : Index := Scalar.indexCast v6784
  let c0_2965 : Index := 0#32
  let c1792_2966 : Index := 1792#32
  ![0, 0, v6785.toNat, 0, 1792]
def k0_off13 (k0_t1 : Fin k0_t1_loop.trips) : Fin 5 → Nat :=
  let c0_2968 : Index := 0#32
  let c1_2969 : Index := 1#32
  let c0_i32 : BitVec 32 := 0#32
  let c8_i32_2967 : BitVec 32 := 8#32
  let v6794 : BitVec 32 := Scalar.muli c0_i32 c8_i32_2967
  let c0_i32_158 : BitVec 32 := 0#32
  let c1_i32_159 : BitVec 32 := 1#32
  let arg17 : BitVec 32 := Scf.iv c0_i32_158 c1_i32_159 k0_t1
  let v6795 : BitVec 32 := Scalar.addi v6794 arg17
  let v6796 : Index := Scalar.indexCast v6795
  let c0_2970 : Index := 0#32
  let c0_2971 : Index := 0#32
  ![0, 1, v6796.toNat, 0, 0]
def k0_off14 (k0_t1 : Fin k0_t1_loop.trips) : Fin 5 → Nat :=
  let c0_2973 : Index := 0#32
  let c1_2974 : Index := 1#32
  let c0_i32 : BitVec 32 := 0#32
  let c8_i32_2972 : BitVec 32 := 8#32
  let v6805 : BitVec 32 := Scalar.muli c0_i32 c8_i32_2972
  let c0_i32_158 : BitVec 32 := 0#32
  let c1_i32_159 : BitVec 32 := 1#32
  let arg17 : BitVec 32 := Scf.iv c0_i32_158 c1_i32_159 k0_t1
  let v6806 : BitVec 32 := Scalar.addi v6805 arg17
  let v6807 : Index := Scalar.indexCast v6806
  let c0_2975 : Index := 0#32
  let c256_2976 : Index := 256#32
  ![0, 1, v6807.toNat, 0, 256]
def k0_off15 (k0_t1 : Fin k0_t1_loop.trips) : Fin 5 → Nat :=
  let c0_2978 : Index := 0#32
  let c1_2979 : Index := 1#32
  let c0_i32 : BitVec 32 := 0#32
  let c8_i32_2977 : BitVec 32 := 8#32
  let v6816 : BitVec 32 := Scalar.muli c0_i32 c8_i32_2977
  let c0_i32_158 : BitVec 32 := 0#32
  let c1_i32_159 : BitVec 32 := 1#32
  let arg17 : BitVec 32 := Scf.iv c0_i32_158 c1_i32_159 k0_t1
  let v6817 : BitVec 32 := Scalar.addi v6816 arg17
  let v6818 : Index := Scalar.indexCast v6817
  let c0_2980 : Index := 0#32
  let c512_2981 : Index := 512#32
  ![0, 1, v6818.toNat, 0, 512]
def k0_off16 (k0_t1 : Fin k0_t1_loop.trips) : Fin 5 → Nat :=
  let c0_2983 : Index := 0#32
  let c1_2984 : Index := 1#32
  let c0_i32 : BitVec 32 := 0#32
  let c8_i32_2982 : BitVec 32 := 8#32
  let v6827 : BitVec 32 := Scalar.muli c0_i32 c8_i32_2982
  let c0_i32_158 : BitVec 32 := 0#32
  let c1_i32_159 : BitVec 32 := 1#32
  let arg17 : BitVec 32 := Scf.iv c0_i32_158 c1_i32_159 k0_t1
  let v6828 : BitVec 32 := Scalar.addi v6827 arg17
  let v6829 : Index := Scalar.indexCast v6828
  let c0_2985 : Index := 0#32
  let c768_2986 : Index := 768#32
  ![0, 1, v6829.toNat, 0, 768]
def k0_off17 (k0_t1 : Fin k0_t1_loop.trips) : Fin 5 → Nat :=
  let c0_2988 : Index := 0#32
  let c1_2989 : Index := 1#32
  let c0_i32 : BitVec 32 := 0#32
  let c8_i32_2987 : BitVec 32 := 8#32
  let v6838 : BitVec 32 := Scalar.muli c0_i32 c8_i32_2987
  let c0_i32_158 : BitVec 32 := 0#32
  let c1_i32_159 : BitVec 32 := 1#32
  let arg17 : BitVec 32 := Scf.iv c0_i32_158 c1_i32_159 k0_t1
  let v6839 : BitVec 32 := Scalar.addi v6838 arg17
  let v6840 : Index := Scalar.indexCast v6839
  let c0_2990 : Index := 0#32
  let c1024_2991 : Index := 1024#32
  ![0, 1, v6840.toNat, 0, 1024]
def k0_off18 (k0_t1 : Fin k0_t1_loop.trips) : Fin 5 → Nat :=
  let c0_2993 : Index := 0#32
  let c1_2994 : Index := 1#32
  let c0_i32 : BitVec 32 := 0#32
  let c8_i32_2992 : BitVec 32 := 8#32
  let v6849 : BitVec 32 := Scalar.muli c0_i32 c8_i32_2992
  let c0_i32_158 : BitVec 32 := 0#32
  let c1_i32_159 : BitVec 32 := 1#32
  let arg17 : BitVec 32 := Scf.iv c0_i32_158 c1_i32_159 k0_t1
  let v6850 : BitVec 32 := Scalar.addi v6849 arg17
  let v6851 : Index := Scalar.indexCast v6850
  let c0_2995 : Index := 0#32
  let c1280_2996 : Index := 1280#32
  ![0, 1, v6851.toNat, 0, 1280]
def k0_off19 (k0_t1 : Fin k0_t1_loop.trips) : Fin 5 → Nat :=
  let c0_2998 : Index := 0#32
  let c1_2999 : Index := 1#32
  let c0_i32 : BitVec 32 := 0#32
  let c8_i32_2997 : BitVec 32 := 8#32
  let v6860 : BitVec 32 := Scalar.muli c0_i32 c8_i32_2997
  let c0_i32_158 : BitVec 32 := 0#32
  let c1_i32_159 : BitVec 32 := 1#32
  let arg17 : BitVec 32 := Scf.iv c0_i32_158 c1_i32_159 k0_t1
  let v6861 : BitVec 32 := Scalar.addi v6860 arg17
  let v6862 : Index := Scalar.indexCast v6861
  let c0_3000 : Index := 0#32
  let c1536_3001 : Index := 1536#32
  ![0, 1, v6862.toNat, 0, 1536]
def k0_off20 (k0_t1 : Fin k0_t1_loop.trips) : Fin 5 → Nat :=
  let c0_3003 : Index := 0#32
  let c1_3004 : Index := 1#32
  let c0_i32 : BitVec 32 := 0#32
  let c8_i32_3002 : BitVec 32 := 8#32
  let v6871 : BitVec 32 := Scalar.muli c0_i32 c8_i32_3002
  let c0_i32_158 : BitVec 32 := 0#32
  let c1_i32_159 : BitVec 32 := 1#32
  let arg17 : BitVec 32 := Scf.iv c0_i32_158 c1_i32_159 k0_t1
  let v6872 : BitVec 32 := Scalar.addi v6871 arg17
  let v6873 : Index := Scalar.indexCast v6872
  let c0_3005 : Index := 0#32
  let c1792_3006 : Index := 1792#32
  ![0, 1, v6873.toNat, 0, 1792]
def k0_mult35 : BitVec 32 :=
  let c0_i32 : BitVec 32 := 0#32
  let c2048_i32 : BitVec 32 := 2048#32
  let v169 : BitVec 32 := Scalar.muli c0_i32 c2048_i32
  let v170 : BitVec 32 := v169
  let c0_i32_3023 : BitVec 32 := 0#32
  let v7105 : BitVec 32 := Scalar.addi v170 c0_i32_3023
  v7105
def k0_mult36 : BitVec 32 :=
  let c0_i32 : BitVec 32 := 0#32
  let c2048_i32 : BitVec 32 := 2048#32
  let v169 : BitVec 32 := Scalar.muli c0_i32 c2048_i32
  let v170 : BitVec 32 := v169
  let c256_i32_3028 : BitVec 32 := 256#32
  let v7113 : BitVec 32 := Scalar.addi v170 c256_i32_3028
  v7113
def k0_mult37 : BitVec 32 :=
  let c0_i32 : BitVec 32 := 0#32
  let c2048_i32 : BitVec 32 := 2048#32
  let v169 : BitVec 32 := Scalar.muli c0_i32 c2048_i32
  let v170 : BitVec 32 := v169
  let c512_i32_3032 : BitVec 32 := 512#32
  let v7120 : BitVec 32 := Scalar.addi v170 c512_i32_3032
  v7120
def k0_mult38 : BitVec 32 :=
  let c0_i32 : BitVec 32 := 0#32
  let c2048_i32 : BitVec 32 := 2048#32
  let v169 : BitVec 32 := Scalar.muli c0_i32 c2048_i32
  let v170 : BitVec 32 := v169
  let c768_i32_3036 : BitVec 32 := 768#32
  let v7127 : BitVec 32 := Scalar.addi v170 c768_i32_3036
  v7127
def k0_mult39 : BitVec 32 :=
  let c0_i32 : BitVec 32 := 0#32
  let c2048_i32 : BitVec 32 := 2048#32
  let v169 : BitVec 32 := Scalar.muli c0_i32 c2048_i32
  let v170 : BitVec 32 := v169
  let c1024_i32_3040 : BitVec 32 := 1024#32
  let v7134 : BitVec 32 := Scalar.addi v170 c1024_i32_3040
  v7134
def k0_mult40 : BitVec 32 :=
  let c0_i32 : BitVec 32 := 0#32
  let c2048_i32 : BitVec 32 := 2048#32
  let v169 : BitVec 32 := Scalar.muli c0_i32 c2048_i32
  let v170 : BitVec 32 := v169
  let c1280_i32_3044 : BitVec 32 := 1280#32
  let v7141 : BitVec 32 := Scalar.addi v170 c1280_i32_3044
  v7141
def k0_mult41 : BitVec 32 :=
  let c0_i32 : BitVec 32 := 0#32
  let c2048_i32 : BitVec 32 := 2048#32
  let v169 : BitVec 32 := Scalar.muli c0_i32 c2048_i32
  let v170 : BitVec 32 := v169
  let c1536_i32_3048 : BitVec 32 := 1536#32
  let v7148 : BitVec 32 := Scalar.addi v170 c1536_i32_3048
  v7148
def k0_mult42 : BitVec 32 :=
  let c0_i32 : BitVec 32 := 0#32
  let c2048_i32 : BitVec 32 := 2048#32
  let v169 : BitVec 32 := Scalar.muli c0_i32 c2048_i32
  let v170 : BitVec 32 := v169
  let c1792_i32_3052 : BitVec 32 := 1792#32
  let v7155 : BitVec 32 := Scalar.addi v170 c1792_i32_3052
  v7155
def k0_mult43 : BitVec 32 :=
  let c0_i32 : BitVec 32 := 0#32
  let c2048_i32 : BitVec 32 := 2048#32
  let v169 : BitVec 32 := Scalar.muli c0_i32 c2048_i32
  let v170 : BitVec 32 := v169
  let c0_i32_3056 : BitVec 32 := 0#32
  let v7162 : BitVec 32 := Scalar.addi v170 c0_i32_3056
  v7162
def k0_mult44 : BitVec 32 :=
  let c0_i32 : BitVec 32 := 0#32
  let c2048_i32 : BitVec 32 := 2048#32
  let v169 : BitVec 32 := Scalar.muli c0_i32 c2048_i32
  let v170 : BitVec 32 := v169
  let c256_i32_3061 : BitVec 32 := 256#32
  let v7170 : BitVec 32 := Scalar.addi v170 c256_i32_3061
  v7170
def k0_mult45 : BitVec 32 :=
  let c0_i32 : BitVec 32 := 0#32
  let c2048_i32 : BitVec 32 := 2048#32
  let v169 : BitVec 32 := Scalar.muli c0_i32 c2048_i32
  let v170 : BitVec 32 := v169
  let c512_i32_3065 : BitVec 32 := 512#32
  let v7177 : BitVec 32 := Scalar.addi v170 c512_i32_3065
  v7177
def k0_mult46 : BitVec 32 :=
  let c0_i32 : BitVec 32 := 0#32
  let c2048_i32 : BitVec 32 := 2048#32
  let v169 : BitVec 32 := Scalar.muli c0_i32 c2048_i32
  let v170 : BitVec 32 := v169
  let c768_i32_3069 : BitVec 32 := 768#32
  let v7184 : BitVec 32 := Scalar.addi v170 c768_i32_3069
  v7184
def k0_mult47 : BitVec 32 :=
  let c0_i32 : BitVec 32 := 0#32
  let c2048_i32 : BitVec 32 := 2048#32
  let v169 : BitVec 32 := Scalar.muli c0_i32 c2048_i32
  let v170 : BitVec 32 := v169
  let c1024_i32_3073 : BitVec 32 := 1024#32
  let v7191 : BitVec 32 := Scalar.addi v170 c1024_i32_3073
  v7191
def k0_mult48 : BitVec 32 :=
  let c0_i32 : BitVec 32 := 0#32
  let c2048_i32 : BitVec 32 := 2048#32
  let v169 : BitVec 32 := Scalar.muli c0_i32 c2048_i32
  let v170 : BitVec 32 := v169
  let c1280_i32_3077 : BitVec 32 := 1280#32
  let v7198 : BitVec 32 := Scalar.addi v170 c1280_i32_3077
  v7198
def k0_mult49 : BitVec 32 :=
  let c0_i32 : BitVec 32 := 0#32
  let c2048_i32 : BitVec 32 := 2048#32
  let v169 : BitVec 32 := Scalar.muli c0_i32 c2048_i32
  let v170 : BitVec 32 := v169
  let c1536_i32_3081 : BitVec 32 := 1536#32
  let v7205 : BitVec 32 := Scalar.addi v170 c1536_i32_3081
  v7205
def k0_mult50 : BitVec 32 :=
  let c0_i32 : BitVec 32 := 0#32
  let c2048_i32 : BitVec 32 := 2048#32
  let v169 : BitVec 32 := Scalar.muli c0_i32 c2048_i32
  let v170 : BitVec 32 := v169
  let c1792_i32_3085 : BitVec 32 := 1792#32
  let v7212 : BitVec 32 := Scalar.addi v170 c1792_i32_3085
  v7212
def k0_off21 (k0_t1 : Fin k0_t1_loop.trips) : Fin 2 → Nat :=
  let c0_i32_158 : BitVec 32 := 0#32
  let c1_i32_159 : BitVec 32 := 1#32
  let arg17 : BitVec 32 := Scf.iv c0_i32_158 c1_i32_159 k0_t1
  let c256_i32_2694 : BitVec 32 := 256#32
  let v6195 : BitVec 32 := Scalar.muli arg17 c256_i32_2694
  let v6196 : BitVec 32 := v6195
  let v7220 : Index := Scalar.indexCast v6196
  let c0_3089 : Index := 0#32
  ![v7220.toNat, 0]
def k0_mult51 : BitVec 32 :=
  let c0_i32 : BitVec 32 := 0#32
  let c2048_i32 : BitVec 32 := 2048#32
  let v169 : BitVec 32 := Scalar.muli c0_i32 c2048_i32
  let v170 : BitVec 32 := v169
  let c0_i32_3091 : BitVec 32 := 0#32
  let v7225 : BitVec 32 := Scalar.addi v170 c0_i32_3091
  v7225
def k0_mult52 : BitVec 32 :=
  let c0_i32 : BitVec 32 := 0#32
  let c2048_i32 : BitVec 32 := 2048#32
  let v169 : BitVec 32 := Scalar.muli c0_i32 c2048_i32
  let v170 : BitVec 32 := v169
  let c256_i32_3096 : BitVec 32 := 256#32
  let v7233 : BitVec 32 := Scalar.addi v170 c256_i32_3096
  v7233
def k0_mult53 : BitVec 32 :=
  let c0_i32 : BitVec 32 := 0#32
  let c2048_i32 : BitVec 32 := 2048#32
  let v169 : BitVec 32 := Scalar.muli c0_i32 c2048_i32
  let v170 : BitVec 32 := v169
  let c512_i32_3100 : BitVec 32 := 512#32
  let v7240 : BitVec 32 := Scalar.addi v170 c512_i32_3100
  v7240
def k0_mult54 : BitVec 32 :=
  let c0_i32 : BitVec 32 := 0#32
  let c2048_i32 : BitVec 32 := 2048#32
  let v169 : BitVec 32 := Scalar.muli c0_i32 c2048_i32
  let v170 : BitVec 32 := v169
  let c768_i32_3104 : BitVec 32 := 768#32
  let v7247 : BitVec 32 := Scalar.addi v170 c768_i32_3104
  v7247
def k0_mult55 : BitVec 32 :=
  let c0_i32 : BitVec 32 := 0#32
  let c2048_i32 : BitVec 32 := 2048#32
  let v169 : BitVec 32 := Scalar.muli c0_i32 c2048_i32
  let v170 : BitVec 32 := v169
  let c1024_i32_3108 : BitVec 32 := 1024#32
  let v7254 : BitVec 32 := Scalar.addi v170 c1024_i32_3108
  v7254
def k0_mult56 : BitVec 32 :=
  let c0_i32 : BitVec 32 := 0#32
  let c2048_i32 : BitVec 32 := 2048#32
  let v169 : BitVec 32 := Scalar.muli c0_i32 c2048_i32
  let v170 : BitVec 32 := v169
  let c1280_i32_3112 : BitVec 32 := 1280#32
  let v7261 : BitVec 32 := Scalar.addi v170 c1280_i32_3112
  v7261
def k0_mult57 : BitVec 32 :=
  let c0_i32 : BitVec 32 := 0#32
  let c2048_i32 : BitVec 32 := 2048#32
  let v169 : BitVec 32 := Scalar.muli c0_i32 c2048_i32
  let v170 : BitVec 32 := v169
  let c1536_i32_3116 : BitVec 32 := 1536#32
  let v7268 : BitVec 32 := Scalar.addi v170 c1536_i32_3116
  v7268
def k0_mult58 : BitVec 32 :=
  let c0_i32 : BitVec 32 := 0#32
  let c2048_i32 : BitVec 32 := 2048#32
  let v169 : BitVec 32 := Scalar.muli c0_i32 c2048_i32
  let v170 : BitVec 32 := v169
  let c1792_i32_3120 : BitVec 32 := 1792#32
  let v7275 : BitVec 32 := Scalar.addi v170 c1792_i32_3120
  v7275
def k0_mult59 : BitVec 32 :=
  let c0_i32 : BitVec 32 := 0#32
  let c2048_i32 : BitVec 32 := 2048#32
  let v169 : BitVec 32 := Scalar.muli c0_i32 c2048_i32
  let v170 : BitVec 32 := v169
  let c0_i32_3124 : BitVec 32 := 0#32
  let v7282 : BitVec 32 := Scalar.addi v170 c0_i32_3124
  v7282
def k0_mult60 : BitVec 32 :=
  let c0_i32 : BitVec 32 := 0#32
  let c2048_i32 : BitVec 32 := 2048#32
  let v169 : BitVec 32 := Scalar.muli c0_i32 c2048_i32
  let v170 : BitVec 32 := v169
  let c256_i32_3129 : BitVec 32 := 256#32
  let v7290 : BitVec 32 := Scalar.addi v170 c256_i32_3129
  v7290
def k0_mult61 : BitVec 32 :=
  let c0_i32 : BitVec 32 := 0#32
  let c2048_i32 : BitVec 32 := 2048#32
  let v169 : BitVec 32 := Scalar.muli c0_i32 c2048_i32
  let v170 : BitVec 32 := v169
  let c512_i32_3133 : BitVec 32 := 512#32
  let v7297 : BitVec 32 := Scalar.addi v170 c512_i32_3133
  v7297
def k0_mult62 : BitVec 32 :=
  let c0_i32 : BitVec 32 := 0#32
  let c2048_i32 : BitVec 32 := 2048#32
  let v169 : BitVec 32 := Scalar.muli c0_i32 c2048_i32
  let v170 : BitVec 32 := v169
  let c768_i32_3137 : BitVec 32 := 768#32
  let v7304 : BitVec 32 := Scalar.addi v170 c768_i32_3137
  v7304
def k0_mult63 : BitVec 32 :=
  let c0_i32 : BitVec 32 := 0#32
  let c2048_i32 : BitVec 32 := 2048#32
  let v169 : BitVec 32 := Scalar.muli c0_i32 c2048_i32
  let v170 : BitVec 32 := v169
  let c1024_i32_3141 : BitVec 32 := 1024#32
  let v7311 : BitVec 32 := Scalar.addi v170 c1024_i32_3141
  v7311
def k0_mult64 : BitVec 32 :=
  let c0_i32 : BitVec 32 := 0#32
  let c2048_i32 : BitVec 32 := 2048#32
  let v169 : BitVec 32 := Scalar.muli c0_i32 c2048_i32
  let v170 : BitVec 32 := v169
  let c1280_i32_3145 : BitVec 32 := 1280#32
  let v7318 : BitVec 32 := Scalar.addi v170 c1280_i32_3145
  v7318
def k0_mult65 : BitVec 32 :=
  let c0_i32 : BitVec 32 := 0#32
  let c2048_i32 : BitVec 32 := 2048#32
  let v169 : BitVec 32 := Scalar.muli c0_i32 c2048_i32
  let v170 : BitVec 32 := v169
  let c1536_i32_3149 : BitVec 32 := 1536#32
  let v7325 : BitVec 32 := Scalar.addi v170 c1536_i32_3149
  v7325
def k0_mult66 : BitVec 32 :=
  let c0_i32 : BitVec 32 := 0#32
  let c2048_i32 : BitVec 32 := 2048#32
  let v169 : BitVec 32 := Scalar.muli c0_i32 c2048_i32
  let v170 : BitVec 32 := v169
  let c1792_i32_3153 : BitVec 32 := 1792#32
  let v7332 : BitVec 32 := Scalar.addi v170 c1792_i32_3153
  v7332
def k0_off22 (k0_t1 : Fin k0_t1_loop.trips) : Fin 2 → Nat :=
  let c0_i32_158 : BitVec 32 := 0#32
  let c1_i32_159 : BitVec 32 := 1#32
  let arg17 : BitVec 32 := Scf.iv c0_i32_158 c1_i32_159 k0_t1
  let c256_i32_2694 : BitVec 32 := 256#32
  let v6195 : BitVec 32 := Scalar.muli arg17 c256_i32_2694
  let v6196 : BitVec 32 := v6195
  let v7340 : Index := Scalar.indexCast v6196
  let c64_3157 : Index := 64#32
  ![v7340.toNat, 64]
def k0_off23 (k0_t1 : Fin k0_t1_loop.trips) : Fin 4 → Nat :=
  let c0_3159 : Index := 0#32
  let c0_i32_158 : BitVec 32 := 0#32
  let c1_i32_159 : BitVec 32 := 1#32
  let arg17 : BitVec 32 := Scf.iv c0_i32_158 c1_i32_159 k0_t1
  let v7345 : Index := Scalar.indexCast arg17
  let c0_3160 : Index := 0#32
  let c0_3161 : Index := 0#32
  ![0, v7345.toNat, 0, 0]
def k0_off24 (k0_t1 : Fin k0_t1_loop.trips) : Fin 4 → Nat :=
  let c1_3191 : Index := 1#32
  let c0_i32_158 : BitVec 32 := 0#32
  let c1_i32_159 : BitVec 32 := 1#32
  let arg17 : BitVec 32 := Scf.iv c0_i32_158 c1_i32_159 k0_t1
  let v7377 : Index := Scalar.indexCast arg17
  let c0_3192 : Index := 0#32
  let c0_3193 : Index := 0#32
  ![1, v7377.toNat, 0, 0]
@[reducible] def k0_t2_loop : Scf.Loop 32 :=
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let v205 : BitVec 32 := Scalar.addi c0_i32_158 v204
  let c1_i32_160 : BitVec 32 := 1#32
  ⟨v208, v205, c1_i32_160⟩
def k0_mult67 (k0_t2 : Fin k0_t2_loop.trips) : BitVec 32 :=
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let c256_i32_2694 : BitVec 32 := 256#32
  let v6195 : BitVec 32 := Scalar.muli arg17 c256_i32_2694
  v6195
def k0_off25 (k0_t2 : Fin k0_t2_loop.trips) : Fin 3 → Nat :=
  let c0_2695 : Index := 0#32
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let c256_i32_2694 : BitVec 32 := 256#32
  let v6195 : BitVec 32 := Scalar.muli arg17 c256_i32_2694
  let v6196 : BitVec 32 := v6195
  let v6197 : Index := Scalar.indexCast v6196
  let c0_2696 : Index := 0#32
  ![0, v6197.toNat, 0]
def k0_off26 (k0_t2 : Fin k0_t2_loop.trips) : Fin 3 → Nat :=
  let c1_2697 : Index := 1#32
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let c256_i32_2694 : BitVec 32 := 256#32
  let v6195 : BitVec 32 := Scalar.muli arg17 c256_i32_2694
  let v6196 : BitVec 32 := v6195
  let v6200 : Index := Scalar.indexCast v6196
  let c0_2698 : Index := 0#32
  ![1, v6200.toNat, 0]
def k0_mult68 : BitVec 32 :=
  let c0_i32 : BitVec 32 := 0#32
  let c2048_i32 : BitVec 32 := 2048#32
  let v169 : BitVec 32 := Scalar.muli c0_i32 c2048_i32
  let v170 : BitVec 32 := v169
  let c0_i32_2703 : BitVec 32 := 0#32
  let v6209 : BitVec 32 := Scalar.addi v170 c0_i32_2703
  v6209
def k0_off27 (c0_i32_2703 : BitVec 32) : Fin 3 → Nat :=
  let c0_2704 : Index := 0#32
  let c0_i32 : BitVec 32 := 0#32
  let c2048_i32 : BitVec 32 := 2048#32
  let v169 : BitVec 32 := Scalar.muli c0_i32 c2048_i32
  let v170 : BitVec 32 := v169
  let v6209 : BitVec 32 := Scalar.addi v170 c0_i32_2703
  let v6210 : BitVec 32 := v6209
  let v6211 : Index := Scalar.indexCast v6210
  let c0_2705 : Index := 0#32
  ![0, v6211.toNat, 0]
def k0_mult69 : BitVec 32 :=
  let c0_i32 : BitVec 32 := 0#32
  let c2048_i32 : BitVec 32 := 2048#32
  let v169 : BitVec 32 := Scalar.muli c0_i32 c2048_i32
  let v170 : BitVec 32 := v169
  let c256_i32_2707 : BitVec 32 := 256#32
  let v6215 : BitVec 32 := Scalar.addi v170 c256_i32_2707
  v6215
def k0_mult70 : BitVec 32 :=
  let c0_i32 : BitVec 32 := 0#32
  let c2048_i32 : BitVec 32 := 2048#32
  let v169 : BitVec 32 := Scalar.muli c0_i32 c2048_i32
  let v170 : BitVec 32 := v169
  let c512_i32_2711 : BitVec 32 := 512#32
  let v6221 : BitVec 32 := Scalar.addi v170 c512_i32_2711
  v6221
def k0_mult71 : BitVec 32 :=
  let c0_i32 : BitVec 32 := 0#32
  let c2048_i32 : BitVec 32 := 2048#32
  let v169 : BitVec 32 := Scalar.muli c0_i32 c2048_i32
  let v170 : BitVec 32 := v169
  let c768_i32_2715 : BitVec 32 := 768#32
  let v6227 : BitVec 32 := Scalar.addi v170 c768_i32_2715
  v6227
def k0_mult72 : BitVec 32 :=
  let c0_i32 : BitVec 32 := 0#32
  let c2048_i32 : BitVec 32 := 2048#32
  let v169 : BitVec 32 := Scalar.muli c0_i32 c2048_i32
  let v170 : BitVec 32 := v169
  let c1024_i32_2719 : BitVec 32 := 1024#32
  let v6233 : BitVec 32 := Scalar.addi v170 c1024_i32_2719
  v6233
def k0_mult73 : BitVec 32 :=
  let c0_i32 : BitVec 32 := 0#32
  let c2048_i32 : BitVec 32 := 2048#32
  let v169 : BitVec 32 := Scalar.muli c0_i32 c2048_i32
  let v170 : BitVec 32 := v169
  let c1280_i32_2723 : BitVec 32 := 1280#32
  let v6239 : BitVec 32 := Scalar.addi v170 c1280_i32_2723
  v6239
def k0_mult74 : BitVec 32 :=
  let c0_i32 : BitVec 32 := 0#32
  let c2048_i32 : BitVec 32 := 2048#32
  let v169 : BitVec 32 := Scalar.muli c0_i32 c2048_i32
  let v170 : BitVec 32 := v169
  let c1536_i32_2727 : BitVec 32 := 1536#32
  let v6245 : BitVec 32 := Scalar.addi v170 c1536_i32_2727
  v6245
def k0_mult75 : BitVec 32 :=
  let c0_i32 : BitVec 32 := 0#32
  let c2048_i32 : BitVec 32 := 2048#32
  let v169 : BitVec 32 := Scalar.muli c0_i32 c2048_i32
  let v170 : BitVec 32 := v169
  let c1792_i32_2731 : BitVec 32 := 1792#32
  let v6251 : BitVec 32 := Scalar.addi v170 c1792_i32_2731
  v6251
def k0_mult76 : BitVec 32 :=
  let c0_i32 : BitVec 32 := 0#32
  let c2048_i32 : BitVec 32 := 2048#32
  let v169 : BitVec 32 := Scalar.muli c0_i32 c2048_i32
  let v170 : BitVec 32 := v169
  let c0_i32_2735 : BitVec 32 := 0#32
  let v6257 : BitVec 32 := Scalar.addi v170 c0_i32_2735
  v6257
def k0_off28 (c0_i32_2735 : BitVec 32) : Fin 3 → Nat :=
  let c1_2736 : Index := 1#32
  let c0_i32 : BitVec 32 := 0#32
  let c2048_i32 : BitVec 32 := 2048#32
  let v169 : BitVec 32 := Scalar.muli c0_i32 c2048_i32
  let v170 : BitVec 32 := v169
  let v6257 : BitVec 32 := Scalar.addi v170 c0_i32_2735
  let v6258 : BitVec 32 := v6257
  let v6259 : Index := Scalar.indexCast v6258
  let c0_2737 : Index := 0#32
  ![1, v6259.toNat, 0]
def k0_mult77 : BitVec 32 :=
  let c0_i32 : BitVec 32 := 0#32
  let c2048_i32 : BitVec 32 := 2048#32
  let v169 : BitVec 32 := Scalar.muli c0_i32 c2048_i32
  let v170 : BitVec 32 := v169
  let c256_i32_2739 : BitVec 32 := 256#32
  let v6263 : BitVec 32 := Scalar.addi v170 c256_i32_2739
  v6263
def k0_mult78 : BitVec 32 :=
  let c0_i32 : BitVec 32 := 0#32
  let c2048_i32 : BitVec 32 := 2048#32
  let v169 : BitVec 32 := Scalar.muli c0_i32 c2048_i32
  let v170 : BitVec 32 := v169
  let c512_i32_2743 : BitVec 32 := 512#32
  let v6269 : BitVec 32 := Scalar.addi v170 c512_i32_2743
  v6269
def k0_mult79 : BitVec 32 :=
  let c0_i32 : BitVec 32 := 0#32
  let c2048_i32 : BitVec 32 := 2048#32
  let v169 : BitVec 32 := Scalar.muli c0_i32 c2048_i32
  let v170 : BitVec 32 := v169
  let c768_i32_2747 : BitVec 32 := 768#32
  let v6275 : BitVec 32 := Scalar.addi v170 c768_i32_2747
  v6275
def k0_mult80 : BitVec 32 :=
  let c0_i32 : BitVec 32 := 0#32
  let c2048_i32 : BitVec 32 := 2048#32
  let v169 : BitVec 32 := Scalar.muli c0_i32 c2048_i32
  let v170 : BitVec 32 := v169
  let c1024_i32_2751 : BitVec 32 := 1024#32
  let v6281 : BitVec 32 := Scalar.addi v170 c1024_i32_2751
  v6281
def k0_mult81 : BitVec 32 :=
  let c0_i32 : BitVec 32 := 0#32
  let c2048_i32 : BitVec 32 := 2048#32
  let v169 : BitVec 32 := Scalar.muli c0_i32 c2048_i32
  let v170 : BitVec 32 := v169
  let c1280_i32_2755 : BitVec 32 := 1280#32
  let v6287 : BitVec 32 := Scalar.addi v170 c1280_i32_2755
  v6287
def k0_mult82 : BitVec 32 :=
  let c0_i32 : BitVec 32 := 0#32
  let c2048_i32 : BitVec 32 := 2048#32
  let v169 : BitVec 32 := Scalar.muli c0_i32 c2048_i32
  let v170 : BitVec 32 := v169
  let c1536_i32_2759 : BitVec 32 := 1536#32
  let v6293 : BitVec 32 := Scalar.addi v170 c1536_i32_2759
  v6293
def k0_mult83 : BitVec 32 :=
  let c0_i32 : BitVec 32 := 0#32
  let c2048_i32 : BitVec 32 := 2048#32
  let v169 : BitVec 32 := Scalar.muli c0_i32 c2048_i32
  let v170 : BitVec 32 := v169
  let c1792_i32_2763 : BitVec 32 := 1792#32
  let v6299 : BitVec 32 := Scalar.addi v170 c1792_i32_2763
  v6299
def k0_mult84 : BitVec 32 :=
  let c0_i32 : BitVec 32 := 0#32
  let c2048_i32 : BitVec 32 := 2048#32
  let v169 : BitVec 32 := Scalar.muli c0_i32 c2048_i32
  let v170 : BitVec 32 := v169
  let c0_i32_2767 : BitVec 32 := 0#32
  let v6305 : BitVec 32 := Scalar.addi v170 c0_i32_2767
  v6305
def k0_mult85 : BitVec 32 :=
  let c0_i32 : BitVec 32 := 0#32
  let c2048_i32 : BitVec 32 := 2048#32
  let v169 : BitVec 32 := Scalar.muli c0_i32 c2048_i32
  let v170 : BitVec 32 := v169
  let c256_i32_2771 : BitVec 32 := 256#32
  let v6311 : BitVec 32 := Scalar.addi v170 c256_i32_2771
  v6311
def k0_mult86 : BitVec 32 :=
  let c0_i32 : BitVec 32 := 0#32
  let c2048_i32 : BitVec 32 := 2048#32
  let v169 : BitVec 32 := Scalar.muli c0_i32 c2048_i32
  let v170 : BitVec 32 := v169
  let c512_i32_2775 : BitVec 32 := 512#32
  let v6317 : BitVec 32 := Scalar.addi v170 c512_i32_2775
  v6317
def k0_mult87 : BitVec 32 :=
  let c0_i32 : BitVec 32 := 0#32
  let c2048_i32 : BitVec 32 := 2048#32
  let v169 : BitVec 32 := Scalar.muli c0_i32 c2048_i32
  let v170 : BitVec 32 := v169
  let c768_i32_2779 : BitVec 32 := 768#32
  let v6323 : BitVec 32 := Scalar.addi v170 c768_i32_2779
  v6323
def k0_mult88 : BitVec 32 :=
  let c0_i32 : BitVec 32 := 0#32
  let c2048_i32 : BitVec 32 := 2048#32
  let v169 : BitVec 32 := Scalar.muli c0_i32 c2048_i32
  let v170 : BitVec 32 := v169
  let c1024_i32_2783 : BitVec 32 := 1024#32
  let v6329 : BitVec 32 := Scalar.addi v170 c1024_i32_2783
  v6329
def k0_mult89 : BitVec 32 :=
  let c0_i32 : BitVec 32 := 0#32
  let c2048_i32 : BitVec 32 := 2048#32
  let v169 : BitVec 32 := Scalar.muli c0_i32 c2048_i32
  let v170 : BitVec 32 := v169
  let c1280_i32_2787 : BitVec 32 := 1280#32
  let v6335 : BitVec 32 := Scalar.addi v170 c1280_i32_2787
  v6335
def k0_mult90 : BitVec 32 :=
  let c0_i32 : BitVec 32 := 0#32
  let c2048_i32 : BitVec 32 := 2048#32
  let v169 : BitVec 32 := Scalar.muli c0_i32 c2048_i32
  let v170 : BitVec 32 := v169
  let c1536_i32_2791 : BitVec 32 := 1536#32
  let v6341 : BitVec 32 := Scalar.addi v170 c1536_i32_2791
  v6341
def k0_mult91 : BitVec 32 :=
  let c0_i32 : BitVec 32 := 0#32
  let c2048_i32 : BitVec 32 := 2048#32
  let v169 : BitVec 32 := Scalar.muli c0_i32 c2048_i32
  let v170 : BitVec 32 := v169
  let c1792_i32_2795 : BitVec 32 := 1792#32
  let v6347 : BitVec 32 := Scalar.addi v170 c1792_i32_2795
  v6347
def k0_mult92 : BitVec 32 :=
  let c0_i32 : BitVec 32 := 0#32
  let c2048_i32 : BitVec 32 := 2048#32
  let v169 : BitVec 32 := Scalar.muli c0_i32 c2048_i32
  let v170 : BitVec 32 := v169
  let c0_i32_2799 : BitVec 32 := 0#32
  let v6353 : BitVec 32 := Scalar.addi v170 c0_i32_2799
  v6353
def k0_mult93 : BitVec 32 :=
  let c0_i32 : BitVec 32 := 0#32
  let c2048_i32 : BitVec 32 := 2048#32
  let v169 : BitVec 32 := Scalar.muli c0_i32 c2048_i32
  let v170 : BitVec 32 := v169
  let c256_i32_2803 : BitVec 32 := 256#32
  let v6359 : BitVec 32 := Scalar.addi v170 c256_i32_2803
  v6359
def k0_mult94 : BitVec 32 :=
  let c0_i32 : BitVec 32 := 0#32
  let c2048_i32 : BitVec 32 := 2048#32
  let v169 : BitVec 32 := Scalar.muli c0_i32 c2048_i32
  let v170 : BitVec 32 := v169
  let c512_i32_2807 : BitVec 32 := 512#32
  let v6365 : BitVec 32 := Scalar.addi v170 c512_i32_2807
  v6365
def k0_mult95 : BitVec 32 :=
  let c0_i32 : BitVec 32 := 0#32
  let c2048_i32 : BitVec 32 := 2048#32
  let v169 : BitVec 32 := Scalar.muli c0_i32 c2048_i32
  let v170 : BitVec 32 := v169
  let c768_i32_2811 : BitVec 32 := 768#32
  let v6371 : BitVec 32 := Scalar.addi v170 c768_i32_2811
  v6371
def k0_mult96 : BitVec 32 :=
  let c0_i32 : BitVec 32 := 0#32
  let c2048_i32 : BitVec 32 := 2048#32
  let v169 : BitVec 32 := Scalar.muli c0_i32 c2048_i32
  let v170 : BitVec 32 := v169
  let c1024_i32_2815 : BitVec 32 := 1024#32
  let v6377 : BitVec 32 := Scalar.addi v170 c1024_i32_2815
  v6377
def k0_mult97 : BitVec 32 :=
  let c0_i32 : BitVec 32 := 0#32
  let c2048_i32 : BitVec 32 := 2048#32
  let v169 : BitVec 32 := Scalar.muli c0_i32 c2048_i32
  let v170 : BitVec 32 := v169
  let c1280_i32_2819 : BitVec 32 := 1280#32
  let v6383 : BitVec 32 := Scalar.addi v170 c1280_i32_2819
  v6383
def k0_mult98 : BitVec 32 :=
  let c0_i32 : BitVec 32 := 0#32
  let c2048_i32 : BitVec 32 := 2048#32
  let v169 : BitVec 32 := Scalar.muli c0_i32 c2048_i32
  let v170 : BitVec 32 := v169
  let c1536_i32_2823 : BitVec 32 := 1536#32
  let v6389 : BitVec 32 := Scalar.addi v170 c1536_i32_2823
  v6389
def k0_mult99 : BitVec 32 :=
  let c0_i32 : BitVec 32 := 0#32
  let c2048_i32 : BitVec 32 := 2048#32
  let v169 : BitVec 32 := Scalar.muli c0_i32 c2048_i32
  let v170 : BitVec 32 := v169
  let c1792_i32_2827 : BitVec 32 := 1792#32
  let v6395 : BitVec 32 := Scalar.addi v170 c1792_i32_2827
  v6395
def k0_off29 (k0_t2 : Fin k0_t2_loop.trips) : Fin 5 → Nat :=
  let c0_2928 : Index := 0#32
  let c0_2929 : Index := 0#32
  let c0_i32 : BitVec 32 := 0#32
  let c8_i32_2927 : BitVec 32 := 8#32
  let v6706 : BitVec 32 := Scalar.muli c0_i32 c8_i32_2927
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6707 : BitVec 32 := Scalar.addi v6706 arg17
  let v6708 : Index := Scalar.indexCast v6707
  let c0_2930 : Index := 0#32
  let c0_2931 : Index := 0#32
  ![0, 0, v6708.toNat, 0, 0]
def k0_off30 (k0_t2 : Fin k0_t2_loop.trips) : Fin 5 → Nat :=
  let c0_2933 : Index := 0#32
  let c0_2934 : Index := 0#32
  let c0_i32 : BitVec 32 := 0#32
  let c8_i32_2932 : BitVec 32 := 8#32
  let v6717 : BitVec 32 := Scalar.muli c0_i32 c8_i32_2932
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6718 : BitVec 32 := Scalar.addi v6717 arg17
  let v6719 : Index := Scalar.indexCast v6718
  let c0_2935 : Index := 0#32
  let c256_2936 : Index := 256#32
  ![0, 0, v6719.toNat, 0, 256]
def k0_off31 (k0_t2 : Fin k0_t2_loop.trips) : Fin 5 → Nat :=
  let c0_2938 : Index := 0#32
  let c0_2939 : Index := 0#32
  let c0_i32 : BitVec 32 := 0#32
  let c8_i32_2937 : BitVec 32 := 8#32
  let v6728 : BitVec 32 := Scalar.muli c0_i32 c8_i32_2937
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6729 : BitVec 32 := Scalar.addi v6728 arg17
  let v6730 : Index := Scalar.indexCast v6729
  let c0_2940 : Index := 0#32
  let c512_2941 : Index := 512#32
  ![0, 0, v6730.toNat, 0, 512]
def k0_off32 (k0_t2 : Fin k0_t2_loop.trips) : Fin 5 → Nat :=
  let c0_2943 : Index := 0#32
  let c0_2944 : Index := 0#32
  let c0_i32 : BitVec 32 := 0#32
  let c8_i32_2942 : BitVec 32 := 8#32
  let v6739 : BitVec 32 := Scalar.muli c0_i32 c8_i32_2942
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6740 : BitVec 32 := Scalar.addi v6739 arg17
  let v6741 : Index := Scalar.indexCast v6740
  let c0_2945 : Index := 0#32
  let c768_2946 : Index := 768#32
  ![0, 0, v6741.toNat, 0, 768]
def k0_off33 (k0_t2 : Fin k0_t2_loop.trips) : Fin 5 → Nat :=
  let c0_2948 : Index := 0#32
  let c0_2949 : Index := 0#32
  let c0_i32 : BitVec 32 := 0#32
  let c8_i32_2947 : BitVec 32 := 8#32
  let v6750 : BitVec 32 := Scalar.muli c0_i32 c8_i32_2947
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6751 : BitVec 32 := Scalar.addi v6750 arg17
  let v6752 : Index := Scalar.indexCast v6751
  let c0_2950 : Index := 0#32
  let c1024_2951 : Index := 1024#32
  ![0, 0, v6752.toNat, 0, 1024]
def k0_off34 (k0_t2 : Fin k0_t2_loop.trips) : Fin 5 → Nat :=
  let c0_2953 : Index := 0#32
  let c0_2954 : Index := 0#32
  let c0_i32 : BitVec 32 := 0#32
  let c8_i32_2952 : BitVec 32 := 8#32
  let v6761 : BitVec 32 := Scalar.muli c0_i32 c8_i32_2952
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6762 : BitVec 32 := Scalar.addi v6761 arg17
  let v6763 : Index := Scalar.indexCast v6762
  let c0_2955 : Index := 0#32
  let c1280_2956 : Index := 1280#32
  ![0, 0, v6763.toNat, 0, 1280]
def k0_off35 (k0_t2 : Fin k0_t2_loop.trips) : Fin 5 → Nat :=
  let c0_2958 : Index := 0#32
  let c0_2959 : Index := 0#32
  let c0_i32 : BitVec 32 := 0#32
  let c8_i32_2957 : BitVec 32 := 8#32
  let v6772 : BitVec 32 := Scalar.muli c0_i32 c8_i32_2957
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6773 : BitVec 32 := Scalar.addi v6772 arg17
  let v6774 : Index := Scalar.indexCast v6773
  let c0_2960 : Index := 0#32
  let c1536_2961 : Index := 1536#32
  ![0, 0, v6774.toNat, 0, 1536]
def k0_off36 (k0_t2 : Fin k0_t2_loop.trips) : Fin 5 → Nat :=
  let c0_2963 : Index := 0#32
  let c0_2964 : Index := 0#32
  let c0_i32 : BitVec 32 := 0#32
  let c8_i32_2962 : BitVec 32 := 8#32
  let v6783 : BitVec 32 := Scalar.muli c0_i32 c8_i32_2962
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6784 : BitVec 32 := Scalar.addi v6783 arg17
  let v6785 : Index := Scalar.indexCast v6784
  let c0_2965 : Index := 0#32
  let c1792_2966 : Index := 1792#32
  ![0, 0, v6785.toNat, 0, 1792]
def k0_off37 (k0_t2 : Fin k0_t2_loop.trips) : Fin 5 → Nat :=
  let c0_2968 : Index := 0#32
  let c1_2969 : Index := 1#32
  let c0_i32 : BitVec 32 := 0#32
  let c8_i32_2967 : BitVec 32 := 8#32
  let v6794 : BitVec 32 := Scalar.muli c0_i32 c8_i32_2967
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6795 : BitVec 32 := Scalar.addi v6794 arg17
  let v6796 : Index := Scalar.indexCast v6795
  let c0_2970 : Index := 0#32
  let c0_2971 : Index := 0#32
  ![0, 1, v6796.toNat, 0, 0]
def k0_off38 (k0_t2 : Fin k0_t2_loop.trips) : Fin 5 → Nat :=
  let c0_2973 : Index := 0#32
  let c1_2974 : Index := 1#32
  let c0_i32 : BitVec 32 := 0#32
  let c8_i32_2972 : BitVec 32 := 8#32
  let v6805 : BitVec 32 := Scalar.muli c0_i32 c8_i32_2972
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6806 : BitVec 32 := Scalar.addi v6805 arg17
  let v6807 : Index := Scalar.indexCast v6806
  let c0_2975 : Index := 0#32
  let c256_2976 : Index := 256#32
  ![0, 1, v6807.toNat, 0, 256]
def k0_off39 (k0_t2 : Fin k0_t2_loop.trips) : Fin 5 → Nat :=
  let c0_2978 : Index := 0#32
  let c1_2979 : Index := 1#32
  let c0_i32 : BitVec 32 := 0#32
  let c8_i32_2977 : BitVec 32 := 8#32
  let v6816 : BitVec 32 := Scalar.muli c0_i32 c8_i32_2977
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6817 : BitVec 32 := Scalar.addi v6816 arg17
  let v6818 : Index := Scalar.indexCast v6817
  let c0_2980 : Index := 0#32
  let c512_2981 : Index := 512#32
  ![0, 1, v6818.toNat, 0, 512]
def k0_off40 (k0_t2 : Fin k0_t2_loop.trips) : Fin 5 → Nat :=
  let c0_2983 : Index := 0#32
  let c1_2984 : Index := 1#32
  let c0_i32 : BitVec 32 := 0#32
  let c8_i32_2982 : BitVec 32 := 8#32
  let v6827 : BitVec 32 := Scalar.muli c0_i32 c8_i32_2982
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6828 : BitVec 32 := Scalar.addi v6827 arg17
  let v6829 : Index := Scalar.indexCast v6828
  let c0_2985 : Index := 0#32
  let c768_2986 : Index := 768#32
  ![0, 1, v6829.toNat, 0, 768]
def k0_off41 (k0_t2 : Fin k0_t2_loop.trips) : Fin 5 → Nat :=
  let c0_2988 : Index := 0#32
  let c1_2989 : Index := 1#32
  let c0_i32 : BitVec 32 := 0#32
  let c8_i32_2987 : BitVec 32 := 8#32
  let v6838 : BitVec 32 := Scalar.muli c0_i32 c8_i32_2987
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6839 : BitVec 32 := Scalar.addi v6838 arg17
  let v6840 : Index := Scalar.indexCast v6839
  let c0_2990 : Index := 0#32
  let c1024_2991 : Index := 1024#32
  ![0, 1, v6840.toNat, 0, 1024]
def k0_off42 (k0_t2 : Fin k0_t2_loop.trips) : Fin 5 → Nat :=
  let c0_2993 : Index := 0#32
  let c1_2994 : Index := 1#32
  let c0_i32 : BitVec 32 := 0#32
  let c8_i32_2992 : BitVec 32 := 8#32
  let v6849 : BitVec 32 := Scalar.muli c0_i32 c8_i32_2992
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6850 : BitVec 32 := Scalar.addi v6849 arg17
  let v6851 : Index := Scalar.indexCast v6850
  let c0_2995 : Index := 0#32
  let c1280_2996 : Index := 1280#32
  ![0, 1, v6851.toNat, 0, 1280]
def k0_off43 (k0_t2 : Fin k0_t2_loop.trips) : Fin 5 → Nat :=
  let c0_2998 : Index := 0#32
  let c1_2999 : Index := 1#32
  let c0_i32 : BitVec 32 := 0#32
  let c8_i32_2997 : BitVec 32 := 8#32
  let v6860 : BitVec 32 := Scalar.muli c0_i32 c8_i32_2997
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6861 : BitVec 32 := Scalar.addi v6860 arg17
  let v6862 : Index := Scalar.indexCast v6861
  let c0_3000 : Index := 0#32
  let c1536_3001 : Index := 1536#32
  ![0, 1, v6862.toNat, 0, 1536]
def k0_off44 (k0_t2 : Fin k0_t2_loop.trips) : Fin 5 → Nat :=
  let c0_3003 : Index := 0#32
  let c1_3004 : Index := 1#32
  let c0_i32 : BitVec 32 := 0#32
  let c8_i32_3002 : BitVec 32 := 8#32
  let v6871 : BitVec 32 := Scalar.muli c0_i32 c8_i32_3002
  let c0_i32_158 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v6872 : BitVec 32 := Scalar.addi v6871 arg17
  let v6873 : Index := Scalar.indexCast v6872
  let c0_3005 : Index := 0#32
  let c1792_3006 : Index := 1792#32
  ![0, 1, v6873.toNat, 0, 1792]
def k0_mult100 : BitVec 32 :=
  let c0_i32 : BitVec 32 := 0#32
  let c2048_i32 : BitVec 32 := 2048#32
  let v169 : BitVec 32 := Scalar.muli c0_i32 c2048_i32
  let v170 : BitVec 32 := v169
  let c0_i32_3023 : BitVec 32 := 0#32
  let v7105 : BitVec 32 := Scalar.addi v170 c0_i32_3023
  v7105
def k0_mult101 : BitVec 32 :=
  let c0_i32 : BitVec 32 := 0#32
  let c2048_i32 : BitVec 32 := 2048#32
  let v169 : BitVec 32 := Scalar.muli c0_i32 c2048_i32
  let v170 : BitVec 32 := v169
  let c256_i32_3028 : BitVec 32 := 256#32
  let v7113 : BitVec 32 := Scalar.addi v170 c256_i32_3028
  v7113
def k0_mult102 : BitVec 32 :=
  let c0_i32 : BitVec 32 := 0#32
  let c2048_i32 : BitVec 32 := 2048#32
  let v169 : BitVec 32 := Scalar.muli c0_i32 c2048_i32
  let v170 : BitVec 32 := v169
  let c512_i32_3032 : BitVec 32 := 512#32
  let v7120 : BitVec 32 := Scalar.addi v170 c512_i32_3032
  v7120
def k0_mult103 : BitVec 32 :=
  let c0_i32 : BitVec 32 := 0#32
  let c2048_i32 : BitVec 32 := 2048#32
  let v169 : BitVec 32 := Scalar.muli c0_i32 c2048_i32
  let v170 : BitVec 32 := v169
  let c768_i32_3036 : BitVec 32 := 768#32
  let v7127 : BitVec 32 := Scalar.addi v170 c768_i32_3036
  v7127
def k0_mult104 : BitVec 32 :=
  let c0_i32 : BitVec 32 := 0#32
  let c2048_i32 : BitVec 32 := 2048#32
  let v169 : BitVec 32 := Scalar.muli c0_i32 c2048_i32
  let v170 : BitVec 32 := v169
  let c1024_i32_3040 : BitVec 32 := 1024#32
  let v7134 : BitVec 32 := Scalar.addi v170 c1024_i32_3040
  v7134
def k0_mult105 : BitVec 32 :=
  let c0_i32 : BitVec 32 := 0#32
  let c2048_i32 : BitVec 32 := 2048#32
  let v169 : BitVec 32 := Scalar.muli c0_i32 c2048_i32
  let v170 : BitVec 32 := v169
  let c1280_i32_3044 : BitVec 32 := 1280#32
  let v7141 : BitVec 32 := Scalar.addi v170 c1280_i32_3044
  v7141
def k0_mult106 : BitVec 32 :=
  let c0_i32 : BitVec 32 := 0#32
  let c2048_i32 : BitVec 32 := 2048#32
  let v169 : BitVec 32 := Scalar.muli c0_i32 c2048_i32
  let v170 : BitVec 32 := v169
  let c1536_i32_3048 : BitVec 32 := 1536#32
  let v7148 : BitVec 32 := Scalar.addi v170 c1536_i32_3048
  v7148
def k0_mult107 : BitVec 32 :=
  let c0_i32 : BitVec 32 := 0#32
  let c2048_i32 : BitVec 32 := 2048#32
  let v169 : BitVec 32 := Scalar.muli c0_i32 c2048_i32
  let v170 : BitVec 32 := v169
  let c1792_i32_3052 : BitVec 32 := 1792#32
  let v7155 : BitVec 32 := Scalar.addi v170 c1792_i32_3052
  v7155
def k0_mult108 : BitVec 32 :=
  let c0_i32 : BitVec 32 := 0#32
  let c2048_i32 : BitVec 32 := 2048#32
  let v169 : BitVec 32 := Scalar.muli c0_i32 c2048_i32
  let v170 : BitVec 32 := v169
  let c0_i32_3056 : BitVec 32 := 0#32
  let v7162 : BitVec 32 := Scalar.addi v170 c0_i32_3056
  v7162
def k0_mult109 : BitVec 32 :=
  let c0_i32 : BitVec 32 := 0#32
  let c2048_i32 : BitVec 32 := 2048#32
  let v169 : BitVec 32 := Scalar.muli c0_i32 c2048_i32
  let v170 : BitVec 32 := v169
  let c256_i32_3061 : BitVec 32 := 256#32
  let v7170 : BitVec 32 := Scalar.addi v170 c256_i32_3061
  v7170
def k0_mult110 : BitVec 32 :=
  let c0_i32 : BitVec 32 := 0#32
  let c2048_i32 : BitVec 32 := 2048#32
  let v169 : BitVec 32 := Scalar.muli c0_i32 c2048_i32
  let v170 : BitVec 32 := v169
  let c512_i32_3065 : BitVec 32 := 512#32
  let v7177 : BitVec 32 := Scalar.addi v170 c512_i32_3065
  v7177
def k0_mult111 : BitVec 32 :=
  let c0_i32 : BitVec 32 := 0#32
  let c2048_i32 : BitVec 32 := 2048#32
  let v169 : BitVec 32 := Scalar.muli c0_i32 c2048_i32
  let v170 : BitVec 32 := v169
  let c768_i32_3069 : BitVec 32 := 768#32
  let v7184 : BitVec 32 := Scalar.addi v170 c768_i32_3069
  v7184
def k0_mult112 : BitVec 32 :=
  let c0_i32 : BitVec 32 := 0#32
  let c2048_i32 : BitVec 32 := 2048#32
  let v169 : BitVec 32 := Scalar.muli c0_i32 c2048_i32
  let v170 : BitVec 32 := v169
  let c1024_i32_3073 : BitVec 32 := 1024#32
  let v7191 : BitVec 32 := Scalar.addi v170 c1024_i32_3073
  v7191
def k0_mult113 : BitVec 32 :=
  let c0_i32 : BitVec 32 := 0#32
  let c2048_i32 : BitVec 32 := 2048#32
  let v169 : BitVec 32 := Scalar.muli c0_i32 c2048_i32
  let v170 : BitVec 32 := v169
  let c1280_i32_3077 : BitVec 32 := 1280#32
  let v7198 : BitVec 32 := Scalar.addi v170 c1280_i32_3077
  v7198
def k0_mult114 : BitVec 32 :=
  let c0_i32 : BitVec 32 := 0#32
  let c2048_i32 : BitVec 32 := 2048#32
  let v169 : BitVec 32 := Scalar.muli c0_i32 c2048_i32
  let v170 : BitVec 32 := v169
  let c1536_i32_3081 : BitVec 32 := 1536#32
  let v7205 : BitVec 32 := Scalar.addi v170 c1536_i32_3081
  v7205
def k0_mult115 : BitVec 32 :=
  let c0_i32 : BitVec 32 := 0#32
  let c2048_i32 : BitVec 32 := 2048#32
  let v169 : BitVec 32 := Scalar.muli c0_i32 c2048_i32
  let v170 : BitVec 32 := v169
  let c1792_i32_3085 : BitVec 32 := 1792#32
  let v7212 : BitVec 32 := Scalar.addi v170 c1792_i32_3085
  v7212
def k0_off45 (k0_t2 : Fin k0_t2_loop.trips) : Fin 2 → Nat :=
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let c256_i32_2694 : BitVec 32 := 256#32
  let v6195 : BitVec 32 := Scalar.muli arg17 c256_i32_2694
  let v6196 : BitVec 32 := v6195
  let v7220 : Index := Scalar.indexCast v6196
  let c0_3089 : Index := 0#32
  ![v7220.toNat, 0]
def k0_mult116 : BitVec 32 :=
  let c0_i32 : BitVec 32 := 0#32
  let c2048_i32 : BitVec 32 := 2048#32
  let v169 : BitVec 32 := Scalar.muli c0_i32 c2048_i32
  let v170 : BitVec 32 := v169
  let c0_i32_3091 : BitVec 32 := 0#32
  let v7225 : BitVec 32 := Scalar.addi v170 c0_i32_3091
  v7225
def k0_mult117 : BitVec 32 :=
  let c0_i32 : BitVec 32 := 0#32
  let c2048_i32 : BitVec 32 := 2048#32
  let v169 : BitVec 32 := Scalar.muli c0_i32 c2048_i32
  let v170 : BitVec 32 := v169
  let c256_i32_3096 : BitVec 32 := 256#32
  let v7233 : BitVec 32 := Scalar.addi v170 c256_i32_3096
  v7233
def k0_mult118 : BitVec 32 :=
  let c0_i32 : BitVec 32 := 0#32
  let c2048_i32 : BitVec 32 := 2048#32
  let v169 : BitVec 32 := Scalar.muli c0_i32 c2048_i32
  let v170 : BitVec 32 := v169
  let c512_i32_3100 : BitVec 32 := 512#32
  let v7240 : BitVec 32 := Scalar.addi v170 c512_i32_3100
  v7240
def k0_mult119 : BitVec 32 :=
  let c0_i32 : BitVec 32 := 0#32
  let c2048_i32 : BitVec 32 := 2048#32
  let v169 : BitVec 32 := Scalar.muli c0_i32 c2048_i32
  let v170 : BitVec 32 := v169
  let c768_i32_3104 : BitVec 32 := 768#32
  let v7247 : BitVec 32 := Scalar.addi v170 c768_i32_3104
  v7247
def k0_mult120 : BitVec 32 :=
  let c0_i32 : BitVec 32 := 0#32
  let c2048_i32 : BitVec 32 := 2048#32
  let v169 : BitVec 32 := Scalar.muli c0_i32 c2048_i32
  let v170 : BitVec 32 := v169
  let c1024_i32_3108 : BitVec 32 := 1024#32
  let v7254 : BitVec 32 := Scalar.addi v170 c1024_i32_3108
  v7254
def k0_mult121 : BitVec 32 :=
  let c0_i32 : BitVec 32 := 0#32
  let c2048_i32 : BitVec 32 := 2048#32
  let v169 : BitVec 32 := Scalar.muli c0_i32 c2048_i32
  let v170 : BitVec 32 := v169
  let c1280_i32_3112 : BitVec 32 := 1280#32
  let v7261 : BitVec 32 := Scalar.addi v170 c1280_i32_3112
  v7261
def k0_mult122 : BitVec 32 :=
  let c0_i32 : BitVec 32 := 0#32
  let c2048_i32 : BitVec 32 := 2048#32
  let v169 : BitVec 32 := Scalar.muli c0_i32 c2048_i32
  let v170 : BitVec 32 := v169
  let c1536_i32_3116 : BitVec 32 := 1536#32
  let v7268 : BitVec 32 := Scalar.addi v170 c1536_i32_3116
  v7268
def k0_mult123 : BitVec 32 :=
  let c0_i32 : BitVec 32 := 0#32
  let c2048_i32 : BitVec 32 := 2048#32
  let v169 : BitVec 32 := Scalar.muli c0_i32 c2048_i32
  let v170 : BitVec 32 := v169
  let c1792_i32_3120 : BitVec 32 := 1792#32
  let v7275 : BitVec 32 := Scalar.addi v170 c1792_i32_3120
  v7275
def k0_mult124 : BitVec 32 :=
  let c0_i32 : BitVec 32 := 0#32
  let c2048_i32 : BitVec 32 := 2048#32
  let v169 : BitVec 32 := Scalar.muli c0_i32 c2048_i32
  let v170 : BitVec 32 := v169
  let c0_i32_3124 : BitVec 32 := 0#32
  let v7282 : BitVec 32 := Scalar.addi v170 c0_i32_3124
  v7282
def k0_mult125 : BitVec 32 :=
  let c0_i32 : BitVec 32 := 0#32
  let c2048_i32 : BitVec 32 := 2048#32
  let v169 : BitVec 32 := Scalar.muli c0_i32 c2048_i32
  let v170 : BitVec 32 := v169
  let c256_i32_3129 : BitVec 32 := 256#32
  let v7290 : BitVec 32 := Scalar.addi v170 c256_i32_3129
  v7290
def k0_mult126 : BitVec 32 :=
  let c0_i32 : BitVec 32 := 0#32
  let c2048_i32 : BitVec 32 := 2048#32
  let v169 : BitVec 32 := Scalar.muli c0_i32 c2048_i32
  let v170 : BitVec 32 := v169
  let c512_i32_3133 : BitVec 32 := 512#32
  let v7297 : BitVec 32 := Scalar.addi v170 c512_i32_3133
  v7297
def k0_mult127 : BitVec 32 :=
  let c0_i32 : BitVec 32 := 0#32
  let c2048_i32 : BitVec 32 := 2048#32
  let v169 : BitVec 32 := Scalar.muli c0_i32 c2048_i32
  let v170 : BitVec 32 := v169
  let c768_i32_3137 : BitVec 32 := 768#32
  let v7304 : BitVec 32 := Scalar.addi v170 c768_i32_3137
  v7304
def k0_mult128 : BitVec 32 :=
  let c0_i32 : BitVec 32 := 0#32
  let c2048_i32 : BitVec 32 := 2048#32
  let v169 : BitVec 32 := Scalar.muli c0_i32 c2048_i32
  let v170 : BitVec 32 := v169
  let c1024_i32_3141 : BitVec 32 := 1024#32
  let v7311 : BitVec 32 := Scalar.addi v170 c1024_i32_3141
  v7311
def k0_mult129 : BitVec 32 :=
  let c0_i32 : BitVec 32 := 0#32
  let c2048_i32 : BitVec 32 := 2048#32
  let v169 : BitVec 32 := Scalar.muli c0_i32 c2048_i32
  let v170 : BitVec 32 := v169
  let c1280_i32_3145 : BitVec 32 := 1280#32
  let v7318 : BitVec 32 := Scalar.addi v170 c1280_i32_3145
  v7318
def k0_mult130 : BitVec 32 :=
  let c0_i32 : BitVec 32 := 0#32
  let c2048_i32 : BitVec 32 := 2048#32
  let v169 : BitVec 32 := Scalar.muli c0_i32 c2048_i32
  let v170 : BitVec 32 := v169
  let c1536_i32_3149 : BitVec 32 := 1536#32
  let v7325 : BitVec 32 := Scalar.addi v170 c1536_i32_3149
  v7325
def k0_mult131 : BitVec 32 :=
  let c0_i32 : BitVec 32 := 0#32
  let c2048_i32 : BitVec 32 := 2048#32
  let v169 : BitVec 32 := Scalar.muli c0_i32 c2048_i32
  let v170 : BitVec 32 := v169
  let c1792_i32_3153 : BitVec 32 := 1792#32
  let v7332 : BitVec 32 := Scalar.addi v170 c1792_i32_3153
  v7332
def k0_off46 (k0_t2 : Fin k0_t2_loop.trips) : Fin 2 → Nat :=
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let c256_i32_2694 : BitVec 32 := 256#32
  let v6195 : BitVec 32 := Scalar.muli arg17 c256_i32_2694
  let v6196 : BitVec 32 := v6195
  let v7340 : Index := Scalar.indexCast v6196
  let c64_3157 : Index := 64#32
  ![v7340.toNat, 64]
def k0_off47 (k0_t2 : Fin k0_t2_loop.trips) : Fin 4 → Nat :=
  let c0_3159 : Index := 0#32
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v7345 : Index := Scalar.indexCast arg17
  let c0_3160 : Index := 0#32
  let c0_3161 : Index := 0#32
  ![0, v7345.toNat, 0, 0]
def k0_off48 (k0_t2 : Fin k0_t2_loop.trips) : Fin 4 → Nat :=
  let c1_3191 : Index := 1#32
  let c0_i32_158 : BitVec 32 := 0#32
  let c0_i32 : BitVec 32 := 0#32
  let c8_i32 : BitVec 32 := 8#32
  let v171 : BitVec 32 := Scalar.muli c0_i32 c8_i32
  let v204 : BitVec 32 := Scalar.subi v171 c0_i32_158
  let c1_i32 : BitVec 32 := 1#32
  let v206 : BitVec 32 := Scalar.divsi v204 c1_i32
  let v207 : BitVec 32 := Scalar.muli v206 c1_i32
  let v208 : BitVec 32 := Scalar.addi c0_i32_158 v207
  let c1_i32_160 : BitVec 32 := 1#32
  let arg17 : BitVec 32 := Scf.iv v208 c1_i32_160 k0_t2
  let v7377 : Index := Scalar.indexCast arg17
  let c0_3192 : Index := 0#32
  let c0_3193 : Index := 0#32
  ![1, v7377.toNat, 0, 0]
def k0_mult132 : BitVec 32 :=
  let c0_i32 : BitVec 32 := 0#32
  let c8_i32 : BitVec 32 := 8#32
  let v171 : BitVec 32 := Scalar.muli c0_i32 c8_i32
  let c0_i32_161 : BitVec 32 := 0#32
  let v211 : BitVec 32 := Scalar.addi v171 c0_i32_161
  let c256_i32_162 : BitVec 32 := 256#32
  let v212 : BitVec 32 := Scalar.muli v211 c256_i32_162
  v212
def k0_off49 (c0_i32_161 : BitVec 32) : Fin 3 → Nat :=
  let c0_163 : Index := 0#32
  let c0_i32 : BitVec 32 := 0#32
  let c8_i32 : BitVec 32 := 8#32
  let v171 : BitVec 32 := Scalar.muli c0_i32 c8_i32
  let v211 : BitVec 32 := Scalar.addi v171 c0_i32_161
  let c256_i32_162 : BitVec 32 := 256#32
  let v212 : BitVec 32 := Scalar.muli v211 c256_i32_162
  let v213 : BitVec 32 := v212
  let v214 : Index := Scalar.indexCast v213
  let c0_164 : Index := 0#32
  ![0, v214.toNat, 0]
def k0_off50 (c0_i32_161 : BitVec 32) : Fin 3 → Nat :=
  let c1_165 : Index := 1#32
  let c0_i32 : BitVec 32 := 0#32
  let c8_i32 : BitVec 32 := 8#32
  let v171 : BitVec 32 := Scalar.muli c0_i32 c8_i32
  let v211 : BitVec 32 := Scalar.addi v171 c0_i32_161
  let c256_i32_162 : BitVec 32 := 256#32
  let v212 : BitVec 32 := Scalar.muli v211 c256_i32_162
  let v213 : BitVec 32 := v212
  let v217 : Index := Scalar.indexCast v213
  let c0_166 : Index := 0#32
  ![1, v217.toNat, 0]
def k0_mult133 : BitVec 32 :=
  let c0_i32 : BitVec 32 := 0#32
  let c2048_i32 : BitVec 32 := 2048#32
  let v169 : BitVec 32 := Scalar.muli c0_i32 c2048_i32
  let v170 : BitVec 32 := v169
  let c0_i32_171 : BitVec 32 := 0#32
  let v226 : BitVec 32 := Scalar.addi v170 c0_i32_171
  v226
def k0_off51 (c0_i32_171 : BitVec 32) : Fin 3 → Nat :=
  let c0_172 : Index := 0#32
  let c0_i32 : BitVec 32 := 0#32
  let c2048_i32 : BitVec 32 := 2048#32
  let v169 : BitVec 32 := Scalar.muli c0_i32 c2048_i32
  let v170 : BitVec 32 := v169
  let v226 : BitVec 32 := Scalar.addi v170 c0_i32_171
  let v227 : BitVec 32 := v226
  let v228 : Index := Scalar.indexCast v227
  let c0_173 : Index := 0#32
  ![0, v228.toNat, 0]
def k0_mult134 : BitVec 32 :=
  let c0_i32 : BitVec 32 := 0#32
  let c2048_i32 : BitVec 32 := 2048#32
  let v169 : BitVec 32 := Scalar.muli c0_i32 c2048_i32
  let v170 : BitVec 32 := v169
  let c256_i32_175 : BitVec 32 := 256#32
  let v232 : BitVec 32 := Scalar.addi v170 c256_i32_175
  v232
def k0_mult135 : BitVec 32 :=
  let c0_i32 : BitVec 32 := 0#32
  let c2048_i32 : BitVec 32 := 2048#32
  let v169 : BitVec 32 := Scalar.muli c0_i32 c2048_i32
  let v170 : BitVec 32 := v169
  let c512_i32 : BitVec 32 := 512#32
  let v238 : BitVec 32 := Scalar.addi v170 c512_i32
  v238
def k0_mult136 : BitVec 32 :=
  let c0_i32 : BitVec 32 := 0#32
  let c2048_i32 : BitVec 32 := 2048#32
  let v169 : BitVec 32 := Scalar.muli c0_i32 c2048_i32
  let v170 : BitVec 32 := v169
  let c768_i32 : BitVec 32 := 768#32
  let v244 : BitVec 32 := Scalar.addi v170 c768_i32
  v244
def k0_mult137 : BitVec 32 :=
  let c0_i32 : BitVec 32 := 0#32
  let c2048_i32 : BitVec 32 := 2048#32
  let v169 : BitVec 32 := Scalar.muli c0_i32 c2048_i32
  let v170 : BitVec 32 := v169
  let c1024_i32 : BitVec 32 := 1024#32
  let v250 : BitVec 32 := Scalar.addi v170 c1024_i32
  v250
def k0_mult138 : BitVec 32 :=
  let c0_i32 : BitVec 32 := 0#32
  let c2048_i32 : BitVec 32 := 2048#32
  let v169 : BitVec 32 := Scalar.muli c0_i32 c2048_i32
  let v170 : BitVec 32 := v169
  let c1280_i32 : BitVec 32 := 1280#32
  let v256 : BitVec 32 := Scalar.addi v170 c1280_i32
  v256
def k0_mult139 : BitVec 32 :=
  let c0_i32 : BitVec 32 := 0#32
  let c2048_i32 : BitVec 32 := 2048#32
  let v169 : BitVec 32 := Scalar.muli c0_i32 c2048_i32
  let v170 : BitVec 32 := v169
  let c1536_i32 : BitVec 32 := 1536#32
  let v262 : BitVec 32 := Scalar.addi v170 c1536_i32
  v262
def k0_mult140 : BitVec 32 :=
  let c0_i32 : BitVec 32 := 0#32
  let c2048_i32 : BitVec 32 := 2048#32
  let v169 : BitVec 32 := Scalar.muli c0_i32 c2048_i32
  let v170 : BitVec 32 := v169
  let c1792_i32 : BitVec 32 := 1792#32
  let v268 : BitVec 32 := Scalar.addi v170 c1792_i32
  v268
def k0_mult141 : BitVec 32 :=
  let c0_i32 : BitVec 32 := 0#32
  let c2048_i32 : BitVec 32 := 2048#32
  let v169 : BitVec 32 := Scalar.muli c0_i32 c2048_i32
  let v170 : BitVec 32 := v169
  let c0_i32_197 : BitVec 32 := 0#32
  let v274 : BitVec 32 := Scalar.addi v170 c0_i32_197
  v274
def k0_off52 (c0_i32_197 : BitVec 32) : Fin 3 → Nat :=
  let c1_198 : Index := 1#32
  let c0_i32 : BitVec 32 := 0#32
  let c2048_i32 : BitVec 32 := 2048#32
  let v169 : BitVec 32 := Scalar.muli c0_i32 c2048_i32
  let v170 : BitVec 32 := v169
  let v274 : BitVec 32 := Scalar.addi v170 c0_i32_197
  let v275 : BitVec 32 := v274
  let v276 : Index := Scalar.indexCast v275
  let c0_199 : Index := 0#32
  ![1, v276.toNat, 0]
def k0_mult142 : BitVec 32 :=
  let c0_i32 : BitVec 32 := 0#32
  let c2048_i32 : BitVec 32 := 2048#32
  let v169 : BitVec 32 := Scalar.muli c0_i32 c2048_i32
  let v170 : BitVec 32 := v169
  let c256_i32_201 : BitVec 32 := 256#32
  let v280 : BitVec 32 := Scalar.addi v170 c256_i32_201
  v280
def k0_mult143 : BitVec 32 :=
  let c0_i32 : BitVec 32 := 0#32
  let c2048_i32 : BitVec 32 := 2048#32
  let v169 : BitVec 32 := Scalar.muli c0_i32 c2048_i32
  let v170 : BitVec 32 := v169
  let c512_i32_205 : BitVec 32 := 512#32
  let v286 : BitVec 32 := Scalar.addi v170 c512_i32_205
  v286
def k0_mult144 : BitVec 32 :=
  let c0_i32 : BitVec 32 := 0#32
  let c2048_i32 : BitVec 32 := 2048#32
  let v169 : BitVec 32 := Scalar.muli c0_i32 c2048_i32
  let v170 : BitVec 32 := v169
  let c768_i32_209 : BitVec 32 := 768#32
  let v292 : BitVec 32 := Scalar.addi v170 c768_i32_209
  v292
def k0_mult145 : BitVec 32 :=
  let c0_i32 : BitVec 32 := 0#32
  let c2048_i32 : BitVec 32 := 2048#32
  let v169 : BitVec 32 := Scalar.muli c0_i32 c2048_i32
  let v170 : BitVec 32 := v169
  let c1024_i32_213 : BitVec 32 := 1024#32
  let v298 : BitVec 32 := Scalar.addi v170 c1024_i32_213
  v298
def k0_mult146 : BitVec 32 :=
  let c0_i32 : BitVec 32 := 0#32
  let c2048_i32 : BitVec 32 := 2048#32
  let v169 : BitVec 32 := Scalar.muli c0_i32 c2048_i32
  let v170 : BitVec 32 := v169
  let c1280_i32_217 : BitVec 32 := 1280#32
  let v304 : BitVec 32 := Scalar.addi v170 c1280_i32_217
  v304
def k0_mult147 : BitVec 32 :=
  let c0_i32 : BitVec 32 := 0#32
  let c2048_i32 : BitVec 32 := 2048#32
  let v169 : BitVec 32 := Scalar.muli c0_i32 c2048_i32
  let v170 : BitVec 32 := v169
  let c1536_i32_221 : BitVec 32 := 1536#32
  let v310 : BitVec 32 := Scalar.addi v170 c1536_i32_221
  v310
def k0_mult148 : BitVec 32 :=
  let c0_i32 : BitVec 32 := 0#32
  let c2048_i32 : BitVec 32 := 2048#32
  let v169 : BitVec 32 := Scalar.muli c0_i32 c2048_i32
  let v170 : BitVec 32 := v169
  let c1792_i32_225 : BitVec 32 := 1792#32
  let v316 : BitVec 32 := Scalar.addi v170 c1792_i32_225
  v316
def k0_mult149 : BitVec 32 :=
  let c0_i32 : BitVec 32 := 0#32
  let c2048_i32 : BitVec 32 := 2048#32
  let v169 : BitVec 32 := Scalar.muli c0_i32 c2048_i32
  let v170 : BitVec 32 := v169
  let c0_i32_229 : BitVec 32 := 0#32
  let v322 : BitVec 32 := Scalar.addi v170 c0_i32_229
  v322
def k0_mult150 : BitVec 32 :=
  let c0_i32 : BitVec 32 := 0#32
  let c2048_i32 : BitVec 32 := 2048#32
  let v169 : BitVec 32 := Scalar.muli c0_i32 c2048_i32
  let v170 : BitVec 32 := v169
  let c256_i32_233 : BitVec 32 := 256#32
  let v328 : BitVec 32 := Scalar.addi v170 c256_i32_233
  v328
def k0_mult151 : BitVec 32 :=
  let c0_i32 : BitVec 32 := 0#32
  let c2048_i32 : BitVec 32 := 2048#32
  let v169 : BitVec 32 := Scalar.muli c0_i32 c2048_i32
  let v170 : BitVec 32 := v169
  let c512_i32_237 : BitVec 32 := 512#32
  let v334 : BitVec 32 := Scalar.addi v170 c512_i32_237
  v334
def k0_mult152 : BitVec 32 :=
  let c0_i32 : BitVec 32 := 0#32
  let c2048_i32 : BitVec 32 := 2048#32
  let v169 : BitVec 32 := Scalar.muli c0_i32 c2048_i32
  let v170 : BitVec 32 := v169
  let c768_i32_241 : BitVec 32 := 768#32
  let v340 : BitVec 32 := Scalar.addi v170 c768_i32_241
  v340
def k0_mult153 : BitVec 32 :=
  let c0_i32 : BitVec 32 := 0#32
  let c2048_i32 : BitVec 32 := 2048#32
  let v169 : BitVec 32 := Scalar.muli c0_i32 c2048_i32
  let v170 : BitVec 32 := v169
  let c1024_i32_245 : BitVec 32 := 1024#32
  let v346 : BitVec 32 := Scalar.addi v170 c1024_i32_245
  v346
def k0_mult154 : BitVec 32 :=
  let c0_i32 : BitVec 32 := 0#32
  let c2048_i32 : BitVec 32 := 2048#32
  let v169 : BitVec 32 := Scalar.muli c0_i32 c2048_i32
  let v170 : BitVec 32 := v169
  let c1280_i32_249 : BitVec 32 := 1280#32
  let v352 : BitVec 32 := Scalar.addi v170 c1280_i32_249
  v352
def k0_mult155 : BitVec 32 :=
  let c0_i32 : BitVec 32 := 0#32
  let c2048_i32 : BitVec 32 := 2048#32
  let v169 : BitVec 32 := Scalar.muli c0_i32 c2048_i32
  let v170 : BitVec 32 := v169
  let c1536_i32_253 : BitVec 32 := 1536#32
  let v358 : BitVec 32 := Scalar.addi v170 c1536_i32_253
  v358
def k0_mult156 : BitVec 32 :=
  let c0_i32 : BitVec 32 := 0#32
  let c2048_i32 : BitVec 32 := 2048#32
  let v169 : BitVec 32 := Scalar.muli c0_i32 c2048_i32
  let v170 : BitVec 32 := v169
  let c1792_i32_257 : BitVec 32 := 1792#32
  let v364 : BitVec 32 := Scalar.addi v170 c1792_i32_257
  v364
def k0_mult157 : BitVec 32 :=
  let c0_i32 : BitVec 32 := 0#32
  let c2048_i32 : BitVec 32 := 2048#32
  let v169 : BitVec 32 := Scalar.muli c0_i32 c2048_i32
  let v170 : BitVec 32 := v169
  let c0_i32_261 : BitVec 32 := 0#32
  let v370 : BitVec 32 := Scalar.addi v170 c0_i32_261
  v370
def k0_mult158 : BitVec 32 :=
  let c0_i32 : BitVec 32 := 0#32
  let c2048_i32 : BitVec 32 := 2048#32
  let v169 : BitVec 32 := Scalar.muli c0_i32 c2048_i32
  let v170 : BitVec 32 := v169
  let c256_i32_265 : BitVec 32 := 256#32
  let v376 : BitVec 32 := Scalar.addi v170 c256_i32_265
  v376
def k0_mult159 : BitVec 32 :=
  let c0_i32 : BitVec 32 := 0#32
  let c2048_i32 : BitVec 32 := 2048#32
  let v169 : BitVec 32 := Scalar.muli c0_i32 c2048_i32
  let v170 : BitVec 32 := v169
  let c512_i32_269 : BitVec 32 := 512#32
  let v382 : BitVec 32 := Scalar.addi v170 c512_i32_269
  v382
def k0_mult160 : BitVec 32 :=
  let c0_i32 : BitVec 32 := 0#32
  let c2048_i32 : BitVec 32 := 2048#32
  let v169 : BitVec 32 := Scalar.muli c0_i32 c2048_i32
  let v170 : BitVec 32 := v169
  let c768_i32_273 : BitVec 32 := 768#32
  let v388 : BitVec 32 := Scalar.addi v170 c768_i32_273
  v388
def k0_mult161 : BitVec 32 :=
  let c0_i32 : BitVec 32 := 0#32
  let c2048_i32 : BitVec 32 := 2048#32
  let v169 : BitVec 32 := Scalar.muli c0_i32 c2048_i32
  let v170 : BitVec 32 := v169
  let c1024_i32_277 : BitVec 32 := 1024#32
  let v394 : BitVec 32 := Scalar.addi v170 c1024_i32_277
  v394
def k0_mult162 : BitVec 32 :=
  let c0_i32 : BitVec 32 := 0#32
  let c2048_i32 : BitVec 32 := 2048#32
  let v169 : BitVec 32 := Scalar.muli c0_i32 c2048_i32
  let v170 : BitVec 32 := v169
  let c1280_i32_281 : BitVec 32 := 1280#32
  let v400 : BitVec 32 := Scalar.addi v170 c1280_i32_281
  v400
def k0_mult163 : BitVec 32 :=
  let c0_i32 : BitVec 32 := 0#32
  let c2048_i32 : BitVec 32 := 2048#32
  let v169 : BitVec 32 := Scalar.muli c0_i32 c2048_i32
  let v170 : BitVec 32 := v169
  let c1536_i32_285 : BitVec 32 := 1536#32
  let v406 : BitVec 32 := Scalar.addi v170 c1536_i32_285
  v406
def k0_mult164 : BitVec 32 :=
  let c0_i32 : BitVec 32 := 0#32
  let c2048_i32 : BitVec 32 := 2048#32
  let v169 : BitVec 32 := Scalar.muli c0_i32 c2048_i32
  let v170 : BitVec 32 := v169
  let c1792_i32_289 : BitVec 32 := 1792#32
  let v412 : BitVec 32 := Scalar.addi v170 c1792_i32_289
  v412
def k0_off53 : Fin 5 → Nat :=
  let c0_392 : Index := 0#32
  let c0_393 : Index := 0#32
  let c0_i32 : BitVec 32 := 0#32
  let c8_i32_391 : BitVec 32 := 8#32
  let v727 : BitVec 32 := Scalar.muli c0_i32 c8_i32_391
  let c8_i32 : BitVec 32 := 8#32
  let v171 : BitVec 32 := Scalar.muli c0_i32 c8_i32
  let c0_i32_161 : BitVec 32 := 0#32
  let v211 : BitVec 32 := Scalar.addi v171 c0_i32_161
  let v728 : BitVec 32 := Scalar.addi v727 v211
  let v729 : Index := Scalar.indexCast v728
  let c0_394 : Index := 0#32
  let c0_395 : Index := 0#32
  ![0, 0, v729.toNat, 0, 0]
def k0_off54 (c0_i32_161 : BitVec 32) : Fin 5 → Nat :=
  let c0_398 : Index := 0#32
  let c0_399 : Index := 0#32
  let c0_i32 : BitVec 32 := 0#32
  let c8_i32_397 : BitVec 32 := 8#32
  let v740 : BitVec 32 := Scalar.muli c0_i32 c8_i32_397
  let c8_i32 : BitVec 32 := 8#32
  let v171 : BitVec 32 := Scalar.muli c0_i32 c8_i32
  let v211 : BitVec 32 := Scalar.addi v171 c0_i32_161
  let v741 : BitVec 32 := Scalar.addi v740 v211
  let v742 : Index := Scalar.indexCast v741
  let c0_400 : Index := 0#32
  let c256_401 : Index := 256#32
  ![0, 0, v742.toNat, 0, 256]
def k0_off55 (c0_i32_161 : BitVec 32) : Fin 5 → Nat :=
  let c0_403 : Index := 0#32
  let c0_404 : Index := 0#32
  let c0_i32 : BitVec 32 := 0#32
  let c8_i32_402 : BitVec 32 := 8#32
  let v751 : BitVec 32 := Scalar.muli c0_i32 c8_i32_402
  let c8_i32 : BitVec 32 := 8#32
  let v171 : BitVec 32 := Scalar.muli c0_i32 c8_i32
  let v211 : BitVec 32 := Scalar.addi v171 c0_i32_161
  let v752 : BitVec 32 := Scalar.addi v751 v211
  let v753 : Index := Scalar.indexCast v752
  let c0_405 : Index := 0#32
  let c512_406 : Index := 512#32
  ![0, 0, v753.toNat, 0, 512]
def k0_off56 (c0_i32_161 : BitVec 32) : Fin 5 → Nat :=
  let c0_408 : Index := 0#32
  let c0_409 : Index := 0#32
  let c0_i32 : BitVec 32 := 0#32
  let c8_i32_407 : BitVec 32 := 8#32
  let v762 : BitVec 32 := Scalar.muli c0_i32 c8_i32_407
  let c8_i32 : BitVec 32 := 8#32
  let v171 : BitVec 32 := Scalar.muli c0_i32 c8_i32
  let v211 : BitVec 32 := Scalar.addi v171 c0_i32_161
  let v763 : BitVec 32 := Scalar.addi v762 v211
  let v764 : Index := Scalar.indexCast v763
  let c0_410 : Index := 0#32
  let c768_411 : Index := 768#32
  ![0, 0, v764.toNat, 0, 768]
def k0_off57 (c0_i32_161 : BitVec 32) : Fin 5 → Nat :=
  let c0_413 : Index := 0#32
  let c0_414 : Index := 0#32
  let c0_i32 : BitVec 32 := 0#32
  let c8_i32_412 : BitVec 32 := 8#32
  let v773 : BitVec 32 := Scalar.muli c0_i32 c8_i32_412
  let c8_i32 : BitVec 32 := 8#32
  let v171 : BitVec 32 := Scalar.muli c0_i32 c8_i32
  let v211 : BitVec 32 := Scalar.addi v171 c0_i32_161
  let v774 : BitVec 32 := Scalar.addi v773 v211
  let v775 : Index := Scalar.indexCast v774
  let c0_415 : Index := 0#32
  let c1024_416 : Index := 1024#32
  ![0, 0, v775.toNat, 0, 1024]
def k0_off58 (c0_i32_161 : BitVec 32) : Fin 5 → Nat :=
  let c0_418 : Index := 0#32
  let c0_419 : Index := 0#32
  let c0_i32 : BitVec 32 := 0#32
  let c8_i32_417 : BitVec 32 := 8#32
  let v784 : BitVec 32 := Scalar.muli c0_i32 c8_i32_417
  let c8_i32 : BitVec 32 := 8#32
  let v171 : BitVec 32 := Scalar.muli c0_i32 c8_i32
  let v211 : BitVec 32 := Scalar.addi v171 c0_i32_161
  let v785 : BitVec 32 := Scalar.addi v784 v211
  let v786 : Index := Scalar.indexCast v785
  let c0_420 : Index := 0#32
  let c1280_421 : Index := 1280#32
  ![0, 0, v786.toNat, 0, 1280]
def k0_off59 (c0_i32_161 : BitVec 32) : Fin 5 → Nat :=
  let c0_423 : Index := 0#32
  let c0_424 : Index := 0#32
  let c0_i32 : BitVec 32 := 0#32
  let c8_i32_422 : BitVec 32 := 8#32
  let v795 : BitVec 32 := Scalar.muli c0_i32 c8_i32_422
  let c8_i32 : BitVec 32 := 8#32
  let v171 : BitVec 32 := Scalar.muli c0_i32 c8_i32
  let v211 : BitVec 32 := Scalar.addi v171 c0_i32_161
  let v796 : BitVec 32 := Scalar.addi v795 v211
  let v797 : Index := Scalar.indexCast v796
  let c0_425 : Index := 0#32
  let c1536_426 : Index := 1536#32
  ![0, 0, v797.toNat, 0, 1536]
def k0_off60 (c0_i32_161 : BitVec 32) : Fin 5 → Nat :=
  let c0_428 : Index := 0#32
  let c0_429 : Index := 0#32
  let c0_i32 : BitVec 32 := 0#32
  let c8_i32_427 : BitVec 32 := 8#32
  let v806 : BitVec 32 := Scalar.muli c0_i32 c8_i32_427
  let c8_i32 : BitVec 32 := 8#32
  let v171 : BitVec 32 := Scalar.muli c0_i32 c8_i32
  let v211 : BitVec 32 := Scalar.addi v171 c0_i32_161
  let v807 : BitVec 32 := Scalar.addi v806 v211
  let v808 : Index := Scalar.indexCast v807
  let c0_430 : Index := 0#32
  let c1792_431 : Index := 1792#32
  ![0, 0, v808.toNat, 0, 1792]
def k0_off61 : Fin 5 → Nat :=
  let c0_433 : Index := 0#32
  let c1_434 : Index := 1#32
  let c0_i32 : BitVec 32 := 0#32
  let c8_i32_432 : BitVec 32 := 8#32
  let v817 : BitVec 32 := Scalar.muli c0_i32 c8_i32_432
  let c8_i32 : BitVec 32 := 8#32
  let v171 : BitVec 32 := Scalar.muli c0_i32 c8_i32
  let c0_i32_161 : BitVec 32 := 0#32
  let v211 : BitVec 32 := Scalar.addi v171 c0_i32_161
  let v818 : BitVec 32 := Scalar.addi v817 v211
  let v819 : Index := Scalar.indexCast v818
  let c0_435 : Index := 0#32
  let c0_436 : Index := 0#32
  ![0, 1, v819.toNat, 0, 0]
def k0_off62 (c0_i32_161 : BitVec 32) : Fin 5 → Nat :=
  let c0_439 : Index := 0#32
  let c1_440 : Index := 1#32
  let c0_i32 : BitVec 32 := 0#32
  let c8_i32_438 : BitVec 32 := 8#32
  let v830 : BitVec 32 := Scalar.muli c0_i32 c8_i32_438
  let c8_i32 : BitVec 32 := 8#32
  let v171 : BitVec 32 := Scalar.muli c0_i32 c8_i32
  let v211 : BitVec 32 := Scalar.addi v171 c0_i32_161
  let v831 : BitVec 32 := Scalar.addi v830 v211
  let v832 : Index := Scalar.indexCast v831
  let c0_441 : Index := 0#32
  let c256_442 : Index := 256#32
  ![0, 1, v832.toNat, 0, 256]
def k0_off63 (c0_i32_161 : BitVec 32) : Fin 5 → Nat :=
  let c0_444 : Index := 0#32
  let c1_445 : Index := 1#32
  let c0_i32 : BitVec 32 := 0#32
  let c8_i32_443 : BitVec 32 := 8#32
  let v841 : BitVec 32 := Scalar.muli c0_i32 c8_i32_443
  let c8_i32 : BitVec 32 := 8#32
  let v171 : BitVec 32 := Scalar.muli c0_i32 c8_i32
  let v211 : BitVec 32 := Scalar.addi v171 c0_i32_161
  let v842 : BitVec 32 := Scalar.addi v841 v211
  let v843 : Index := Scalar.indexCast v842
  let c0_446 : Index := 0#32
  let c512_447 : Index := 512#32
  ![0, 1, v843.toNat, 0, 512]
def k0_off64 (c0_i32_161 : BitVec 32) : Fin 5 → Nat :=
  let c0_449 : Index := 0#32
  let c1_450 : Index := 1#32
  let c0_i32 : BitVec 32 := 0#32
  let c8_i32_448 : BitVec 32 := 8#32
  let v852 : BitVec 32 := Scalar.muli c0_i32 c8_i32_448
  let c8_i32 : BitVec 32 := 8#32
  let v171 : BitVec 32 := Scalar.muli c0_i32 c8_i32
  let v211 : BitVec 32 := Scalar.addi v171 c0_i32_161
  let v853 : BitVec 32 := Scalar.addi v852 v211
  let v854 : Index := Scalar.indexCast v853
  let c0_451 : Index := 0#32
  let c768_452 : Index := 768#32
  ![0, 1, v854.toNat, 0, 768]
def k0_off65 (c0_i32_161 : BitVec 32) : Fin 5 → Nat :=
  let c0_454 : Index := 0#32
  let c1_455 : Index := 1#32
  let c0_i32 : BitVec 32 := 0#32
  let c8_i32_453 : BitVec 32 := 8#32
  let v863 : BitVec 32 := Scalar.muli c0_i32 c8_i32_453
  let c8_i32 : BitVec 32 := 8#32
  let v171 : BitVec 32 := Scalar.muli c0_i32 c8_i32
  let v211 : BitVec 32 := Scalar.addi v171 c0_i32_161
  let v864 : BitVec 32 := Scalar.addi v863 v211
  let v865 : Index := Scalar.indexCast v864
  let c0_456 : Index := 0#32
  let c1024_457 : Index := 1024#32
  ![0, 1, v865.toNat, 0, 1024]
def k0_off66 (c0_i32_161 : BitVec 32) : Fin 5 → Nat :=
  let c0_459 : Index := 0#32
  let c1_460 : Index := 1#32
  let c0_i32 : BitVec 32 := 0#32
  let c8_i32_458 : BitVec 32 := 8#32
  let v874 : BitVec 32 := Scalar.muli c0_i32 c8_i32_458
  let c8_i32 : BitVec 32 := 8#32
  let v171 : BitVec 32 := Scalar.muli c0_i32 c8_i32
  let v211 : BitVec 32 := Scalar.addi v171 c0_i32_161
  let v875 : BitVec 32 := Scalar.addi v874 v211
  let v876 : Index := Scalar.indexCast v875
  let c0_461 : Index := 0#32
  let c1280_462 : Index := 1280#32
  ![0, 1, v876.toNat, 0, 1280]
def k0_off67 (c0_i32_161 : BitVec 32) : Fin 5 → Nat :=
  let c0_464 : Index := 0#32
  let c1_465 : Index := 1#32
  let c0_i32 : BitVec 32 := 0#32
  let c8_i32_463 : BitVec 32 := 8#32
  let v885 : BitVec 32 := Scalar.muli c0_i32 c8_i32_463
  let c8_i32 : BitVec 32 := 8#32
  let v171 : BitVec 32 := Scalar.muli c0_i32 c8_i32
  let v211 : BitVec 32 := Scalar.addi v171 c0_i32_161
  let v886 : BitVec 32 := Scalar.addi v885 v211
  let v887 : Index := Scalar.indexCast v886
  let c0_466 : Index := 0#32
  let c1536_467 : Index := 1536#32
  ![0, 1, v887.toNat, 0, 1536]
def k0_off68 (c0_i32_161 : BitVec 32) : Fin 5 → Nat :=
  let c0_469 : Index := 0#32
  let c1_470 : Index := 1#32
  let c0_i32 : BitVec 32 := 0#32
  let c8_i32_468 : BitVec 32 := 8#32
  let v896 : BitVec 32 := Scalar.muli c0_i32 c8_i32_468
  let c8_i32 : BitVec 32 := 8#32
  let v171 : BitVec 32 := Scalar.muli c0_i32 c8_i32
  let v211 : BitVec 32 := Scalar.addi v171 c0_i32_161
  let v897 : BitVec 32 := Scalar.addi v896 v211
  let v898 : Index := Scalar.indexCast v897
  let c0_471 : Index := 0#32
  let c1792_472 : Index := 1792#32
  ![0, 1, v898.toNat, 0, 1792]
def k0_mult165 : BitVec 32 :=
  let c0_i32 : BitVec 32 := 0#32
  let c2048_i32 : BitVec 32 := 2048#32
  let v169 : BitVec 32 := Scalar.muli c0_i32 c2048_i32
  let v170 : BitVec 32 := v169
  let c0_i32_491 : BitVec 32 := 0#32
  let v1134 : BitVec 32 := Scalar.addi v170 c0_i32_491
  v1134
def k0_mult166 : BitVec 32 :=
  let c0_i32 : BitVec 32 := 0#32
  let c2048_i32 : BitVec 32 := 2048#32
  let v169 : BitVec 32 := Scalar.muli c0_i32 c2048_i32
  let v170 : BitVec 32 := v169
  let c256_i32_496 : BitVec 32 := 256#32
  let v1142 : BitVec 32 := Scalar.addi v170 c256_i32_496
  v1142
def k0_mult167 : BitVec 32 :=
  let c0_i32 : BitVec 32 := 0#32
  let c2048_i32 : BitVec 32 := 2048#32
  let v169 : BitVec 32 := Scalar.muli c0_i32 c2048_i32
  let v170 : BitVec 32 := v169
  let c512_i32_500 : BitVec 32 := 512#32
  let v1149 : BitVec 32 := Scalar.addi v170 c512_i32_500
  v1149
def k0_mult168 : BitVec 32 :=
  let c0_i32 : BitVec 32 := 0#32
  let c2048_i32 : BitVec 32 := 2048#32
  let v169 : BitVec 32 := Scalar.muli c0_i32 c2048_i32
  let v170 : BitVec 32 := v169
  let c768_i32_504 : BitVec 32 := 768#32
  let v1156 : BitVec 32 := Scalar.addi v170 c768_i32_504
  v1156
def k0_mult169 : BitVec 32 :=
  let c0_i32 : BitVec 32 := 0#32
  let c2048_i32 : BitVec 32 := 2048#32
  let v169 : BitVec 32 := Scalar.muli c0_i32 c2048_i32
  let v170 : BitVec 32 := v169
  let c1024_i32_508 : BitVec 32 := 1024#32
  let v1163 : BitVec 32 := Scalar.addi v170 c1024_i32_508
  v1163
def k0_mult170 : BitVec 32 :=
  let c0_i32 : BitVec 32 := 0#32
  let c2048_i32 : BitVec 32 := 2048#32
  let v169 : BitVec 32 := Scalar.muli c0_i32 c2048_i32
  let v170 : BitVec 32 := v169
  let c1280_i32_512 : BitVec 32 := 1280#32
  let v1170 : BitVec 32 := Scalar.addi v170 c1280_i32_512
  v1170
def k0_mult171 : BitVec 32 :=
  let c0_i32 : BitVec 32 := 0#32
  let c2048_i32 : BitVec 32 := 2048#32
  let v169 : BitVec 32 := Scalar.muli c0_i32 c2048_i32
  let v170 : BitVec 32 := v169
  let c1536_i32_516 : BitVec 32 := 1536#32
  let v1177 : BitVec 32 := Scalar.addi v170 c1536_i32_516
  v1177
def k0_mult172 : BitVec 32 :=
  let c0_i32 : BitVec 32 := 0#32
  let c2048_i32 : BitVec 32 := 2048#32
  let v169 : BitVec 32 := Scalar.muli c0_i32 c2048_i32
  let v170 : BitVec 32 := v169
  let c1792_i32_520 : BitVec 32 := 1792#32
  let v1184 : BitVec 32 := Scalar.addi v170 c1792_i32_520
  v1184
def k0_mult173 : BitVec 32 :=
  let c0_i32 : BitVec 32 := 0#32
  let c2048_i32 : BitVec 32 := 2048#32
  let v169 : BitVec 32 := Scalar.muli c0_i32 c2048_i32
  let v170 : BitVec 32 := v169
  let c0_i32_524 : BitVec 32 := 0#32
  let v1191 : BitVec 32 := Scalar.addi v170 c0_i32_524
  v1191
def k0_mult174 : BitVec 32 :=
  let c0_i32 : BitVec 32 := 0#32
  let c2048_i32 : BitVec 32 := 2048#32
  let v169 : BitVec 32 := Scalar.muli c0_i32 c2048_i32
  let v170 : BitVec 32 := v169
  let c256_i32_529 : BitVec 32 := 256#32
  let v1199 : BitVec 32 := Scalar.addi v170 c256_i32_529
  v1199
def k0_mult175 : BitVec 32 :=
  let c0_i32 : BitVec 32 := 0#32
  let c2048_i32 : BitVec 32 := 2048#32
  let v169 : BitVec 32 := Scalar.muli c0_i32 c2048_i32
  let v170 : BitVec 32 := v169
  let c512_i32_533 : BitVec 32 := 512#32
  let v1206 : BitVec 32 := Scalar.addi v170 c512_i32_533
  v1206
def k0_mult176 : BitVec 32 :=
  let c0_i32 : BitVec 32 := 0#32
  let c2048_i32 : BitVec 32 := 2048#32
  let v169 : BitVec 32 := Scalar.muli c0_i32 c2048_i32
  let v170 : BitVec 32 := v169
  let c768_i32_537 : BitVec 32 := 768#32
  let v1213 : BitVec 32 := Scalar.addi v170 c768_i32_537
  v1213
def k0_mult177 : BitVec 32 :=
  let c0_i32 : BitVec 32 := 0#32
  let c2048_i32 : BitVec 32 := 2048#32
  let v169 : BitVec 32 := Scalar.muli c0_i32 c2048_i32
  let v170 : BitVec 32 := v169
  let c1024_i32_541 : BitVec 32 := 1024#32
  let v1220 : BitVec 32 := Scalar.addi v170 c1024_i32_541
  v1220
def k0_mult178 : BitVec 32 :=
  let c0_i32 : BitVec 32 := 0#32
  let c2048_i32 : BitVec 32 := 2048#32
  let v169 : BitVec 32 := Scalar.muli c0_i32 c2048_i32
  let v170 : BitVec 32 := v169
  let c1280_i32_545 : BitVec 32 := 1280#32
  let v1227 : BitVec 32 := Scalar.addi v170 c1280_i32_545
  v1227
def k0_mult179 : BitVec 32 :=
  let c0_i32 : BitVec 32 := 0#32
  let c2048_i32 : BitVec 32 := 2048#32
  let v169 : BitVec 32 := Scalar.muli c0_i32 c2048_i32
  let v170 : BitVec 32 := v169
  let c1536_i32_549 : BitVec 32 := 1536#32
  let v1234 : BitVec 32 := Scalar.addi v170 c1536_i32_549
  v1234
def k0_mult180 : BitVec 32 :=
  let c0_i32 : BitVec 32 := 0#32
  let c2048_i32 : BitVec 32 := 2048#32
  let v169 : BitVec 32 := Scalar.muli c0_i32 c2048_i32
  let v170 : BitVec 32 := v169
  let c1792_i32_553 : BitVec 32 := 1792#32
  let v1241 : BitVec 32 := Scalar.addi v170 c1792_i32_553
  v1241
def k0_off69 (c0_i32_161 : BitVec 32) : Fin 2 → Nat :=
  let c0_i32 : BitVec 32 := 0#32
  let c8_i32 : BitVec 32 := 8#32
  let v171 : BitVec 32 := Scalar.muli c0_i32 c8_i32
  let v211 : BitVec 32 := Scalar.addi v171 c0_i32_161
  let c256_i32_162 : BitVec 32 := 256#32
  let v212 : BitVec 32 := Scalar.muli v211 c256_i32_162
  let v213 : BitVec 32 := v212
  let v1249 : Index := Scalar.indexCast v213
  let c0_557 : Index := 0#32
  ![v1249.toNat, 0]
def k0_mult181 : BitVec 32 :=
  let c0_i32 : BitVec 32 := 0#32
  let c2048_i32 : BitVec 32 := 2048#32
  let v169 : BitVec 32 := Scalar.muli c0_i32 c2048_i32
  let v170 : BitVec 32 := v169
  let c0_i32_559 : BitVec 32 := 0#32
  let v1254 : BitVec 32 := Scalar.addi v170 c0_i32_559
  v1254
def k0_mult182 : BitVec 32 :=
  let c0_i32 : BitVec 32 := 0#32
  let c2048_i32 : BitVec 32 := 2048#32
  let v169 : BitVec 32 := Scalar.muli c0_i32 c2048_i32
  let v170 : BitVec 32 := v169
  let c256_i32_564 : BitVec 32 := 256#32
  let v1262 : BitVec 32 := Scalar.addi v170 c256_i32_564
  v1262
def k0_mult183 : BitVec 32 :=
  let c0_i32 : BitVec 32 := 0#32
  let c2048_i32 : BitVec 32 := 2048#32
  let v169 : BitVec 32 := Scalar.muli c0_i32 c2048_i32
  let v170 : BitVec 32 := v169
  let c512_i32_568 : BitVec 32 := 512#32
  let v1269 : BitVec 32 := Scalar.addi v170 c512_i32_568
  v1269
def k0_mult184 : BitVec 32 :=
  let c0_i32 : BitVec 32 := 0#32
  let c2048_i32 : BitVec 32 := 2048#32
  let v169 : BitVec 32 := Scalar.muli c0_i32 c2048_i32
  let v170 : BitVec 32 := v169
  let c768_i32_572 : BitVec 32 := 768#32
  let v1276 : BitVec 32 := Scalar.addi v170 c768_i32_572
  v1276
def k0_mult185 : BitVec 32 :=
  let c0_i32 : BitVec 32 := 0#32
  let c2048_i32 : BitVec 32 := 2048#32
  let v169 : BitVec 32 := Scalar.muli c0_i32 c2048_i32
  let v170 : BitVec 32 := v169
  let c1024_i32_576 : BitVec 32 := 1024#32
  let v1283 : BitVec 32 := Scalar.addi v170 c1024_i32_576
  v1283
def k0_mult186 : BitVec 32 :=
  let c0_i32 : BitVec 32 := 0#32
  let c2048_i32 : BitVec 32 := 2048#32
  let v169 : BitVec 32 := Scalar.muli c0_i32 c2048_i32
  let v170 : BitVec 32 := v169
  let c1280_i32_580 : BitVec 32 := 1280#32
  let v1290 : BitVec 32 := Scalar.addi v170 c1280_i32_580
  v1290
def k0_mult187 : BitVec 32 :=
  let c0_i32 : BitVec 32 := 0#32
  let c2048_i32 : BitVec 32 := 2048#32
  let v169 : BitVec 32 := Scalar.muli c0_i32 c2048_i32
  let v170 : BitVec 32 := v169
  let c1536_i32_584 : BitVec 32 := 1536#32
  let v1297 : BitVec 32 := Scalar.addi v170 c1536_i32_584
  v1297
def k0_mult188 : BitVec 32 :=
  let c0_i32 : BitVec 32 := 0#32
  let c2048_i32 : BitVec 32 := 2048#32
  let v169 : BitVec 32 := Scalar.muli c0_i32 c2048_i32
  let v170 : BitVec 32 := v169
  let c1792_i32_588 : BitVec 32 := 1792#32
  let v1304 : BitVec 32 := Scalar.addi v170 c1792_i32_588
  v1304
def k0_mult189 : BitVec 32 :=
  let c0_i32 : BitVec 32 := 0#32
  let c2048_i32 : BitVec 32 := 2048#32
  let v169 : BitVec 32 := Scalar.muli c0_i32 c2048_i32
  let v170 : BitVec 32 := v169
  let c0_i32_592 : BitVec 32 := 0#32
  let v1311 : BitVec 32 := Scalar.addi v170 c0_i32_592
  v1311
def k0_mult190 : BitVec 32 :=
  let c0_i32 : BitVec 32 := 0#32
  let c2048_i32 : BitVec 32 := 2048#32
  let v169 : BitVec 32 := Scalar.muli c0_i32 c2048_i32
  let v170 : BitVec 32 := v169
  let c256_i32_597 : BitVec 32 := 256#32
  let v1319 : BitVec 32 := Scalar.addi v170 c256_i32_597
  v1319
def k0_mult191 : BitVec 32 :=
  let c0_i32 : BitVec 32 := 0#32
  let c2048_i32 : BitVec 32 := 2048#32
  let v169 : BitVec 32 := Scalar.muli c0_i32 c2048_i32
  let v170 : BitVec 32 := v169
  let c512_i32_601 : BitVec 32 := 512#32
  let v1326 : BitVec 32 := Scalar.addi v170 c512_i32_601
  v1326
def k0_mult192 : BitVec 32 :=
  let c0_i32 : BitVec 32 := 0#32
  let c2048_i32 : BitVec 32 := 2048#32
  let v169 : BitVec 32 := Scalar.muli c0_i32 c2048_i32
  let v170 : BitVec 32 := v169
  let c768_i32_605 : BitVec 32 := 768#32
  let v1333 : BitVec 32 := Scalar.addi v170 c768_i32_605
  v1333
def k0_mult193 : BitVec 32 :=
  let c0_i32 : BitVec 32 := 0#32
  let c2048_i32 : BitVec 32 := 2048#32
  let v169 : BitVec 32 := Scalar.muli c0_i32 c2048_i32
  let v170 : BitVec 32 := v169
  let c1024_i32_609 : BitVec 32 := 1024#32
  let v1340 : BitVec 32 := Scalar.addi v170 c1024_i32_609
  v1340
def k0_mult194 : BitVec 32 :=
  let c0_i32 : BitVec 32 := 0#32
  let c2048_i32 : BitVec 32 := 2048#32
  let v169 : BitVec 32 := Scalar.muli c0_i32 c2048_i32
  let v170 : BitVec 32 := v169
  let c1280_i32_613 : BitVec 32 := 1280#32
  let v1347 : BitVec 32 := Scalar.addi v170 c1280_i32_613
  v1347
def k0_mult195 : BitVec 32 :=
  let c0_i32 : BitVec 32 := 0#32
  let c2048_i32 : BitVec 32 := 2048#32
  let v169 : BitVec 32 := Scalar.muli c0_i32 c2048_i32
  let v170 : BitVec 32 := v169
  let c1536_i32_617 : BitVec 32 := 1536#32
  let v1354 : BitVec 32 := Scalar.addi v170 c1536_i32_617
  v1354
def k0_mult196 : BitVec 32 :=
  let c0_i32 : BitVec 32 := 0#32
  let c2048_i32 : BitVec 32 := 2048#32
  let v169 : BitVec 32 := Scalar.muli c0_i32 c2048_i32
  let v170 : BitVec 32 := v169
  let c1792_i32_621 : BitVec 32 := 1792#32
  let v1361 : BitVec 32 := Scalar.addi v170 c1792_i32_621
  v1361
def k0_off70 (c0_i32_161 : BitVec 32) : Fin 2 → Nat :=
  let c0_i32 : BitVec 32 := 0#32
  let c8_i32 : BitVec 32 := 8#32
  let v171 : BitVec 32 := Scalar.muli c0_i32 c8_i32
  let v211 : BitVec 32 := Scalar.addi v171 c0_i32_161
  let c256_i32_162 : BitVec 32 := 256#32
  let v212 : BitVec 32 := Scalar.muli v211 c256_i32_162
  let v213 : BitVec 32 := v212
  let v1369 : Index := Scalar.indexCast v213
  let c64_625 : Index := 64#32
  ![v1369.toNat, 64]
def k0_off71 (c0_i32_161 : BitVec 32) : Fin 4 → Nat :=
  let c0_627 : Index := 0#32
  let c0_i32 : BitVec 32 := 0#32
  let c8_i32 : BitVec 32 := 8#32
  let v171 : BitVec 32 := Scalar.muli c0_i32 c8_i32
  let v211 : BitVec 32 := Scalar.addi v171 c0_i32_161
  let v1374 : Index := Scalar.indexCast v211
  let c0_628 : Index := 0#32
  let c0_629 : Index := 0#32
  ![0, v1374.toNat, 0, 0]
def k0_off72 (c0_i32_161 : BitVec 32) : Fin 4 → Nat :=
  let c1_659 : Index := 1#32
  let c0_i32 : BitVec 32 := 0#32
  let c8_i32 : BitVec 32 := 8#32
  let v171 : BitVec 32 := Scalar.muli c0_i32 c8_i32
  let v211 : BitVec 32 := Scalar.addi v171 c0_i32_161
  let v1406 : Index := Scalar.indexCast v211
  let c0_660 : Index := 0#32
  let c0_661 : Index := 0#32
  ![1, v1406.toNat, 0, 0]
def k0_mult197 : BitVec 32 :=
  let c0_i32 : BitVec 32 := 0#32
  let c8_i32 : BitVec 32 := 8#32
  let v171 : BitVec 32 := Scalar.muli c0_i32 c8_i32
  let c1_i32_691 : BitVec 32 := 1#32
  let v1482 : BitVec 32 := Scalar.addi v171 c1_i32_691
  let c256_i32_692 : BitVec 32 := 256#32
  let v1483 : BitVec 32 := Scalar.muli v1482 c256_i32_692
  v1483
def k0_mult198 : BitVec 32 :=
  let c0_i32 : BitVec 32 := 0#32
  let c2048_i32 : BitVec 32 := 2048#32
  let v169 : BitVec 32 := Scalar.muli c0_i32 c2048_i32
  let v170 : BitVec 32 := v169
  let c256_i32_701 : BitVec 32 := 256#32
  let v1497 : BitVec 32 := Scalar.addi v170 c256_i32_701
  v1497
def k0_mult199 : BitVec 32 :=
  let c0_i32 : BitVec 32 := 0#32
  let c2048_i32 : BitVec 32 := 2048#32
  let v169 : BitVec 32 := Scalar.muli c0_i32 c2048_i32
  let v170 : BitVec 32 := v169
  let c512_i32_705 : BitVec 32 := 512#32
  let v1503 : BitVec 32 := Scalar.addi v170 c512_i32_705
  v1503
def k0_mult200 : BitVec 32 :=
  let c0_i32 : BitVec 32 := 0#32
  let c2048_i32 : BitVec 32 := 2048#32
  let v169 : BitVec 32 := Scalar.muli c0_i32 c2048_i32
  let v170 : BitVec 32 := v169
  let c768_i32_709 : BitVec 32 := 768#32
  let v1509 : BitVec 32 := Scalar.addi v170 c768_i32_709
  v1509
def k0_mult201 : BitVec 32 :=
  let c0_i32 : BitVec 32 := 0#32
  let c2048_i32 : BitVec 32 := 2048#32
  let v169 : BitVec 32 := Scalar.muli c0_i32 c2048_i32
  let v170 : BitVec 32 := v169
  let c1024_i32_713 : BitVec 32 := 1024#32
  let v1515 : BitVec 32 := Scalar.addi v170 c1024_i32_713
  v1515
def k0_mult202 : BitVec 32 :=
  let c0_i32 : BitVec 32 := 0#32
  let c2048_i32 : BitVec 32 := 2048#32
  let v169 : BitVec 32 := Scalar.muli c0_i32 c2048_i32
  let v170 : BitVec 32 := v169
  let c1280_i32_717 : BitVec 32 := 1280#32
  let v1521 : BitVec 32 := Scalar.addi v170 c1280_i32_717
  v1521
def k0_mult203 : BitVec 32 :=
  let c0_i32 : BitVec 32 := 0#32
  let c2048_i32 : BitVec 32 := 2048#32
  let v169 : BitVec 32 := Scalar.muli c0_i32 c2048_i32
  let v170 : BitVec 32 := v169
  let c1536_i32_721 : BitVec 32 := 1536#32
  let v1527 : BitVec 32 := Scalar.addi v170 c1536_i32_721
  v1527
def k0_mult204 : BitVec 32 :=
  let c0_i32 : BitVec 32 := 0#32
  let c2048_i32 : BitVec 32 := 2048#32
  let v169 : BitVec 32 := Scalar.muli c0_i32 c2048_i32
  let v170 : BitVec 32 := v169
  let c1792_i32_725 : BitVec 32 := 1792#32
  let v1533 : BitVec 32 := Scalar.addi v170 c1792_i32_725
  v1533
def k0_mult205 : BitVec 32 :=
  let c0_i32 : BitVec 32 := 0#32
  let c2048_i32 : BitVec 32 := 2048#32
  let v169 : BitVec 32 := Scalar.muli c0_i32 c2048_i32
  let v170 : BitVec 32 := v169
  let c256_i32_729 : BitVec 32 := 256#32
  let v1539 : BitVec 32 := Scalar.addi v170 c256_i32_729
  v1539
def k0_mult206 : BitVec 32 :=
  let c0_i32 : BitVec 32 := 0#32
  let c2048_i32 : BitVec 32 := 2048#32
  let v169 : BitVec 32 := Scalar.muli c0_i32 c2048_i32
  let v170 : BitVec 32 := v169
  let c512_i32_733 : BitVec 32 := 512#32
  let v1545 : BitVec 32 := Scalar.addi v170 c512_i32_733
  v1545
def k0_mult207 : BitVec 32 :=
  let c0_i32 : BitVec 32 := 0#32
  let c2048_i32 : BitVec 32 := 2048#32
  let v169 : BitVec 32 := Scalar.muli c0_i32 c2048_i32
  let v170 : BitVec 32 := v169
  let c768_i32_737 : BitVec 32 := 768#32
  let v1551 : BitVec 32 := Scalar.addi v170 c768_i32_737
  v1551
def k0_mult208 : BitVec 32 :=
  let c0_i32 : BitVec 32 := 0#32
  let c2048_i32 : BitVec 32 := 2048#32
  let v169 : BitVec 32 := Scalar.muli c0_i32 c2048_i32
  let v170 : BitVec 32 := v169
  let c1024_i32_741 : BitVec 32 := 1024#32
  let v1557 : BitVec 32 := Scalar.addi v170 c1024_i32_741
  v1557
def k0_mult209 : BitVec 32 :=
  let c0_i32 : BitVec 32 := 0#32
  let c2048_i32 : BitVec 32 := 2048#32
  let v169 : BitVec 32 := Scalar.muli c0_i32 c2048_i32
  let v170 : BitVec 32 := v169
  let c1280_i32_745 : BitVec 32 := 1280#32
  let v1563 : BitVec 32 := Scalar.addi v170 c1280_i32_745
  v1563
def k0_mult210 : BitVec 32 :=
  let c0_i32 : BitVec 32 := 0#32
  let c2048_i32 : BitVec 32 := 2048#32
  let v169 : BitVec 32 := Scalar.muli c0_i32 c2048_i32
  let v170 : BitVec 32 := v169
  let c1536_i32_749 : BitVec 32 := 1536#32
  let v1569 : BitVec 32 := Scalar.addi v170 c1536_i32_749
  v1569
def k0_mult211 : BitVec 32 :=
  let c0_i32 : BitVec 32 := 0#32
  let c2048_i32 : BitVec 32 := 2048#32
  let v169 : BitVec 32 := Scalar.muli c0_i32 c2048_i32
  let v170 : BitVec 32 := v169
  let c1792_i32_753 : BitVec 32 := 1792#32
  let v1575 : BitVec 32 := Scalar.addi v170 c1792_i32_753
  v1575
def k0_mult212 : BitVec 32 :=
  let c0_i32 : BitVec 32 := 0#32
  let c2048_i32 : BitVec 32 := 2048#32
  let v169 : BitVec 32 := Scalar.muli c0_i32 c2048_i32
  let v170 : BitVec 32 := v169
  let c256_i32_757 : BitVec 32 := 256#32
  let v1581 : BitVec 32 := Scalar.addi v170 c256_i32_757
  v1581
def k0_mult213 : BitVec 32 :=
  let c0_i32 : BitVec 32 := 0#32
  let c2048_i32 : BitVec 32 := 2048#32
  let v169 : BitVec 32 := Scalar.muli c0_i32 c2048_i32
  let v170 : BitVec 32 := v169
  let c512_i32_761 : BitVec 32 := 512#32
  let v1587 : BitVec 32 := Scalar.addi v170 c512_i32_761
  v1587
def k0_mult214 : BitVec 32 :=
  let c0_i32 : BitVec 32 := 0#32
  let c2048_i32 : BitVec 32 := 2048#32
  let v169 : BitVec 32 := Scalar.muli c0_i32 c2048_i32
  let v170 : BitVec 32 := v169
  let c768_i32_765 : BitVec 32 := 768#32
  let v1593 : BitVec 32 := Scalar.addi v170 c768_i32_765
  v1593
def k0_mult215 : BitVec 32 :=
  let c0_i32 : BitVec 32 := 0#32
  let c2048_i32 : BitVec 32 := 2048#32
  let v169 : BitVec 32 := Scalar.muli c0_i32 c2048_i32
  let v170 : BitVec 32 := v169
  let c1024_i32_769 : BitVec 32 := 1024#32
  let v1599 : BitVec 32 := Scalar.addi v170 c1024_i32_769
  v1599
def k0_mult216 : BitVec 32 :=
  let c0_i32 : BitVec 32 := 0#32
  let c2048_i32 : BitVec 32 := 2048#32
  let v169 : BitVec 32 := Scalar.muli c0_i32 c2048_i32
  let v170 : BitVec 32 := v169
  let c1280_i32_773 : BitVec 32 := 1280#32
  let v1605 : BitVec 32 := Scalar.addi v170 c1280_i32_773
  v1605
def k0_mult217 : BitVec 32 :=
  let c0_i32 : BitVec 32 := 0#32
  let c2048_i32 : BitVec 32 := 2048#32
  let v169 : BitVec 32 := Scalar.muli c0_i32 c2048_i32
  let v170 : BitVec 32 := v169
  let c1536_i32_777 : BitVec 32 := 1536#32
  let v1611 : BitVec 32 := Scalar.addi v170 c1536_i32_777
  v1611
def k0_mult218 : BitVec 32 :=
  let c0_i32 : BitVec 32 := 0#32
  let c2048_i32 : BitVec 32 := 2048#32
  let v169 : BitVec 32 := Scalar.muli c0_i32 c2048_i32
  let v170 : BitVec 32 := v169
  let c1792_i32_781 : BitVec 32 := 1792#32
  let v1617 : BitVec 32 := Scalar.addi v170 c1792_i32_781
  v1617
def k0_mult219 : BitVec 32 :=
  let c0_i32 : BitVec 32 := 0#32
  let c2048_i32 : BitVec 32 := 2048#32
  let v169 : BitVec 32 := Scalar.muli c0_i32 c2048_i32
  let v170 : BitVec 32 := v169
  let c256_i32_785 : BitVec 32 := 256#32
  let v1623 : BitVec 32 := Scalar.addi v170 c256_i32_785
  v1623
def k0_mult220 : BitVec 32 :=
  let c0_i32 : BitVec 32 := 0#32
  let c2048_i32 : BitVec 32 := 2048#32
  let v169 : BitVec 32 := Scalar.muli c0_i32 c2048_i32
  let v170 : BitVec 32 := v169
  let c512_i32_789 : BitVec 32 := 512#32
  let v1629 : BitVec 32 := Scalar.addi v170 c512_i32_789
  v1629
def k0_mult221 : BitVec 32 :=
  let c0_i32 : BitVec 32 := 0#32
  let c2048_i32 : BitVec 32 := 2048#32
  let v169 : BitVec 32 := Scalar.muli c0_i32 c2048_i32
  let v170 : BitVec 32 := v169
  let c768_i32_793 : BitVec 32 := 768#32
  let v1635 : BitVec 32 := Scalar.addi v170 c768_i32_793
  v1635
def k0_mult222 : BitVec 32 :=
  let c0_i32 : BitVec 32 := 0#32
  let c2048_i32 : BitVec 32 := 2048#32
  let v169 : BitVec 32 := Scalar.muli c0_i32 c2048_i32
  let v170 : BitVec 32 := v169
  let c1024_i32_797 : BitVec 32 := 1024#32
  let v1641 : BitVec 32 := Scalar.addi v170 c1024_i32_797
  v1641
def k0_mult223 : BitVec 32 :=
  let c0_i32 : BitVec 32 := 0#32
  let c2048_i32 : BitVec 32 := 2048#32
  let v169 : BitVec 32 := Scalar.muli c0_i32 c2048_i32
  let v170 : BitVec 32 := v169
  let c1280_i32_801 : BitVec 32 := 1280#32
  let v1647 : BitVec 32 := Scalar.addi v170 c1280_i32_801
  v1647
def k0_mult224 : BitVec 32 :=
  let c0_i32 : BitVec 32 := 0#32
  let c2048_i32 : BitVec 32 := 2048#32
  let v169 : BitVec 32 := Scalar.muli c0_i32 c2048_i32
  let v170 : BitVec 32 := v169
  let c1536_i32_805 : BitVec 32 := 1536#32
  let v1653 : BitVec 32 := Scalar.addi v170 c1536_i32_805
  v1653
def k0_mult225 : BitVec 32 :=
  let c0_i32 : BitVec 32 := 0#32
  let c2048_i32 : BitVec 32 := 2048#32
  let v169 : BitVec 32 := Scalar.muli c0_i32 c2048_i32
  let v170 : BitVec 32 := v169
  let c1792_i32_809 : BitVec 32 := 1792#32
  let v1659 : BitVec 32 := Scalar.addi v170 c1792_i32_809
  v1659
def k0_mult226 : BitVec 32 :=
  let c0_i32 : BitVec 32 := 0#32
  let c2048_i32 : BitVec 32 := 2048#32
  let v169 : BitVec 32 := Scalar.muli c0_i32 c2048_i32
  let v170 : BitVec 32 := v169
  let c256_i32_987 : BitVec 32 := 256#32
  let v2293 : BitVec 32 := Scalar.addi v170 c256_i32_987
  v2293
def k0_mult227 : BitVec 32 :=
  let c0_i32 : BitVec 32 := 0#32
  let c2048_i32 : BitVec 32 := 2048#32
  let v169 : BitVec 32 := Scalar.muli c0_i32 c2048_i32
  let v170 : BitVec 32 := v169
  let c512_i32_992 : BitVec 32 := 512#32
  let v2301 : BitVec 32 := Scalar.addi v170 c512_i32_992
  v2301
def k0_mult228 : BitVec 32 :=
  let c0_i32 : BitVec 32 := 0#32
  let c2048_i32 : BitVec 32 := 2048#32
  let v169 : BitVec 32 := Scalar.muli c0_i32 c2048_i32
  let v170 : BitVec 32 := v169
  let c768_i32_996 : BitVec 32 := 768#32
  let v2308 : BitVec 32 := Scalar.addi v170 c768_i32_996
  v2308
def k0_mult229 : BitVec 32 :=
  let c0_i32 : BitVec 32 := 0#32
  let c2048_i32 : BitVec 32 := 2048#32
  let v169 : BitVec 32 := Scalar.muli c0_i32 c2048_i32
  let v170 : BitVec 32 := v169
  let c1024_i32_1000 : BitVec 32 := 1024#32
  let v2315 : BitVec 32 := Scalar.addi v170 c1024_i32_1000
  v2315
def k0_mult230 : BitVec 32 :=
  let c0_i32 : BitVec 32 := 0#32
  let c2048_i32 : BitVec 32 := 2048#32
  let v169 : BitVec 32 := Scalar.muli c0_i32 c2048_i32
  let v170 : BitVec 32 := v169
  let c1280_i32_1004 : BitVec 32 := 1280#32
  let v2322 : BitVec 32 := Scalar.addi v170 c1280_i32_1004
  v2322
def k0_mult231 : BitVec 32 :=
  let c0_i32 : BitVec 32 := 0#32
  let c2048_i32 : BitVec 32 := 2048#32
  let v169 : BitVec 32 := Scalar.muli c0_i32 c2048_i32
  let v170 : BitVec 32 := v169
  let c1536_i32_1008 : BitVec 32 := 1536#32
  let v2329 : BitVec 32 := Scalar.addi v170 c1536_i32_1008
  v2329
def k0_mult232 : BitVec 32 :=
  let c0_i32 : BitVec 32 := 0#32
  let c2048_i32 : BitVec 32 := 2048#32
  let v169 : BitVec 32 := Scalar.muli c0_i32 c2048_i32
  let v170 : BitVec 32 := v169
  let c1792_i32_1012 : BitVec 32 := 1792#32
  let v2336 : BitVec 32 := Scalar.addi v170 c1792_i32_1012
  v2336
def k0_mult233 : BitVec 32 :=
  let c0_i32 : BitVec 32 := 0#32
  let c2048_i32 : BitVec 32 := 2048#32
  let v169 : BitVec 32 := Scalar.muli c0_i32 c2048_i32
  let v170 : BitVec 32 := v169
  let c256_i32_1016 : BitVec 32 := 256#32
  let v2343 : BitVec 32 := Scalar.addi v170 c256_i32_1016
  v2343
def k0_mult234 : BitVec 32 :=
  let c0_i32 : BitVec 32 := 0#32
  let c2048_i32 : BitVec 32 := 2048#32
  let v169 : BitVec 32 := Scalar.muli c0_i32 c2048_i32
  let v170 : BitVec 32 := v169
  let c512_i32_1021 : BitVec 32 := 512#32
  let v2351 : BitVec 32 := Scalar.addi v170 c512_i32_1021
  v2351
def k0_mult235 : BitVec 32 :=
  let c0_i32 : BitVec 32 := 0#32
  let c2048_i32 : BitVec 32 := 2048#32
  let v169 : BitVec 32 := Scalar.muli c0_i32 c2048_i32
  let v170 : BitVec 32 := v169
  let c768_i32_1025 : BitVec 32 := 768#32
  let v2358 : BitVec 32 := Scalar.addi v170 c768_i32_1025
  v2358
def k0_mult236 : BitVec 32 :=
  let c0_i32 : BitVec 32 := 0#32
  let c2048_i32 : BitVec 32 := 2048#32
  let v169 : BitVec 32 := Scalar.muli c0_i32 c2048_i32
  let v170 : BitVec 32 := v169
  let c1024_i32_1029 : BitVec 32 := 1024#32
  let v2365 : BitVec 32 := Scalar.addi v170 c1024_i32_1029
  v2365
def k0_mult237 : BitVec 32 :=
  let c0_i32 : BitVec 32 := 0#32
  let c2048_i32 : BitVec 32 := 2048#32
  let v169 : BitVec 32 := Scalar.muli c0_i32 c2048_i32
  let v170 : BitVec 32 := v169
  let c1280_i32_1033 : BitVec 32 := 1280#32
  let v2372 : BitVec 32 := Scalar.addi v170 c1280_i32_1033
  v2372
def k0_mult238 : BitVec 32 :=
  let c0_i32 : BitVec 32 := 0#32
  let c2048_i32 : BitVec 32 := 2048#32
  let v169 : BitVec 32 := Scalar.muli c0_i32 c2048_i32
  let v170 : BitVec 32 := v169
  let c1536_i32_1037 : BitVec 32 := 1536#32
  let v2379 : BitVec 32 := Scalar.addi v170 c1536_i32_1037
  v2379
def k0_mult239 : BitVec 32 :=
  let c0_i32 : BitVec 32 := 0#32
  let c2048_i32 : BitVec 32 := 2048#32
  let v169 : BitVec 32 := Scalar.muli c0_i32 c2048_i32
  let v170 : BitVec 32 := v169
  let c1792_i32_1041 : BitVec 32 := 1792#32
  let v2386 : BitVec 32 := Scalar.addi v170 c1792_i32_1041
  v2386
def k0_mult240 : BitVec 32 :=
  let c0_i32 : BitVec 32 := 0#32
  let c2048_i32 : BitVec 32 := 2048#32
  let v169 : BitVec 32 := Scalar.muli c0_i32 c2048_i32
  let v170 : BitVec 32 := v169
  let c256_i32_1047 : BitVec 32 := 256#32
  let v2399 : BitVec 32 := Scalar.addi v170 c256_i32_1047
  v2399
def k0_mult241 : BitVec 32 :=
  let c0_i32 : BitVec 32 := 0#32
  let c2048_i32 : BitVec 32 := 2048#32
  let v169 : BitVec 32 := Scalar.muli c0_i32 c2048_i32
  let v170 : BitVec 32 := v169
  let c512_i32_1052 : BitVec 32 := 512#32
  let v2407 : BitVec 32 := Scalar.addi v170 c512_i32_1052
  v2407
def k0_mult242 : BitVec 32 :=
  let c0_i32 : BitVec 32 := 0#32
  let c2048_i32 : BitVec 32 := 2048#32
  let v169 : BitVec 32 := Scalar.muli c0_i32 c2048_i32
  let v170 : BitVec 32 := v169
  let c768_i32_1056 : BitVec 32 := 768#32
  let v2414 : BitVec 32 := Scalar.addi v170 c768_i32_1056
  v2414
def k0_mult243 : BitVec 32 :=
  let c0_i32 : BitVec 32 := 0#32
  let c2048_i32 : BitVec 32 := 2048#32
  let v169 : BitVec 32 := Scalar.muli c0_i32 c2048_i32
  let v170 : BitVec 32 := v169
  let c1024_i32_1060 : BitVec 32 := 1024#32
  let v2421 : BitVec 32 := Scalar.addi v170 c1024_i32_1060
  v2421
def k0_mult244 : BitVec 32 :=
  let c0_i32 : BitVec 32 := 0#32
  let c2048_i32 : BitVec 32 := 2048#32
  let v169 : BitVec 32 := Scalar.muli c0_i32 c2048_i32
  let v170 : BitVec 32 := v169
  let c1280_i32_1064 : BitVec 32 := 1280#32
  let v2428 : BitVec 32 := Scalar.addi v170 c1280_i32_1064
  v2428
def k0_mult245 : BitVec 32 :=
  let c0_i32 : BitVec 32 := 0#32
  let c2048_i32 : BitVec 32 := 2048#32
  let v169 : BitVec 32 := Scalar.muli c0_i32 c2048_i32
  let v170 : BitVec 32 := v169
  let c1536_i32_1068 : BitVec 32 := 1536#32
  let v2435 : BitVec 32 := Scalar.addi v170 c1536_i32_1068
  v2435
def k0_mult246 : BitVec 32 :=
  let c0_i32 : BitVec 32 := 0#32
  let c2048_i32 : BitVec 32 := 2048#32
  let v169 : BitVec 32 := Scalar.muli c0_i32 c2048_i32
  let v170 : BitVec 32 := v169
  let c1792_i32_1072 : BitVec 32 := 1792#32
  let v2442 : BitVec 32 := Scalar.addi v170 c1792_i32_1072
  v2442
def k0_mult247 : BitVec 32 :=
  let c0_i32 : BitVec 32 := 0#32
  let c2048_i32 : BitVec 32 := 2048#32
  let v169 : BitVec 32 := Scalar.muli c0_i32 c2048_i32
  let v170 : BitVec 32 := v169
  let c256_i32_1076 : BitVec 32 := 256#32
  let v2449 : BitVec 32 := Scalar.addi v170 c256_i32_1076
  v2449
def k0_mult248 : BitVec 32 :=
  let c0_i32 : BitVec 32 := 0#32
  let c2048_i32 : BitVec 32 := 2048#32
  let v169 : BitVec 32 := Scalar.muli c0_i32 c2048_i32
  let v170 : BitVec 32 := v169
  let c512_i32_1081 : BitVec 32 := 512#32
  let v2457 : BitVec 32 := Scalar.addi v170 c512_i32_1081
  v2457
def k0_mult249 : BitVec 32 :=
  let c0_i32 : BitVec 32 := 0#32
  let c2048_i32 : BitVec 32 := 2048#32
  let v169 : BitVec 32 := Scalar.muli c0_i32 c2048_i32
  let v170 : BitVec 32 := v169
  let c768_i32_1085 : BitVec 32 := 768#32
  let v2464 : BitVec 32 := Scalar.addi v170 c768_i32_1085
  v2464
def k0_mult250 : BitVec 32 :=
  let c0_i32 : BitVec 32 := 0#32
  let c2048_i32 : BitVec 32 := 2048#32
  let v169 : BitVec 32 := Scalar.muli c0_i32 c2048_i32
  let v170 : BitVec 32 := v169
  let c1024_i32_1089 : BitVec 32 := 1024#32
  let v2471 : BitVec 32 := Scalar.addi v170 c1024_i32_1089
  v2471
def k0_mult251 : BitVec 32 :=
  let c0_i32 : BitVec 32 := 0#32
  let c2048_i32 : BitVec 32 := 2048#32
  let v169 : BitVec 32 := Scalar.muli c0_i32 c2048_i32
  let v170 : BitVec 32 := v169
  let c1280_i32_1093 : BitVec 32 := 1280#32
  let v2478 : BitVec 32 := Scalar.addi v170 c1280_i32_1093
  v2478
def k0_mult252 : BitVec 32 :=
  let c0_i32 : BitVec 32 := 0#32
  let c2048_i32 : BitVec 32 := 2048#32
  let v169 : BitVec 32 := Scalar.muli c0_i32 c2048_i32
  let v170 : BitVec 32 := v169
  let c1536_i32_1097 : BitVec 32 := 1536#32
  let v2485 : BitVec 32 := Scalar.addi v170 c1536_i32_1097
  v2485
def k0_mult253 : BitVec 32 :=
  let c0_i32 : BitVec 32 := 0#32
  let c2048_i32 : BitVec 32 := 2048#32
  let v169 : BitVec 32 := Scalar.muli c0_i32 c2048_i32
  let v170 : BitVec 32 := v169
  let c1792_i32_1101 : BitVec 32 := 1792#32
  let v2492 : BitVec 32 := Scalar.addi v170 c1792_i32_1101
  v2492
def k0_mult254 : BitVec 32 :=
  let c0_i32 : BitVec 32 := 0#32
  let c8_i32 : BitVec 32 := 8#32
  let v171 : BitVec 32 := Scalar.muli c0_i32 c8_i32
  let c2_i32 : BitVec 32 := 2#32
  let v2599 : BitVec 32 := Scalar.addi v171 c2_i32
  let c256_i32_1163 : BitVec 32 := 256#32
  let v2600 : BitVec 32 := Scalar.muli v2599 c256_i32_1163
  v2600
def k0_mult255 : BitVec 32 :=
  let c0_i32 : BitVec 32 := 0#32
  let c2048_i32 : BitVec 32 := 2048#32
  let v169 : BitVec 32 := Scalar.muli c0_i32 c2048_i32
  let v170 : BitVec 32 := v169
  let c512_i32_1172 : BitVec 32 := 512#32
  let v2614 : BitVec 32 := Scalar.addi v170 c512_i32_1172
  v2614
def k0_mult256 : BitVec 32 :=
  let c0_i32 : BitVec 32 := 0#32
  let c2048_i32 : BitVec 32 := 2048#32
  let v169 : BitVec 32 := Scalar.muli c0_i32 c2048_i32
  let v170 : BitVec 32 := v169
  let c768_i32_1176 : BitVec 32 := 768#32
  let v2620 : BitVec 32 := Scalar.addi v170 c768_i32_1176
  v2620
def k0_mult257 : BitVec 32 :=
  let c0_i32 : BitVec 32 := 0#32
  let c2048_i32 : BitVec 32 := 2048#32
  let v169 : BitVec 32 := Scalar.muli c0_i32 c2048_i32
  let v170 : BitVec 32 := v169
  let c1024_i32_1180 : BitVec 32 := 1024#32
  let v2626 : BitVec 32 := Scalar.addi v170 c1024_i32_1180
  v2626
def k0_mult258 : BitVec 32 :=
  let c0_i32 : BitVec 32 := 0#32
  let c2048_i32 : BitVec 32 := 2048#32
  let v169 : BitVec 32 := Scalar.muli c0_i32 c2048_i32
  let v170 : BitVec 32 := v169
  let c1280_i32_1184 : BitVec 32 := 1280#32
  let v2632 : BitVec 32 := Scalar.addi v170 c1280_i32_1184
  v2632
def k0_mult259 : BitVec 32 :=
  let c0_i32 : BitVec 32 := 0#32
  let c2048_i32 : BitVec 32 := 2048#32
  let v169 : BitVec 32 := Scalar.muli c0_i32 c2048_i32
  let v170 : BitVec 32 := v169
  let c1536_i32_1188 : BitVec 32 := 1536#32
  let v2638 : BitVec 32 := Scalar.addi v170 c1536_i32_1188
  v2638
def k0_mult260 : BitVec 32 :=
  let c0_i32 : BitVec 32 := 0#32
  let c2048_i32 : BitVec 32 := 2048#32
  let v169 : BitVec 32 := Scalar.muli c0_i32 c2048_i32
  let v170 : BitVec 32 := v169
  let c1792_i32_1192 : BitVec 32 := 1792#32
  let v2644 : BitVec 32 := Scalar.addi v170 c1792_i32_1192
  v2644
def k0_mult261 : BitVec 32 :=
  let c0_i32 : BitVec 32 := 0#32
  let c2048_i32 : BitVec 32 := 2048#32
  let v169 : BitVec 32 := Scalar.muli c0_i32 c2048_i32
  let v170 : BitVec 32 := v169
  let c512_i32_1196 : BitVec 32 := 512#32
  let v2650 : BitVec 32 := Scalar.addi v170 c512_i32_1196
  v2650
def k0_mult262 : BitVec 32 :=
  let c0_i32 : BitVec 32 := 0#32
  let c2048_i32 : BitVec 32 := 2048#32
  let v169 : BitVec 32 := Scalar.muli c0_i32 c2048_i32
  let v170 : BitVec 32 := v169
  let c768_i32_1200 : BitVec 32 := 768#32
  let v2656 : BitVec 32 := Scalar.addi v170 c768_i32_1200
  v2656
def k0_mult263 : BitVec 32 :=
  let c0_i32 : BitVec 32 := 0#32
  let c2048_i32 : BitVec 32 := 2048#32
  let v169 : BitVec 32 := Scalar.muli c0_i32 c2048_i32
  let v170 : BitVec 32 := v169
  let c1024_i32_1204 : BitVec 32 := 1024#32
  let v2662 : BitVec 32 := Scalar.addi v170 c1024_i32_1204
  v2662
def k0_mult264 : BitVec 32 :=
  let c0_i32 : BitVec 32 := 0#32
  let c2048_i32 : BitVec 32 := 2048#32
  let v169 : BitVec 32 := Scalar.muli c0_i32 c2048_i32
  let v170 : BitVec 32 := v169
  let c1280_i32_1208 : BitVec 32 := 1280#32
  let v2668 : BitVec 32 := Scalar.addi v170 c1280_i32_1208
  v2668
def k0_mult265 : BitVec 32 :=
  let c0_i32 : BitVec 32 := 0#32
  let c2048_i32 : BitVec 32 := 2048#32
  let v169 : BitVec 32 := Scalar.muli c0_i32 c2048_i32
  let v170 : BitVec 32 := v169
  let c1536_i32_1212 : BitVec 32 := 1536#32
  let v2674 : BitVec 32 := Scalar.addi v170 c1536_i32_1212
  v2674
def k0_mult266 : BitVec 32 :=
  let c0_i32 : BitVec 32 := 0#32
  let c2048_i32 : BitVec 32 := 2048#32
  let v169 : BitVec 32 := Scalar.muli c0_i32 c2048_i32
  let v170 : BitVec 32 := v169
  let c1792_i32_1216 : BitVec 32 := 1792#32
  let v2680 : BitVec 32 := Scalar.addi v170 c1792_i32_1216
  v2680
def k0_mult267 : BitVec 32 :=
  let c0_i32 : BitVec 32 := 0#32
  let c2048_i32 : BitVec 32 := 2048#32
  let v169 : BitVec 32 := Scalar.muli c0_i32 c2048_i32
  let v170 : BitVec 32 := v169
  let c512_i32_1220 : BitVec 32 := 512#32
  let v2686 : BitVec 32 := Scalar.addi v170 c512_i32_1220
  v2686
def k0_mult268 : BitVec 32 :=
  let c0_i32 : BitVec 32 := 0#32
  let c2048_i32 : BitVec 32 := 2048#32
  let v169 : BitVec 32 := Scalar.muli c0_i32 c2048_i32
  let v170 : BitVec 32 := v169
  let c768_i32_1224 : BitVec 32 := 768#32
  let v2692 : BitVec 32 := Scalar.addi v170 c768_i32_1224
  v2692
def k0_mult269 : BitVec 32 :=
  let c0_i32 : BitVec 32 := 0#32
  let c2048_i32 : BitVec 32 := 2048#32
  let v169 : BitVec 32 := Scalar.muli c0_i32 c2048_i32
  let v170 : BitVec 32 := v169
  let c1024_i32_1228 : BitVec 32 := 1024#32
  let v2698 : BitVec 32 := Scalar.addi v170 c1024_i32_1228
  v2698
def k0_mult270 : BitVec 32 :=
  let c0_i32 : BitVec 32 := 0#32
  let c2048_i32 : BitVec 32 := 2048#32
  let v169 : BitVec 32 := Scalar.muli c0_i32 c2048_i32
  let v170 : BitVec 32 := v169
  let c1280_i32_1232 : BitVec 32 := 1280#32
  let v2704 : BitVec 32 := Scalar.addi v170 c1280_i32_1232
  v2704
def k0_mult271 : BitVec 32 :=
  let c0_i32 : BitVec 32 := 0#32
  let c2048_i32 : BitVec 32 := 2048#32
  let v169 : BitVec 32 := Scalar.muli c0_i32 c2048_i32
  let v170 : BitVec 32 := v169
  let c1536_i32_1236 : BitVec 32 := 1536#32
  let v2710 : BitVec 32 := Scalar.addi v170 c1536_i32_1236
  v2710
def k0_mult272 : BitVec 32 :=
  let c0_i32 : BitVec 32 := 0#32
  let c2048_i32 : BitVec 32 := 2048#32
  let v169 : BitVec 32 := Scalar.muli c0_i32 c2048_i32
  let v170 : BitVec 32 := v169
  let c1792_i32_1240 : BitVec 32 := 1792#32
  let v2716 : BitVec 32 := Scalar.addi v170 c1792_i32_1240
  v2716
def k0_mult273 : BitVec 32 :=
  let c0_i32 : BitVec 32 := 0#32
  let c2048_i32 : BitVec 32 := 2048#32
  let v169 : BitVec 32 := Scalar.muli c0_i32 c2048_i32
  let v170 : BitVec 32 := v169
  let c512_i32_1244 : BitVec 32 := 512#32
  let v2722 : BitVec 32 := Scalar.addi v170 c512_i32_1244
  v2722
def k0_mult274 : BitVec 32 :=
  let c0_i32 : BitVec 32 := 0#32
  let c2048_i32 : BitVec 32 := 2048#32
  let v169 : BitVec 32 := Scalar.muli c0_i32 c2048_i32
  let v170 : BitVec 32 := v169
  let c768_i32_1248 : BitVec 32 := 768#32
  let v2728 : BitVec 32 := Scalar.addi v170 c768_i32_1248
  v2728
def k0_mult275 : BitVec 32 :=
  let c0_i32 : BitVec 32 := 0#32
  let c2048_i32 : BitVec 32 := 2048#32
  let v169 : BitVec 32 := Scalar.muli c0_i32 c2048_i32
  let v170 : BitVec 32 := v169
  let c1024_i32_1252 : BitVec 32 := 1024#32
  let v2734 : BitVec 32 := Scalar.addi v170 c1024_i32_1252
  v2734
def k0_mult276 : BitVec 32 :=
  let c0_i32 : BitVec 32 := 0#32
  let c2048_i32 : BitVec 32 := 2048#32
  let v169 : BitVec 32 := Scalar.muli c0_i32 c2048_i32
  let v170 : BitVec 32 := v169
  let c1280_i32_1256 : BitVec 32 := 1280#32
  let v2740 : BitVec 32 := Scalar.addi v170 c1280_i32_1256
  v2740
def k0_mult277 : BitVec 32 :=
  let c0_i32 : BitVec 32 := 0#32
  let c2048_i32 : BitVec 32 := 2048#32
  let v169 : BitVec 32 := Scalar.muli c0_i32 c2048_i32
  let v170 : BitVec 32 := v169
  let c1536_i32_1260 : BitVec 32 := 1536#32
  let v2746 : BitVec 32 := Scalar.addi v170 c1536_i32_1260
  v2746
def k0_mult278 : BitVec 32 :=
  let c0_i32 : BitVec 32 := 0#32
  let c2048_i32 : BitVec 32 := 2048#32
  let v169 : BitVec 32 := Scalar.muli c0_i32 c2048_i32
  let v170 : BitVec 32 := v169
  let c1792_i32_1264 : BitVec 32 := 1792#32
  let v2752 : BitVec 32 := Scalar.addi v170 c1792_i32_1264
  v2752
def k0_mult279 : BitVec 32 :=
  let c0_i32 : BitVec 32 := 0#32
  let c2048_i32 : BitVec 32 := 2048#32
  let v169 : BitVec 32 := Scalar.muli c0_i32 c2048_i32
  let v170 : BitVec 32 := v169
  let c512_i32_1418 : BitVec 32 := 512#32
  let v3298 : BitVec 32 := Scalar.addi v170 c512_i32_1418
  v3298
def k0_mult280 : BitVec 32 :=
  let c0_i32 : BitVec 32 := 0#32
  let c2048_i32 : BitVec 32 := 2048#32
  let v169 : BitVec 32 := Scalar.muli c0_i32 c2048_i32
  let v170 : BitVec 32 := v169
  let c768_i32_1423 : BitVec 32 := 768#32
  let v3306 : BitVec 32 := Scalar.addi v170 c768_i32_1423
  v3306
def k0_mult281 : BitVec 32 :=
  let c0_i32 : BitVec 32 := 0#32
  let c2048_i32 : BitVec 32 := 2048#32
  let v169 : BitVec 32 := Scalar.muli c0_i32 c2048_i32
  let v170 : BitVec 32 := v169
  let c1024_i32_1427 : BitVec 32 := 1024#32
  let v3313 : BitVec 32 := Scalar.addi v170 c1024_i32_1427
  v3313
def k0_mult282 : BitVec 32 :=
  let c0_i32 : BitVec 32 := 0#32
  let c2048_i32 : BitVec 32 := 2048#32
  let v169 : BitVec 32 := Scalar.muli c0_i32 c2048_i32
  let v170 : BitVec 32 := v169
  let c1280_i32_1431 : BitVec 32 := 1280#32
  let v3320 : BitVec 32 := Scalar.addi v170 c1280_i32_1431
  v3320
def k0_mult283 : BitVec 32 :=
  let c0_i32 : BitVec 32 := 0#32
  let c2048_i32 : BitVec 32 := 2048#32
  let v169 : BitVec 32 := Scalar.muli c0_i32 c2048_i32
  let v170 : BitVec 32 := v169
  let c1536_i32_1435 : BitVec 32 := 1536#32
  let v3327 : BitVec 32 := Scalar.addi v170 c1536_i32_1435
  v3327
def k0_mult284 : BitVec 32 :=
  let c0_i32 : BitVec 32 := 0#32
  let c2048_i32 : BitVec 32 := 2048#32
  let v169 : BitVec 32 := Scalar.muli c0_i32 c2048_i32
  let v170 : BitVec 32 := v169
  let c1792_i32_1439 : BitVec 32 := 1792#32
  let v3334 : BitVec 32 := Scalar.addi v170 c1792_i32_1439
  v3334
def k0_mult285 : BitVec 32 :=
  let c0_i32 : BitVec 32 := 0#32
  let c2048_i32 : BitVec 32 := 2048#32
  let v169 : BitVec 32 := Scalar.muli c0_i32 c2048_i32
  let v170 : BitVec 32 := v169
  let c512_i32_1443 : BitVec 32 := 512#32
  let v3341 : BitVec 32 := Scalar.addi v170 c512_i32_1443
  v3341
def k0_mult286 : BitVec 32 :=
  let c0_i32 : BitVec 32 := 0#32
  let c2048_i32 : BitVec 32 := 2048#32
  let v169 : BitVec 32 := Scalar.muli c0_i32 c2048_i32
  let v170 : BitVec 32 := v169
  let c768_i32_1448 : BitVec 32 := 768#32
  let v3349 : BitVec 32 := Scalar.addi v170 c768_i32_1448
  v3349
def k0_mult287 : BitVec 32 :=
  let c0_i32 : BitVec 32 := 0#32
  let c2048_i32 : BitVec 32 := 2048#32
  let v169 : BitVec 32 := Scalar.muli c0_i32 c2048_i32
  let v170 : BitVec 32 := v169
  let c1024_i32_1452 : BitVec 32 := 1024#32
  let v3356 : BitVec 32 := Scalar.addi v170 c1024_i32_1452
  v3356
def k0_mult288 : BitVec 32 :=
  let c0_i32 : BitVec 32 := 0#32
  let c2048_i32 : BitVec 32 := 2048#32
  let v169 : BitVec 32 := Scalar.muli c0_i32 c2048_i32
  let v170 : BitVec 32 := v169
  let c1280_i32_1456 : BitVec 32 := 1280#32
  let v3363 : BitVec 32 := Scalar.addi v170 c1280_i32_1456
  v3363
def k0_mult289 : BitVec 32 :=
  let c0_i32 : BitVec 32 := 0#32
  let c2048_i32 : BitVec 32 := 2048#32
  let v169 : BitVec 32 := Scalar.muli c0_i32 c2048_i32
  let v170 : BitVec 32 := v169
  let c1536_i32_1460 : BitVec 32 := 1536#32
  let v3370 : BitVec 32 := Scalar.addi v170 c1536_i32_1460
  v3370
def k0_mult290 : BitVec 32 :=
  let c0_i32 : BitVec 32 := 0#32
  let c2048_i32 : BitVec 32 := 2048#32
  let v169 : BitVec 32 := Scalar.muli c0_i32 c2048_i32
  let v170 : BitVec 32 := v169
  let c1792_i32_1464 : BitVec 32 := 1792#32
  let v3377 : BitVec 32 := Scalar.addi v170 c1792_i32_1464
  v3377
def k0_mult291 : BitVec 32 :=
  let c0_i32 : BitVec 32 := 0#32
  let c2048_i32 : BitVec 32 := 2048#32
  let v169 : BitVec 32 := Scalar.muli c0_i32 c2048_i32
  let v170 : BitVec 32 := v169
  let c512_i32_1470 : BitVec 32 := 512#32
  let v3390 : BitVec 32 := Scalar.addi v170 c512_i32_1470
  v3390
def k0_mult292 : BitVec 32 :=
  let c0_i32 : BitVec 32 := 0#32
  let c2048_i32 : BitVec 32 := 2048#32
  let v169 : BitVec 32 := Scalar.muli c0_i32 c2048_i32
  let v170 : BitVec 32 := v169
  let c768_i32_1475 : BitVec 32 := 768#32
  let v3398 : BitVec 32 := Scalar.addi v170 c768_i32_1475
  v3398
def k0_mult293 : BitVec 32 :=
  let c0_i32 : BitVec 32 := 0#32
  let c2048_i32 : BitVec 32 := 2048#32
  let v169 : BitVec 32 := Scalar.muli c0_i32 c2048_i32
  let v170 : BitVec 32 := v169
  let c1024_i32_1479 : BitVec 32 := 1024#32
  let v3405 : BitVec 32 := Scalar.addi v170 c1024_i32_1479
  v3405
def k0_mult294 : BitVec 32 :=
  let c0_i32 : BitVec 32 := 0#32
  let c2048_i32 : BitVec 32 := 2048#32
  let v169 : BitVec 32 := Scalar.muli c0_i32 c2048_i32
  let v170 : BitVec 32 := v169
  let c1280_i32_1483 : BitVec 32 := 1280#32
  let v3412 : BitVec 32 := Scalar.addi v170 c1280_i32_1483
  v3412
def k0_mult295 : BitVec 32 :=
  let c0_i32 : BitVec 32 := 0#32
  let c2048_i32 : BitVec 32 := 2048#32
  let v169 : BitVec 32 := Scalar.muli c0_i32 c2048_i32
  let v170 : BitVec 32 := v169
  let c1536_i32_1487 : BitVec 32 := 1536#32
  let v3419 : BitVec 32 := Scalar.addi v170 c1536_i32_1487
  v3419
def k0_mult296 : BitVec 32 :=
  let c0_i32 : BitVec 32 := 0#32
  let c2048_i32 : BitVec 32 := 2048#32
  let v169 : BitVec 32 := Scalar.muli c0_i32 c2048_i32
  let v170 : BitVec 32 := v169
  let c1792_i32_1491 : BitVec 32 := 1792#32
  let v3426 : BitVec 32 := Scalar.addi v170 c1792_i32_1491
  v3426
def k0_mult297 : BitVec 32 :=
  let c0_i32 : BitVec 32 := 0#32
  let c2048_i32 : BitVec 32 := 2048#32
  let v169 : BitVec 32 := Scalar.muli c0_i32 c2048_i32
  let v170 : BitVec 32 := v169
  let c512_i32_1495 : BitVec 32 := 512#32
  let v3433 : BitVec 32 := Scalar.addi v170 c512_i32_1495
  v3433
def k0_mult298 : BitVec 32 :=
  let c0_i32 : BitVec 32 := 0#32
  let c2048_i32 : BitVec 32 := 2048#32
  let v169 : BitVec 32 := Scalar.muli c0_i32 c2048_i32
  let v170 : BitVec 32 := v169
  let c768_i32_1500 : BitVec 32 := 768#32
  let v3441 : BitVec 32 := Scalar.addi v170 c768_i32_1500
  v3441
def k0_mult299 : BitVec 32 :=
  let c0_i32 : BitVec 32 := 0#32
  let c2048_i32 : BitVec 32 := 2048#32
  let v169 : BitVec 32 := Scalar.muli c0_i32 c2048_i32
  let v170 : BitVec 32 := v169
  let c1024_i32_1504 : BitVec 32 := 1024#32
  let v3448 : BitVec 32 := Scalar.addi v170 c1024_i32_1504
  v3448
def k0_mult300 : BitVec 32 :=
  let c0_i32 : BitVec 32 := 0#32
  let c2048_i32 : BitVec 32 := 2048#32
  let v169 : BitVec 32 := Scalar.muli c0_i32 c2048_i32
  let v170 : BitVec 32 := v169
  let c1280_i32_1508 : BitVec 32 := 1280#32
  let v3455 : BitVec 32 := Scalar.addi v170 c1280_i32_1508
  v3455
def k0_mult301 : BitVec 32 :=
  let c0_i32 : BitVec 32 := 0#32
  let c2048_i32 : BitVec 32 := 2048#32
  let v169 : BitVec 32 := Scalar.muli c0_i32 c2048_i32
  let v170 : BitVec 32 := v169
  let c1536_i32_1512 : BitVec 32 := 1536#32
  let v3462 : BitVec 32 := Scalar.addi v170 c1536_i32_1512
  v3462
def k0_mult302 : BitVec 32 :=
  let c0_i32 : BitVec 32 := 0#32
  let c2048_i32 : BitVec 32 := 2048#32
  let v169 : BitVec 32 := Scalar.muli c0_i32 c2048_i32
  let v170 : BitVec 32 := v169
  let c1792_i32_1516 : BitVec 32 := 1792#32
  let v3469 : BitVec 32 := Scalar.addi v170 c1792_i32_1516
  v3469
def k0_mult303 : BitVec 32 :=
  let c0_i32 : BitVec 32 := 0#32
  let c8_i32 : BitVec 32 := 8#32
  let v171 : BitVec 32 := Scalar.muli c0_i32 c8_i32
  let c3_i32 : BitVec 32 := 3#32
  let v3562 : BitVec 32 := Scalar.addi v171 c3_i32
  let c256_i32_1570 : BitVec 32 := 256#32
  let v3563 : BitVec 32 := Scalar.muli v3562 c256_i32_1570
  v3563
def k0_mult304 : BitVec 32 :=
  let c0_i32 : BitVec 32 := 0#32
  let c2048_i32 : BitVec 32 := 2048#32
  let v169 : BitVec 32 := Scalar.muli c0_i32 c2048_i32
  let v170 : BitVec 32 := v169
  let c768_i32_1579 : BitVec 32 := 768#32
  let v3577 : BitVec 32 := Scalar.addi v170 c768_i32_1579
  v3577
def k0_mult305 : BitVec 32 :=
  let c0_i32 : BitVec 32 := 0#32
  let c2048_i32 : BitVec 32 := 2048#32
  let v169 : BitVec 32 := Scalar.muli c0_i32 c2048_i32
  let v170 : BitVec 32 := v169
  let c1024_i32_1583 : BitVec 32 := 1024#32
  let v3583 : BitVec 32 := Scalar.addi v170 c1024_i32_1583
  v3583
def k0_mult306 : BitVec 32 :=
  let c0_i32 : BitVec 32 := 0#32
  let c2048_i32 : BitVec 32 := 2048#32
  let v169 : BitVec 32 := Scalar.muli c0_i32 c2048_i32
  let v170 : BitVec 32 := v169
  let c1280_i32_1587 : BitVec 32 := 1280#32
  let v3589 : BitVec 32 := Scalar.addi v170 c1280_i32_1587
  v3589
def k0_mult307 : BitVec 32 :=
  let c0_i32 : BitVec 32 := 0#32
  let c2048_i32 : BitVec 32 := 2048#32
  let v169 : BitVec 32 := Scalar.muli c0_i32 c2048_i32
  let v170 : BitVec 32 := v169
  let c1536_i32_1591 : BitVec 32 := 1536#32
  let v3595 : BitVec 32 := Scalar.addi v170 c1536_i32_1591
  v3595
def k0_mult308 : BitVec 32 :=
  let c0_i32 : BitVec 32 := 0#32
  let c2048_i32 : BitVec 32 := 2048#32
  let v169 : BitVec 32 := Scalar.muli c0_i32 c2048_i32
  let v170 : BitVec 32 := v169
  let c1792_i32_1595 : BitVec 32 := 1792#32
  let v3601 : BitVec 32 := Scalar.addi v170 c1792_i32_1595
  v3601
def k0_mult309 : BitVec 32 :=
  let c0_i32 : BitVec 32 := 0#32
  let c2048_i32 : BitVec 32 := 2048#32
  let v169 : BitVec 32 := Scalar.muli c0_i32 c2048_i32
  let v170 : BitVec 32 := v169
  let c768_i32_1599 : BitVec 32 := 768#32
  let v3607 : BitVec 32 := Scalar.addi v170 c768_i32_1599
  v3607
def k0_mult310 : BitVec 32 :=
  let c0_i32 : BitVec 32 := 0#32
  let c2048_i32 : BitVec 32 := 2048#32
  let v169 : BitVec 32 := Scalar.muli c0_i32 c2048_i32
  let v170 : BitVec 32 := v169
  let c1024_i32_1603 : BitVec 32 := 1024#32
  let v3613 : BitVec 32 := Scalar.addi v170 c1024_i32_1603
  v3613
def k0_mult311 : BitVec 32 :=
  let c0_i32 : BitVec 32 := 0#32
  let c2048_i32 : BitVec 32 := 2048#32
  let v169 : BitVec 32 := Scalar.muli c0_i32 c2048_i32
  let v170 : BitVec 32 := v169
  let c1280_i32_1607 : BitVec 32 := 1280#32
  let v3619 : BitVec 32 := Scalar.addi v170 c1280_i32_1607
  v3619
def k0_mult312 : BitVec 32 :=
  let c0_i32 : BitVec 32 := 0#32
  let c2048_i32 : BitVec 32 := 2048#32
  let v169 : BitVec 32 := Scalar.muli c0_i32 c2048_i32
  let v170 : BitVec 32 := v169
  let c1536_i32_1611 : BitVec 32 := 1536#32
  let v3625 : BitVec 32 := Scalar.addi v170 c1536_i32_1611
  v3625
def k0_mult313 : BitVec 32 :=
  let c0_i32 : BitVec 32 := 0#32
  let c2048_i32 : BitVec 32 := 2048#32
  let v169 : BitVec 32 := Scalar.muli c0_i32 c2048_i32
  let v170 : BitVec 32 := v169
  let c1792_i32_1615 : BitVec 32 := 1792#32
  let v3631 : BitVec 32 := Scalar.addi v170 c1792_i32_1615
  v3631
def k0_mult314 : BitVec 32 :=
  let c0_i32 : BitVec 32 := 0#32
  let c2048_i32 : BitVec 32 := 2048#32
  let v169 : BitVec 32 := Scalar.muli c0_i32 c2048_i32
  let v170 : BitVec 32 := v169
  let c768_i32_1619 : BitVec 32 := 768#32
  let v3637 : BitVec 32 := Scalar.addi v170 c768_i32_1619
  v3637
def k0_mult315 : BitVec 32 :=
  let c0_i32 : BitVec 32 := 0#32
  let c2048_i32 : BitVec 32 := 2048#32
  let v169 : BitVec 32 := Scalar.muli c0_i32 c2048_i32
  let v170 : BitVec 32 := v169
  let c1024_i32_1623 : BitVec 32 := 1024#32
  let v3643 : BitVec 32 := Scalar.addi v170 c1024_i32_1623
  v3643
def k0_mult316 : BitVec 32 :=
  let c0_i32 : BitVec 32 := 0#32
  let c2048_i32 : BitVec 32 := 2048#32
  let v169 : BitVec 32 := Scalar.muli c0_i32 c2048_i32
  let v170 : BitVec 32 := v169
  let c1280_i32_1627 : BitVec 32 := 1280#32
  let v3649 : BitVec 32 := Scalar.addi v170 c1280_i32_1627
  v3649
def k0_mult317 : BitVec 32 :=
  let c0_i32 : BitVec 32 := 0#32
  let c2048_i32 : BitVec 32 := 2048#32
  let v169 : BitVec 32 := Scalar.muli c0_i32 c2048_i32
  let v170 : BitVec 32 := v169
  let c1536_i32_1631 : BitVec 32 := 1536#32
  let v3655 : BitVec 32 := Scalar.addi v170 c1536_i32_1631
  v3655
def k0_mult318 : BitVec 32 :=
  let c0_i32 : BitVec 32 := 0#32
  let c2048_i32 : BitVec 32 := 2048#32
  let v169 : BitVec 32 := Scalar.muli c0_i32 c2048_i32
  let v170 : BitVec 32 := v169
  let c1792_i32_1635 : BitVec 32 := 1792#32
  let v3661 : BitVec 32 := Scalar.addi v170 c1792_i32_1635
  v3661
def k0_mult319 : BitVec 32 :=
  let c0_i32 : BitVec 32 := 0#32
  let c2048_i32 : BitVec 32 := 2048#32
  let v169 : BitVec 32 := Scalar.muli c0_i32 c2048_i32
  let v170 : BitVec 32 := v169
  let c768_i32_1639 : BitVec 32 := 768#32
  let v3667 : BitVec 32 := Scalar.addi v170 c768_i32_1639
  v3667
def k0_mult320 : BitVec 32 :=
  let c0_i32 : BitVec 32 := 0#32
  let c2048_i32 : BitVec 32 := 2048#32
  let v169 : BitVec 32 := Scalar.muli c0_i32 c2048_i32
  let v170 : BitVec 32 := v169
  let c1024_i32_1643 : BitVec 32 := 1024#32
  let v3673 : BitVec 32 := Scalar.addi v170 c1024_i32_1643
  v3673
def k0_mult321 : BitVec 32 :=
  let c0_i32 : BitVec 32 := 0#32
  let c2048_i32 : BitVec 32 := 2048#32
  let v169 : BitVec 32 := Scalar.muli c0_i32 c2048_i32
  let v170 : BitVec 32 := v169
  let c1280_i32_1647 : BitVec 32 := 1280#32
  let v3679 : BitVec 32 := Scalar.addi v170 c1280_i32_1647
  v3679
def k0_mult322 : BitVec 32 :=
  let c0_i32 : BitVec 32 := 0#32
  let c2048_i32 : BitVec 32 := 2048#32
  let v169 : BitVec 32 := Scalar.muli c0_i32 c2048_i32
  let v170 : BitVec 32 := v169
  let c1536_i32_1651 : BitVec 32 := 1536#32
  let v3685 : BitVec 32 := Scalar.addi v170 c1536_i32_1651
  v3685
def k0_mult323 : BitVec 32 :=
  let c0_i32 : BitVec 32 := 0#32
  let c2048_i32 : BitVec 32 := 2048#32
  let v169 : BitVec 32 := Scalar.muli c0_i32 c2048_i32
  let v170 : BitVec 32 := v169
  let c1792_i32_1655 : BitVec 32 := 1792#32
  let v3691 : BitVec 32 := Scalar.addi v170 c1792_i32_1655
  v3691
def k0_mult324 : BitVec 32 :=
  let c0_i32 : BitVec 32 := 0#32
  let c2048_i32 : BitVec 32 := 2048#32
  let v169 : BitVec 32 := Scalar.muli c0_i32 c2048_i32
  let v170 : BitVec 32 := v169
  let c768_i32_1785 : BitVec 32 := 768#32
  let v4149 : BitVec 32 := Scalar.addi v170 c768_i32_1785
  v4149
def k0_mult325 : BitVec 32 :=
  let c0_i32 : BitVec 32 := 0#32
  let c2048_i32 : BitVec 32 := 2048#32
  let v169 : BitVec 32 := Scalar.muli c0_i32 c2048_i32
  let v170 : BitVec 32 := v169
  let c1024_i32_1790 : BitVec 32 := 1024#32
  let v4157 : BitVec 32 := Scalar.addi v170 c1024_i32_1790
  v4157
def k0_mult326 : BitVec 32 :=
  let c0_i32 : BitVec 32 := 0#32
  let c2048_i32 : BitVec 32 := 2048#32
  let v169 : BitVec 32 := Scalar.muli c0_i32 c2048_i32
  let v170 : BitVec 32 := v169
  let c1280_i32_1794 : BitVec 32 := 1280#32
  let v4164 : BitVec 32 := Scalar.addi v170 c1280_i32_1794
  v4164
def k0_mult327 : BitVec 32 :=
  let c0_i32 : BitVec 32 := 0#32
  let c2048_i32 : BitVec 32 := 2048#32
  let v169 : BitVec 32 := Scalar.muli c0_i32 c2048_i32
  let v170 : BitVec 32 := v169
  let c1536_i32_1798 : BitVec 32 := 1536#32
  let v4171 : BitVec 32 := Scalar.addi v170 c1536_i32_1798
  v4171
def k0_mult328 : BitVec 32 :=
  let c0_i32 : BitVec 32 := 0#32
  let c2048_i32 : BitVec 32 := 2048#32
  let v169 : BitVec 32 := Scalar.muli c0_i32 c2048_i32
  let v170 : BitVec 32 := v169
  let c1792_i32_1802 : BitVec 32 := 1792#32
  let v4178 : BitVec 32 := Scalar.addi v170 c1792_i32_1802
  v4178
def k0_mult329 : BitVec 32 :=
  let c0_i32 : BitVec 32 := 0#32
  let c2048_i32 : BitVec 32 := 2048#32
  let v169 : BitVec 32 := Scalar.muli c0_i32 c2048_i32
  let v170 : BitVec 32 := v169
  let c768_i32_1806 : BitVec 32 := 768#32
  let v4185 : BitVec 32 := Scalar.addi v170 c768_i32_1806
  v4185
def k0_mult330 : BitVec 32 :=
  let c0_i32 : BitVec 32 := 0#32
  let c2048_i32 : BitVec 32 := 2048#32
  let v169 : BitVec 32 := Scalar.muli c0_i32 c2048_i32
  let v170 : BitVec 32 := v169
  let c1024_i32_1811 : BitVec 32 := 1024#32
  let v4193 : BitVec 32 := Scalar.addi v170 c1024_i32_1811
  v4193
def k0_mult331 : BitVec 32 :=
  let c0_i32 : BitVec 32 := 0#32
  let c2048_i32 : BitVec 32 := 2048#32
  let v169 : BitVec 32 := Scalar.muli c0_i32 c2048_i32
  let v170 : BitVec 32 := v169
  let c1280_i32_1815 : BitVec 32 := 1280#32
  let v4200 : BitVec 32 := Scalar.addi v170 c1280_i32_1815
  v4200
def k0_mult332 : BitVec 32 :=
  let c0_i32 : BitVec 32 := 0#32
  let c2048_i32 : BitVec 32 := 2048#32
  let v169 : BitVec 32 := Scalar.muli c0_i32 c2048_i32
  let v170 : BitVec 32 := v169
  let c1536_i32_1819 : BitVec 32 := 1536#32
  let v4207 : BitVec 32 := Scalar.addi v170 c1536_i32_1819
  v4207
def k0_mult333 : BitVec 32 :=
  let c0_i32 : BitVec 32 := 0#32
  let c2048_i32 : BitVec 32 := 2048#32
  let v169 : BitVec 32 := Scalar.muli c0_i32 c2048_i32
  let v170 : BitVec 32 := v169
  let c1792_i32_1823 : BitVec 32 := 1792#32
  let v4214 : BitVec 32 := Scalar.addi v170 c1792_i32_1823
  v4214
def k0_mult334 : BitVec 32 :=
  let c0_i32 : BitVec 32 := 0#32
  let c2048_i32 : BitVec 32 := 2048#32
  let v169 : BitVec 32 := Scalar.muli c0_i32 c2048_i32
  let v170 : BitVec 32 := v169
  let c768_i32_1829 : BitVec 32 := 768#32
  let v4227 : BitVec 32 := Scalar.addi v170 c768_i32_1829
  v4227
def k0_mult335 : BitVec 32 :=
  let c0_i32 : BitVec 32 := 0#32
  let c2048_i32 : BitVec 32 := 2048#32
  let v169 : BitVec 32 := Scalar.muli c0_i32 c2048_i32
  let v170 : BitVec 32 := v169
  let c1024_i32_1834 : BitVec 32 := 1024#32
  let v4235 : BitVec 32 := Scalar.addi v170 c1024_i32_1834
  v4235
def k0_mult336 : BitVec 32 :=
  let c0_i32 : BitVec 32 := 0#32
  let c2048_i32 : BitVec 32 := 2048#32
  let v169 : BitVec 32 := Scalar.muli c0_i32 c2048_i32
  let v170 : BitVec 32 := v169
  let c1280_i32_1838 : BitVec 32 := 1280#32
  let v4242 : BitVec 32 := Scalar.addi v170 c1280_i32_1838
  v4242
def k0_mult337 : BitVec 32 :=
  let c0_i32 : BitVec 32 := 0#32
  let c2048_i32 : BitVec 32 := 2048#32
  let v169 : BitVec 32 := Scalar.muli c0_i32 c2048_i32
  let v170 : BitVec 32 := v169
  let c1536_i32_1842 : BitVec 32 := 1536#32
  let v4249 : BitVec 32 := Scalar.addi v170 c1536_i32_1842
  v4249
def k0_mult338 : BitVec 32 :=
  let c0_i32 : BitVec 32 := 0#32
  let c2048_i32 : BitVec 32 := 2048#32
  let v169 : BitVec 32 := Scalar.muli c0_i32 c2048_i32
  let v170 : BitVec 32 := v169
  let c1792_i32_1846 : BitVec 32 := 1792#32
  let v4256 : BitVec 32 := Scalar.addi v170 c1792_i32_1846
  v4256
def k0_mult339 : BitVec 32 :=
  let c0_i32 : BitVec 32 := 0#32
  let c2048_i32 : BitVec 32 := 2048#32
  let v169 : BitVec 32 := Scalar.muli c0_i32 c2048_i32
  let v170 : BitVec 32 := v169
  let c768_i32_1850 : BitVec 32 := 768#32
  let v4263 : BitVec 32 := Scalar.addi v170 c768_i32_1850
  v4263
def k0_mult340 : BitVec 32 :=
  let c0_i32 : BitVec 32 := 0#32
  let c2048_i32 : BitVec 32 := 2048#32
  let v169 : BitVec 32 := Scalar.muli c0_i32 c2048_i32
  let v170 : BitVec 32 := v169
  let c1024_i32_1855 : BitVec 32 := 1024#32
  let v4271 : BitVec 32 := Scalar.addi v170 c1024_i32_1855
  v4271
def k0_mult341 : BitVec 32 :=
  let c0_i32 : BitVec 32 := 0#32
  let c2048_i32 : BitVec 32 := 2048#32
  let v169 : BitVec 32 := Scalar.muli c0_i32 c2048_i32
  let v170 : BitVec 32 := v169
  let c1280_i32_1859 : BitVec 32 := 1280#32
  let v4278 : BitVec 32 := Scalar.addi v170 c1280_i32_1859
  v4278
def k0_mult342 : BitVec 32 :=
  let c0_i32 : BitVec 32 := 0#32
  let c2048_i32 : BitVec 32 := 2048#32
  let v169 : BitVec 32 := Scalar.muli c0_i32 c2048_i32
  let v170 : BitVec 32 := v169
  let c1536_i32_1863 : BitVec 32 := 1536#32
  let v4285 : BitVec 32 := Scalar.addi v170 c1536_i32_1863
  v4285
def k0_mult343 : BitVec 32 :=
  let c0_i32 : BitVec 32 := 0#32
  let c2048_i32 : BitVec 32 := 2048#32
  let v169 : BitVec 32 := Scalar.muli c0_i32 c2048_i32
  let v170 : BitVec 32 := v169
  let c1792_i32_1867 : BitVec 32 := 1792#32
  let v4292 : BitVec 32 := Scalar.addi v170 c1792_i32_1867
  v4292
def k0_mult344 : BitVec 32 :=
  let c0_i32 : BitVec 32 := 0#32
  let c8_i32 : BitVec 32 := 8#32
  let v171 : BitVec 32 := Scalar.muli c0_i32 c8_i32
  let c4_i32 : BitVec 32 := 4#32
  let v4371 : BitVec 32 := Scalar.addi v171 c4_i32
  let c256_i32_1913 : BitVec 32 := 256#32
  let v4372 : BitVec 32 := Scalar.muli v4371 c256_i32_1913
  v4372
def k0_mult345 : BitVec 32 :=
  let c0_i32 : BitVec 32 := 0#32
  let c2048_i32 : BitVec 32 := 2048#32
  let v169 : BitVec 32 := Scalar.muli c0_i32 c2048_i32
  let v170 : BitVec 32 := v169
  let c1024_i32_1922 : BitVec 32 := 1024#32
  let v4386 : BitVec 32 := Scalar.addi v170 c1024_i32_1922
  v4386
def k0_mult346 : BitVec 32 :=
  let c0_i32 : BitVec 32 := 0#32
  let c2048_i32 : BitVec 32 := 2048#32
  let v169 : BitVec 32 := Scalar.muli c0_i32 c2048_i32
  let v170 : BitVec 32 := v169
  let c1280_i32_1926 : BitVec 32 := 1280#32
  let v4392 : BitVec 32 := Scalar.addi v170 c1280_i32_1926
  v4392
def k0_mult347 : BitVec 32 :=
  let c0_i32 : BitVec 32 := 0#32
  let c2048_i32 : BitVec 32 := 2048#32
  let v169 : BitVec 32 := Scalar.muli c0_i32 c2048_i32
  let v170 : BitVec 32 := v169
  let c1536_i32_1930 : BitVec 32 := 1536#32
  let v4398 : BitVec 32 := Scalar.addi v170 c1536_i32_1930
  v4398
def k0_mult348 : BitVec 32 :=
  let c0_i32 : BitVec 32 := 0#32
  let c2048_i32 : BitVec 32 := 2048#32
  let v169 : BitVec 32 := Scalar.muli c0_i32 c2048_i32
  let v170 : BitVec 32 := v169
  let c1792_i32_1934 : BitVec 32 := 1792#32
  let v4404 : BitVec 32 := Scalar.addi v170 c1792_i32_1934
  v4404
def k0_mult349 : BitVec 32 :=
  let c0_i32 : BitVec 32 := 0#32
  let c2048_i32 : BitVec 32 := 2048#32
  let v169 : BitVec 32 := Scalar.muli c0_i32 c2048_i32
  let v170 : BitVec 32 := v169
  let c1024_i32_1938 : BitVec 32 := 1024#32
  let v4410 : BitVec 32 := Scalar.addi v170 c1024_i32_1938
  v4410
def k0_mult350 : BitVec 32 :=
  let c0_i32 : BitVec 32 := 0#32
  let c2048_i32 : BitVec 32 := 2048#32
  let v169 : BitVec 32 := Scalar.muli c0_i32 c2048_i32
  let v170 : BitVec 32 := v169
  let c1280_i32_1942 : BitVec 32 := 1280#32
  let v4416 : BitVec 32 := Scalar.addi v170 c1280_i32_1942
  v4416
def k0_mult351 : BitVec 32 :=
  let c0_i32 : BitVec 32 := 0#32
  let c2048_i32 : BitVec 32 := 2048#32
  let v169 : BitVec 32 := Scalar.muli c0_i32 c2048_i32
  let v170 : BitVec 32 := v169
  let c1536_i32_1946 : BitVec 32 := 1536#32
  let v4422 : BitVec 32 := Scalar.addi v170 c1536_i32_1946
  v4422
def k0_mult352 : BitVec 32 :=
  let c0_i32 : BitVec 32 := 0#32
  let c2048_i32 : BitVec 32 := 2048#32
  let v169 : BitVec 32 := Scalar.muli c0_i32 c2048_i32
  let v170 : BitVec 32 := v169
  let c1792_i32_1950 : BitVec 32 := 1792#32
  let v4428 : BitVec 32 := Scalar.addi v170 c1792_i32_1950
  v4428
def k0_mult353 : BitVec 32 :=
  let c0_i32 : BitVec 32 := 0#32
  let c2048_i32 : BitVec 32 := 2048#32
  let v169 : BitVec 32 := Scalar.muli c0_i32 c2048_i32
  let v170 : BitVec 32 := v169
  let c1024_i32_1954 : BitVec 32 := 1024#32
  let v4434 : BitVec 32 := Scalar.addi v170 c1024_i32_1954
  v4434
def k0_mult354 : BitVec 32 :=
  let c0_i32 : BitVec 32 := 0#32
  let c2048_i32 : BitVec 32 := 2048#32
  let v169 : BitVec 32 := Scalar.muli c0_i32 c2048_i32
  let v170 : BitVec 32 := v169
  let c1280_i32_1958 : BitVec 32 := 1280#32
  let v4440 : BitVec 32 := Scalar.addi v170 c1280_i32_1958
  v4440
def k0_mult355 : BitVec 32 :=
  let c0_i32 : BitVec 32 := 0#32
  let c2048_i32 : BitVec 32 := 2048#32
  let v169 : BitVec 32 := Scalar.muli c0_i32 c2048_i32
  let v170 : BitVec 32 := v169
  let c1536_i32_1962 : BitVec 32 := 1536#32
  let v4446 : BitVec 32 := Scalar.addi v170 c1536_i32_1962
  v4446
def k0_mult356 : BitVec 32 :=
  let c0_i32 : BitVec 32 := 0#32
  let c2048_i32 : BitVec 32 := 2048#32
  let v169 : BitVec 32 := Scalar.muli c0_i32 c2048_i32
  let v170 : BitVec 32 := v169
  let c1792_i32_1966 : BitVec 32 := 1792#32
  let v4452 : BitVec 32 := Scalar.addi v170 c1792_i32_1966
  v4452
def k0_mult357 : BitVec 32 :=
  let c0_i32 : BitVec 32 := 0#32
  let c2048_i32 : BitVec 32 := 2048#32
  let v169 : BitVec 32 := Scalar.muli c0_i32 c2048_i32
  let v170 : BitVec 32 := v169
  let c1024_i32_1970 : BitVec 32 := 1024#32
  let v4458 : BitVec 32 := Scalar.addi v170 c1024_i32_1970
  v4458
def k0_mult358 : BitVec 32 :=
  let c0_i32 : BitVec 32 := 0#32
  let c2048_i32 : BitVec 32 := 2048#32
  let v169 : BitVec 32 := Scalar.muli c0_i32 c2048_i32
  let v170 : BitVec 32 := v169
  let c1280_i32_1974 : BitVec 32 := 1280#32
  let v4464 : BitVec 32 := Scalar.addi v170 c1280_i32_1974
  v4464
def k0_mult359 : BitVec 32 :=
  let c0_i32 : BitVec 32 := 0#32
  let c2048_i32 : BitVec 32 := 2048#32
  let v169 : BitVec 32 := Scalar.muli c0_i32 c2048_i32
  let v170 : BitVec 32 := v169
  let c1536_i32_1978 : BitVec 32 := 1536#32
  let v4470 : BitVec 32 := Scalar.addi v170 c1536_i32_1978
  v4470
def k0_mult360 : BitVec 32 :=
  let c0_i32 : BitVec 32 := 0#32
  let c2048_i32 : BitVec 32 := 2048#32
  let v169 : BitVec 32 := Scalar.muli c0_i32 c2048_i32
  let v170 : BitVec 32 := v169
  let c1792_i32_1982 : BitVec 32 := 1792#32
  let v4476 : BitVec 32 := Scalar.addi v170 c1792_i32_1982
  v4476
def k0_mult361 : BitVec 32 :=
  let c0_i32 : BitVec 32 := 0#32
  let c2048_i32 : BitVec 32 := 2048#32
  let v169 : BitVec 32 := Scalar.muli c0_i32 c2048_i32
  let v170 : BitVec 32 := v169
  let c1024_i32_2088 : BitVec 32 := 1024#32
  let v4846 : BitVec 32 := Scalar.addi v170 c1024_i32_2088
  v4846
def k0_mult362 : BitVec 32 :=
  let c0_i32 : BitVec 32 := 0#32
  let c2048_i32 : BitVec 32 := 2048#32
  let v169 : BitVec 32 := Scalar.muli c0_i32 c2048_i32
  let v170 : BitVec 32 := v169
  let c1280_i32_2093 : BitVec 32 := 1280#32
  let v4854 : BitVec 32 := Scalar.addi v170 c1280_i32_2093
  v4854
def k0_mult363 : BitVec 32 :=
  let c0_i32 : BitVec 32 := 0#32
  let c2048_i32 : BitVec 32 := 2048#32
  let v169 : BitVec 32 := Scalar.muli c0_i32 c2048_i32
  let v170 : BitVec 32 := v169
  let c1536_i32_2097 : BitVec 32 := 1536#32
  let v4861 : BitVec 32 := Scalar.addi v170 c1536_i32_2097
  v4861
def k0_mult364 : BitVec 32 :=
  let c0_i32 : BitVec 32 := 0#32
  let c2048_i32 : BitVec 32 := 2048#32
  let v169 : BitVec 32 := Scalar.muli c0_i32 c2048_i32
  let v170 : BitVec 32 := v169
  let c1792_i32_2101 : BitVec 32 := 1792#32
  let v4868 : BitVec 32 := Scalar.addi v170 c1792_i32_2101
  v4868
def k0_mult365 : BitVec 32 :=
  let c0_i32 : BitVec 32 := 0#32
  let c2048_i32 : BitVec 32 := 2048#32
  let v169 : BitVec 32 := Scalar.muli c0_i32 c2048_i32
  let v170 : BitVec 32 := v169
  let c1024_i32_2105 : BitVec 32 := 1024#32
  let v4875 : BitVec 32 := Scalar.addi v170 c1024_i32_2105
  v4875
def k0_mult366 : BitVec 32 :=
  let c0_i32 : BitVec 32 := 0#32
  let c2048_i32 : BitVec 32 := 2048#32
  let v169 : BitVec 32 := Scalar.muli c0_i32 c2048_i32
  let v170 : BitVec 32 := v169
  let c1280_i32_2110 : BitVec 32 := 1280#32
  let v4883 : BitVec 32 := Scalar.addi v170 c1280_i32_2110
  v4883
def k0_mult367 : BitVec 32 :=
  let c0_i32 : BitVec 32 := 0#32
  let c2048_i32 : BitVec 32 := 2048#32
  let v169 : BitVec 32 := Scalar.muli c0_i32 c2048_i32
  let v170 : BitVec 32 := v169
  let c1536_i32_2114 : BitVec 32 := 1536#32
  let v4890 : BitVec 32 := Scalar.addi v170 c1536_i32_2114
  v4890
def k0_mult368 : BitVec 32 :=
  let c0_i32 : BitVec 32 := 0#32
  let c2048_i32 : BitVec 32 := 2048#32
  let v169 : BitVec 32 := Scalar.muli c0_i32 c2048_i32
  let v170 : BitVec 32 := v169
  let c1792_i32_2118 : BitVec 32 := 1792#32
  let v4897 : BitVec 32 := Scalar.addi v170 c1792_i32_2118
  v4897
def k0_mult369 : BitVec 32 :=
  let c0_i32 : BitVec 32 := 0#32
  let c2048_i32 : BitVec 32 := 2048#32
  let v169 : BitVec 32 := Scalar.muli c0_i32 c2048_i32
  let v170 : BitVec 32 := v169
  let c1024_i32_2124 : BitVec 32 := 1024#32
  let v4910 : BitVec 32 := Scalar.addi v170 c1024_i32_2124
  v4910
def k0_mult370 : BitVec 32 :=
  let c0_i32 : BitVec 32 := 0#32
  let c2048_i32 : BitVec 32 := 2048#32
  let v169 : BitVec 32 := Scalar.muli c0_i32 c2048_i32
  let v170 : BitVec 32 := v169
  let c1280_i32_2129 : BitVec 32 := 1280#32
  let v4918 : BitVec 32 := Scalar.addi v170 c1280_i32_2129
  v4918
def k0_mult371 : BitVec 32 :=
  let c0_i32 : BitVec 32 := 0#32
  let c2048_i32 : BitVec 32 := 2048#32
  let v169 : BitVec 32 := Scalar.muli c0_i32 c2048_i32
  let v170 : BitVec 32 := v169
  let c1536_i32_2133 : BitVec 32 := 1536#32
  let v4925 : BitVec 32 := Scalar.addi v170 c1536_i32_2133
  v4925
def k0_mult372 : BitVec 32 :=
  let c0_i32 : BitVec 32 := 0#32
  let c2048_i32 : BitVec 32 := 2048#32
  let v169 : BitVec 32 := Scalar.muli c0_i32 c2048_i32
  let v170 : BitVec 32 := v169
  let c1792_i32_2137 : BitVec 32 := 1792#32
  let v4932 : BitVec 32 := Scalar.addi v170 c1792_i32_2137
  v4932
def k0_mult373 : BitVec 32 :=
  let c0_i32 : BitVec 32 := 0#32
  let c2048_i32 : BitVec 32 := 2048#32
  let v169 : BitVec 32 := Scalar.muli c0_i32 c2048_i32
  let v170 : BitVec 32 := v169
  let c1024_i32_2141 : BitVec 32 := 1024#32
  let v4939 : BitVec 32 := Scalar.addi v170 c1024_i32_2141
  v4939
def k0_mult374 : BitVec 32 :=
  let c0_i32 : BitVec 32 := 0#32
  let c2048_i32 : BitVec 32 := 2048#32
  let v169 : BitVec 32 := Scalar.muli c0_i32 c2048_i32
  let v170 : BitVec 32 := v169
  let c1280_i32_2146 : BitVec 32 := 1280#32
  let v4947 : BitVec 32 := Scalar.addi v170 c1280_i32_2146
  v4947
def k0_mult375 : BitVec 32 :=
  let c0_i32 : BitVec 32 := 0#32
  let c2048_i32 : BitVec 32 := 2048#32
  let v169 : BitVec 32 := Scalar.muli c0_i32 c2048_i32
  let v170 : BitVec 32 := v169
  let c1536_i32_2150 : BitVec 32 := 1536#32
  let v4954 : BitVec 32 := Scalar.addi v170 c1536_i32_2150
  v4954
def k0_mult376 : BitVec 32 :=
  let c0_i32 : BitVec 32 := 0#32
  let c2048_i32 : BitVec 32 := 2048#32
  let v169 : BitVec 32 := Scalar.muli c0_i32 c2048_i32
  let v170 : BitVec 32 := v169
  let c1792_i32_2154 : BitVec 32 := 1792#32
  let v4961 : BitVec 32 := Scalar.addi v170 c1792_i32_2154
  v4961
def k0_mult377 : BitVec 32 :=
  let c0_i32 : BitVec 32 := 0#32
  let c8_i32 : BitVec 32 := 8#32
  let v171 : BitVec 32 := Scalar.muli c0_i32 c8_i32
  let c5_i32 : BitVec 32 := 5#32
  let v5026 : BitVec 32 := Scalar.addi v171 c5_i32
  let c256_i32_2192 : BitVec 32 := 256#32
  let v5027 : BitVec 32 := Scalar.muli v5026 c256_i32_2192
  v5027
def k0_mult378 : BitVec 32 :=
  let c0_i32 : BitVec 32 := 0#32
  let c2048_i32 : BitVec 32 := 2048#32
  let v169 : BitVec 32 := Scalar.muli c0_i32 c2048_i32
  let v170 : BitVec 32 := v169
  let c1280_i32_2201 : BitVec 32 := 1280#32
  let v5041 : BitVec 32 := Scalar.addi v170 c1280_i32_2201
  v5041
def k0_mult379 : BitVec 32 :=
  let c0_i32 : BitVec 32 := 0#32
  let c2048_i32 : BitVec 32 := 2048#32
  let v169 : BitVec 32 := Scalar.muli c0_i32 c2048_i32
  let v170 : BitVec 32 := v169
  let c1536_i32_2205 : BitVec 32 := 1536#32
  let v5047 : BitVec 32 := Scalar.addi v170 c1536_i32_2205
  v5047
def k0_mult380 : BitVec 32 :=
  let c0_i32 : BitVec 32 := 0#32
  let c2048_i32 : BitVec 32 := 2048#32
  let v169 : BitVec 32 := Scalar.muli c0_i32 c2048_i32
  let v170 : BitVec 32 := v169
  let c1792_i32_2209 : BitVec 32 := 1792#32
  let v5053 : BitVec 32 := Scalar.addi v170 c1792_i32_2209
  v5053
def k0_mult381 : BitVec 32 :=
  let c0_i32 : BitVec 32 := 0#32
  let c2048_i32 : BitVec 32 := 2048#32
  let v169 : BitVec 32 := Scalar.muli c0_i32 c2048_i32
  let v170 : BitVec 32 := v169
  let c1280_i32_2213 : BitVec 32 := 1280#32
  let v5059 : BitVec 32 := Scalar.addi v170 c1280_i32_2213
  v5059
def k0_mult382 : BitVec 32 :=
  let c0_i32 : BitVec 32 := 0#32
  let c2048_i32 : BitVec 32 := 2048#32
  let v169 : BitVec 32 := Scalar.muli c0_i32 c2048_i32
  let v170 : BitVec 32 := v169
  let c1536_i32_2217 : BitVec 32 := 1536#32
  let v5065 : BitVec 32 := Scalar.addi v170 c1536_i32_2217
  v5065
def k0_mult383 : BitVec 32 :=
  let c0_i32 : BitVec 32 := 0#32
  let c2048_i32 : BitVec 32 := 2048#32
  let v169 : BitVec 32 := Scalar.muli c0_i32 c2048_i32
  let v170 : BitVec 32 := v169
  let c1792_i32_2221 : BitVec 32 := 1792#32
  let v5071 : BitVec 32 := Scalar.addi v170 c1792_i32_2221
  v5071
def k0_mult384 : BitVec 32 :=
  let c0_i32 : BitVec 32 := 0#32
  let c2048_i32 : BitVec 32 := 2048#32
  let v169 : BitVec 32 := Scalar.muli c0_i32 c2048_i32
  let v170 : BitVec 32 := v169
  let c1280_i32_2225 : BitVec 32 := 1280#32
  let v5077 : BitVec 32 := Scalar.addi v170 c1280_i32_2225
  v5077
def k0_mult385 : BitVec 32 :=
  let c0_i32 : BitVec 32 := 0#32
  let c2048_i32 : BitVec 32 := 2048#32
  let v169 : BitVec 32 := Scalar.muli c0_i32 c2048_i32
  let v170 : BitVec 32 := v169
  let c1536_i32_2229 : BitVec 32 := 1536#32
  let v5083 : BitVec 32 := Scalar.addi v170 c1536_i32_2229
  v5083
def k0_mult386 : BitVec 32 :=
  let c0_i32 : BitVec 32 := 0#32
  let c2048_i32 : BitVec 32 := 2048#32
  let v169 : BitVec 32 := Scalar.muli c0_i32 c2048_i32
  let v170 : BitVec 32 := v169
  let c1792_i32_2233 : BitVec 32 := 1792#32
  let v5089 : BitVec 32 := Scalar.addi v170 c1792_i32_2233
  v5089
def k0_mult387 : BitVec 32 :=
  let c0_i32 : BitVec 32 := 0#32
  let c2048_i32 : BitVec 32 := 2048#32
  let v169 : BitVec 32 := Scalar.muli c0_i32 c2048_i32
  let v170 : BitVec 32 := v169
  let c1280_i32_2237 : BitVec 32 := 1280#32
  let v5095 : BitVec 32 := Scalar.addi v170 c1280_i32_2237
  v5095
def k0_mult388 : BitVec 32 :=
  let c0_i32 : BitVec 32 := 0#32
  let c2048_i32 : BitVec 32 := 2048#32
  let v169 : BitVec 32 := Scalar.muli c0_i32 c2048_i32
  let v170 : BitVec 32 := v169
  let c1536_i32_2241 : BitVec 32 := 1536#32
  let v5101 : BitVec 32 := Scalar.addi v170 c1536_i32_2241
  v5101
def k0_mult389 : BitVec 32 :=
  let c0_i32 : BitVec 32 := 0#32
  let c2048_i32 : BitVec 32 := 2048#32
  let v169 : BitVec 32 := Scalar.muli c0_i32 c2048_i32
  let v170 : BitVec 32 := v169
  let c1792_i32_2245 : BitVec 32 := 1792#32
  let v5107 : BitVec 32 := Scalar.addi v170 c1792_i32_2245
  v5107
def k0_mult390 : BitVec 32 :=
  let c0_i32 : BitVec 32 := 0#32
  let c2048_i32 : BitVec 32 := 2048#32
  let v169 : BitVec 32 := Scalar.muli c0_i32 c2048_i32
  let v170 : BitVec 32 := v169
  let c1280_i32_2327 : BitVec 32 := 1280#32
  let v5389 : BitVec 32 := Scalar.addi v170 c1280_i32_2327
  v5389
def k0_mult391 : BitVec 32 :=
  let c0_i32 : BitVec 32 := 0#32
  let c2048_i32 : BitVec 32 := 2048#32
  let v169 : BitVec 32 := Scalar.muli c0_i32 c2048_i32
  let v170 : BitVec 32 := v169
  let c1536_i32_2332 : BitVec 32 := 1536#32
  let v5397 : BitVec 32 := Scalar.addi v170 c1536_i32_2332
  v5397
def k0_mult392 : BitVec 32 :=
  let c0_i32 : BitVec 32 := 0#32
  let c2048_i32 : BitVec 32 := 2048#32
  let v169 : BitVec 32 := Scalar.muli c0_i32 c2048_i32
  let v170 : BitVec 32 := v169
  let c1792_i32_2336 : BitVec 32 := 1792#32
  let v5404 : BitVec 32 := Scalar.addi v170 c1792_i32_2336
  v5404
def k0_mult393 : BitVec 32 :=
  let c0_i32 : BitVec 32 := 0#32
  let c2048_i32 : BitVec 32 := 2048#32
  let v169 : BitVec 32 := Scalar.muli c0_i32 c2048_i32
  let v170 : BitVec 32 := v169
  let c1280_i32_2340 : BitVec 32 := 1280#32
  let v5411 : BitVec 32 := Scalar.addi v170 c1280_i32_2340
  v5411
def k0_mult394 : BitVec 32 :=
  let c0_i32 : BitVec 32 := 0#32
  let c2048_i32 : BitVec 32 := 2048#32
  let v169 : BitVec 32 := Scalar.muli c0_i32 c2048_i32
  let v170 : BitVec 32 := v169
  let c1536_i32_2345 : BitVec 32 := 1536#32
  let v5419 : BitVec 32 := Scalar.addi v170 c1536_i32_2345
  v5419
def k0_mult395 : BitVec 32 :=
  let c0_i32 : BitVec 32 := 0#32
  let c2048_i32 : BitVec 32 := 2048#32
  let v169 : BitVec 32 := Scalar.muli c0_i32 c2048_i32
  let v170 : BitVec 32 := v169
  let c1792_i32_2349 : BitVec 32 := 1792#32
  let v5426 : BitVec 32 := Scalar.addi v170 c1792_i32_2349
  v5426
def k0_mult396 : BitVec 32 :=
  let c0_i32 : BitVec 32 := 0#32
  let c2048_i32 : BitVec 32 := 2048#32
  let v169 : BitVec 32 := Scalar.muli c0_i32 c2048_i32
  let v170 : BitVec 32 := v169
  let c1280_i32_2355 : BitVec 32 := 1280#32
  let v5439 : BitVec 32 := Scalar.addi v170 c1280_i32_2355
  v5439
def k0_mult397 : BitVec 32 :=
  let c0_i32 : BitVec 32 := 0#32
  let c2048_i32 : BitVec 32 := 2048#32
  let v169 : BitVec 32 := Scalar.muli c0_i32 c2048_i32
  let v170 : BitVec 32 := v169
  let c1536_i32_2360 : BitVec 32 := 1536#32
  let v5447 : BitVec 32 := Scalar.addi v170 c1536_i32_2360
  v5447
def k0_mult398 : BitVec 32 :=
  let c0_i32 : BitVec 32 := 0#32
  let c2048_i32 : BitVec 32 := 2048#32
  let v169 : BitVec 32 := Scalar.muli c0_i32 c2048_i32
  let v170 : BitVec 32 := v169
  let c1792_i32_2364 : BitVec 32 := 1792#32
  let v5454 : BitVec 32 := Scalar.addi v170 c1792_i32_2364
  v5454
def k0_mult399 : BitVec 32 :=
  let c0_i32 : BitVec 32 := 0#32
  let c2048_i32 : BitVec 32 := 2048#32
  let v169 : BitVec 32 := Scalar.muli c0_i32 c2048_i32
  let v170 : BitVec 32 := v169
  let c1280_i32_2368 : BitVec 32 := 1280#32
  let v5461 : BitVec 32 := Scalar.addi v170 c1280_i32_2368
  v5461
def k0_mult400 : BitVec 32 :=
  let c0_i32 : BitVec 32 := 0#32
  let c2048_i32 : BitVec 32 := 2048#32
  let v169 : BitVec 32 := Scalar.muli c0_i32 c2048_i32
  let v170 : BitVec 32 := v169
  let c1536_i32_2373 : BitVec 32 := 1536#32
  let v5469 : BitVec 32 := Scalar.addi v170 c1536_i32_2373
  v5469
def k0_mult401 : BitVec 32 :=
  let c0_i32 : BitVec 32 := 0#32
  let c2048_i32 : BitVec 32 := 2048#32
  let v169 : BitVec 32 := Scalar.muli c0_i32 c2048_i32
  let v170 : BitVec 32 := v169
  let c1792_i32_2377 : BitVec 32 := 1792#32
  let v5476 : BitVec 32 := Scalar.addi v170 c1792_i32_2377
  v5476
def k0_mult402 : BitVec 32 :=
  let c0_i32 : BitVec 32 := 0#32
  let c8_i32 : BitVec 32 := 8#32
  let v171 : BitVec 32 := Scalar.muli c0_i32 c8_i32
  let c6_i32 : BitVec 32 := 6#32
  let v5527 : BitVec 32 := Scalar.addi v171 c6_i32
  let c256_i32_2407 : BitVec 32 := 256#32
  let v5528 : BitVec 32 := Scalar.muli v5527 c256_i32_2407
  v5528
def k0_mult403 : BitVec 32 :=
  let c0_i32 : BitVec 32 := 0#32
  let c2048_i32 : BitVec 32 := 2048#32
  let v169 : BitVec 32 := Scalar.muli c0_i32 c2048_i32
  let v170 : BitVec 32 := v169
  let c1536_i32_2416 : BitVec 32 := 1536#32
  let v5542 : BitVec 32 := Scalar.addi v170 c1536_i32_2416
  v5542
def k0_mult404 : BitVec 32 :=
  let c0_i32 : BitVec 32 := 0#32
  let c2048_i32 : BitVec 32 := 2048#32
  let v169 : BitVec 32 := Scalar.muli c0_i32 c2048_i32
  let v170 : BitVec 32 := v169
  let c1792_i32_2420 : BitVec 32 := 1792#32
  let v5548 : BitVec 32 := Scalar.addi v170 c1792_i32_2420
  v5548
def k0_mult405 : BitVec 32 :=
  let c0_i32 : BitVec 32 := 0#32
  let c2048_i32 : BitVec 32 := 2048#32
  let v169 : BitVec 32 := Scalar.muli c0_i32 c2048_i32
  let v170 : BitVec 32 := v169
  let c1536_i32_2424 : BitVec 32 := 1536#32
  let v5554 : BitVec 32 := Scalar.addi v170 c1536_i32_2424
  v5554
def k0_mult406 : BitVec 32 :=
  let c0_i32 : BitVec 32 := 0#32
  let c2048_i32 : BitVec 32 := 2048#32
  let v169 : BitVec 32 := Scalar.muli c0_i32 c2048_i32
  let v170 : BitVec 32 := v169
  let c1792_i32_2428 : BitVec 32 := 1792#32
  let v5560 : BitVec 32 := Scalar.addi v170 c1792_i32_2428
  v5560
def k0_mult407 : BitVec 32 :=
  let c0_i32 : BitVec 32 := 0#32
  let c2048_i32 : BitVec 32 := 2048#32
  let v169 : BitVec 32 := Scalar.muli c0_i32 c2048_i32
  let v170 : BitVec 32 := v169
  let c1536_i32_2432 : BitVec 32 := 1536#32
  let v5566 : BitVec 32 := Scalar.addi v170 c1536_i32_2432
  v5566
def k0_mult408 : BitVec 32 :=
  let c0_i32 : BitVec 32 := 0#32
  let c2048_i32 : BitVec 32 := 2048#32
  let v169 : BitVec 32 := Scalar.muli c0_i32 c2048_i32
  let v170 : BitVec 32 := v169
  let c1792_i32_2436 : BitVec 32 := 1792#32
  let v5572 : BitVec 32 := Scalar.addi v170 c1792_i32_2436
  v5572
def k0_mult409 : BitVec 32 :=
  let c0_i32 : BitVec 32 := 0#32
  let c2048_i32 : BitVec 32 := 2048#32
  let v169 : BitVec 32 := Scalar.muli c0_i32 c2048_i32
  let v170 : BitVec 32 := v169
  let c1536_i32_2440 : BitVec 32 := 1536#32
  let v5578 : BitVec 32 := Scalar.addi v170 c1536_i32_2440
  v5578
def k0_mult410 : BitVec 32 :=
  let c0_i32 : BitVec 32 := 0#32
  let c2048_i32 : BitVec 32 := 2048#32
  let v169 : BitVec 32 := Scalar.muli c0_i32 c2048_i32
  let v170 : BitVec 32 := v169
  let c1792_i32_2444 : BitVec 32 := 1792#32
  let v5584 : BitVec 32 := Scalar.addi v170 c1792_i32_2444
  v5584
def k0_mult411 : BitVec 32 :=
  let c0_i32 : BitVec 32 := 0#32
  let c2048_i32 : BitVec 32 := 2048#32
  let v169 : BitVec 32 := Scalar.muli c0_i32 c2048_i32
  let v170 : BitVec 32 := v169
  let c1536_i32_2502 : BitVec 32 := 1536#32
  let v5778 : BitVec 32 := Scalar.addi v170 c1536_i32_2502
  v5778
def k0_mult412 : BitVec 32 :=
  let c0_i32 : BitVec 32 := 0#32
  let c2048_i32 : BitVec 32 := 2048#32
  let v169 : BitVec 32 := Scalar.muli c0_i32 c2048_i32
  let v170 : BitVec 32 := v169
  let c1792_i32_2507 : BitVec 32 := 1792#32
  let v5786 : BitVec 32 := Scalar.addi v170 c1792_i32_2507
  v5786
def k0_mult413 : BitVec 32 :=
  let c0_i32 : BitVec 32 := 0#32
  let c2048_i32 : BitVec 32 := 2048#32
  let v169 : BitVec 32 := Scalar.muli c0_i32 c2048_i32
  let v170 : BitVec 32 := v169
  let c1536_i32_2511 : BitVec 32 := 1536#32
  let v5793 : BitVec 32 := Scalar.addi v170 c1536_i32_2511
  v5793
def k0_mult414 : BitVec 32 :=
  let c0_i32 : BitVec 32 := 0#32
  let c2048_i32 : BitVec 32 := 2048#32
  let v169 : BitVec 32 := Scalar.muli c0_i32 c2048_i32
  let v170 : BitVec 32 := v169
  let c1792_i32_2516 : BitVec 32 := 1792#32
  let v5801 : BitVec 32 := Scalar.addi v170 c1792_i32_2516
  v5801
def k0_mult415 : BitVec 32 :=
  let c0_i32 : BitVec 32 := 0#32
  let c2048_i32 : BitVec 32 := 2048#32
  let v169 : BitVec 32 := Scalar.muli c0_i32 c2048_i32
  let v170 : BitVec 32 := v169
  let c1536_i32_2522 : BitVec 32 := 1536#32
  let v5814 : BitVec 32 := Scalar.addi v170 c1536_i32_2522
  v5814
def k0_mult416 : BitVec 32 :=
  let c0_i32 : BitVec 32 := 0#32
  let c2048_i32 : BitVec 32 := 2048#32
  let v169 : BitVec 32 := Scalar.muli c0_i32 c2048_i32
  let v170 : BitVec 32 := v169
  let c1792_i32_2527 : BitVec 32 := 1792#32
  let v5822 : BitVec 32 := Scalar.addi v170 c1792_i32_2527
  v5822
def k0_mult417 : BitVec 32 :=
  let c0_i32 : BitVec 32 := 0#32
  let c2048_i32 : BitVec 32 := 2048#32
  let v169 : BitVec 32 := Scalar.muli c0_i32 c2048_i32
  let v170 : BitVec 32 := v169
  let c1536_i32_2531 : BitVec 32 := 1536#32
  let v5829 : BitVec 32 := Scalar.addi v170 c1536_i32_2531
  v5829
def k0_mult418 : BitVec 32 :=
  let c0_i32 : BitVec 32 := 0#32
  let c2048_i32 : BitVec 32 := 2048#32
  let v169 : BitVec 32 := Scalar.muli c0_i32 c2048_i32
  let v170 : BitVec 32 := v169
  let c1792_i32_2536 : BitVec 32 := 1792#32
  let v5837 : BitVec 32 := Scalar.addi v170 c1792_i32_2536
  v5837
def k0_mult419 : BitVec 32 :=
  let c0_i32 : BitVec 32 := 0#32
  let c8_i32 : BitVec 32 := 8#32
  let v171 : BitVec 32 := Scalar.muli c0_i32 c8_i32
  let c7_i32 : BitVec 32 := 7#32
  let v5874 : BitVec 32 := Scalar.addi v171 c7_i32
  let c256_i32_2558 : BitVec 32 := 256#32
  let v5875 : BitVec 32 := Scalar.muli v5874 c256_i32_2558
  v5875
def k0_mult420 : BitVec 32 :=
  let c0_i32 : BitVec 32 := 0#32
  let c2048_i32 : BitVec 32 := 2048#32
  let v169 : BitVec 32 := Scalar.muli c0_i32 c2048_i32
  let v170 : BitVec 32 := v169
  let c1792_i32_2567 : BitVec 32 := 1792#32
  let v5889 : BitVec 32 := Scalar.addi v170 c1792_i32_2567
  v5889
def k0_mult421 : BitVec 32 :=
  let c0_i32 : BitVec 32 := 0#32
  let c2048_i32 : BitVec 32 := 2048#32
  let v169 : BitVec 32 := Scalar.muli c0_i32 c2048_i32
  let v170 : BitVec 32 := v169
  let c1792_i32_2571 : BitVec 32 := 1792#32
  let v5895 : BitVec 32 := Scalar.addi v170 c1792_i32_2571
  v5895
def k0_mult422 : BitVec 32 :=
  let c0_i32 : BitVec 32 := 0#32
  let c2048_i32 : BitVec 32 := 2048#32
  let v169 : BitVec 32 := Scalar.muli c0_i32 c2048_i32
  let v170 : BitVec 32 := v169
  let c1792_i32_2575 : BitVec 32 := 1792#32
  let v5901 : BitVec 32 := Scalar.addi v170 c1792_i32_2575
  v5901
def k0_mult423 : BitVec 32 :=
  let c0_i32 : BitVec 32 := 0#32
  let c2048_i32 : BitVec 32 := 2048#32
  let v169 : BitVec 32 := Scalar.muli c0_i32 c2048_i32
  let v170 : BitVec 32 := v169
  let c1792_i32_2579 : BitVec 32 := 1792#32
  let v5907 : BitVec 32 := Scalar.addi v170 c1792_i32_2579
  v5907
def k0_mult424 : BitVec 32 :=
  let c0_i32 : BitVec 32 := 0#32
  let c2048_i32 : BitVec 32 := 2048#32
  let v169 : BitVec 32 := Scalar.muli c0_i32 c2048_i32
  let v170 : BitVec 32 := v169
  let c1792_i32_2613 : BitVec 32 := 1792#32
  let v6013 : BitVec 32 := Scalar.addi v170 c1792_i32_2613
  v6013
def k0_mult425 : BitVec 32 :=
  let c0_i32 : BitVec 32 := 0#32
  let c2048_i32 : BitVec 32 := 2048#32
  let v169 : BitVec 32 := Scalar.muli c0_i32 c2048_i32
  let v170 : BitVec 32 := v169
  let c1792_i32_2618 : BitVec 32 := 1792#32
  let v6021 : BitVec 32 := Scalar.addi v170 c1792_i32_2618
  v6021
def k0_mult426 : BitVec 32 :=
  let c0_i32 : BitVec 32 := 0#32
  let c2048_i32 : BitVec 32 := 2048#32
  let v169 : BitVec 32 := Scalar.muli c0_i32 c2048_i32
  let v170 : BitVec 32 := v169
  let c1792_i32_2625 : BitVec 32 := 1792#32
  let v6035 : BitVec 32 := Scalar.addi v170 c1792_i32_2625
  v6035
def k0_mult427 : BitVec 32 :=
  let c0_i32 : BitVec 32 := 0#32
  let c2048_i32 : BitVec 32 := 2048#32
  let v169 : BitVec 32 := Scalar.muli c0_i32 c2048_i32
  let v170 : BitVec 32 := v169
  let c1792_i32_2630 : BitVec 32 := 1792#32
  let v6043 : BitVec 32 := Scalar.addi v170 c1792_i32_2630
  v6043
def k0_mult428 : BitVec 32 :=
  let c0_i32 : BitVec 32 := 0#32
  let c2048_i32 : BitVec 32 := 2048#32
  let v169 : BitVec 32 := Scalar.muli c0_i32 c2048_i32
  let v170 : BitVec 32 := v169
  let c0_i32_2646 : BitVec 32 := 0#32
  let v6071 : BitVec 32 := Scalar.addi v170 c0_i32_2646
  v6071
def k0_off73 (c0_i32_2646 : BitVec 32) : Fin 2 → Nat :=
  let c0_i32 : BitVec 32 := 0#32
  let c2048_i32 : BitVec 32 := 2048#32
  let v169 : BitVec 32 := Scalar.muli c0_i32 c2048_i32
  let v170 : BitVec 32 := v169
  let v6071 : BitVec 32 := Scalar.addi v170 c0_i32_2646
  let v6072 : BitVec 32 := v6071
  let v6073 : Index := Scalar.indexCast v6072
  let c0_2647 : Index := 0#32
  ![v6073.toNat, 0]
def k0_mult429 : BitVec 32 :=
  let c0_i32 : BitVec 32 := 0#32
  let c2048_i32 : BitVec 32 := 2048#32
  let v169 : BitVec 32 := Scalar.muli c0_i32 c2048_i32
  let v170 : BitVec 32 := v169
  let c256_i32_2649 : BitVec 32 := 256#32
  let v6079 : BitVec 32 := Scalar.addi v170 c256_i32_2649
  v6079
def k0_mult430 : BitVec 32 :=
  let c0_i32 : BitVec 32 := 0#32
  let c2048_i32 : BitVec 32 := 2048#32
  let v169 : BitVec 32 := Scalar.muli c0_i32 c2048_i32
  let v170 : BitVec 32 := v169
  let c512_i32_2652 : BitVec 32 := 512#32
  let v6087 : BitVec 32 := Scalar.addi v170 c512_i32_2652
  v6087
def k0_mult431 : BitVec 32 :=
  let c0_i32 : BitVec 32 := 0#32
  let c2048_i32 : BitVec 32 := 2048#32
  let v169 : BitVec 32 := Scalar.muli c0_i32 c2048_i32
  let v170 : BitVec 32 := v169
  let c768_i32_2655 : BitVec 32 := 768#32
  let v6095 : BitVec 32 := Scalar.addi v170 c768_i32_2655
  v6095
def k0_mult432 : BitVec 32 :=
  let c0_i32 : BitVec 32 := 0#32
  let c2048_i32 : BitVec 32 := 2048#32
  let v169 : BitVec 32 := Scalar.muli c0_i32 c2048_i32
  let v170 : BitVec 32 := v169
  let c1024_i32_2658 : BitVec 32 := 1024#32
  let v6103 : BitVec 32 := Scalar.addi v170 c1024_i32_2658
  v6103
def k0_mult433 : BitVec 32 :=
  let c0_i32 : BitVec 32 := 0#32
  let c2048_i32 : BitVec 32 := 2048#32
  let v169 : BitVec 32 := Scalar.muli c0_i32 c2048_i32
  let v170 : BitVec 32 := v169
  let c1280_i32_2661 : BitVec 32 := 1280#32
  let v6111 : BitVec 32 := Scalar.addi v170 c1280_i32_2661
  v6111
def k0_mult434 : BitVec 32 :=
  let c0_i32 : BitVec 32 := 0#32
  let c2048_i32 : BitVec 32 := 2048#32
  let v169 : BitVec 32 := Scalar.muli c0_i32 c2048_i32
  let v170 : BitVec 32 := v169
  let c1536_i32_2664 : BitVec 32 := 1536#32
  let v6119 : BitVec 32 := Scalar.addi v170 c1536_i32_2664
  v6119
def k0_mult435 : BitVec 32 :=
  let c0_i32 : BitVec 32 := 0#32
  let c2048_i32 : BitVec 32 := 2048#32
  let v169 : BitVec 32 := Scalar.muli c0_i32 c2048_i32
  let v170 : BitVec 32 := v169
  let c1792_i32_2667 : BitVec 32 := 1792#32
  let v6127 : BitVec 32 := Scalar.addi v170 c1792_i32_2667
  v6127
def k0_mult436 : BitVec 32 :=
  let c0_i32 : BitVec 32 := 0#32
  let c2048_i32 : BitVec 32 := 2048#32
  let v169 : BitVec 32 := Scalar.muli c0_i32 c2048_i32
  let v170 : BitVec 32 := v169
  let c0_i32_2670 : BitVec 32 := 0#32
  let v6135 : BitVec 32 := Scalar.addi v170 c0_i32_2670
  v6135
def k0_off74 (c0_i32_2670 : BitVec 32) : Fin 2 → Nat :=
  let c0_i32 : BitVec 32 := 0#32
  let c2048_i32 : BitVec 32 := 2048#32
  let v169 : BitVec 32 := Scalar.muli c0_i32 c2048_i32
  let v170 : BitVec 32 := v169
  let v6135 : BitVec 32 := Scalar.addi v170 c0_i32_2670
  let v6136 : BitVec 32 := v6135
  let v6137 : Index := Scalar.indexCast v6136
  let c64_2671 : Index := 64#32
  ![v6137.toNat, 64]
def k0_mult437 : BitVec 32 :=
  let c0_i32 : BitVec 32 := 0#32
  let c2048_i32 : BitVec 32 := 2048#32
  let v169 : BitVec 32 := Scalar.muli c0_i32 c2048_i32
  let v170 : BitVec 32 := v169
  let c256_i32_2673 : BitVec 32 := 256#32
  let v6143 : BitVec 32 := Scalar.addi v170 c256_i32_2673
  v6143
def k0_mult438 : BitVec 32 :=
  let c0_i32 : BitVec 32 := 0#32
  let c2048_i32 : BitVec 32 := 2048#32
  let v169 : BitVec 32 := Scalar.muli c0_i32 c2048_i32
  let v170 : BitVec 32 := v169
  let c512_i32_2676 : BitVec 32 := 512#32
  let v6151 : BitVec 32 := Scalar.addi v170 c512_i32_2676
  v6151
def k0_mult439 : BitVec 32 :=
  let c0_i32 : BitVec 32 := 0#32
  let c2048_i32 : BitVec 32 := 2048#32
  let v169 : BitVec 32 := Scalar.muli c0_i32 c2048_i32
  let v170 : BitVec 32 := v169
  let c768_i32_2679 : BitVec 32 := 768#32
  let v6159 : BitVec 32 := Scalar.addi v170 c768_i32_2679
  v6159
def k0_mult440 : BitVec 32 :=
  let c0_i32 : BitVec 32 := 0#32
  let c2048_i32 : BitVec 32 := 2048#32
  let v169 : BitVec 32 := Scalar.muli c0_i32 c2048_i32
  let v170 : BitVec 32 := v169
  let c1024_i32_2682 : BitVec 32 := 1024#32
  let v6167 : BitVec 32 := Scalar.addi v170 c1024_i32_2682
  v6167
def k0_mult441 : BitVec 32 :=
  let c0_i32 : BitVec 32 := 0#32
  let c2048_i32 : BitVec 32 := 2048#32
  let v169 : BitVec 32 := Scalar.muli c0_i32 c2048_i32
  let v170 : BitVec 32 := v169
  let c1280_i32_2685 : BitVec 32 := 1280#32
  let v6175 : BitVec 32 := Scalar.addi v170 c1280_i32_2685
  v6175
def k0_mult442 : BitVec 32 :=
  let c0_i32 : BitVec 32 := 0#32
  let c2048_i32 : BitVec 32 := 2048#32
  let v169 : BitVec 32 := Scalar.muli c0_i32 c2048_i32
  let v170 : BitVec 32 := v169
  let c1536_i32_2688 : BitVec 32 := 1536#32
  let v6183 : BitVec 32 := Scalar.addi v170 c1536_i32_2688
  v6183
def k0_mult443 : BitVec 32 :=
  let c0_i32 : BitVec 32 := 0#32
  let c2048_i32 : BitVec 32 := 2048#32
  let v169 : BitVec 32 := Scalar.muli c0_i32 c2048_i32
  let v170 : BitVec 32 := v169
  let c1792_i32_2691 : BitVec 32 := 1792#32
  let v6191 : BitVec 32 := Scalar.addi v170 c1792_i32_2691
  v6191
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x3072 : Shape := ⟨2, ![8192, 3072]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x64x2048 : Shape := ⟨4, ![4, 16, 64, 2048]⟩

abbrev nBuf : Space → Nat
  | .hbm => 185
  | .vmem => 0
  | .smem => 0
  | _ => 0

abbrev hbmTy0_0 (i : Nat) : BufTy := match i % 128 with
  | 0 => ⟨S8192x3072, .bf16⟩
  | 1 => ⟨S8192x1024, .bf16⟩
  | 2 => ⟨S8192x1024, .bf16⟩
  | 3 => ⟨S8192x1024, .bf16⟩
  | 4 => ⟨S8192x1024, .bf16⟩
  | 5 => ⟨S8192x1024, .f32⟩
  | 6 => ⟨S4x2048x16x64, .f32⟩
  | 7 => ⟨S4x16x2048x64, .f32⟩
  | 8 => ⟨S8192x1024, .f32⟩
  | 9 => ⟨S4x2048x16x64, .f32⟩
  | 10 => ⟨S4x16x2048x64, .f32⟩
  | 11 => ⟨S8192x1024, .f32⟩
  | 12 => ⟨S4x2048x16x64, .f32⟩
  | 13 => ⟨S4x16x2048x64, .f32⟩
  | 14 => ⟨S4x16x2048x2048, .f32⟩
  | 15 => ⟨S_, .f32⟩
  | 16 => ⟨S4x16x2048x2048, .f32⟩
  | 17 => ⟨S4x16x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i1⟩
  | 25 => ⟨S4x16x2048x2048, .f32⟩
  | 26 => ⟨S4x16x2048x2048, .f32⟩
  | 27 => ⟨S_, .f32⟩
  | 28 => ⟨S4x16x2048x2048, .f32⟩
  | 29 => ⟨S4x16x2048x2048, .f32⟩
  | 30 => ⟨S4x16x2048x2048, .f32⟩
  | 31 => ⟨S4x16x2048x2048, .f32⟩
  | 32 => ⟨S4x16x2048x2048, .i1⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S4x16x2048x2048, .f32⟩
  | 40 => ⟨S4x16x2048x2048, .f32⟩
  | 41 => ⟨S_, .f32⟩
  | 42 => ⟨S4x16x2048x2048, .f32⟩
  | 43 => ⟨S4x16x2048x2048, .i1⟩
  | 44 => ⟨S_, .f32⟩
  | 45 => ⟨S4x16x2048x2048, .f32⟩
  | 46 => ⟨S4x16x2048x2048, .f32⟩
  | 47 => ⟨S_, .f32⟩
  | 48 => ⟨S4x16x2048x2048, .f32⟩
  | 49 => ⟨S4x16x2048x2048, .i1⟩
  | 50 => ⟨S_, .f32⟩
  | 51 => ⟨S4x16x2048x2048, .f32⟩
  | 52 => ⟨S4x16x2048x2048, .f32⟩
  | 53 => ⟨S4x16x2048x2048, .f32⟩
  | 54 => ⟨S4x16x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S4x16x2048x2048, .f32⟩
  | 63 => ⟨S4x16x2048x2048, .i1⟩
  | 64 => ⟨S_, .f32⟩
  | 65 => ⟨S4x16x2048x2048, .f32⟩
  | 66 => ⟨S4x16x2048x2048, .f32⟩
  | 67 => ⟨S4x16x2048x2048, .f32⟩
  | 68 => ⟨S4x16x2048x2048, .f32⟩
  | 69 => ⟨S4x16x2048x2048, .f32⟩
  | 70 => ⟨S_, .f32⟩
  | 71 => ⟨S4x16x2048x2048, .f32⟩
  | 72 => ⟨S4x16x2048x2048, .f32⟩
  | 73 => ⟨S4x16x2048x2048, .f32⟩
  | 74 => ⟨S_, .f32⟩
  | 75 => ⟨S_, .f32⟩
  | 76 => ⟨S4x16x2048x2048, .i1⟩
  | 77 => ⟨S4x16x2048x2048, .f32⟩
  | 78 => ⟨S4x16x2048x2048, .f32⟩
  | 79 => ⟨S_, .f32⟩
  | 80 => ⟨S4x16x2048x2048, .f32⟩
  | 81 => ⟨S_, .f32⟩
  | 82 => ⟨S_, .f32⟩
  | 83 => ⟨S4x16x2048x2048, .f32⟩
  | 84 => ⟨S4x16x2048x2048, .f32⟩
  | 85 => ⟨S4x16x2048x2048, .f32⟩
  | 86 => ⟨S_, .f32⟩
  | 87 => ⟨S4x16x2048x2048, .f32⟩
  | 88 => ⟨S4x16x2048x2048, .f32⟩
  | 89 => ⟨S4x16x2048x2048, .f32⟩
  | 90 => ⟨S4x16x2048x2048, .f32⟩
  | 91 => ⟨S4x16x2048x2048, .i1⟩
  | 92 => ⟨S4x16x2048x2048, .f32⟩
  | 93 => ⟨S4x16x2048x2048, .f32⟩
  | 94 => ⟨S4x16x2048x2048, .f32⟩
  | 95 => ⟨S4x16x2048x2048, .f32⟩
  | 96 => ⟨S4x16x2048x2048, .f32⟩
  | 97 => ⟨S4x16x2048x2048, .f32⟩
  | 98 => ⟨S4x16x2048x2048, .f32⟩
  | 99 => ⟨S4x16x2048x2048, .f32⟩
  | 100 => ⟨S_, .f32⟩
  | 101 => ⟨S4x16x2048x2048, .f32⟩
  | 102 => ⟨S4x16x2048x2048, .i1⟩
  | 103 => ⟨S_, .f32⟩
  | 104 => ⟨S4x16x2048x2048, .f32⟩
  | 105 => ⟨S4x16x2048x2048, .f32⟩
  | 106 => ⟨S_, .f32⟩
  | 107 => ⟨S4x16x2048x2048, .f32⟩
  | 108 => ⟨S4x16x2048x2048, .i1⟩
  | 109 => ⟨S_, .f32⟩
  | 110 => ⟨S4x16x2048x2048, .f32⟩
  | 111 => ⟨S4x16x2048x2048, .f32⟩
  | 112 => ⟨S4x16x2048x2048, .f32⟩
  | 113 => ⟨S4x16x2048x2048, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S4x16x2048x2048, .f32⟩
  | 122 => ⟨S4x16x2048x2048, .i1⟩
  | 123 => ⟨S_, .f32⟩
  | 124 => ⟨S4x16x2048x2048, .f32⟩
  | 125 => ⟨S4x16x2048x2048, .f32⟩
  | 126 => ⟨S4x16x2048x2048, .f32⟩
  | 127 => ⟨S4x16x2048x2048, .f32⟩
  | _ => ⟨S8192x3072, .bf16⟩

abbrev hbmTy0_1 (i : Nat) : BufTy := match i % 128 with
  | 0 => ⟨S4x16x2048x2048, .f32⟩
  | 1 => ⟨S_, .f32⟩
  | 2 => ⟨S4x16x2048x2048, .f32⟩
  | 3 => ⟨S4x16x2048x2048, .f32⟩
  | 4 => ⟨S4x16x2048x2048, .f32⟩
  | 5 => ⟨S4x16x2048x2048, .f32⟩
  | 6 => ⟨S4x16x2048x2048, .f32⟩
  | 7 => ⟨S_, .f32⟩
  | 8 => ⟨S_, .f32⟩
  | 9 => ⟨S4x16x2048x2048, .i1⟩
  | 10 => ⟨S4x16x2048x2048, .f32⟩
  | 11 => ⟨S4x16x2048x2048, .f32⟩
  | 12 => ⟨S_, .f32⟩
  | 13 => ⟨S4x16x2048x2048, .f32⟩
  | 14 => ⟨S4x16x2048x64, .f32⟩
  | 15 => ⟨S4x2048x16x64, .f32⟩
  | 16 => ⟨S8192x1024, .f32⟩
  | 17 => ⟨S8192x1024, .f32⟩
  | 18 => ⟨S4x2048x16x64, .f32⟩
  | 19 => ⟨S4x16x2048x64, .f32⟩
  | 20 => ⟨S4x16x64x2048, .f32⟩
  | 21 => ⟨S4x16x2048x64, .f32⟩
  | 22 => ⟨S4x16x2048x2048, .f32⟩
  | 23 => ⟨S_, .f32⟩
  | 24 => ⟨S4x16x2048x2048, .f32⟩
  | 25 => ⟨S4x16x2048x2048, .f32⟩
  | 26 => ⟨S4x16x2048x2048, .f32⟩
  | 27 => ⟨S4x16x2048x2048, .f32⟩
  | 28 => ⟨S4x16x2048x2048, .f32⟩
  | 29 => ⟨S4x16x2048x2048, .f32⟩
  | 30 => ⟨S4x16x2048x2048, .f32⟩
  | 31 => ⟨S_, .f32⟩
  | 32 => ⟨S_, .f32⟩
  | 33 => ⟨S4x16x2048x2048, .f32⟩
  | 34 => ⟨S4x16x2048x2048, .f32⟩
  | 35 => ⟨S_, .f32⟩
  | 36 => ⟨S4x16x2048x2048, .f32⟩
  | 37 => ⟨S4x16x2048x2048, .f32⟩
  | 38 => ⟨S4x16x2048x2048, .f32⟩
  | 39 => ⟨S4x16x2048x2048, .f32⟩
  | 40 => ⟨S4x16x2048x2048, .f32⟩
  | 41 => ⟨S4x16x2048x2048, .f32⟩
  | 42 => ⟨S4x16x2048x2048, .f32⟩
  | 43 => ⟨S_, .f32⟩
  | 44 => ⟨S4x16x2048x2048, .f32⟩
  | 45 => ⟨S4x16x2048x2048, .f32⟩
  | 46 => ⟨S4x16x2048x64, .f32⟩
  | 47 => ⟨S4x16x2048x64, .f32⟩
  | 48 => ⟨S4x2048x16x64, .f32⟩
  | 49 => ⟨S8192x1024, .f32⟩
  | 50 => ⟨S8192x1024, .bf16⟩
  | 51 => ⟨S4x2048x16x64, .f32⟩
  | 52 => ⟨S8192x1024, .f32⟩
  | 53 => ⟨S8192x1024, .bf16⟩
  | 54 => ⟨S4x2048x16x64, .f32⟩
  | 55 => ⟨S8192x1024, .f32⟩
  | 56 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== Kernel2.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024 : Shape := ⟨2, ![1, 1024]⟩
abbrev S4x1x1024 : Shape := ⟨3, ![4, 1, 1024]⟩
abbrev S8x512x704 : Shape := ⟨3, ![8, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x1x1024, .f32⟩
  | .hbm, ⟨7, _⟩ => ⟨S8192x1024, .f32⟩
  | .hbm, ⟨8, _⟩ => ⟨S4x1x1024, .f32⟩
  | .hbm, ⟨9, _⟩ => ⟨S4x1x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x1024x704, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024 : Shape := ⟨2, ![1, 1024]⟩
abbrev S4x1x1024 : Shape := ⟨3, ![4, 1, 1024]⟩
abbrev S_ : Shape := ⟨0, ![]⟩
abbrev S1024x8x704 : Shape := ⟨3, ![1024, 8, 704]⟩
abbrev S1024x5632 : Shape := ⟨2, ![1024, 5632]⟩
abbrev S4x2048x1024 : Shape := ⟨3, ![4, 2048, 1024]⟩
abbrev S8192x5632 : Shape := ⟨2, ![8192, 5632]⟩
abbrev S8192x8x704 : Shape := ⟨3, ![8192, 8, 704]⟩
abbrev S4x1024 : Shape := ⟨2, ![4, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S4x1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S4x1x1024, .f32⟩
  | .hbm, ⟨13, _⟩ => ⟨S8x1024x704, .f32⟩
  | .hbm, ⟨14, _⟩ => ⟨S1024x8x704, .f32⟩
  | .hbm, ⟨15, _⟩ => ⟨S1024x5632, .f32⟩
  | .hbm, ⟨16, _⟩ => ⟨S4x2048x1024, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8x8192x704, .f32⟩
  | .hbm, ⟨30, _⟩ => ⟨S8192x8x704, .f32⟩
  | .hbm, ⟨31, _⟩ => ⟨S8192x5632, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S4x2048x1024, .f32⟩
  | .hbm, ⟨37, _⟩ => ⟨S_, .f32⟩
  | .hbm, ⟨38, _⟩ => ⟨S4x1024, .f32⟩
  | .hbm, ⟨39, _⟩ => ⟨S4x1x1024, .f32⟩
  | .hbm, ⟨40, _⟩ => ⟨S4x2048x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S8192x1024, .f32⟩
  | .hbm, ⟨47, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S8192x1024 : Shape := ⟨2, ![8192, 1024]⟩
abbrev S8x8192x704 : Shape := ⟨3, ![8, 8192, 704]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8x8192x704 : Shape := ⟨3, ![8, 8192, 704]⟩
abbrev S_ : Shape := ⟨0, ![]⟩
abbrev S1024x5632 : Shape := ⟨2, ![1024, 5632]⟩
abbrev S8192x5632 : Shape := ⟨2, ![8192, 5632]⟩
abbrev S8192x8x704 : Shape := ⟨3, ![8192, 8, 704]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8x8192x704, .f32⟩
  | .hbm, ⟨7, _⟩ => ⟨S8192x8x704, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S2816x1024 : Shape := ⟨2, ![2816, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S2816x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x8192x704 : Shape := ⟨3, ![4, 8192, 704]⟩
abbrev S8192x1024 : Shape := ⟨2, ![8192, 1024]⟩
abbrev S_ : Shape := ⟨0, ![]⟩
abbrev S2816x1024 : Shape := ⟨2, ![2816, 1024]⟩
abbrev S8192x4x704 : Shape := ⟨3, ![8192, 4, 704]⟩
abbrev S8192x2816 : Shape := ⟨2, ![8192, 2816]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S1024x2816, .f32⟩
  | .hbm, ⟨10, _⟩ => ⟨S2816x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x7168 : Shape := ⟨2, ![1024, 7168]⟩
abbrev S1x1024 : Shape := ⟨2, ![1, 1024]⟩
abbrev S4x1x1024 : Shape := ⟨3, ![4, 1, 1024]⟩
abbrev S256x1024 : Shape := ⟨2, ![256, 1024]⟩
abbrev S1x1x1024 : Shape := ⟨3, ![1, 1, 1024]⟩
abbrev S1024x1024 : Shape := ⟨2, ![1024, 1024]⟩
abbrev S1024 : Shape := ⟨1, ![1024]⟩

abbrev nBuf : Space → Nat
  | .hbm => 16
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1024x7168, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S4x1x1024, .f32⟩
  | .hbm, ⟨13, _⟩ => ⟨S8192x1024, .f32⟩
  | .hbm, ⟨14, _⟩ => ⟨S4x1x1024, .f32⟩
  | .hbm, ⟨15, _⟩ => ⟨S4x1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x7168, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S256x1024, .f32⟩
  | .local _ .vmem, ⟨24, _⟩ => ⟨S256x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S8192x1024 : Shape := ⟨2, ![8192, 1024]⟩
abbrev S1024x7168 : Shape := ⟨2, ![1024, 7168]⟩
abbrev S1x1024 : Shape := ⟨2, ![1, 1024]⟩
abbrev S4x1x1024 : Shape := ⟨3, ![4, 1, 1024]⟩
abbrev S8192x7168 : Shape := ⟨2, ![8192, 7168]⟩
abbrev S_ : Shape := ⟨0, ![]⟩
abbrev S4x2048x1024 : Shape := ⟨3, ![4, 2048, 1024]⟩
abbrev S4x1024 : Shape := ⟨2, ![4, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1024x7168, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S4x1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x7168, .f32⟩
  | .hbm, ⟨25, _⟩ => ⟨S_, .f32⟩
  | .hbm, ⟨26, _⟩ => ⟨S4x1x1024, .f32⟩
  | .hbm, ⟨27, _⟩ => ⟨S1024x7168, .f32⟩
  | .hbm, ⟨28, _⟩ => ⟨S4x2048x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x7168, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S4x2048x1024, .f32⟩
  | .hbm, ⟨46, _⟩ => ⟨S_, .f32⟩
  | .hbm, ⟨47, _⟩ => ⟨S4x1024, .f32⟩
  | .hbm, ⟨48, _⟩ => ⟨S4x1x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S8192x1024, .f32⟩
  | .hbm, ⟨56, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x1024 : Shape := ⟨2, ![1024, 1024]⟩
abbrev S256x1024 : Shape := ⟨2, ![256, 1024]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8192x1024 : Shape := ⟨2, ![8192, 1024]⟩
abbrev S8192x4096 : Shape := ⟨2, ![8192, 4096]⟩
abbrev S1024x1024 : Shape := ⟨2, ![1024, 1024]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S4x1x1024 : Shape := ⟨3, ![4, 1, 1024]⟩
abbrev S1024x7168 : Shape := ⟨2, ![1024, 7168]⟩
abbrev S8192x3072 : Shape := ⟨2, ![8192, 3072]⟩
abbrev S8192x4096 : Shape := ⟨2, ![8192, 4096]⟩
abbrev S256x1024 : Shape := ⟨2, ![256, 1024]⟩
abbrev S1x1x1024 : Shape := ⟨3, ![1, 1, 1024]⟩
abbrev S256x3072 : Shape := ⟨2, ![256, 3072]⟩
abbrev S256x4096 : Shape := ⟨2, ![256, 4096]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S4x1x1024, .f32⟩
  | .hbm, ⟨4, _⟩ => ⟨S4x1x1024, .f32⟩
  | .hbm, ⟨5, _⟩ => ⟨S1024x7168, .bf16⟩
  | .hbm, ⟨6, _⟩ => ⟨S8192x1024, .bf16⟩
  | .hbm, ⟨7, _⟩ => ⟨S8192x3072, .bf16⟩
  | .hbm, ⟨8, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x7168, .bf16⟩
  | .local _ .vmem, ⟨9, _⟩ => ⟨S256x1024, .bf16⟩
  | .local _ .vmem, ⟨10, _⟩ => ⟨S256x1024, .bf16⟩
  | .local _ .vmem, ⟨11, _⟩ => ⟨S256x3072, .bf16⟩
  | .local _ .vmem, ⟨12, _⟩ => ⟨S256x3072, .bf16⟩
  | .local _ .vmem, ⟨13, _⟩ => ⟨S256x4096, .f32⟩
  | .local _ .vmem, ⟨14, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x1024 : Shape := ⟨2, ![8192, 1024]⟩
abbrev S1x1024 : Shape := ⟨2, ![1, 1024]⟩
abbrev S4x1x1024 : Shape := ⟨3, ![4, 1, 1024]⟩
abbrev S1024x7168 : Shape := ⟨2, ![1024, 7168]⟩
abbrev S4x2048x1024 : Shape := ⟨3, ![4, 2048, 1024]⟩
abbrev S_ : Shape := ⟨0, ![]⟩
abbrev S8192x7168 : Shape := ⟨2, ![8192, 7168]⟩
abbrev S8192x3072 : Shape := ⟨2, ![8192, 3072]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S4x1x1024, .f32⟩
  | .hbm, ⟨4, _⟩ => ⟨S4x1x1024, .f32⟩
  | .hbm, ⟨5, _⟩ => ⟨S1024x7168, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S4x2048x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S8192x1024, .f32⟩
  | .hbm, ⟨19, _⟩ => ⟨S1024x7168, .f32⟩
  | .hbm, ⟨20, _⟩ => ⟨S8192x7168, .f32⟩
  | .hbm, ⟨21, _⟩ => ⟨S8192x3072, .f32⟩
  | .hbm, ⟨22, _⟩ => ⟨S8192x1024, .bf16⟩
  | .hbm, ⟨23, _⟩ => ⟨S8192x3072, .bf16⟩
  | .hbm, ⟨24, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S4x1x1024 : Shape := ⟨3, ![4, 1, 1024]⟩
abbrev S8x1024x704 : Shape := ⟨3, ![8, 1024, 704]⟩
abbrev S4x8192x704 : Shape := ⟨3, ![4, 8192, 704]⟩
abbrev S512x1024 : Shape := ⟨2, ![512, 1024]⟩
abbrev S1x1x1024 : Shape := ⟨3, ![1, 1, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S4x1x1024, .f32⟩
  | .hbm, ⟨4, _⟩ => ⟨S4x1x1024, .f32⟩
  | .hbm, ⟨5, _⟩ => ⟨S8x1024x704, .bf16⟩
  | .hbm, ⟨6, _⟩ => ⟨S8192x1024, .bf16⟩
  | .hbm, ⟨7, _⟩ => ⟨S4x8192x704, .bf16⟩
  | .hbm, ⟨8, _⟩ => ⟨S4x8192x704, .bf16⟩
  | .hbm, ⟨9, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S8x1024x704, .bf16⟩
  | .local _ .vmem, ⟨9, _⟩ => ⟨S512x1024, .bf16⟩
  | .local _ .vmem, ⟨10, _⟩ => ⟨S512x1024, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v22 : Index := Scalar.indexCast arg11
  let c0_16 : Index := 0#32
  let c0_17 : Index := 0#32
  ![v22.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let c4_i32_19 : BitVec 32 := 4#32
  let v26 : BitVec 32 := Scalar.addi arg11 c4_i32_19
  let v27 : Index := Scalar.indexCast v26
  let c0_20 : Index := 0#32
  let c0_21 : Index := 0#32
  ![v27.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v47 : Index := Scalar.indexCast arg11
  let c0_28 : Index := 0#32
  let c0_29 : Index := 0#32
  ![v47.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x1024 : Shape := ⟨2, ![8192, 1024]⟩
abbrev S1x1024 : Shape := ⟨2, ![1, 1024]⟩
abbrev S4x1x1024 : Shape := ⟨3, ![4, 1, 1024]⟩
abbrev S8x1024x704 : Shape := ⟨3, ![8, 1024, 704]⟩
abbrev S4x2048x1024 : Shape := ⟨3, ![4, 2048, 1024]⟩
abbrev S_ : Shape := ⟨0, ![]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S4x1x1024, .f32⟩
  | .hbm, ⟨4, _⟩ => ⟨S4x1x1024, .f32⟩
  | .hbm, ⟨5, _⟩ => ⟨S8x1024x704, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S4x2048x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S8192x1024, .f32⟩
  | .hbm, ⟨19, _⟩ => ⟨S8x1024x704, .f32⟩
  | .hbm, ⟨20, _⟩ => ⟨S1024x8x704, .f32⟩
  | .hbm, ⟨21, _⟩ => ⟨S1024x5632, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x4x704, .f32⟩
  | .hbm, ⟨46, _⟩ => ⟨S4x8192x704, .f32⟩
  | .hbm, ⟨47, _⟩ => ⟨S8192x4x704, .f32⟩
  | .hbm, ⟨48, _⟩ => ⟨S4x8192x704, .f32⟩
  | .hbm, ⟨49, _⟩ => ⟨S8192x2816, .f32⟩
  | .hbm, ⟨50, _⟩ => ⟨S8192x4x704, .f32⟩
  | .hbm, ⟨51, _⟩ => ⟨S4x8192x704, .f32⟩
  | .hbm, ⟨52, _⟩ => ⟨S8192x1024, .bf16⟩
  | .hbm, ⟨53, _⟩ => ⟨S4x8192x704, .bf16⟩
  | .hbm, ⟨54, _⟩ => ⟨S4x8192x704, .bf16⟩
  | .hbm, ⟨55, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v18_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v18_1 : Ref sig .tc := ⟨.hbm, 36, rfl⟩
abbrev main_v18_0 : Ref sig .tc := ⟨.hbm, 37, rfl⟩
abbrev main_cst_0 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel10.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S4x1x1024 : Shape := ⟨3, ![4, 1, 1024]⟩
abbrev S8192x1 : Shape := ⟨2, ![8192, 1]⟩
abbrev S4x512x704 : Shape := ⟨3, ![4, 512, 704]⟩
abbrev S512x1024 : Shape := ⟨2, ![512, 1024]⟩
abbrev S1x1x1024 : Shape := ⟨3, ![1, 1, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S8192x1024, .f32⟩
  | .hbm, ⟨7, _⟩ => ⟨S8192x1, .f32⟩
  | .hbm, ⟨8, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S4x1x1024 : Shape := ⟨3, ![4, 1, 1024]⟩
abbrev S8192x4x704 : Shape := ⟨3, ![8192, 4, 704]⟩
abbrev S8192x2816 : Shape := ⟨2, ![8192, 2816]⟩
abbrev S2816x1024 : Shape := ⟨2, ![2816, 1024]⟩
abbrev S_ : Shape := ⟨0, ![]⟩
abbrev S4x2048x1024 : Shape := ⟨3, ![4, 2048, 1024]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x8192x704, .f32⟩
  | .hbm, ⟨7, _⟩ => ⟨S8192x4x704, .f32⟩
  | .hbm, ⟨8, _⟩ => ⟨S8192x2816, .f32⟩
  | .hbm, ⟨9, _⟩ => ⟨S4x704x1024, .f32⟩
  | .hbm, ⟨10, _⟩ => ⟨S2816x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel11.lean ====
abbrev S8192x1024 : Shape := ⟨2, ![8192, 1024]⟩
abbrev S8192x4096 : Shape := ⟨2, ![8192, 4096]⟩
abbrev S1024x1024 : Shape := ⟨2, ![1024, 1024]⟩
abbrev S1x1024 : Shape := ⟨2, ![1, 1024]⟩
abbrev S4x1x1024 : Shape := ⟨3, ![4, 1, 1024]⟩
abbrev S8192x1 : Shape := ⟨2, ![8192, 1]⟩
abbrev S256x1024 : Shape := ⟨2, ![256, 1024]⟩
abbrev S1x1x1024 : Shape := ⟨3, ![1, 1, 1024]⟩
abbrev S256x1 : Shape := ⟨2, ![256, 1]⟩
abbrev S256 : Shape := ⟨1, ![256]⟩

abbrev nBuf : Space → Nat
  | .hbm => 16
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S4x1x1024, .f32⟩
  | .hbm, ⟨10, _⟩ => ⟨S8192x1024, .f32⟩
  | .hbm, ⟨11, _⟩ => ⟨S8192x1, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S256x1024, .f32⟩
  | .local _ .vmem, ⟨18, _⟩ => ⟨S256x1024, .f32⟩
  | .local _ .vmem, ⟨19, _⟩ => ⟨S256x1, .f32⟩
  | .local _ .vmem, ⟨20, _⟩ => ⟨S256x1, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference11Ideal.lean ====
abbrev S8192x1024 : Shape := ⟨2, ![8192, 1024]⟩
abbrev S8192x4096 : Shape := ⟨2, ![8192, 4096]⟩
abbrev S1024x1024 : Shape := ⟨2, ![1024, 1024]⟩
abbrev S1x1024 : Shape := ⟨2, ![1, 1024]⟩
abbrev S4x1x1024 : Shape := ⟨3, ![4, 1, 1024]⟩
abbrev S_ : Shape := ⟨0, ![]⟩
abbrev S4x2048x1024 : Shape := ⟨3, ![4, 2048, 1024]⟩
abbrev S8192 : Shape := ⟨1, ![8192]⟩
abbrev S8192x1 : Shape := ⟨2, ![8192, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S4x1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Run.lean ====
/-
  The run of the attention gradient's body, once and over any scalars: from whole staging buffers it ends with the five
  inputs as they were and each of the three outputs written in sixteen pieces (eight key or query blocks for each of two heads).
-/
module

public import proofs.«01_k».proof.Proof.Gen.KernelIdeal.Skeleton
public import proofs.«01_k».proof.Proof.Gen.KernelIdeal.Frame

@[expose] public section

set_option maxRecDepth 16384

noncomputable section

namespace Cert.KernelIdeal.AttBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A counted loop without a trip returns what it was started with. -/
theorem for_of_trips_zero {w : Nat} {E : Type → Type} {σ : Type} (l : Scf.Loop w) (hok : l.OK) (init : σ)
    (body : Fin l.trips → σ → Prog E σ) (h : l.trips = 0) : Scf.Loop.for l hok init body = Prog.ret init := by
  refine (Scf.for_eq _ _ _ hok init body).trans ?_
  have : List.finRange (Scf.trips l.lb l.ub l.st) = [] := List.finRange_eq_nil_iff.mpr h
  rw [this]; rfl

theorem t1_trips : k0_t1_loop.trips = 0 := by decide +kernel
theorem t2_trips : k0_t2_loop.trips = 0 := by decide +kernel

/-- One tile of queries sees all the keys, so no block of keys lies wholly before it: both loops over such blocks are
    empty, and the part holding them returns the state it was handed. -/
theorem part67_eq (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2x8x8x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x2048x64 .bf16) (harg10 : arg10.IsWhole) (arg11 : Memref sig .tc .vmem S2x2048x64 .bf16) (harg11 : arg11.IsWhole) (arg12 : Memref sig .tc .vmem S2x2048x64 .bf16) (harg12 : arg12.IsWhole) (arg13 : Memref sig .tc .vmem S2x2048x64 .bf16) (harg13 : arg13.IsWhole) (arg14 : Memref sig .tc .vmem S2x8x64x256 .bf16) (harg14 : arg14.IsWhole) (arg15 : Memref sig .tc .vmem S2x8x256x64 .f32) (harg15 : arg15.IsWhole) (arg16 : Memref sig .tc .vmem S2x8x256x64 .f32) (harg16 : arg16.IsWhole) (v9 : FVec F S264x256 .bf16) (v17 : FVec F S264x256 .bf16) (c0_i32 : BitVec 32) (v170 : BitVec 32) (v171 : BitVec 32) (v172 : FVec F S8x256 .f32) (v173 : FVec F S64x256 .f32) (v174 : FVec F S8x256 .f32) (v175 : FVec F S64x256 .f32) (v176 : FVec F S8x256 .f32) (v177 : FVec F S64x256 .f32) (v178 : FVec F S8x256 .f32) (cst_133 : F .f32) :
    k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v17 c0_i32 v170 v171 v172 v173 v174 v175 v176 v177 v178 cst_133 = pure ⟨v172, v173, v174, v175, v176, v177, v178, k0_pay521 cst_133, k0_pay522 (F := F), k0_pay523 (F := F), k0_pay524 (F := F), k0_pay525 (F := F), k0_pay526 (F := F), k0_pay527 (F := F), k0_pay528 (F := F), k0_pay529 (F := F), k0_pay530 (F := F), k0_pay531 (F := F), k0_pay532 (F := F), k0_pay533 (F := F), k0_pay534 (F := F), k0_pay535 (F := F), k0_pay536 (F := F), k0_pay537 (F := F), k0_pay538 (F := F), k0_pay539 (F := F), k0_pay540 (F := F), k0_pay541 (F := F), k0_pay542 (F := F), k0_pay543 (F := F), k0_pay544 (F := F), k0_pay545 (F := F)⟩ := by
  rw [k0_part67_eq_skeleton]; unfold k0_part67_skel
  simp only [for_of_trips_zero _ _ _ _ t1_trips, for_of_trips_zero _ _ _ _ t2_trips]
  rfl

set_option maxHeartbeats 20000000 in
/-- The pieces the body leaves in its three outputs, last first, and the triple that says so. -/
def run (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2x8x8x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x2048x64 .bf16) (harg10 : arg10.IsWhole) (arg11 : Memref sig .tc .vmem S2x2048x64 .bf16) (harg11 : arg11.IsWhole) (arg12 : Memref sig .tc .vmem S2x2048x64 .bf16) (harg12 : arg12.IsWhole) (arg13 : Memref sig .tc .vmem S2x2048x64 .bf16) (harg13 : arg13.IsWhole) (arg14 : Memref sig .tc .vmem S2x8x64x256 .bf16) (harg14 : arg14.IsWhole) (arg15 : Memref sig .tc .vmem S2x8x256x64 .f32) (harg15 : arg15.IsWhole) (arg16 : Memref sig .tc .vmem S2x8x256x64 .f32) (harg16 : arg16.IsWhole)
    (x0 x1 x2 x3 : Vec F S2048x128 .bf16) (x4 : Vec F S1x2x8x8x2048 .f32) :
    Σ' (L5 L6 : List (View.Piece (Elt F) S2048x128 .bf16)), { L7 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_att_bwd_eq_skeleton]; unfold cc0_att_bwd_skel
    simp only [k0_part61_eq_skeleton, k0_part62_eq_skeleton, k0_part63_eq_skeleton, k0_part64_eq_skeleton, k0_part65_eq_skeleton, k0_part66_eq_skeleton, part67_eq, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.AttBwd

end
-- ==== Proof.Chain.lean ====
/-
  What the attention gradient's body computes, written as the recursion it is: for each of the two heads of a grid point
  and each of eight blocks of 256 queries, one chain over the blocks of keys up to the diagonal one, carrying the weighted
  gradient of the earlier keys and the gradient of the queries. Over any scalars.
-/
module

public import proofs.«01_k».proof.Proof.Run

@[expose] public section

set_option maxRecDepth 16384

noncomputable section

namespace Cert.KernelIdeal.AttBwd

open Idealize.ShloMosaic Idealize.ShloMosaic.TcCoe
open Cert.KernelIdeal.Gen

variable {F : FTy → Type} [FloatOps F]

def zero : F .f32 := Scalar.ofBits .f32 0x00000000#32
def one : F .f32 := Scalar.ofBits .f32 0x3F800000#32
def eighth : F .f32 := Scalar.ofBits .f32 0x3E000000#32

def rows (x : Vec F S1x256x64 .bf16) : FVec F S256x64 .bf16 := shapeCast S256x64 x shapeCasts_S1x256x64_S256x64

/-- Keys by queries. -/
def dotNT (a b : FVec F S256x64 .bf16) : FVec F S256x256 .f32 :=
  matmul dot_S256x64_S256x64_S256x256_1_1_0_0_n_n none a b (constant S256x256 .f32 0x00000000#32)

/-- `max z 0 + log (1 + exp (0 − |z|))`. -/
def softplusV (z : FVec F S256x256 .f32) : FVec F S256x256 .f32 :=
  addf (maximumf z (broadcast S256x256 zero)) (log (addf (broadcast S256x256 one) (exp (subf (broadcast S256x256 zero) (absf z)))))

/-- On a diagonal tile, the pairs whose key is not before their query are set to nought. -/
def masked (diag : Bool) (x : FVec F S256x256 .f32) : FVec F S256x256 .f32 :=
  match diag with
  | true => select k0_pay487 x (broadcast S256x256 zero)
  | false => x

/-- A product with a matrix of noughts and ones, the right operand split in a rounded part and a remainder. -/
def splitDot (x : FVec F S256x256 .f32) : FVec F S264x256 .f32 :=
  addf (matmul dot_S264x256_S256x256_S264x256_1_0_0_1_n_n none k0_pay485 (truncf .bf16 x bitsLt_bf16_f32) (constant S264x256 .f32 0x00000000#32))
    (matmul dot_S264x256_S256x256_S264x256_1_0_0_1_n_n none k0_pay485
      (truncf .bf16 (subf x (extf .f32 (truncf .bf16 x bitsLt_bf16_f32) bitsLt_bf16_f32)) bitsLt_bf16_f32) (constant S264x256 .f32 0x00000000#32))

def head256 (x : FVec F S264x256 .f32) : FVec F S256x256 .f32 :=
  extractStridedSlice S256x256 ![0, 0] x slices_S264x256_o0_0_S256x256

def spread (x : FVec F S1x256 .f32) : FVec F S256x256 .f32 := broadcastTo S256x256 x broadcasts_S1x256_S256x256

/- What the chains read, by head and block: a head's 256 rows of the scaled queries `q`, the keys `k`, the values `v` and the
    output's gradient `g`, a block of keys transposed `kt`, and a row of the carries `car` (key block, then query block). -/
variable (q k v g : Fin 2 → Fin 8 → Vec F S1x256x64 .bf16) (kt : Fin 2 → Fin 8 → Vec F S1x1x64x256 .bf16)
  (car : Fin 2 → Fin 8 → Fin 8 → Vec F S1x1x1x1x256 .f32)

def scoreT (h : Fin 2) (i c : Fin 8) : FVec F S256x256 .f32 := dotNT (rows (k h i)) (rows (q h c))
def dweightT (h : Fin 2) (i c : Fin 8) : FVec F S256x256 .f32 := dotNT (rows (v h i)) (rows (g h c))
def spT (h : Fin 2) (i c : Fin 8) : FVec F S256x256 .f32 := softplusV (scoreT q k h i c)

def weightT (h : Fin 2) (i c : Fin 8) : FVec F S256x256 .f32 :=
  masked (i == c) (exp (addf (addf (subf (scoreT q k h i c) (spT q k h i c))
      (spread (shapeCast S1x256 (car h i c) shapeCasts_S1x1x1x1x256_S1x256)))
    (head256 (splitDot (masked (i == c) (subf (broadcast S256x256 zero) (spT q k h i c)))))))

def dlogT (h : Fin 2) (i c : Fin 8) : FVec F S256x256 .f32 := mulf (dweightT v g h i c) (weightT q k car h i c)

def sumsT (h : Fin 2) (i c : Fin 8) : FVec F S264x256 .f32 :=
  matmul dot_S264x256_S256x256_S264x256_1_0_0_1_n_n none k0_pay486 (truncf .bf16 (dlogT q k v g car h i c) bitsLt_bf16_f32) (constant S264x256 .f32 0x00000000#32)

/-- The sums over all keys of the blocks before block `n`. -/
def carriedT (h : Fin 2) (c : Fin 8) : ℕ → FVec F S8x256 .f32
  | 0 => broadcast S8x256 zero
  | n + 1 => addf (carriedT h c n) (extractStridedSlice S8x256 ![256, 0] (sumsT q k v g car h (Fin.ofNat 8 n) c) slices_S264x256_o256_0_S8x256)

def dscoreT (h : Fin 2) (i c : Fin 8) : FVec F S256x256 .bf16 :=
  truncf .bf16 (masked (i == c) (subf (dlogT q k v g car h i c) (mulf (exp (subf (scoreT q k h i c) (spT q k h i c)))
    (addf (addf (dlogT q k v g car h i c) (spread (extractStridedSlice S1x256 ![0, 0] (carriedT q k v g car h c i.val) slices_S8x256_o0_0_S1x256)))
      (head256 (sumsT q k v g car h i c)))))) bitsLt_bf16_f32

/-- The gradient of the queries from the blocks of keys before block `n`, transposed and not yet scaled. -/
def gradQT (h : Fin 2) (c : Fin 8) : ℕ → FVec F S64x256 .f32
  | 0 => broadcast S64x256 zero
  | n + 1 => addf (gradQT h c n) (matmul dot_S64x256_S256x256_S64x256_1_0_0_1_n_n none
      (shapeCast S64x256 (kt h (Fin.ofNat 8 n)) shapeCasts_S1x1x64x256_S64x256) (dscoreT q k v g car h (Fin.ofNat 8 n) c) (constant S64x256 .f32 0x00000000#32))

/-- The sum of `n` products from query block `i` on. -/
def sumFrom (f : Fin 8 → FVec F S256x64 .f32) (i : ℕ) : ℕ → FVec F S256x64 .f32
  | 0 => broadcast S256x64 zero
  | n + 1 => addf (sumFrom f i n) (f (Fin.ofNat 8 (i + n)))

def dotNN (a : FVec F S256x256 .bf16) (b : FVec F S256x64 .bf16) : FVec F S256x64 .f32 :=
  matmul dot_S256x256_S256x64_S256x64_1_0_0_1_n_n none a b (constant S256x64 .f32 0x00000000#32)

def gradK (h : Fin 2) (i : Fin 8) : FVec F S256x64 .bf16 :=
  truncf .bf16 (sumFrom (fun c => dotNN (dscoreT q k v g car h i c) (rows (q h c))) i.val (8 - i.val)) bitsLt_bf16_f32

def gradV (h : Fin 2) (i : Fin 8) : FVec F S256x64 .bf16 :=
  truncf .bf16 (sumFrom (fun c => dotNN (truncf .bf16 (weightT q k car h i c) bitsLt_bf16_f32) (rows (g h c))) i.val (8 - i.val)) bitsLt_bf16_f32

def gradQ (h : Fin 2) (c : Fin 8) : FVec F S256x64 .bf16 :=
  truncf .bf16 (mulf (transpose S256x64 [1, 0] (gradQT q k v g kt car h c (c.val + 1)) transposes_S64x256_p1_0_S256x64)
    (broadcast S256x64 eighth)) bitsLt_bf16_f32

end Cert.KernelIdeal.AttBwd

end
-- ==== Proof.Pieces.lean ====
/-
  The pieces the run leaves in the three outputs are the chains' results: both sides unfold to the same terms.
-/
module

public import proofs.«01_k».proof.Proof.Chain
public import Idealize.ShloMosaic.Lib.ValueLayout
public import Idealize.ShloMosaic.Lib.WholeRead
import all proofs.«01_k».proof.Proof.Run

@[expose] public section

set_option maxRecDepth 65536

noncomputable section

namespace Cert.KernelIdeal.AttBwd

open Idealize.ShloMosaic Idealize.ShloMosaic.TcCoe
open Cert.KernelIdeal.Gen
open Idealize.ShloMosaic.ValueIdx

variable {F : FTy → Type} [FloatOps F]

theorem inb_half (h : Fin 2) : ∀ a, (![0, 64 * h.val] : Fin 2 → ℕ) a + S2048x64.size a ≤ S2048x128.size a := by
  revert h; decide
theorem inb_block (h : Fin 2) (i : Fin 8) : ∀ a, (![256 * i.val, 64 * h.val] : Fin 2 → ℕ) a + S256x64.size a ≤ S2048x128.size a := by
  revert h i; decide
theorem inb_plane (h : Fin 2) : ∀ a, (![h.val, 0, 0] : Fin 3 → ℕ) a + S1x2048x64.size a ≤ S2x2048x64.size a := by
  revert h; decide
theorem inb_rows (h : Fin 2) (i : Fin 8) : ∀ a, (![h.val, 256 * i.val, 0] : Fin 3 → ℕ) a + S1x256x64.size a ≤ S2x2048x64.size a := by
  revert h i; decide
theorem inb_kt (h : Fin 2) (i : Fin 8) : ∀ a, (![h.val, i.val, 0, 0] : Fin 4 → ℕ) a + S1x1x64x256.size a ≤ S2x8x64x256.size a := by
  revert h i; decide
theorem inb_car (h : Fin 2) (i c : Fin 8) :
    ∀ a, (![0, h.val, i.val, 0, 256 * c.val] : Fin 5 → ℕ) a + S1x1x1x1x256.size a ≤ S1x2x8x8x2048.size a := by
  revert h i c; decide

/-- A head's columns of an input, as a plane of the scratch: the value stored and what is read of it. -/
def half (a : Memref sig .tc .vmem S2048x128 .bf16) (ha : a.IsWhole) (x : Vec F S2048x128 .bf16) (h : Fin 2) : Vec F S2048x64 .bf16 :=
  View.readAt (Elt F) a.view (Rect.unit (s := S2048x128) ![0, 64 * h.val] S2048x64.size (inb_half h)).toLoadRect (ha.unread x)

def planes (f : Fin 2 → Vec F S1x2048x64 .bf16) : List (View.Piece (Elt F) S2x2048x64 .bf16) :=
  [⟨Rect.unit (s := S2x2048x64) ![(1 : Fin 2).val, 0, 0] S1x2048x64.size (inb_plane 1), f 1⟩,
   ⟨Rect.unit (s := S2x2048x64) ![(0 : Fin 2).val, 0, 0] S1x2048x64.size (inb_plane 0), f 0⟩]

def copied (x : Vec F S2048x64 .bf16) : Vec F S1x2048x64 .bf16 := shapeCast S1x2048x64 x shapeCasts_S2048x64_S1x2048x64

def scaled (x : Vec F S2048x64 .bf16) : Vec F S1x2048x64 .bf16 :=
  shapeCast S1x2048x64 (mulf x (broadcast S2048x64 (Scalar.ofBits .bf16 0x3E00#16 : F .bf16))) shapeCasts_S2048x64_S1x2048x64

def readRows (s : Memref sig .tc .vmem S2x2048x64 .bf16) (L : List (View.Piece (Elt F) S2x2048x64 .bf16)) (h : Fin 2) (i : Fin 8) :
    Vec F S1x256x64 .bf16 :=
  s.view.readCov L (Rect.unit (s := S2x2048x64) ![h.val, 256 * i.val, 0] S1x256x64.size (inb_rows h i)).toLoadRect

def keyBlock (a : Memref sig .tc .vmem S2048x128 .bf16) (ha : a.IsWhole) (x : Vec F S2048x128 .bf16) (h : Fin 2) (i : Fin 8) :
    Vec F S1x1x64x256 .bf16 :=
  shapeCast S1x1x64x256 (truncf .bf16 (transpose S64x256 [1, 0] (extf .f32
    (View.readAt (Elt F) a.view (Rect.unit (s := S2048x128) ![256 * i.val, 64 * h.val] S256x64.size (inb_block h i)).toLoadRect (ha.unread x)
      : FVec F S256x64 .bf16) bitsLt_bf16_f32) transposes_S256x64_p1_0_S64x256) bitsLt_bf16_f32) shapeCasts_S64x256_S1x1x64x256

def keyPieces (f : Fin 2 → Fin 8 → Vec F S1x1x64x256 .bf16) : ℕ → List (View.Piece (Elt F) S2x8x64x256 .bf16)
  | 0 => []
  | n + 1 => ⟨Rect.unit (s := S2x8x64x256) ![(Fin.ofNat 2 (n / 8)).val, (Fin.ofNat 8 n).val, 0, 0] S1x1x64x256.size
      (inb_kt (Fin.ofNat 2 (n / 8)) (Fin.ofNat 8 n)), f (Fin.ofNat 2 (n / 8)) (Fin.ofNat 8 n)⟩ :: keyPieces f n

def readKeys (s : Memref sig .tc .vmem S2x8x64x256 .bf16) (L : List (View.Piece (Elt F) S2x8x64x256 .bf16)) (h : Fin 2) (i : Fin 8) :
    Vec F S1x1x64x256 .bf16 :=
  s.view.readCov L (Rect.unit (s := S2x8x64x256) ![h.val, i.val, 0, 0] S1x1x64x256.size (inb_kt h i)).toLoadRect

def readCar (a : Memref sig .tc .vmem S1x2x8x8x2048 .f32) (ha : a.IsWhole) (x : Vec F S1x2x8x8x2048 .f32) (h : Fin 2) (i c : Fin 8) :
    Vec F S1x1x1x1x256 .f32 :=
  View.readAt (Elt F) a.view (Rect.unit (s := S1x2x8x8x2048) ![0, h.val, i.val, 0, 256 * c.val] S1x1x1x1x256.size
    (inb_car h i c)).toLoadRect (ha.unread x)

/-! ## What the reads of the scratch are, entry by entry -/

/-- A head's rows of a block, straight from the input. -/
def rowsOf (x : Vec F S2048x128 .bf16) (h : Fin 2) (i : Fin 8) : Vec F S1x256x64 .bf16 := fun j =>
  x (ix2 (n0 := 2048) (n1 := 128) ⟨256 * i.val + (j 1).val, by have := (j 1).isLt; have : (j 1).val < 256 := this; omega⟩
    ⟨64 * h.val + (j 2).val, by have := (j 2).isLt; have : (j 2).val < 64 := this; omega⟩)

/-- The same rows, scaled as the queries are. -/
def qRows (x : Vec F S2048x128 .bf16) (h : Fin 2) (i : Fin 8) : Vec F S1x256x64 .bf16 :=
  mulf (rowsOf x h i) (broadcast S1x256x64 (Scalar.ofBits .bf16 0x3E00#16 : F .bf16))

/-- A head's rows of a block, transposed. -/
def keysT (x : Vec F S2048x128 .bf16) (h : Fin 2) (i : Fin 8) : Vec F S1x1x64x256 .bf16 :=
  truncf .bf16 (extf .f32 (fun j => rowsOf x h i (ix3 (n0 := 1) (n1 := 256) (n2 := 64) 0 (j 3) (j 2)) : FVec F S1x1x64x256 .bf16)
    bitsLt_bf16_f32) bitsLt_bf16_f32

/-- A row of the carries. -/
def carRow (x : Vec F S1x2x8x8x2048 .f32) (h : Fin 2) (i c : Fin 8) : Vec F S1x1x1x1x256 .f32 := fun j =>
  x (ix5 (n0 := 1) (n1 := 2) (n2 := 8) (n3 := 8) (n4 := 2048) 0 h i 0
    ⟨256 * c.val + (j 4).val, by have := (j 4).isLt; have : (j 4).val < 256 := this; omega⟩)

/-- What writes leave where every piece holds a part of `X` and some piece holds the index: `X` there. -/
theorem canon_of_agree {s : Shape} {e : EltTy} (X : s.Idx → Elt F e) (y : s.Idx) : ∀ L : List (View.Piece (Elt F) s e),
    (∀ p ∈ L, ∀ x, p.2 x = X (p.1.emb x)) → (∃ p ∈ L, y ∈ p.1.set) → View.canon L y = X y
  | [], _, h => by obtain ⟨_, hm, _⟩ := h; exact absurd hm List.not_mem_nil
  | p :: L, hX, h => by
    by_cases hy : y ∈ p.1.set
    · obtain ⟨r, w⟩ := p
      obtain ⟨x, rfl⟩ := r.exists_idx_of_mem hy
      exact (View.canon_cons_emb r w L x).trans (hX _ List.mem_cons_self x)
    · rw [View.canon_cons_of_not_mem p L hy]
      refine canon_of_agree X y L (fun p hp => hX p (List.mem_cons_of_mem _ hp)) ?_
      obtain ⟨p', hm, hy'⟩ := h
      rcases List.mem_cons.mp hm with rfl | hm
      · exact absurd hy' hy
      · exact ⟨p', hm, hy'⟩

theorem readRows_planes (s : Memref sig .tc .vmem S2x2048x64 .bf16) (f : Fin 2 → Vec F S1x2048x64 .bf16) (h : Fin 2) (i : Fin 8) :
    readRows s (planes f) h i = fun j => f h (ix3 (n0 := 1) (n1 := 2048) (n2 := 64) 0
      ⟨256 * i.val + (j 1).val, by have := (j 1).isLt; have : (j 1).val < 256 := this; omega⟩ (j 2)) := by
  unfold readRows
  rw [View.readCov_eq_canon']
  funext j
  have h0 : (j 0).val = 0 := by have : (j 0).val < 1 := (j 0).isLt; omega
  refine (canon_of_agree (fun y => f (y 0) (ix3 (n0 := 1) (n1 := 2048) (n2 := 64) 0 (y 1) (y 2))) _ _ ?_ ?_).trans ?_
  · intro p hp x
    have hx : (x 0).val = 0 := by
      simp only [planes, List.mem_cons, List.not_mem_nil, or_false] at hp
      rcases hp with rfl | rfl <;> (have : (x 0).val < 1 := (x 0).isLt; omega)
    simp only [planes, List.mem_cons, List.not_mem_nil, or_false] at hp
    rcases hp with rfl | rfl
    all_goals
      refine congr (congrArg f (Fin.ext ?_)) (funext fun a => ?_)
      · rw [Rect.emb_apply]; simp [hx]
      · match a with
        | ⟨0, _⟩ => exact Fin.ext hx
        | ⟨1, _⟩ => apply Fin.ext; show (x 1).val = _; rw [Rect.emb_apply]; simp
        | ⟨2, _⟩ => apply Fin.ext; show (x 2).val = _; rw [Rect.emb_apply]; simp
  · have h1 : (j 1).val < 256 := (j 1).isLt
    have h2 : (j 2).val < 64 := (j 2).isLt
    have hmem : ∀ h' : Fin 2, h' = h → (Rect.unit (s := S2x2048x64) ![h.val, 256 * i.val, 0] S1x256x64.size (inb_rows h i)).toLoadRect.idx j ∈
        (Rect.unit (s := S2x2048x64) ![h'.val, 0, 0] S1x2048x64.size (inb_plane h')).set := by
      rintro h' rfl
      rw [Rect.mem_set_unit]
      intro a
      rw [LoadRect.idx_apply]
      match a with
      | ⟨0, _⟩ => simp [h0]
      | ⟨1, _⟩ => simp; omega
      | ⟨2, _⟩ => simp; omega
    match h, hmem with
    | 0, hmem => exact ⟨_, List.mem_cons_of_mem _ List.mem_cons_self, hmem 0 rfl⟩
    | 1, hmem => exact ⟨_, List.mem_cons_self, hmem 1 rfl⟩
  · refine congr (congrArg f (Fin.ext ?_)) (funext fun a => ?_)
    · rw [LoadRect.idx_apply]; simp [h0]
    · match a with
      | ⟨0, _⟩ => rfl
      | ⟨1, _⟩ => apply Fin.ext; show Fin.val (LoadRect.idx _ _ _) = _; rw [LoadRect.idx_apply]; simp
      | ⟨2, _⟩ => apply Fin.ext; show Fin.val (LoadRect.idx _ _ _) = _; rw [LoadRect.idx_apply]; simp

theorem half_apply (a : Memref sig .tc .vmem S2048x128 .bf16) (ha : a.IsWhole) (x : Vec F S2048x128 .bf16) (h : Fin 2)
    (r : Fin 2048) (d : Fin 64) : half a ha x h (ix2 r d) = x (ix2 (n0 := 2048) (n1 := 128) r ⟨64 * h.val + d.val, by omega⟩) := by
  unfold half
  rw [Memref.IsWhole.readAt_unread]
  refine congrArg x (funext fun a => Fin.ext ?_)
  rw [LoadRect.idx_apply]
  match a with
  | ⟨0, _⟩ => simp
  | ⟨1, _⟩ => simp

theorem readRows_copied (s : Memref sig .tc .vmem S2x2048x64 .bf16) (a : Memref sig .tc .vmem S2048x128 .bf16) (ha : a.IsWhole)
    (x : Vec F S2048x128 .bf16) : readRows s (planes fun h => copied (half a ha x h)) = rowsOf x := by
  funext h i
  rw [readRows_planes]
  funext j
  unfold copied
  exact (shapeCast_ab_1ab_apply (a := 2048) (b := 64) _ _ _ _ _).trans (half_apply a ha x h _ _)

theorem readRows_scaled (s : Memref sig .tc .vmem S2x2048x64 .bf16) (a : Memref sig .tc .vmem S2048x128 .bf16) (ha : a.IsWhole)
    (x : Vec F S2048x128 .bf16) : readRows s (planes fun h => scaled (half a ha x h)) = qRows x := by
  funext h i
  rw [readRows_planes]
  funext j
  unfold scaled
  refine (shapeCast_ab_1ab_apply (a := 2048) (b := 64) _ _ _ _ _).trans ?_
  exact congrArg (fun y => FloatOps.mulf y _) (half_apply a ha x h _ _)

theorem keyPieces_mem (f : Fin 2 → Fin 8 → Vec F S1x1x64x256 .bf16) : ∀ n, ∀ p ∈ keyPieces f n, ∃ h i,
    p = ⟨Rect.unit (s := S2x8x64x256) ![h.val, i.val, 0, 0] S1x1x64x256.size (inb_kt h i), f h i⟩
  | 0, _, hp => absurd hp List.not_mem_nil
  | n + 1, p, hp => by
    rcases List.mem_cons.mp hp with rfl | hp
    · exact ⟨_, _, rfl⟩
    · exact keyPieces_mem f n p hp

theorem mem_keyPieces (f : Fin 2 → Fin 8 → Vec F S1x1x64x256 .bf16) (k : ℕ) : ∀ n, k < n →
    ⟨Rect.unit (s := S2x8x64x256) ![(Fin.ofNat 2 (k / 8)).val, (Fin.ofNat 8 k).val, 0, 0] S1x1x64x256.size
      (inb_kt (Fin.ofNat 2 (k / 8)) (Fin.ofNat 8 k)), f (Fin.ofNat 2 (k / 8)) (Fin.ofNat 8 k)⟩ ∈ keyPieces f n
  | 0, hk => absurd hk (Nat.not_lt_zero k)
  | n + 1, hk => by
    rcases Nat.lt_succ_iff_lt_or_eq.mp hk with hk | rfl
    · exact List.mem_cons_of_mem _ (mem_keyPieces f k n hk)
    · exact List.mem_cons_self

theorem split_block (h : Fin 2) (i : Fin 8) : Fin.ofNat 2 ((8 * h.val + i.val) / 8) = h ∧ Fin.ofNat 8 (8 * h.val + i.val) = i := by
  revert h i; decide

theorem readKeys_eq (s : Memref sig .tc .vmem S2x8x64x256 .bf16) (a : Memref sig .tc .vmem S2048x128 .bf16) (ha : a.IsWhole)
    (x : Vec F S2048x128 .bf16) : readKeys s (keyPieces (keyBlock a ha x) 16) = keysT x := by
  funext h i
  unfold readKeys
  rw [View.readCov_eq_canon']
  funext j
  have h0 : (j 0).val = 0 := by have : (j 0).val < 1 := (j 0).isLt; omega
  have h1 : (j 1).val = 0 := by have : (j 1).val < 1 := (j 1).isLt; omega
  have h2 : (j 2).val < 64 := (j 2).isLt
  have h3 : (j 3).val < 256 := (j 3).isLt
  refine (canon_of_agree (fun y => keyBlock a ha x (y 0) (y 1) (ix4 (n0 := 1) (n1 := 1) (n2 := 64) (n3 := 256) 0 0 (y 2) (y 3))) _ _ ?_ ?_).trans ?_
  · intro p hp x'
    obtain ⟨h', i', rfl⟩ := keyPieces_mem _ _ p hp
    have e0 : (x' 0).val = 0 := by have : (x' 0).val < 1 := (x' 0).isLt; omega
    have e1 : (x' 1).val = 0 := by have : (x' 1).val < 1 := (x' 1).isLt; omega
    refine congr (congr (congrArg (keyBlock a ha x) (Fin.ext ?_)) (Fin.ext ?_)) (funext fun a => Fin.ext ?_)
    · rw [Rect.emb_apply]; simp [e0]
    · rw [Rect.emb_apply]; simp [e1]
    · match a with
      | ⟨0, _⟩ => exact e0
      | ⟨1, _⟩ => exact e1
      | ⟨2, _⟩ => show (x' 2).val = Fin.val (Rect.emb _ _ _); rw [Rect.emb_apply]; simp
      | ⟨3, _⟩ => show (x' 3).val = Fin.val (Rect.emb _ _ _); rw [Rect.emb_apply]; simp
  · refine ⟨_, mem_keyPieces _ (8 * h.val + i.val) 16 (by omega), ?_⟩
    rw [Rect.mem_set_unit]
    intro a
    rw [LoadRect.idx_apply, (split_block h i).1, (split_block h i).2]
    match a with
    | ⟨0, _⟩ => simp [h0]
    | ⟨1, _⟩ => simp [h1]
    | ⟨2, _⟩ => simp; omega
    | ⟨3, _⟩ => simp; omega
  · have e0 : (Rect.unit (s := S2x8x64x256) ![h.val, i.val, 0, 0] S1x1x64x256.size (inb_kt h i)).toLoadRect.idx j 0 = h := by
      apply Fin.ext; rw [LoadRect.idx_apply]; simp [h0]
    have e1 : (Rect.unit (s := S2x8x64x256) ![h.val, i.val, 0, 0] S1x1x64x256.size (inb_kt h i)).toLoadRect.idx j 1 = i := by
      apply Fin.ext; rw [LoadRect.idx_apply]; simp [h1]
    have e2 : (Rect.unit (s := S2x8x64x256) ![h.val, i.val, 0, 0] S1x1x64x256.size (inb_kt h i)).toLoadRect.idx j 2 = j 2 := by
      apply Fin.ext; rw [LoadRect.idx_apply]; simp
    have e3 : (Rect.unit (s := S2x8x64x256) ![h.val, i.val, 0, 0] S1x1x64x256.size (inb_kt h i)).toLoadRect.idx j 3 = j 3 := by
      apply Fin.ext; rw [LoadRect.idx_apply]; simp
    simp only [e0, e1, e2, e3]
    unfold keyBlock keysT
    rw [shapeCast_apply _ _ _ (ix2 (n0 := 64) (n1 := 256) (j 2) (j 3)) (by
      rw [Shape.rowMajor_val_four, Shape.rowMajor_val_two]; simp)]
    refine congrArg (fun z => FloatOps.truncf .bf16 bitsLt_bf16_f32 z) ?_
    refine (transpose_ix2_apply (a := 256) (b := 64) _ _ _ _).trans ?_
    refine congrArg (fun z => FloatOps.extf .f32 bitsLt_bf16_f32 z) ?_
    rw [Memref.IsWhole.readAt_unread]
    refine congrArg x (funext fun b => Fin.ext ?_)
    rw [LoadRect.idx_apply]
    match b with
    | ⟨0, _⟩ => simp
    | ⟨1, _⟩ => simp

theorem readCar_eq (a : Memref sig .tc .vmem S1x2x8x8x2048 .f32) (ha : a.IsWhole) (x : Vec F S1x2x8x8x2048 .f32) :
    readCar a ha x = carRow x := by
  funext h i c j
  unfold readCar
  rw [Memref.IsWhole.readAt_unread]
  refine congrArg x (funext fun b => Fin.ext ?_)
  rw [LoadRect.idx_apply]
  have h0 : (j 0).val = 0 := by have : (j 0).val < 1 := (j 0).isLt; omega
  have h1 : (j 1).val = 0 := by have : (j 1).val < 1 := (j 1).isLt; omega
  have h2 : (j 2).val = 0 := by have : (j 2).val < 1 := (j 2).isLt; omega
  have h3 : (j 3).val = 0 := by have : (j 3).val < 1 := (j 3).isLt; omega
  match b with
  | ⟨0, _⟩ => simp [h0]
  | ⟨1, _⟩ => simp [h1]
  | ⟨2, _⟩ => simp [h2]
  | ⟨3, _⟩ => simp [h3]
  | ⟨4, _⟩ => simp

def outPiece (f : Fin 2 → Fin 8 → FVec F S256x64 .bf16) (h : Fin 2) (i : Fin 8) : View.Piece (Elt F) S2048x128 .bf16 :=
  ⟨Rect.unit (s := S2048x128) ![256 * i.val, 64 * h.val] S256x64.size (inb_block h i), f h i⟩

/-- The blocks written so far, block by block and in each the two heads (the keys' and the values' gradients). -/
def outByBlock (f : Fin 2 → Fin 8 → FVec F S256x64 .bf16) : ℕ → List (View.Piece (Elt F) S2048x128 .bf16)
  | 0 => []
  | n + 1 => outPiece f (Fin.ofNat 2 n) (Fin.ofNat 8 (n / 2)) :: outByBlock f n

/-- The blocks written so far, head by head and in each the eight blocks (the queries' gradient). -/
def outByHead (f : Fin 2 → Fin 8 → FVec F S256x64 .bf16) : ℕ → List (View.Piece (Elt F) S2048x128 .bf16)
  | 0 => []
  | n + 1 => outPiece f (Fin.ofNat 2 (n / 8)) (Fin.ofNat 8 n) :: outByHead f n

/-- An output block: each entry from its head and its block of rows. -/
def outArr (f : Fin 2 → Fin 8 → FVec F S256x64 .bf16) : Vec F S2048x128 .bf16 := fun y =>
  f ⟨(y 1).val / 64, by have : (y 1).val < 128 := (y 1).isLt; omega⟩ ⟨(y 0).val / 256, by have : (y 0).val < 2048 := (y 0).isLt; omega⟩
    (ix2 (n0 := 256) (n1 := 64) ⟨(y 0).val % 256, Nat.mod_lt _ (by decide)⟩ ⟨(y 1).val % 64, Nat.mod_lt _ (by decide)⟩)

/-- Writes of every head's every block, in whatever order, leave the output block. -/
theorem canon_out (f : Fin 2 → Fin 8 → FVec F S256x64 .bf16) (L : List (View.Piece (Elt F) S2048x128 .bf16))
    (h1 : ∀ p ∈ L, ∃ h i, p = outPiece f h i) (h2 : ∀ h i, outPiece f h i ∈ L) :
    (∀ y, ∃ p ∈ L, y ∈ p.1.set) ∧ View.canon L = outArr f := by
  have hc : ∀ y, ∃ p ∈ L, y ∈ p.1.set := fun y => by
    have hy0 : (y 0).val < 2048 := (y 0).isLt
    have hy1 : (y 1).val < 128 := (y 1).isLt
    refine ⟨_, h2 ⟨(y 1).val / 64, by omega⟩ ⟨(y 0).val / 256, by omega⟩, ?_⟩
    unfold outPiece
    rw [Rect.mem_set_unit]
    intro a
    match a with
    | ⟨0, _⟩ => simp; omega
    | ⟨1, _⟩ => simp; omega
  refine ⟨hc, funext fun y => canon_of_agree (outArr f) y L (fun p hp x => ?_) (hc y)⟩
  obtain ⟨h, i, rfl⟩ := h1 p hp
  have hx0 : (x 0).val < 256 := (x 0).isLt
  have hx1 : (x 1).val < 64 := (x 1).isLt
  have e0 : (((outPiece f h i).1.emb x) 0).val = 256 * i.val + (x 0).val := by
    rw [Rect.emb_apply]; simp [outPiece]
  have e1 : (((outPiece f h i).1.emb x) 1).val = 64 * h.val + (x 1).val := by
    rw [Rect.emb_apply]; simp [outPiece]
  refine congr (congr (congrArg f (Fin.ext ?_)) (Fin.ext ?_)) (funext fun a => Fin.ext ?_)
  · simp only [e1]; omega
  · simp only [e0]; omega
  · match a with
    | ⟨0, _⟩ => show (x 0).val = _ % _; rw [e0]; omega
    | ⟨1, _⟩ => show (x 1).val = _ % _; rw [e1]; omega

theorem outByBlock_mem (f : Fin 2 → Fin 8 → FVec F S256x64 .bf16) : ∀ n, ∀ p ∈ outByBlock f n, ∃ h i, p = outPiece f h i
  | 0, _, hp => absurd hp List.not_mem_nil
  | n + 1, p, hp => by
    rcases List.mem_cons.mp hp with rfl | hp
    · exact ⟨_, _, rfl⟩
    · exact outByBlock_mem f n p hp

theorem mem_outByBlock (f : Fin 2 → Fin 8 → FVec F S256x64 .bf16) (k : ℕ) : ∀ n, k < n →
    outPiece f (Fin.ofNat 2 k) (Fin.ofNat 8 (k / 2)) ∈ outByBlock f n
  | 0, hk => absurd hk (Nat.not_lt_zero k)
  | n + 1, hk => by
    rcases Nat.lt_succ_iff_lt_or_eq.mp hk with hk | rfl
    · exact List.mem_cons_of_mem _ (mem_outByBlock f k n hk)
    · exact List.mem_cons_self

theorem outByHead_mem (f : Fin 2 → Fin 8 → FVec F S256x64 .bf16) : ∀ n, ∀ p ∈ outByHead f n, ∃ h i, p = outPiece f h i
  | 0, _, hp => absurd hp List.not_mem_nil
  | n + 1, p, hp => by
    rcases List.mem_cons.mp hp with rfl | hp
    · exact ⟨_, _, rfl⟩
    · exact outByHead_mem f n p hp

theorem mem_outByHead (f : Fin 2 → Fin 8 → FVec F S256x64 .bf16) (k : ℕ) : ∀ n, k < n →
    outPiece f (Fin.ofNat 2 (k / 8)) (Fin.ofNat 8 k) ∈ outByHead f n
  | 0, hk => absurd hk (Nat.not_lt_zero k)
  | n + 1, hk => by
    rcases Nat.lt_succ_iff_lt_or_eq.mp hk with hk | rfl
    · exact List.mem_cons_of_mem _ (mem_outByHead f k n hk)
    · exact List.mem_cons_self

theorem split_pair (h : Fin 2) (i : Fin 8) : Fin.ofNat 2 (2 * i.val + h.val) = h ∧ Fin.ofNat 8 ((2 * i.val + h.val) / 2) = i := by
  revert h i; decide

theorem canon_outByBlock (f : Fin 2 → Fin 8 → FVec F S256x64 .bf16) :
    (∀ y, ∃ p ∈ outByBlock f 16, y ∈ p.1.set) ∧ View.canon (outByBlock f 16) = outArr f :=
  canon_out f _ (outByBlock_mem f 16) fun h i => by
    have := mem_outByBlock f (2 * i.val + h.val) 16 (by omega)
    rwa [(split_pair h i).1, (split_pair h i).2] at this

theorem canon_outByHead (f : Fin 2 → Fin 8 → FVec F S256x64 .bf16) :
    (∀ y, ∃ p ∈ outByHead f 16, y ∈ p.1.set) ∧ View.canon (outByHead f 16) = outArr f :=
  canon_out f _ (outByHead_mem f 16) fun h i => by
    have := mem_outByHead f (8 * h.val + i.val) 16 (by omega)
    rwa [(split_block h i).1, (split_block h i).2] at this

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2x8x8x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x2048x64 .bf16) (harg10 : arg10.IsWhole) (arg11 : Memref sig .tc .vmem S2x2048x64 .bf16) (harg11 : arg11.IsWhole) (arg12 : Memref sig .tc .vmem S2x2048x64 .bf16) (harg12 : arg12.IsWhole) (arg13 : Memref sig .tc .vmem S2x2048x64 .bf16) (harg13 : arg13.IsWhole) (arg14 : Memref sig .tc .vmem S2x8x64x256 .bf16) (harg14 : arg14.IsWhole) (arg15 : Memref sig .tc .vmem S2x8x256x64 .f32) (harg15 : arg15.IsWhole) (arg16 : Memref sig .tc .vmem S2x8x256x64 .f32) (harg16 : arg16.IsWhole)
    (x0 x1 x2 x3 : Vec F S2048x128 .bf16) (x4 : Vec F S1x2x8x8x2048 .f32)

set_option maxHeartbeats 4000000 in
theorem run_keys_scratch : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).2.1 =
    outByBlock (gradK (readRows arg10 (run.sl.HS0_2 c arg2 harg2 x0)) (readRows arg11 (run.sl.HS1_2 c arg3 harg3 x1)) (readRows arg12 (run.sl.HS2_2 c arg4 harg4 x2)) (readRows arg13 (run.sl.HS3_2 c arg5 harg5 x3)) (readCar arg6 harg6 x4)) 16 := by
  unfold run; dsimp only; rfl

set_option maxHeartbeats 4000000 in
theorem run_values_scratch : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).2.2.1 =
    outByBlock (gradV (readRows arg10 (run.sl.HS0_2 c arg2 harg2 x0)) (readRows arg11 (run.sl.HS1_2 c arg3 harg3 x1)) (readRows arg13 (run.sl.HS3_2 c arg5 harg5 x3)) (readCar arg6 harg6 x4)) 16 := by
  unfold run; dsimp only; rfl

set_option maxHeartbeats 4000000 in
theorem run_queries_scratch : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).1 =
    outByHead (gradQ (readRows arg10 (run.sl.HS0_2 c arg2 harg2 x0)) (readRows arg11 (run.sl.HS1_2 c arg3 harg3 x1)) (readRows arg12 (run.sl.HS2_2 c arg4 harg4 x2)) (readRows arg13 (run.sl.HS3_2 c arg5 harg5 x3)) (readKeys arg14 (run.sl.HS4_16 c arg3 harg3 x1)) (readCar arg6 harg6 x4)) 16 := by
  unfold run; dsimp only; rfl

theorem filled_q : run.sl.HS0_2 c arg2 harg2 x0 = planes fun h => scaled (half arg2 harg2 x0 h) := rfl
theorem filled_k : run.sl.HS1_2 c arg3 harg3 x1 = planes fun h => copied (half arg3 harg3 x1 h) := rfl
theorem filled_v : run.sl.HS2_2 c arg4 harg4 x2 = planes fun h => copied (half arg4 harg4 x2 h) := rfl
theorem filled_g : run.sl.HS3_2 c arg5 harg5 x3 = planes fun h => copied (half arg5 harg5 x3 h) := rfl
theorem filled_kt : run.sl.HS4_16 c arg3 harg3 x1 = keyPieces (keyBlock arg3 harg3 x1) 16 := rfl

/-- The pieces of the keys' gradient are the chains' results, from the five blocks alone. -/
theorem run_keys : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).2.1 =
    outByBlock (gradK (qRows x0) (rowsOf x1) (rowsOf x2) (rowsOf x3) (carRow x4)) 16 := by
  rw [run_keys_scratch, filled_q, filled_k, filled_v, filled_g, readRows_scaled, readRows_copied, readRows_copied, readRows_copied, readCar_eq]

/-- The pieces of the values' gradient are the chains' results, from the five blocks alone. -/
theorem run_values : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).2.2.1 =
    outByBlock (gradV (qRows x0) (rowsOf x1) (rowsOf x3) (carRow x4)) 16 := by
  rw [run_values_scratch, filled_q, filled_k, filled_g, readRows_scaled, readRows_copied, readRows_copied, readCar_eq]

/-- The pieces of the queries' gradient are the chains' results, from the five blocks alone. -/
theorem run_queries : (run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4).1 =
    outByHead (gradQ (qRows x0) (rowsOf x1) (rowsOf x2) (rowsOf x3) (keysT x1) (carRow x4)) 16 := by
  rw [run_queries_scratch, filled_q, filled_k, filled_v, filled_g, filled_kt, readRows_scaled, readRows_copied, readRows_copied, readRows_copied, readKeys_eq, readCar_eq]

end Cert.KernelIdeal.AttBwd

end
-- ==== Proof.Body.lean ====
/-
  The kernel's run from the launch to the end, over any scalars: each grid point leaves its inputs as they were and the
  three gradient blocks at the chains' results, and the whole program ends with every array at the contents those
  blocks make up, its arguments untouched and its semaphores at zero.
-/
module

public import proofs.«01_k».proof.Proof.Pieces
public import Idealize.ShloMosaic.Lib.Pipeline.Frame

@[expose] public section

noncomputable section

namespace Cert.KernelIdeal.AttBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-- The three gradients of one grid point's blocks. -/
def outQ (x0 x1 x2 x3 : Vec F S2048x128 .bf16) (x4 : Vec F S1x2x8x8x2048 .f32) : Vec F S2048x128 .bf16 :=
  outArr (gradQ (qRows x0) (rowsOf x1) (rowsOf x2) (rowsOf x3) (keysT x1) (carRow x4))
def outK (x0 x1 x2 x3 : Vec F S2048x128 .bf16) (x4 : Vec F S1x2x8x8x2048 .f32) : Vec F S2048x128 .bf16 :=
  outArr (gradK (qRows x0) (rowsOf x1) (rowsOf x2) (rowsOf x3) (carRow x4))
def outV (x0 x1 x3 : Vec F S2048x128 .bf16) (x4 : Vec F S1x2x8x8x2048 .f32) : Vec F S2048x128 .bf16 :=
  outArr (gradV (qRows x0) (rowsOf x1) (rowsOf x3) (carRow x4))

/-- The body's run with its outputs named. -/
theorem run_named (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2x8x8x2048 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x2048x64 .bf16) (harg10 : arg10.IsWhole) (arg11 : Memref sig .tc .vmem S2x2048x64 .bf16) (harg11 : arg11.IsWhole) (arg12 : Memref sig .tc .vmem S2x2048x64 .bf16) (harg12 : arg12.IsWhole) (arg13 : Memref sig .tc .vmem S2x2048x64 .bf16) (harg13 : arg13.IsWhole) (arg14 : Memref sig .tc .vmem S2x8x64x256 .bf16) (harg14 : arg14.IsWhole) (arg15 : Memref sig .tc .vmem S2x8x256x64 .f32) (harg15 : arg15.IsWhole) (arg16 : Memref sig .tc .vmem S2x8x256x64 .f32) (harg16 : arg16.IsWhole)
    (x0 x1 x2 x3 : Vec F S2048x128 .bf16) (x4 : Vec F S1x2x8x8x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outQ x0 x1 x2 x3 x4) ∗ owns (c : Thread nD τ) arg8 fullShare (outK x0 x1 x2 x3 x4) ∗ owns (c : Thread nD τ) arg9 fullShare (outV x0 x1 x3 x4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_att_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e5 := run_queries c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4
  have e6 := run_keys c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4
  have e7 := run_values c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4
  generalize run c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 = R at e5 e6 e7
  obtain ⟨L5, L6, L7, h⟩ := R
  dsimp only at e5 e6 e7
  subst e5 e6 e7
  replace h := h Set.univ K
  refine .trans ?_ h
  iintro ⟨H0, H1, H2, H3, H4, H5, H6, H7, S0, S1, S2, S3, S4, S5, S6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, ⟨%f5, H5⟩, ⟨%f6, H6⟩, ⟨%f7, H7⟩, S⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_eq_canon _ _ _ (canon_outByHead _).1).trans (canon_outByHead _).2
  isplitl [H6]
  · unfold owns; iexists _; isplitr; swap; · iexact H6
    ipureintro; exact (View.read_writes_eq_canon _ _ _ (canon_outByBlock _).1).trans (canon_outByBlock _).2
  isplitl [H7]
  · unfold owns; iexists _; isplitr; swap; · iexact H7
    ipureintro; exact (View.read_writes_eq_canon _ _ _ (canon_outByBlock _).1).trans (canon_outByBlock _).2
  iexact S

/-- The invariant between points: the scratch buffers at some contents, the generator register at some state. -/
theorem inv_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA
  rw [scopedRest0_eq]; simp only [owns_whole]; try rfl

variable (m : (ℓ : Loc nD τ sig) → Buf (Elt F) ℓ) (ρ : Dev nD → PrngReg)

/-- The proof data on a core: the arrays as the call finds them, what a point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (iblk m c 0 t) (iblk m c 1 t) (iblk m c 2 t) (iblk m c 3 t) (iblk m c 4 t)
    | ⟨6, _⟩ => outK (iblk m c 0 t) (iblk m c 1 t) (iblk m c 2 t) (iblk m c 3 t) (iblk m c 4 t)
    | ⟨7, _⟩ => outV (iblk m c 0 t) (iblk m c 1 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  rw [inv_eq]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = outQ (iblk m c 0 t) (iblk m c 1 t) (iblk m c 2 t) (iblk m c 3 t) (iblk m c 4 t) from rfl,
    show (dats m 0 c).after 6 t = outK (iblk m c 0 t) (iblk m c 1 t) (iblk m c 2 t) (iblk m c 3 t) (iblk m c 4 t) from rfl,
    show (dats m 0 c).after 7 t = outV (iblk m c 0 t) (iblk m c 1 t) (iblk m c 3 t) (iblk m c 4 t) from rfl]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  iintro ⟨⟨⟨S0, S1, S2, S3, S4, S5, S6⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (run_named c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S⟩
  isplitl [S Hg]
  · isplitl [S]; · iexact S
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every array at the contents its blocks make up, every other buffer as the call found it, every
    semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The arguments end as they began, the semaphores at zero. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c)))⟩

end Cert.KernelIdeal.AttBwd

end
-- ==== Proof.Spec.lean ====
/- Stick-breaking attention of one head and its gradient, over the reals: the quantities by key `s` and
   query `t`, and the same quantities with keys and queries cut into eight blocks of 256. Nothing here
   mentions a program. -/
module

public import Mathlib.Analysis.SpecialFunctions.Log.Basic
public import Mathlib.Analysis.SpecialFunctions.Exp
public import Mathlib.Algebra.BigOperators.Fin
public import Idealize.ShloMosaic.PureOps.Ideal
public import Mathlib.Tactic.FieldSimp
public import Mathlib.Tactic.Ring

@[expose] public section

noncomputable section

namespace StickBreaking

open Finset

/-- `log (1 + e^x)`, in the form that does not overflow. -/
def softplus (x : ℝ) : ℝ := max x 0 + Real.log (1 + Real.exp (-|x|))

theorem softplus_eq (x : ℝ) : softplus x = Real.log (1 + Real.exp x) := by
  unfold softplus
  rcases le_total 0 x with h | h
  · rw [max_eq_left h, abs_of_nonneg h]
    have e : 1 + Real.exp x = Real.exp x * (1 + Real.exp (-x)) := by
      rw [mul_add, ← Real.exp_add]; simp; ring
    rw [e, Real.log_mul (Real.exp_pos _).ne' (by positivity), Real.log_exp]
  · rw [max_eq_right h, abs_of_nonpos h]; simp

theorem sub_softplus (x : ℝ) : x - softplus x = -softplus (-x) := by
  rw [softplus_eq, softplus_eq]
  have e : 1 + Real.exp x = Real.exp x * (1 + Real.exp (-x)) := by
    rw [mul_add, ← Real.exp_add]; simp; ring
  rw [e, Real.log_mul (Real.exp_pos _).ne' (by positivity), Real.log_exp]; ring

/-- The two slopes of `softplus` at opposite points add up to one. -/
theorem exp_sub_softplus (x : ℝ) :
    Real.exp (-x - softplus (-x)) = 1 - Real.exp (x - softplus x) := by
  rw [softplus_eq, softplus_eq, Real.exp_sub, Real.exp_sub, Real.exp_log (by positivity),
    Real.exp_log (by positivity), Real.exp_neg]
  have := Real.exp_pos x
  field_simp
  ring

variable (Q K V G : Fin 2048 → Fin 64 → ℝ)

/-- The scaled product of key `s` and query `t`. -/
def score (s t : Fin 2048) : ℝ := (∑ d, Q t d * K s d) * (1 / 8)
/-- `log (1 - β)` of a key that the query may see. -/
def logKeep (s t : Fin 2048) : ℝ := if s < t then -softplus (score Q K s t) else 0
/-- What the keys later than `s` leave of the stick, as a logarithm. -/
def between (s t : Fin 2048) : ℝ := ∑ s' ∈ univ.filter (s < ·), logKeep Q K s' t
/-- The attention weight. -/
def weight (s t : Fin 2048) : ℝ :=
  if s < t then Real.exp (score Q K s t - softplus (score Q K s t) + between Q K s t) else 0
/-- The gradient of the weight. -/
def dWeight (s t : Fin 2048) : ℝ := ∑ d, G t d * V s d
/-- The gradient of the weight's logarithm. -/
def dLog (s t : Fin 2048) : ℝ := dWeight V G s t * weight Q K s t
/-- The gradients of the logarithms of the keys earlier than `s`. -/
def before (s t : Fin 2048) : ℝ := ∑ s' ∈ univ.filter (· < s), dLog Q K V G s' t
/-- The gradient of the score. -/
def dScore (s t : Fin 2048) : ℝ :=
  if s < t then dLog Q K V G s t
    - Real.exp (score Q K s t - softplus (score Q K s t)) * (dLog Q K V G s t + before Q K V G s t) else 0
def gradQ (t : Fin 2048) (d : Fin 64) : ℝ := (∑ s, dScore Q K V G s t * K s d) * (1 / 8)
def gradK (s : Fin 2048) (d : Fin 64) : ℝ := (∑ t, dScore Q K V G s t * Q t d) * (1 / 8)
def gradV (s : Fin 2048) (d : Fin 64) : ℝ := ∑ t, weight Q K s t * G t d

/-! ## Eight blocks of 256 -/

/-- Position `i` of block `b`. -/
def pos (b : Fin 8) (i : Fin 256) : Fin 2048 := ⟨b.val * 256 + i.val, by omega⟩

theorem pos_val (b : Fin 8) (i : Fin 256) : (pos b i).val = b.val * 256 + i.val := rfl

/-- Positions are pairs of a block and a place in it. -/
def posEquiv : Fin 8 × Fin 256 ≃ Fin 2048 where
  toFun p := pos p.1 p.2
  invFun s := (⟨s.val / 256, by omega⟩, ⟨s.val % 256, by omega⟩)
  left_inv p := by
    obtain ⟨b, i⟩ := p
    ext <;> simp only [pos] <;> omega
  right_inv s := by ext; simp only [pos]; omega

theorem sum_pos (f : Fin 2048 → ℝ) : ∑ s, f s = ∑ b, ∑ i, f (pos b i) := by
  rw [← posEquiv.sum_comp, Fintype.sum_prod_type]; rfl

theorem pos_lt_pos {a b : Fin 8} {i j : Fin 256} : pos a i < pos b j ↔ a < b ∨ a = b ∧ i < j := by
  rw [Fin.lt_def, pos_val, pos_val, Fin.lt_def, Fin.ext_iff, Fin.lt_def]; omega

/-- A sum over the later positions: the later blocks whole, and the rest of the own block. -/
theorem sum_later (f : Fin 2048 → ℝ) (b : Fin 8) (i : Fin 256) :
    ∑ s ∈ univ.filter (pos b i < ·), f s
      = (∑ b' ∈ univ.filter (b < ·), ∑ i', f (pos b' i')) + ∑ i' ∈ univ.filter (i < ·), f (pos b i') := by
  rw [sum_filter, sum_pos, sum_filter, sum_filter]
  have h : ∀ b', (∑ i', if pos b i < pos b' i' then f (pos b' i') else 0)
      = (if b < b' then ∑ i', f (pos b' i') else 0)
        + if b' = b then ∑ i', (if i < i' then f (pos b i') else 0) else 0 := by
    intro b'
    rcases lt_trichotomy b b' with h | h | h
    · simp [pos_lt_pos, h, h.ne']
    · subst h; simp [pos_lt_pos]
    · simp [pos_lt_pos, h.not_gt, h.ne, h.ne']
  rw [sum_congr rfl fun b' _ => h b', sum_add_distrib, sum_ite_eq' univ b]
  simp

/-- A sum over the earlier positions: the earlier blocks whole, and the start of the own block. -/
theorem sum_earlier (f : Fin 2048 → ℝ) (b : Fin 8) (i : Fin 256) :
    ∑ s ∈ univ.filter (· < pos b i), f s
      = (∑ b' ∈ univ.filter (· < b), ∑ i', f (pos b' i')) + ∑ i' ∈ univ.filter (· < i), f (pos b i') := by
  rw [sum_filter, sum_pos, sum_filter, sum_filter]
  have h : ∀ b', (∑ i', if pos b' i' < pos b i then f (pos b' i') else 0)
      = (if b' < b then ∑ i', f (pos b' i') else 0)
        + if b' = b then ∑ i', (if i' < i then f (pos b i') else 0) else 0 := by
    intro b'
    rcases lt_trichotomy b b' with h | h | h
    · simp [pos_lt_pos, h.not_gt, h.ne, h.ne']
    · subst h; simp [pos_lt_pos]
    · simp [pos_lt_pos, h, h.ne]
  rw [sum_congr rfl fun b' _ => h b', sum_add_distrib, sum_ite_eq' univ b]
  simp

end StickBreaking

end
-- ==== Proof.Reals.lean ====
/-
  Arrays of real entries among the arrays of extended reals, the heads of a packed array, and `softplus` and its slope
  as array code spells them.
-/
module

public import proofs.«01_k».proof.Proof.Spec
public import Idealize.ShloMosaic.Lib.IdealHost
public import Idealize.ShloMosaic.Lib.ValueIdx
public import Idealize.ShloMosaic.Lib.ValueLayout
public import Idealize.ShloMosaic.Lib.WordCmp

@[expose] public section

noncomputable section

namespace StickBreaking

open Idealize.ShloMosaic
open Idealize.ShloMosaic.ValueIdx
open Finset

/-- A matrix of reals, as a vector of extended reals. -/
def mat {a b : ℕ} {φ : FTy} (f : Fin a → Fin b → ℝ) : FVec Ideal ⟨2, ![a, b]⟩ φ := fun j => ((f (j 0) (j 1) : ℝ) : EReal)

theorem mat_apply {a b : ℕ} {φ : FTy} (f : Fin a → Fin b → ℝ) (i : Fin a) (j : Fin b) :
    (mat f : FVec Ideal ⟨2, ![a, b]⟩ φ) (ix2 i j) = ((f i j : ℝ) : EReal) := rfl

theorem ext_mat {a b : ℕ} {φ : FTy} (x : FVec Ideal ⟨2, ![a, b]⟩ φ) (f : Fin a → Fin b → ℝ)
    (h : ∀ i j, x (ix2 i j) = ((f i j : ℝ) : EReal)) : x = mat f := by
  funext j; rw [eq_ix2 j]; exact h _ _

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [sum_insert h, sum_insert h, EReal.coe_add, ih]

/-! ## Heads -/

/-- Head `h` of sequence `b` in the `s`-th of the packed arrays queries, keys and values. -/
def part (X : Fin 8192 → Fin 3072 → ℝ) (s : Fin 3) (b : Fin 4) (h : Fin 16) (t : Fin 2048) (d : Fin 64) : ℝ :=
  X ⟨b.val * 2048 + t.val, by omega⟩ ⟨s.val * 1024 + h.val * 64 + d.val, by omega⟩
/-- Head `h` of sequence `b` in an array of heads. -/
def headOf (Y : Fin 8192 → Fin 1024 → ℝ) (b : Fin 4) (h : Fin 16) (t : Fin 2048) (d : Fin 64) : ℝ :=
  Y ⟨b.val * 2048 + t.val, by omega⟩ ⟨h.val * 64 + d.val, by omega⟩

/-- An array of heads from the heads. -/
def packed (f : Fin 4 → Fin 16 → Fin 2048 → Fin 64 → ℝ) (r : Fin 8192) (c : Fin 1024) : ℝ :=
  f ⟨r.val / 2048, by omega⟩ ⟨c.val / 64, by omega⟩ ⟨r.val % 2048, by omega⟩ ⟨c.val % 64, by omega⟩

/-! ## Elements -/

theorem coe_max (x y : ℝ) : ((max x y : ℝ) : EReal) = max (x : EReal) (y : EReal) := EReal.coe_strictMono.monotone.map_max
theorem coe_abs (x : ℝ) : ((|x| : ℝ) : EReal) = max (x : EReal) (-(x : EReal)) := by
  rw [← EReal.coe_neg]; exact EReal.coe_strictMono.monotone.map_max

theorem eighth_f32 : Ideal.ofBits .f32 0x3E000000#32 = ((1 / 8 : ℝ) : EReal) := by
  simp [Ideal.ofBits, Ideal.ieee, -EReal.coe_mul]; norm_num

theorem inf_f32 : Ideal.ofBits .f32 0x7F800000#32 = ⊤ := by
  simp [Ideal.ofBits, Ideal.ieee]

variable {s : Shape}

/-- `log (e^x + e^0)` as array code spells it, the zeros in `z`. -/
def softplusA (x z : FVec Ideal s .f32) : FVec Ideal s .f32 :=
  select (cmpf .une (subf x z) (subf x z)) (addf x z) (addf (maximumf x z) (Host.log1p (Host.exp (Host.negf (Host.absf (subf x z))))))

theorem softplusA_apply (x z : FVec Ideal s .f32) (i : s.Idx) (r : ℝ) (hx : x i = (r : EReal)) (hz : z i = 0) :
    softplusA x z i = ((softplus r : ℝ) : EReal) := by
  show Scalar.select (FloatOps.cmpf (F := Ideal) (φ := .f32) .une (x i - z i) (x i - z i)) (x i + z i)
    (max (x i) (z i) + Ideal.log (1 + Ideal.exp (-(max (x i - z i) (-(x i - z i)))))) = _
  rw [hx, hz, sub_zero, add_zero, ← coe_abs, ← EReal.coe_zero, ← coe_max, ← EReal.coe_neg, Ideal.exp_coe, ← EReal.coe_one,
    ← EReal.coe_add, Ideal.log_coe, if_neg (not_le.mpr (by positivity)), ← EReal.coe_add]
  have e : FloatOps.cmpf (F := Ideal) (φ := .f32) .une (r : EReal) (r : EReal) = BitVec.ofBool false := by
    rw [Ideal.cmpf_def]
    simp [Ideal.cmp]
  rw [e, WordCmp.select_ofBool, if_neg (by simp)]
  rfl

/-- The slope of `softplusA`: `e^(x - softplus x)`, the zeros in `z`, `z'` and infinities in `u`, `u'`. -/
def slopeA (x y z z' u u' : FVec Ideal s .f32) : FVec Ideal s .f32 :=
  Host.exp (subf (select (cmpf .oeq x u) z x) (select (cmpf .oeq y u') z' y))

theorem slopeA_apply (x y z z' u u' : FVec Ideal s .f32) (i : s.Idx) (r q : ℝ) (hx : x i = (r : EReal)) (hy : y i = (q : EReal))
    (hu : u i = ⊤) (hu' : u' i = ⊤) : slopeA x y z z' u u' i = ((Real.exp (r - q) : ℝ) : EReal) := by
  show Ideal.exp (Scalar.select (FloatOps.cmpf (F := Ideal) (φ := .f32) .oeq (x i) (u i)) (z i) (x i)
    - Scalar.select (FloatOps.cmpf (F := Ideal) (φ := .f32) .oeq (y i) (u' i)) (z' i) (y i)) = _
  rw [hx, hy, hu, hu']
  have e (r : ℝ) : FloatOps.cmpf (F := Ideal) (φ := .f32) .oeq (r : EReal) ⊤ = BitVec.ofBool false := by
    rw [Ideal.cmpf_def]
    simp [Ideal.cmp]
  rw [e, e, WordCmp.select_ofBool, WordCmp.select_ofBool, if_neg (by simp), if_neg (by simp), ← EReal.coe_sub, Ideal.exp_coe]

/-! ## Sums along the last axis -/

theorem foldl_add_eq_sum {n : ℕ} (g : Fin n → EReal) : (List.finRange n).foldl (fun r k => r + g k) 0 = ∑ k, g k := by
  have e : ∀ (l : List (Fin n)) (a : EReal), l.foldl (fun r k => r + g k) a = a + (l.map g).sum := by
    intro l
    induction l with
    | nil => intro a; simp
    | cons k l ih => intro a; rw [List.foldl_cons, ih, List.map_cons, List.sum_cons, add_assoc]
  rw [e, zero_add, Fin.sum_univ_def]

/-- A float window sum whose start is zero, as a sum over the window. -/
theorem windowSum_apply {s t u : Shape} (window strides lo hi : Fin s.rank → Nat) (x : FVec Ideal s .f32) (init : u.Idx → Ideal .f32)
    (h : s.ReduceWindows window strides lo hi t) (hu : 0 < u.numel) (h0 : ∀ i, init i = (0 : EReal)) (j : t.Idx) :
    Host.reduceWindowAdd window strides lo hi x init h hu j = ∑ w : (⟨s.rank, window⟩ : Shape).Idx,
      (if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal)) := by
  unfold Host.reduceWindowAdd
  rw [Ideal.hostReduceWindowAdd_def]
  unfold Ideal.hostReduceWindowAdd Host.reduceWindow
  simp only [h0]
  refine (foldl_add_eq_sum _).trans ?_
  exact (Shape.rowMajor ⟨s.rank, window⟩).symm.sum_comp (fun w : (⟨s.rank, window⟩ : Shape).Idx =>
      (if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal)))

abbrev S4D (n : ℕ) : Shape := ⟨4, ![4, 16, 2048, n]⟩

/-- The indices of a row. -/
def rowIdx (n : ℕ) : Fin n ≃ (⟨4, ![1, 1, 1, n]⟩ : Shape).Idx where
  toFun k := ix4 (0 : Fin 1) (0 : Fin 1) (0 : Fin 1) k
  invFun i := i 3
  left_inv _ := rfl
  right_inv i := by
    refine Eq.trans ?_ (eq_ix4 (n0 := 1) (n1 := 1) (n2 := 1) (n3 := n) i).symm
    have h0 : i 0 = (0 : Fin 1) := Subsingleton.elim (α := Fin 1) _ _
    have h1 : i 1 = (0 : Fin 1) := Subsingleton.elim (α := Fin 1) _ _
    have h2 : i 2 = (0 : Fin 1) := Subsingleton.elim (α := Fin 1) _ _
    rw [h0, h1, h2]
    rfl

/-- A window sum along the last axis whose windows are as long as that axis: each result element sums the operand's row
    at the positions that lie inside it. -/
theorem windowSum (n : ℕ) [NeZero n] {u : Shape} (lo hi : ℕ) (x : FVec Ideal (S4D n) .f32) (init : u.Idx → Ideal .f32)
    (h : (S4D n).ReduceWindows ![1, 1, 1, n] ![1, 1, 1, 1] ![0, 0, 0, lo] ![0, 0, 0, hi] (S4D n)) (hu : 0 < u.numel)
    (h0 : ∀ i, init i = (0 : EReal)) (f : Fin n → ℝ) (b : Fin 4) (c : Fin 16) (t : Fin 2048) (s : Fin n)
    (hx : ∀ k, x (ix4 b c t k) = ((f k : ℝ) : EReal)) :
    Host.reduceWindowAdd (s := S4D n) ![1, 1, 1, n] ![1, 1, 1, 1] ![0, 0, 0, lo] ![0, 0, 0, hi] x init h hu (ix4 b c t s)
      = ((∑ k : Fin n, (if lo ≤ s.val + k.val ∧ s.val + k.val - lo < n then f (Fin.ofNat n (s.val + k.val - lo)) else 0) : ℝ) : EReal) := by
  refine (windowSum_apply (s := S4D n) (t := S4D n) _ _ _ _ x init h hu h0 _).trans ?_
  rw [coe_sum]
  refine ((rowIdx n).sum_comp _).symm.trans ?_
  refine sum_congr rfl fun k _ => ?_
  have e0 : (rowIdx n k 0).val = 0 := rfl
  have e1 : (rowIdx n k 1).val = 0 := rfl
  have e2 : (rowIdx n k 2).val = 0 := rfl
  have e3 : (rowIdx n k 3).val = k.val := rfl
  have s3 : (ix4 b c t s 3).val = s.val := rfl
  by_cases hk : lo ≤ s.val + k.val ∧ s.val + k.val - lo < n
  · rw [if_pos hk, dif_pos ?_]
    · rw [← hx]
      congr 1
      funext a
      match a with
      | ⟨0, _⟩ => exact Fin.ext (by simp [e0])
      | ⟨1, _⟩ => exact Fin.ext (by simp [e1])
      | ⟨2, _⟩ => exact Fin.ext (by simp [e2])
      | ⟨3, _⟩ => exact Fin.ext (by simp [e3, s3, Nat.mod_eq_of_lt hk.2])
    · intro a
      match a with
      | ⟨0, _⟩ => simp [e0]
      | ⟨1, _⟩ => simp [e1]
      | ⟨2, _⟩ => simp [e2]
      | ⟨3, _⟩ => simpa [e3, s3] using hk
  · rw [if_neg hk, dif_neg ?_]
    · rfl
    · intro H
      exact hk (by simpa [e3, s3] using H 3)

/-- The sum of the operand from an element on. -/
theorem sum_from (f : Fin 2048 → ℝ) (s : Fin 2048) :
    ∑ k : Fin 2048, (if 0 ≤ s.val + k.val ∧ s.val + k.val - 0 < 2048 then f (Fin.ofNat 2048 (s.val + k.val - 0)) else 0)
      = f s + ∑ s' ∈ univ.filter (s < ·), f s' := by
  rw [← sum_insert (by simp), ← sum_filter]
  refine sum_bij' (fun k _ => Fin.ofNat 2048 (s.val + k.val - 0)) (fun k _ => Fin.ofNat 2048 (k.val - s.val)) ?_ ?_ ?_ ?_ ?_
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; rfl

/-- The sum of the operand up to an element. -/
theorem sum_upto (f : Fin 2048 → ℝ) (s : Fin 2048) :
    ∑ k : Fin 2048, (if 2047 ≤ s.val + k.val ∧ s.val + k.val - 2047 < 2048 then f (Fin.ofNat 2048 (s.val + k.val - 2047)) else 0)
      = f s + ∑ s' ∈ univ.filter (· < s), f s' := by
  rw [← sum_insert (by simp), ← sum_filter]
  refine sum_bij' (fun k _ => Fin.ofNat 2048 (s.val + k.val - 2047)) (fun k _ => Fin.ofNat 2048 (k.val + 2047 - s.val)) ?_ ?_ ?_ ?_ ?_
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; simp only [mem_filter, mem_univ, true_and, mem_insert, Fin.ext_iff, Fin.lt_def, Fin.val_ofNat] at hk ⊢; omega
  · intro k hk; rfl

end StickBreaking

end
-- ==== Proof.Mats.lean ====
/-
  What the operations of the chains make of matrices of real entries.
-/
module

public import proofs.«01_k».proof.Proof.Chain
public import proofs.«01_k».proof.Proof.Reals
public import Idealize.ShloMosaic.Lib.MatmulPlain
public import Idealize.ShloMosaic.Lib.IdealHost
public import Idealize.ShloMosaic.Lib.ValueIdx
public import Idealize.ShloMosaic.Lib.ValueLayout
public import Idealize.ShloMosaic.Lib.WordCmp

@[expose] public section

noncomputable section

namespace Cert.KernelIdeal.AttBwd

open Idealize.ShloMosaic Idealize.ShloMosaic.TcCoe
open Idealize.ShloMosaic.ValueIdx Idealize.ShloMosaic.WordCmp
open Cert.KernelIdeal.Gen
open StickBreaking (pos mat mat_apply ext_mat coe_sum)
open Finset

variable {a b : ℕ} {φ : FTy} (f g : Fin a → Fin b → ℝ)

theorem mulf_mat : mulf (mat f : FVec Ideal ⟨2, ![a, b]⟩ φ) (mat g) = mat fun i j => f i j * g i j :=
  funext fun _ => (EReal.coe_mul _ _).symm
theorem addf_mat : addf (mat f : FVec Ideal ⟨2, ![a, b]⟩ φ) (mat g) = mat fun i j => f i j + g i j :=
  funext fun _ => (EReal.coe_add _ _).symm
theorem subf_mat : subf (mat f : FVec Ideal ⟨2, ![a, b]⟩ φ) (mat g) = mat fun i j => f i j - g i j :=
  funext fun _ => (EReal.coe_sub _ _).symm
theorem maximumf_mat : maximumf (mat f : FVec Ideal ⟨2, ![a, b]⟩ φ) (mat g) = mat fun i j => max (f i j) (g i j) :=
  funext fun j => (EReal.coe_strictMono.monotone.map_max (a := f (j 0) (j 1)) (b := g (j 0) (j 1))).symm
theorem exp_mat : exp (mat f : FVec Ideal ⟨2, ![a, b]⟩ φ) = mat fun i j => Real.exp (f i j) := rfl
theorem absf_mat : absf (mat f : FVec Ideal ⟨2, ![a, b]⟩ φ) = mat fun i j => |f i j| :=
  funext fun j => by
    show max (f (j 0) (j 1) : EReal) (-(f (j 0) (j 1) : EReal)) = _
    rw [← EReal.coe_neg]
    exact (EReal.coe_strictMono.monotone.map_max (a := f (j 0) (j 1)) (b := -f (j 0) (j 1))).symm
theorem log_mat (h : ∀ i j, 0 < f i j) : log (mat f : FVec Ideal ⟨2, ![a, b]⟩ φ) = mat fun i j => Real.log (f i j) :=
  funext fun j => by
    show Ideal.log ((f (j 0) (j 1) : ℝ) : EReal) = _
    exact (Ideal.log_coe _).trans (if_neg (not_le.mpr (h _ _)))
theorem truncf_mat (h) : (truncf .bf16 (mat f : FVec Ideal ⟨2, ![a, b]⟩ .f32) h) = mat f := rfl
theorem extf_mat (h) : (extf .f32 (mat f : FVec Ideal ⟨2, ![a, b]⟩ .bf16) h) = mat f := rfl

theorem zero_eq : (zero : Ideal .f32) = ((0 : ℝ) : EReal) := Ideal.ofBits_zero_f32
theorem one_eq : (one : Ideal .f32) = ((1 : ℝ) : EReal) := Ideal.ofBits_one_f32
theorem eighth_eq : (eighth : Ideal .f32) = ((1 / 8 : ℝ) : EReal) := by
  show Ideal.ofBits .f32 0x3E000000#32 = _
  simp [Ideal.ofBits, Ideal.ieee, -EReal.coe_mul]; norm_num
theorem eighth_bf16 : (Scalar.ofBits .bf16 0x3E00#16 : Ideal .bf16) = ((1 / 8 : ℝ) : EReal) := by
  show Ideal.ofBits .bf16 0x3E00#16 = _
  simp [Ideal.ofBits, Ideal.ieee, -EReal.coe_mul]; norm_num

theorem zero_mat : (broadcast ⟨2, ![a, b]⟩ zero : FVec Ideal ⟨2, ![a, b]⟩ .f32) = mat fun _ _ => 0 := funext fun _ => zero_eq
theorem one_mat : (broadcast ⟨2, ![a, b]⟩ one : FVec Ideal ⟨2, ![a, b]⟩ .f32) = mat fun _ _ => 1 := funext fun _ => one_eq
theorem eighth_mat : (broadcast ⟨2, ![a, b]⟩ eighth : FVec Ideal ⟨2, ![a, b]⟩ .f32) = mat fun _ _ => 1 / 8 := funext fun _ => eighth_eq
theorem constant_mat : (constant ⟨2, ![a, b]⟩ .f32 0x00000000#32 : FVec Ideal ⟨2, ![a, b]⟩ .f32) = mat fun _ _ => 0 :=
  funext fun _ => zero_eq

/-- A product of two matrices of reals. -/
theorem dot_mat {M K N : ℕ} {φ₁ φ₂ : FTy} (f : Fin M → Fin K → ℝ) (g : Fin K → Fin N → ℝ) :
    (matmul (DotDims.plain M K N) none (mat f : FVec Ideal _ φ₁) (mat g : FVec Ideal _ φ₂) (constant _ .f32 0x00000000#32))
      = mat fun i j => ∑ k, f i k * g k j := by
  refine ext_mat _ _ fun i j => ?_
  rw [constant_mat]
  refine (Ideal.matmul_plain_apply none _ _ _ i j).trans ?_
  rw [mat_apply, EReal.coe_zero, zero_add, coe_sum]
  exact sum_congr rfl fun k _ => (EReal.coe_mul _ _).symm

/-- A product with the right matrix transposed. -/
theorem dot_mat_transposed {M K N : ℕ} {φ₁ φ₂ : FTy} (f : Fin M → Fin K → ℝ) (g : Fin N → Fin K → ℝ) :
    (matmul (DotDims.transposedRhs M K N) none (mat f : FVec Ideal _ φ₁) (mat g : FVec Ideal _ φ₂) (constant _ .f32 0x00000000#32))
      = mat fun i j => ∑ k, f i k * g j k := by
  refine ext_mat _ _ fun i j => ?_
  rw [constant_mat]
  refine (Ideal.matmul_transposedRhs_apply none _ _ _ i j).trans ?_
  rw [mat_apply, EReal.coe_zero, zero_add, coe_sum]
  exact sum_congr rfl fun k _ => (EReal.coe_mul _ _).symm

theorem dotNT_mat (f g : Fin 256 → Fin 64 → ℝ) : dotNT (mat f) (mat g) = mat fun i j => ∑ k, f i k * g j k := dot_mat_transposed f g
theorem dotNN_mat (f : Fin 256 → Fin 256 → ℝ) (g : Fin 256 → Fin 64 → ℝ) : dotNN (mat f) (mat g) = mat fun i j => ∑ k, f i k * g k j := dot_mat f g

theorem softplusV_mat (f : Fin 256 → Fin 256 → ℝ) : softplusV (mat f) = mat fun i j => StickBreaking.softplus (f i j) := by
  unfold softplusV
  rw [zero_mat, one_mat, maximumf_mat, absf_mat, subf_mat, exp_mat, addf_mat, log_mat, addf_mat]
  · simp only [zero_sub]; rfl
  · intro i j; positivity

/-- The diagonal tile's mask. -/
theorem diag_apply (s t : Fin 256) : k0_pay487 (ix2 s t) = BitVec.ofBool (decide (s < t)) := by
  show IntOp.cmpi .slt (iota .tc S256x256 32 [0] _ (ix2 s t)) (iota .tc S256x256 32 [1] _ (ix2 s t)) = _
  rw [iota_single_apply, iota_single_apply]
  exact cmpi_slt_ofNat (by have := s.isLt; show s.val < _; omega) (by have := t.isLt; show t.val < _; omega)

theorem masked_mat (i c : Fin 8) (h : i ≤ c) (f : Fin 256 → Fin 256 → ℝ) :
    masked (i == c) (mat f : FVec Ideal S256x256 .f32) = mat fun s t => if pos i s < pos c t then f s t else 0 := by
  refine ext_mat _ _ fun s t => ?_
  rcases h.lt_or_eq with h | rfl
  · rw [show (i == c) = false by simpa using h.ne, if_pos (StickBreaking.pos_lt_pos.mpr (.inl h))]; rfl
  · rw [beq_self_eq_true]
    show Scalar.select (k0_pay487 (ix2 s t)) _ _ = _
    rw [diag_apply, select_ofBool]
    by_cases hst : s < t
    · rw [if_pos (by simpa using hst), if_pos (StickBreaking.pos_lt_pos.mpr (.inr ⟨rfl, hst⟩))]; rfl
    · rw [if_neg (by simpa using hst), if_neg (by simp [StickBreaking.pos_lt_pos, hst])]; exact zero_eq

/-- The matrix that sums the later keys of a block, and in its last eight rows all of them. -/
theorem usum_mat : (k0_pay485 : FVec Ideal S264x256 .bf16) = mat fun s s' => if 256 ≤ s.val ∨ s.val < s'.val then 1 else 0 := by
  refine ext_mat _ _ fun s t => ?_
  show Scalar.select (IntOp.ori (IntOp.cmpi .sge (iota .tc S264x256 32 [0] _ (ix2 s t)) 256#32)
    (IntOp.cmpi .sgt (iota .tc S264x256 32 [1] _ (ix2 s t)) (iota .tc S264x256 32 [0] _ (ix2 s t)))) (one : Ideal .f32) (zero : Ideal .f32) = _
  rw [iota_single_apply, iota_single_apply]
  have hs : s.val < 264 := s.isLt
  have ht : t.val < 256 := t.isLt
  rw [show IntOp.cmpi .sge (BitVec.ofNat 32 (ix2 s t 0).val) 256#32 = BitVec.ofBool (decide (256 ≤ s.val)) from
      cmpi_sge_ofNat (by show s.val < _; omega) (by omega),
    show IntOp.cmpi .sgt (BitVec.ofNat 32 (ix2 s t 1).val) (BitVec.ofNat 32 (ix2 s t 0).val) = BitVec.ofBool (decide (s.val < t.val)) from
      cmpi_sgt_ofNat (by show t.val < _; omega) (by show s.val < _; omega)]
  by_cases h1 : 256 ≤ s.val <;> by_cases h2 : s.val < t.val <;>
    simp only [h1, h2, decide_true, decide_false, or_true, true_or, or_self, if_true, if_false] <;>
    first | exact one_eq | exact zero_eq

/-- The matrix that sums the earlier keys of a block, and in its last eight rows all of them. -/
theorem lsum_mat : (k0_pay486 : FVec Ideal S264x256 .bf16) = mat fun s s' => if 256 ≤ s.val ∨ s'.val < s.val then 1 else 0 := by
  refine ext_mat _ _ fun s t => ?_
  show Scalar.select (IntOp.ori (IntOp.cmpi .sge (iota .tc S264x256 32 [0] _ (ix2 s t)) 256#32)
    (IntOp.cmpi .slt (iota .tc S264x256 32 [1] _ (ix2 s t)) (iota .tc S264x256 32 [0] _ (ix2 s t)))) (one : Ideal .f32) (zero : Ideal .f32) = _
  rw [iota_single_apply, iota_single_apply]
  have hs : s.val < 264 := s.isLt
  have ht : t.val < 256 := t.isLt
  rw [show IntOp.cmpi .sge (BitVec.ofNat 32 (ix2 s t 0).val) 256#32 = BitVec.ofBool (decide (256 ≤ s.val)) from
      cmpi_sge_ofNat (by show s.val < _; omega) (by omega),
    show IntOp.cmpi .slt (BitVec.ofNat 32 (ix2 s t 1).val) (BitVec.ofNat 32 (ix2 s t 0).val) = BitVec.ofBool (decide (t.val < s.val)) from
      cmpi_slt_ofNat (by show t.val < _; omega) (by show s.val < _; omega)]
  by_cases h1 : 256 ≤ s.val <;> by_cases h2 : t.val < s.val <;>
    simp only [h1, h2, decide_true, decide_false, or_true, true_or, or_self, if_true, if_false] <;>
    first | exact one_eq | exact zero_eq

/-- The sums of the later keys of a block: the rounded part and the remainder add up. -/
theorem later_mat (f : Fin 256 → Fin 256 → ℝ) :
    head256 (splitDot (mat f)) = mat fun s t => ∑ s' ∈ univ.filter (s < ·), f s' t := by
  have e : splitDot (mat f) = mat fun s t => ∑ s' : Fin 256, (if 256 ≤ s.val ∨ s.val < s'.val then 1 else 0) * f s' t := by
    unfold splitDot
    rw [truncf_mat, extf_mat, subf_mat, truncf_mat, usum_mat]
    refine (congr (congrArg _ (dot_mat (M := 264) (K := 256) (N := 256) _ _)) (dot_mat (M := 264) (K := 256) (N := 256) _ _)).trans ?_
    rw [addf_mat]; congr 1; funext s t
    simp
  rw [e]
  refine ext_mat _ _ fun s t => ?_
  refine (extractStridedSlice_apply _ _ _ (ix2 s t) (ix2 (⟨s.val, by omega⟩ : Fin 264) t) fun a => ?_).trans ?_
  · match a with
    | ⟨0, _⟩ => simp
    | ⟨1, _⟩ => simp
  · rw [mat_apply, sum_filter]
    congr 1
    refine sum_congr rfl fun s' _ => ?_
    have : ¬ 256 ≤ s.val := by omega
    simp [this]

/-- The sums of the earlier keys of a block, and the sums of all of them. -/
theorem sums_mat (f : Fin 256 → Fin 256 → ℝ) :
    (matmul dot_S264x256_S256x256_S264x256_1_0_0_1_n_n none (k0_pay486 : FVec Ideal S264x256 .bf16) (mat f : FVec Ideal S256x256 .bf16)
        (constant S264x256 .f32 0x00000000#32))
      = mat fun s t => ∑ s' : Fin 256, (if 256 ≤ s.val ∨ s'.val < s.val then 1 else 0) * f s' t := by
  rw [lsum_mat]; exact dot_mat _ _

theorem earlier_mat (f : Fin 256 → Fin 256 → ℝ) :
    head256 (mat fun s t => ∑ s' : Fin 256, (if 256 ≤ s.val ∨ s'.val < s.val then 1 else 0) * f s' t)
      = mat fun s t => ∑ s' ∈ univ.filter (· < s), f s' t := by
  refine ext_mat _ _ fun s t => ?_
  refine (extractStridedSlice_apply _ _ _ (ix2 s t) (ix2 (⟨s.val, by omega⟩ : Fin 264) t) fun a => ?_).trans ?_
  · match a with
    | ⟨0, _⟩ => simp
    | ⟨1, _⟩ => simp
  · rw [mat_apply, sum_filter]
    congr 1
    refine sum_congr rfl fun s' _ => ?_
    have : ¬ 256 ≤ s.val := by omega
    simp [this]

theorem totals_mat (f : Fin 256 → Fin 256 → ℝ) :
    extractStridedSlice S8x256 ![256, 0] (mat fun s t => ∑ s' : Fin 256, (if 256 ≤ s.val ∨ s'.val < s.val then 1 else 0) * f s' t
      : FVec Ideal S264x256 .f32) slices_S264x256_o256_0_S8x256 = mat fun _ t => ∑ s', f s' t := by
  refine ext_mat _ _ fun s t => ?_
  refine (extractStridedSlice_apply _ _ _ (ix2 s t) (ix2 (⟨256 + s.val, by omega⟩ : Fin 264) t) fun a => ?_).trans ?_
  · match a with
    | ⟨0, _⟩ => simp
    | ⟨1, _⟩ => simp
  · rw [mat_apply]
    simp

theorem first_row_mat (f : Fin 8 → Fin 256 → ℝ) :
    extractStridedSlice S1x256 ![0, 0] (mat f : FVec Ideal S8x256 .f32) slices_S8x256_o0_0_S1x256 = mat fun _ t => f 0 t := by
  refine ext_mat _ _ fun s t => ?_
  refine (extractStridedSlice_apply _ _ _ (ix2 s t) (ix2 (0 : Fin 8) t) fun a => ?_).trans rfl
  match a with
  | ⟨0, _⟩ => simp
  | ⟨1, _⟩ => simp

theorem spread_mat (f : Fin 1 → Fin 256 → ℝ) : spread (mat f : FVec Ideal S1x256 .f32) = mat fun _ t => f 0 t := by
  refine ext_mat _ _ fun s t => ?_
  exact (broadcastTo_1b_ab_apply _ _ _ _).trans rfl

theorem transpose_mat {a b : ℕ} (f : Fin a → Fin b → ℝ) (h) :
    transpose ⟨2, ![b, a]⟩ [1, 0] (mat f : FVec Ideal ⟨2, ![a, b]⟩ .f32) h = (mat fun i j => f j i) :=
  ext_mat _ _ fun i j => (transpose_ix2_apply _ _ _ _).trans rfl

theorem rows_mat (f : Fin 256 → Fin 64 → ℝ) : rows (fun j => ((f (j 1) (j 2) : ℝ) : EReal) : Vec Ideal S1x256x64 .bf16) = mat f :=
  ext_mat _ _ fun i j => (shapeCast_1ab_ab_apply (a := 256) (b := 64) _ _ i j).trans rfl

theorem carry_mat (f : Fin 256 → ℝ) :
    shapeCast S1x256 (fun j => ((f (j 4) : ℝ) : EReal) : FVec Ideal S1x1x1x1x256 .f32) shapeCasts_S1x1x1x1x256_S1x256 = (mat fun _ t => f t : FVec Ideal S1x256 .f32) := by
  refine ext_mat _ _ fun i j => ?_
  refine (shapeCast_apply _ _ _ (ix5 (0 : Fin 1) (0 : Fin 1) (0 : Fin 1) (0 : Fin 1) j) ?_).trans rfl
  rw [Shape.rowMajor_val_five, Shape.rowMajor_val_two]
  simp

theorem keys_mat (f : Fin 64 → Fin 256 → ℝ) :
    shapeCast S64x256 (fun j => ((f (j 2) (j 3) : ℝ) : EReal) : FVec Ideal S1x1x64x256 .bf16) shapeCasts_S1x1x64x256_S64x256 = (mat f : FVec Ideal S64x256 .bf16) := by
  refine ext_mat _ _ fun i j => ?_
  refine (shapeCast_apply _ _ _ (ix4 (0 : Fin 1) (0 : Fin 1) i j) ?_).trans rfl
  rw [Shape.rowMajor_val_four, Shape.rowMajor_val_two]
  simp

end Cert.KernelIdeal.AttBwd

end
-- ==== Proof.Value.lean ====
/-
  What the chains give for inputs that are reals: the gradients of stick-breaking attention.
-/
module

public import proofs.«01_k».proof.Proof.Mats

@[expose] public section

noncomputable section

namespace Cert.KernelIdeal.AttBwd

open Idealize.ShloMosaic Idealize.ShloMosaic.TcCoe
open Idealize.ShloMosaic.ValueIdx
open Cert.KernelIdeal.Gen
open StickBreaking
open Finset

variable (Q K V G : Fin 2 → Fin 2048 → Fin 64 → ℝ)

/-- A head's blocks of rows, as the chains read them. -/
def rowsIn (X : Fin 2 → Fin 2048 → Fin 64 → ℝ) (h : Fin 2) (i : Fin 8) : Vec Ideal S1x256x64 .bf16 :=
  fun j => ((X h (pos i (j 1)) (j 2) : ℝ) : EReal)
/-- The queries come scaled. -/
def queriesIn (h : Fin 2) (i : Fin 8) : Vec Ideal S1x256x64 .bf16 := fun j => ((Q h (pos i (j 1)) (j 2) * (1 / 8) : ℝ) : EReal)
/-- The keys come transposed as well. -/
def keysIn (h : Fin 2) (i : Fin 8) : Vec Ideal S1x1x64x256 .bf16 := fun j => ((K h (pos i (j 3)) (j 2) : ℝ) : EReal)
/-- The carries: the logarithms of the later blocks of keys. -/
def carriesIn (h : Fin 2) (i c : Fin 8) : Vec Ideal S1x1x1x1x256 .f32 :=
  fun j => ((∑ b ∈ univ.filter (i < ·), ∑ i', logKeep (Q h) (K h) (pos b i') (pos c (j 4)) : ℝ) : EReal)

theorem rowsIn_mat (X : Fin 2 → Fin 2048 → Fin 64 → ℝ) (h : Fin 2) (i : Fin 8) : rows (rowsIn X h i) = mat fun s d => X h (pos i s) d :=
  rows_mat fun s d => X h (pos i s) d

theorem scoreT_eq (h : Fin 2) (i c : Fin 8) :
    scoreT (queriesIn Q) (rowsIn K) h i c = mat fun s t => score (Q h) (K h) (pos i s) (pos c t) := by
  unfold scoreT
  rw [rowsIn_mat, show rows (queriesIn Q h c) = mat (fun s d => Q h (pos c s) d * (1 / 8)) from rows_mat fun s d => Q h (pos c s) d * (1 / 8), dotNT_mat]
  congr 1; funext s t
  rw [score, sum_mul]
  exact sum_congr rfl fun d _ => by ring

theorem dweightT_eq (h : Fin 2) (i c : Fin 8) :
    dweightT (rowsIn V) (rowsIn G) h i c = mat fun s t => dWeight (V h) (G h) (pos i s) (pos c t) := by
  unfold dweightT
  rw [rowsIn_mat, rowsIn_mat, dotNT_mat]
  congr 1; funext s t
  exact sum_congr rfl fun d _ => mul_comm _ _

theorem spT_eq (h : Fin 2) (i c : Fin 8) :
    spT (queriesIn Q) (rowsIn K) h i c = mat fun s t => softplus (score (Q h) (K h) (pos i s) (pos c t)) := by
  unfold spT; rw [scoreT_eq, softplusV_mat]

theorem weightT_eq (h : Fin 2) {i c : Fin 8} (ic : i ≤ c) :
    weightT (queriesIn Q) (rowsIn K) (carriesIn Q K) h i c = mat fun s t => weight (Q h) (K h) (pos i s) (pos c t) := by
  unfold weightT
  rw [scoreT_eq, spT_eq, zero_mat, subf_mat, subf_mat, masked_mat i c ic, later_mat,
    show shapeCast S1x256 (carriesIn Q K h i c) shapeCasts_S1x1x1x1x256_S1x256 = mat (fun _ t =>
      ∑ b ∈ univ.filter (i < ·), ∑ i', logKeep (Q h) (K h) (pos b i') (pos c t)) from
      carry_mat fun t => ∑ b ∈ univ.filter (i < ·), ∑ i', logKeep (Q h) (K h) (pos b i') (pos c t),
    spread_mat, addf_mat, addf_mat, exp_mat, masked_mat i c ic]
  congr 1; funext s t
  rw [weight, between, sum_later, ← add_assoc]
  simp only [logKeep, zero_sub]

theorem dlogT_eq (h : Fin 2) {i c : Fin 8} (ic : i ≤ c) :
    dlogT (queriesIn Q) (rowsIn K) (rowsIn V) (rowsIn G) (carriesIn Q K) h i c
      = mat fun s t => dLog (Q h) (K h) (V h) (G h) (pos i s) (pos c t) := by
  unfold dlogT; rw [dweightT_eq, weightT_eq Q K h ic, mulf_mat]; rfl

theorem sumsT_eq (h : Fin 2) {i c : Fin 8} (ic : i ≤ c) :
    sumsT (queriesIn Q) (rowsIn K) (rowsIn V) (rowsIn G) (carriesIn Q K) h i c
      = mat fun s t => ∑ s' : Fin 256, (if 256 ≤ s.val ∨ s'.val < s.val then 1 else 0) * dLog (Q h) (K h) (V h) (G h) (pos i s') (pos c t) := by
  unfold sumsT; rw [dlogT_eq Q K V G h ic, truncf_mat, sums_mat]

/-- Adding a block to the blocks before it. -/
theorem sum_blocks_succ (f : Fin 8 → ℝ) {n : ℕ} (hn : n < 8) :
    ∑ b ∈ univ.filter (fun b : Fin 8 => b.val < n + 1), f b = (∑ b ∈ univ.filter (fun b : Fin 8 => b.val < n), f b) + f (Fin.ofNat 8 n) := by
  have e : univ.filter (fun b : Fin 8 => b.val < n + 1) = insert (Fin.ofNat 8 n) (univ.filter fun b : Fin 8 => b.val < n) := by
    ext b; simp only [mem_filter, mem_univ, true_and, mem_insert, Fin.ext_iff, Fin.val_ofNat]; omega
  rw [e, sum_insert, add_comm]
  simp only [mem_filter, mem_univ, true_and, Fin.val_ofNat]
  omega

theorem ofNat_le {n : ℕ} {c : Fin 8} (hn : n ≤ c.val) : Fin.ofNat 8 n ≤ c := by
  rw [Fin.le_def, Fin.val_ofNat]; omega

theorem carriedT_eq (h : Fin 2) (c : Fin 8) : ∀ n : ℕ, n ≤ c.val →
    carriedT (queriesIn Q) (rowsIn K) (rowsIn V) (rowsIn G) (carriesIn Q K) h c n
      = mat fun _ t => ∑ b ∈ univ.filter (fun b : Fin 8 => b.val < n), ∑ i', dLog (Q h) (K h) (V h) (G h) (pos b i') (pos c t) := by
  intro n
  induction n with
  | zero => intro _; rw [carriedT, zero_mat]; congr 1
  | succ n ih =>
    intro hn
    rw [carriedT, ih (by omega), sumsT_eq Q K V G h (ofNat_le (by omega)), totals_mat, addf_mat]
    congr 1; funext _ t
    exact (sum_blocks_succ (fun b => ∑ i', dLog (Q h) (K h) (V h) (G h) (pos b i') (pos c t)) (by omega)).symm

theorem dscoreT_eq (h : Fin 2) {i c : Fin 8} (ic : i ≤ c) :
    dscoreT (queriesIn Q) (rowsIn K) (rowsIn V) (rowsIn G) (carriesIn Q K) h i c
      = mat fun s t => dScore (Q h) (K h) (V h) (G h) (pos i s) (pos c t) := by
  unfold dscoreT
  rw [dlogT_eq Q K V G h ic, sumsT_eq Q K V G h ic, carriedT_eq Q K V G h c i.val ic, scoreT_eq, spT_eq, earlier_mat,
    first_row_mat, spread_mat, subf_mat, exp_mat, addf_mat, addf_mat, mulf_mat, subf_mat, masked_mat i c ic, truncf_mat]
  congr 1; funext s t
  rw [dScore, before, sum_earlier, ← add_assoc]
  rfl

theorem weight_late (h : Fin 2) {i c : Fin 8} (ic : c < i) (s t : Fin 256) : weight (Q h) (K h) (pos i s) (pos c t) = 0 := by
  rw [weight, if_neg]; rw [pos_lt_pos]; rintro (h | ⟨rfl, _⟩)
  · exact absurd ic h.not_gt
  · exact lt_irrefl _ ic

theorem dScore_late (h : Fin 2) {i c : Fin 8} (ic : c < i) (s t : Fin 256) : dScore (Q h) (K h) (V h) (G h) (pos i s) (pos c t) = 0 := by
  rw [dScore, if_neg]; rw [pos_lt_pos]; rintro (h | ⟨rfl, _⟩)
  · exact absurd ic h.not_gt
  · exact lt_irrefl _ ic

/-- A sum of products over the query blocks from the own one on. -/
theorem sumFrom_mat (F : Fin 8 → FVec Ideal S256x64 .f32) (f : Fin 8 → Fin 256 → Fin 64 → ℝ) (i : Fin 8)
    (hF : ∀ c, i ≤ c → F c = mat (f c)) (h0 : ∀ c, c < i → ∀ s d, f c s d = 0) :
    sumFrom F i.val (8 - i.val) = mat fun s d => ∑ c, f c s d := by
  have e : ∀ n, i.val + n ≤ 8 → sumFrom F i.val n = mat fun s d => ∑ c ∈ univ.filter (fun c : Fin 8 => c.val < i.val + n), f c s d := by
    intro n
    induction n with
    | zero =>
      intro _; rw [sumFrom, zero_mat]; congr 1; funext s d
      exact (sum_eq_zero fun c hc => h0 c (by rw [Fin.lt_def]; exact (mem_filter.mp hc).2) s d).symm
    | succ n ih =>
      intro hn
      rw [sumFrom, ih (by omega), hF _ (by rw [Fin.le_def, Fin.val_ofNat]; omega), addf_mat]
      congr 1; funext s d
      exact (sum_blocks_succ (fun c => f c s d) (n := i.val + n) (by omega)).symm
  rw [e _ (by omega)]
  congr 1; funext s d
  rw [filter_true_of_mem fun c _ => by have := c.isLt; omega]

theorem gradV_eq (h : Fin 2) (i : Fin 8) :
    AttBwd.gradV (queriesIn Q) (rowsIn K) (rowsIn G) (carriesIn Q K) h i
      = mat fun s d => StickBreaking.gradV (Q h) (K h) (G h) (pos i s) d := by
  unfold AttBwd.gradV
  rw [sumFrom_mat _ (fun c s d => ∑ t, weight (Q h) (K h) (pos i s) (pos c t) * G h (pos c t) d) i, truncf_mat]
  · congr 1; funext s d; rw [StickBreaking.gradV, sum_pos]
  · intro c ic
    show dotNN (truncf .bf16 (weightT _ _ _ h i c) _) (rows (rowsIn G h c)) = _
    rw [weightT_eq Q K h ic, truncf_mat, rowsIn_mat, dotNN_mat]
  · intro c ic s d
    exact sum_eq_zero fun t _ => by rw [weight_late Q K h ic, zero_mul]

theorem gradK_eq (h : Fin 2) (i : Fin 8) :
    AttBwd.gradK (queriesIn Q) (rowsIn K) (rowsIn V) (rowsIn G) (carriesIn Q K) h i
      = mat fun s d => StickBreaking.gradK (Q h) (K h) (V h) (G h) (pos i s) d := by
  unfold AttBwd.gradK
  rw [sumFrom_mat _ (fun c s d => ∑ t, dScore (Q h) (K h) (V h) (G h) (pos i s) (pos c t) * (Q h (pos c t) d * (1 / 8))) i, truncf_mat]
  · congr 1; funext s d; rw [StickBreaking.gradK, sum_pos, sum_mul]
    refine sum_congr rfl fun c _ => ?_
    rw [sum_mul]
    exact sum_congr rfl fun t _ => by rw [mul_assoc]
  · intro c ic
    show dotNN (dscoreT _ _ _ _ _ h i c) (rows (queriesIn Q h c)) = _
    rw [dscoreT_eq Q K V G h ic, show rows (queriesIn Q h c) = mat (fun s d => Q h (pos c s) d * (1 / 8)) from rows_mat fun s d => Q h (pos c s) d * (1 / 8), dotNN_mat]
  · intro c ic s d
    exact sum_eq_zero fun t _ => by rw [dScore_late Q K V G h ic, zero_mul]

theorem gradQT_eq (h : Fin 2) (c : Fin 8) : ∀ n : ℕ, n ≤ c.val + 1 →
    gradQT (queriesIn Q) (rowsIn K) (rowsIn V) (rowsIn G) (keysIn K) (carriesIn Q K) h c n
      = mat fun d t => ∑ b ∈ univ.filter (fun b : Fin 8 => b.val < n),
          ∑ i, K h (pos b i) d * dScore (Q h) (K h) (V h) (G h) (pos b i) (pos c t) := by
  intro n
  induction n with
  | zero => intro _; rw [gradQT, zero_mat]; congr 1
  | succ n ih =>
    intro hn
    rw [gradQT, ih (by omega), dscoreT_eq Q K V G h (ofNat_le (by omega)),
      show shapeCast S64x256 (keysIn K h (Fin.ofNat 8 n)) shapeCasts_S1x1x64x256_S64x256
        = (mat fun d i => K h (pos (Fin.ofNat 8 n) i) d : FVec Ideal S64x256 .bf16) from keys_mat fun d i => K h (pos (Fin.ofNat 8 n) i) d]
    refine (congrArg _ (dot_mat _ _)).trans ?_
    rw [addf_mat]
    congr 1; funext d t
    exact (sum_blocks_succ (fun b => ∑ i, K h (pos b i) d * dScore (Q h) (K h) (V h) (G h) (pos b i) (pos c t)) (by omega)).symm

theorem gradQ_eq (h : Fin 2) (c : Fin 8) :
    AttBwd.gradQ (queriesIn Q) (rowsIn K) (rowsIn V) (rowsIn G) (keysIn K) (carriesIn Q K) h c
      = mat fun t d => StickBreaking.gradQ (Q h) (K h) (V h) (G h) (pos c t) d := by
  unfold AttBwd.gradQ
  rw [gradQT_eq Q K V G h c _ le_rfl, eighth_mat, transpose_mat, mulf_mat, truncf_mat]
  congr 1; funext t d
  rw [StickBreaking.gradQ, sum_pos]
  congr 1
  rw [sum_filter]
  refine sum_congr rfl fun b _ => ?_
  split_ifs with hb
  · exact sum_congr rfl fun i _ => mul_comm _ _
  · exact (sum_eq_zero fun i _ => by rw [dScore_late Q K V G h (by rw [Fin.lt_def]; omega), zero_mul]).symm

end Cert.KernelIdeal.AttBwd

end
-- ==== Proof.Ref.lean ====
/-
  The reference's results on real arguments: the gradients of stick-breaking attention, head by head.
-/
module

public import proofs.«01_k».proof.Proof.Gen.ReferenceIdeal.Read
public import proofs.«01_k».proof.Proof.Reals

@[expose] public section

noncomputable section

namespace Cert.ReferenceIdeal.AttBwd

open Cert.ReferenceIdeal Cert.ReferenceIdeal.Gen Cert.ReferenceIdeal.Read
open Idealize.ShloMosaic Idealize.ShloMosaic.TcCoe
open Idealize.ShloMosaic.ValueIdx Idealize.ShloMosaic.WordCmp
open StickBreaking Finset

variable (X : Fin 8192 → Fin 3072 → ℝ) (Y : Fin 8192 → Fin 1024 → ℝ)

/-- The packed queries, keys and values. -/
abbrev qkv : FVec Ideal S8192x3072 .bf16 := mat X
/-- The gradient of the output. -/
abbrev dy : FVec Ideal S8192x1024 .bf16 := mat Y

variable (b : Fin 4) (h : Fin 16)

/-! ## Heads -/

theorem head_index (t : Fin 2048) (d : Fin 64) :
    (((b.val * 2048 + t.val) * 16 + h.val) * 64 + d.val) / 1024 = b.val * 2048 + t.val
      ∧ (((b.val * 2048 + t.val) * 16 + h.val) * 64 + d.val) % 1024 = h.val * 64 + d.val := by omega

theorem v5_eq (t : Fin 2048) (d : Fin 64) : val_main_v5 (F := Ideal) (qkv X) (ix4 b h t d) = ((part X 0 b h t d : ℝ) : EReal) := by
  rw [val_main_v5_apply, val_main_v4_apply, val_main_v3_apply, val_main_v0_apply]
  obtain ⟨e0, e1⟩ := head_index b h t d
  refine congrArg (fun r : ℝ => (r : EReal)) ?_
  exact congrArg₂ X (Fin.ext e0) (Fin.ext (e1.trans (by simp [part])))

theorem v8_eq (t : Fin 2048) (d : Fin 64) : val_main_v8 (F := Ideal) (qkv X) (ix4 b h t d) = ((part X 1 b h t d : ℝ) : EReal) := by
  rw [val_main_v8_apply, val_main_v7_apply, val_main_v6_apply, val_main_v1_apply]
  obtain ⟨e0, e1⟩ := head_index b h t d
  refine congrArg (fun r : ℝ => (r : EReal)) ?_
  exact congrArg₂ X (Fin.ext e0) (Fin.ext ((congrArg (1024 + ·) e1).trans (by simp; omega)))

theorem v11_eq (t : Fin 2048) (d : Fin 64) : val_main_v11 (F := Ideal) (qkv X) (ix4 b h t d) = ((part X 2 b h t d : ℝ) : EReal) := by
  rw [val_main_v11_apply, val_main_v10_apply, val_main_v9_apply, val_main_v2_apply]
  obtain ⟨e0, e1⟩ := head_index b h t d
  refine congrArg (fun r : ℝ => (r : EReal)) ?_
  exact congrArg₂ X (Fin.ext e0) (Fin.ext ((congrArg (2048 + ·) e1).trans (by simp; omega)))

theorem v36_eq (t : Fin 2048) (d : Fin 64) : val_main_v36 (F := Ideal) (dy Y) (ix4 b h t d) = ((headOf Y b h t d : ℝ) : EReal) := by
  rw [val_main_v36_apply, val_main_v35_apply, val_main_v34_apply]
  obtain ⟨e0, e1⟩ := head_index b h t d
  refine congrArg (fun r : ℝ => (r : EReal)) ?_
  exact congrArg₂ Y (Fin.ext e0) (Fin.ext e1)

/-! ## Constants and the mask -/

theorem eighth13 (i) : val_main_v13 (F := Ideal) i = ((1 / 8 : ℝ) : EReal) := by
  rw [val_main_v13_apply]; exact eighth_f32
theorem eighth50 (i) : val_main_v50 (F := Ideal) i = ((1 / 8 : ℝ) : EReal) := by
  rw [val_main_v50_apply]; exact eighth_f32

theorem zero5 (i) : val_main_call5_v0 (F := Ideal) i = (0 : EReal) := by
  rw [val_main_call5_v0_apply]; exact Ideal.ofBits_zero_f32
theorem zero8 (i) : val_main_call8_v0 (F := Ideal) i = (0 : EReal) := by
  rw [val_main_call8_v0_apply]; exact Ideal.ofBits_zero_f32

theorem mask21 (s t : Fin 2048) : val_main_v21 (F := Ideal) (ix2 t s) = BitVec.ofBool (decide (s < t)) := by
  rw [val_main_v21_apply, val_main_v19_apply, val_main_v18_apply, val_main_v17_apply, val_main_v20_apply, val_main_v16_apply,
    val_main_v15_apply]
  exact cmpi_slt_ofNat (by have := s.isLt; show s.val < _; omega) (by have := t.isLt; show t.val < _; omega)
theorem mask24 (s t : Fin 2048) : val_main_v24_1 (F := Ideal) (ix4 b h t s) = BitVec.ofBool (decide (s < t)) := by
  rw [val_main_v24_1_apply]; exact mask21 s t
theorem mask30 (s t : Fin 2048) : val_main_v30_1 (F := Ideal) (ix4 b h t s) = BitVec.ofBool (decide (s < t)) := by
  rw [val_main_v30_1_apply]; exact mask21 s t

/-- A masked element. -/
theorem select_mask (s t : Fin 2048) (x z : EReal) (r : ℝ) (hx : x = (r : EReal)) (hz : z = 0) :
    Scalar.select (BitVec.ofBool (decide (s < t))) x z = ((if s < t then r else 0 : ℝ) : EReal) := by
  rw [select_ofBool, hx, hz]
  by_cases hst : s < t <;> simp [hst]

/-! ## The forward pass -/

/-- The heads of the arguments. -/
abbrev Qh := part X 0 b h
abbrev Kh := part X 1 b h
abbrev Vh := part X 2 b h
abbrev Gh := headOf Y b h

theorem v14_eq (s t : Fin 2048) : val_main_v14 (F := Ideal) (qkv X) (ix4 b h t s) = ((score (Qh X b h) (Kh X b h) s t : ℝ) : EReal) := by
  rw [val_main_v14_apply, val_main_v12_apply, eighth13]
  show (∑ k : Fin 64, _ * _) * _ = _
  rw [score, EReal.coe_mul, coe_sum]
  congr 1
  refine sum_congr rfl fun d _ => ?_
  rw [EReal.coe_mul, ← v5_eq, ← v8_eq]
  exact congrArg₂ _ (congrArg _ (eq_ix4 _)) (congrArg _ (eq_ix4 _))

theorem c0v0_eq (s t : Fin 2048) : val_main_call0_v0 (F := Ideal) (qkv X) (ix4 b h t s) = ((score (Qh X b h) (Kh X b h) s t : ℝ) : EReal) := by
  rw [val_main_call0_v0_apply, val_main_v22_apply, v14_eq]
  show -(-(_ : EReal)) = _
  rw [neg_neg]

theorem c0v1_eq (s t : Fin 2048) : val_main_call0_v1_0 (F := Ideal) (qkv X) (ix4 b h t s)
    = ((softplus (score (Qh X b h) (Kh X b h) s t) : ℝ) : EReal) := by
  have e : val_main_call0_v1_0 (F := Ideal) (qkv X) = softplusA (val_main_call0_v0 (F := Ideal) (qkv X)) (val_main_call0_call0_v0 (F := Ideal)) := rfl
  rw [e]
  exact softplusA_apply _ _ _ _ (c0v0_eq X b h s t) Ideal.ofBits_zero_f32

theorem v23_1_eq (s t : Fin 2048) : val_main_v23_1 (F := Ideal) (qkv X) (ix4 b h t s)
    = ((Real.exp (score (Qh X b h) (Kh X b h) s t - softplus (score (Qh X b h) (Kh X b h) s t)) : ℝ) : EReal) :=
  slopeA_apply (val_main_call0_v0 (F := Ideal) (qkv X)) (val_main_call0_v1_0 (F := Ideal) (qkv X)) (val_main_call0_call0_v15 (F := Ideal))
    (val_main_call0_call0_v19 (F := Ideal)) (val_main_call0_call0_v13 (F := Ideal)) (val_main_call0_call0_v17 (F := Ideal)) _ _ _
    (c0v0_eq X b h s t) (c0v1_eq X b h s t) inf_f32 inf_f32

theorem v24_eq (s t : Fin 2048) : val_main_v24_0 (F := Ideal) (qkv X) (ix4 b h t s) = ((logKeep (Qh X b h) (Kh X b h) s t : ℝ) : EReal) := by
  show Scalar.select (val_main_v24_1 (F := Ideal) (ix4 b h t s)) (-(val_main_call0_v1_0 (F := Ideal) (qkv X) (ix4 b h t s)) : EReal) (val_main_call1_v2 (F := Ideal) (ix4 b h t s)) = _
  rw [mask24, c0v1_eq, ← EReal.coe_neg]
  exact select_mask s t _ _ _ rfl Ideal.ofBits_zero_f32

theorem v26_eq (s t : Fin 2048) : val_main_v26 (F := Ideal) (qkv X) (ix4 b h t s) = ((between (Qh X b h) (Kh X b h) s t : ℝ) : EReal) := by
  have e : val_main_v25 (F := Ideal) (qkv X) (ix4 b h t s)
      = ((logKeep (Qh X b h) (Kh X b h) s t + between (Qh X b h) (Kh X b h) s t : ℝ) : EReal) := by
    unfold val_main_v25
    refine (windowSum 2048 0 2047 (val_main_v24_0 (F := Ideal) (qkv X)) _ _ _ (fun _ => Ideal.ofBits_zero_f32)
      (fun k => logKeep (Qh X b h) (Kh X b h) k t) b h t s fun k => v24_eq X b h k t).trans ?_
    exact congrArg (fun r : ℝ => (r : EReal)) (sum_from (fun k => logKeep (Qh X b h) (Kh X b h) k t) s)
  rw [val_main_v26_apply, e, v24_eq]
  exact (EReal.coe_sub _ _).symm.trans (congrArg (fun r : ℝ => (r : EReal)) (by ring))

theorem c3v0_eq (s t : Fin 2048) : val_main_call3_v0 (F := Ideal) (qkv X) (ix4 b h t s) = ((-score (Qh X b h) (Kh X b h) s t : ℝ) : EReal) := by
  rw [val_main_call3_v0_apply, v14_eq, EReal.coe_neg]; rfl

theorem c3v1_eq (s t : Fin 2048) : val_main_call3_v1_0 (F := Ideal) (qkv X) (ix4 b h t s)
    = ((softplus (-score (Qh X b h) (Kh X b h) s t) : ℝ) : EReal) := by
  have e : val_main_call3_v1_0 (F := Ideal) (qkv X) = softplusA (val_main_call3_v0 (F := Ideal) (qkv X)) (val_main_call3_call0_v0 (F := Ideal)) := rfl
  rw [e]
  exact softplusA_apply _ _ _ _ (c3v0_eq X b h s t) Ideal.ofBits_zero_f32

theorem v27_1_eq (s t : Fin 2048) : val_main_v27_1 (F := Ideal) (qkv X) (ix4 b h t s)
    = ((1 - Real.exp (score (Qh X b h) (Kh X b h) s t - softplus (score (Qh X b h) (Kh X b h) s t)) : ℝ) : EReal) := by
  rw [← exp_sub_softplus]
  exact slopeA_apply (val_main_call3_v0 (F := Ideal) (qkv X)) (val_main_call3_v1_0 (F := Ideal) (qkv X)) (val_main_call3_call0_v15 (F := Ideal))
    (val_main_call3_call0_v19 (F := Ideal)) (val_main_call3_call0_v13 (F := Ideal)) (val_main_call3_call0_v17 (F := Ideal)) _ _ _
    (c3v0_eq X b h s t) (c3v1_eq X b h s t) inf_f32 inf_f32

/-- The attention weight before the mask. -/
abbrev unmasked (s t : Fin 2048) : ℝ :=
  Real.exp (score (Qh X b h) (Kh X b h) s t - softplus (score (Qh X b h) (Kh X b h) s t) + between (Qh X b h) (Kh X b h) s t)

theorem v29_eq (s t : Fin 2048) : val_main_v29 (F := Ideal) (qkv X) (ix4 b h t s) = ((unmasked X b h s t : ℝ) : EReal) := by
  show Ideal.exp (-(val_main_call3_v1_0 (F := Ideal) (qkv X) (ix4 b h t s)) + val_main_v26 (F := Ideal) (qkv X) (ix4 b h t s)) = _
  rw [c3v1_eq, v26_eq, ← EReal.coe_neg, ← EReal.coe_add, Ideal.exp_coe, ← sub_softplus]

theorem v30_eq (s t : Fin 2048) : val_main_v30_0 (F := Ideal) (qkv X) (ix4 b h t s) = ((weight (Qh X b h) (Kh X b h) s t : ℝ) : EReal) := by
  show Scalar.select (val_main_v30_1 (F := Ideal) (ix4 b h t s)) (val_main_v29 (F := Ideal) (qkv X) (ix4 b h t s)) (val_main_call4_v2 (F := Ideal) (ix4 b h t s)) = _
  rw [mask30]
  exact select_mask s t _ _ _ (v29_eq X b h s t) Ideal.ofBits_zero_f32

/-! ## The backward pass -/

theorem v39_eq (s t : Fin 2048) : val_main_v39 (F := Ideal) (qkv X) (dy Y) (ix4 b h t s) = ((dWeight (Vh X b h) (Gh Y b h) s t : ℝ) : EReal) := by
  rw [val_main_v39_apply, dWeight, coe_sum]
  refine sum_congr rfl fun d _ => ?_
  rw [EReal.coe_mul, ← v36_eq, ← v11_eq]
  exact congrArg₂ _ (congrArg _ (eq_ix4 _)) (congrArg _ (eq_ix4 _))

/-- The gradient of the weight's logarithm, in the head. -/
abbrev dLogH (s t : Fin 2048) : ℝ := dLog (Qh X b h) (Kh X b h) (Vh X b h) (Gh Y b h) s t

theorem v41_eq (s t : Fin 2048) : val_main_v41 (F := Ideal) (qkv X) (dy Y) (ix4 b h t s) = ((dLogH X Y b h s t : ℝ) : EReal) := by
  show (Scalar.select (val_main_v30_1 (F := Ideal) (ix4 b h t s)) (val_main_v39 (F := Ideal) (qkv X) (dy Y) (ix4 b h t s)) (val_main_call5_v0 (F := Ideal) (ix4 b h t s))
    * val_main_v29 (F := Ideal) (qkv X) (ix4 b h t s) : EReal) = _
  rw [mask30, select_mask s t _ _ _ (v39_eq X Y b h s t) (zero5 _), v29_eq, ← EReal.coe_mul]
  congr 1
  unfold dLogH dLog weight
  by_cases hst : s < t <;> simp [hst]

theorem v42_eq (s t : Fin 2048) : val_main_v42 (F := Ideal) (qkv X) (dy Y) (ix4 b h t s)
    = ((dLogH X Y b h s t * (1 - Real.exp (score (Qh X b h) (Kh X b h) s t - softplus (score (Qh X b h) (Kh X b h) s t))) : ℝ) : EReal) := by
  show (-(-(val_main_v41 (F := Ideal) (qkv X) (dy Y) (ix4 b h t s)) * val_main_v27_1 (F := Ideal) (qkv X) (ix4 b h t s)) : EReal) = _
  rw [v41_eq, v27_1_eq, ← EReal.coe_neg, ← EReal.coe_mul, ← EReal.coe_neg]
  congr 1; ring

theorem neg_add_self (x y : Ideal .f32) (p q : ℝ) (hx : x = ((p : ℝ) : EReal)) (hy : y = ((p + q : ℝ) : EReal)) :
    FloatOps.addf (FloatOps.hostNegf x) y = ((q : ℝ) : EReal) := by
  rw [hx, hy]
  show -(p : EReal) + ((p + q : ℝ) : EReal) = _
  rw [← EReal.coe_neg, ← EReal.coe_add]
  congr 1; ring

theorem v45_eq (s t : Fin 2048) : val_main_v45 (F := Ideal) (qkv X) (dy Y) (ix4 b h t s)
    = ((before (Qh X b h) (Kh X b h) (Vh X b h) (Gh Y b h) s t : ℝ) : EReal) := by
  have e : val_main_v44 (F := Ideal) (qkv X) (dy Y) (ix4 b h t s)
      = ((dLogH X Y b h s t + before (Qh X b h) (Kh X b h) (Vh X b h) (Gh Y b h) s t : ℝ) : EReal) := by
    unfold val_main_v44
    refine (windowSum 2048 2047 0 (val_main_v41 (F := Ideal) (qkv X) (dy Y)) _ _ _ (fun _ => Ideal.ofBits_zero_f32)
      (fun k => dLogH X Y b h k t) b h t s fun k => v41_eq X Y b h k t).trans ?_
    exact congrArg (fun r : ℝ => (r : EReal)) (sum_upto (fun k => dLogH X Y b h k t) s)
  rw [val_main_v45_apply, val_main_v43_apply]
  exact neg_add_self _ _ _ _ (v41_eq X Y b h s t) e

theorem v49_eq (s t : Fin 2048) : val_main_v49 (F := Ideal) (qkv X) (dy Y) (ix4 b h t s)
    = ((dScore (Qh X b h) (Kh X b h) (Vh X b h) (Gh Y b h) s t : ℝ) : EReal) := by
  show (val_main_v42 (F := Ideal) (qkv X) (dy Y) (ix4 b h t s)
    + -(-(-(Scalar.select (val_main_v24_1 (F := Ideal) (ix4 b h t s)) (val_main_v45 (F := Ideal) (qkv X) (dy Y) (ix4 b h t s)) (val_main_call8_v0 (F := Ideal) (ix4 b h t s)))
      * val_main_v23_1 (F := Ideal) (qkv X) (ix4 b h t s))) : EReal) = _
  rw [mask24, select_mask s t _ _ _ (v45_eq X Y b h s t) (zero8 _), v42_eq, v23_1_eq, neg_neg, ← EReal.coe_neg, ← EReal.coe_mul,
    ← EReal.coe_add]
  congr 1
  unfold dScore
  by_cases hst : s < t
  · simp only [hst, if_true]; ring
  · have e : dLogH X Y b h s t = 0 := by simp [dLogH, dLog, weight, hst]
    simp [hst, e]

theorem v51_eq (s t : Fin 2048) : val_main_v51 (F := Ideal) (qkv X) (dy Y) (ix4 b h t s)
    = ((dScore (Qh X b h) (Kh X b h) (Vh X b h) (Gh Y b h) s t * (1 / 8) : ℝ) : EReal) := by
  rw [val_main_v51_apply, v49_eq, eighth50, EReal.coe_mul]; rfl

/-! ## The gradients -/

theorem v38_eq (s : Fin 2048) (d : Fin 64) : val_main_v38 (F := Ideal) (qkv X) (dy Y) (ix4 b h s d)
    = ((gradV (Qh X b h) (Kh X b h) (Gh Y b h) s d : ℝ) : EReal) := by
  rw [val_main_v38_apply, val_main_v37_apply, gradV, coe_sum]
  refine sum_congr rfl fun t _ => ?_
  rw [EReal.coe_mul, mul_comm, ← v30_eq, ← v36_eq]
  exact congrArg₂ _ (congrArg _ (eq_ix4 _)) (congrArg _ (eq_ix4 _))

theorem v52_eq (s : Fin 2048) (d : Fin 64) : val_main_v52 (F := Ideal) (qkv X) (dy Y) (ix4 b h s d)
    = ((gradK (Qh X b h) (Kh X b h) (Vh X b h) (Gh Y b h) s d : ℝ) : EReal) := by
  rw [val_main_v52_apply, gradK, sum_mul, coe_sum]
  refine sum_congr rfl fun t _ => ?_
  rw [mul_right_comm, EReal.coe_mul, ← v51_eq, ← v5_eq]
  exact congrArg₂ _ (congrArg _ (eq_ix4 _)) (congrArg _ (eq_ix4 _))

theorem v53_eq (t : Fin 2048) (d : Fin 64) : val_main_v53 (F := Ideal) (qkv X) (dy Y) (ix4 b h t d)
    = ((gradQ (Qh X b h) (Kh X b h) (Vh X b h) (Gh Y b h) t d : ℝ) : EReal) := by
  rw [val_main_v53_apply, gradQ, sum_mul, coe_sum]
  refine sum_congr rfl fun s _ => ?_
  rw [mul_right_comm, EReal.coe_mul, ← v51_eq, ← v8_eq]
  exact congrArg₂ _ (congrArg _ (eq_ix4 _)) (congrArg _ (eq_ix4 _))

/-- Where a packed element lies among the heads. -/
theorem packed_index (r : Fin 8192) (c : Fin 1024) :
    (r.val * 1024 + c.val) / 2097152 = r.val / 2048 ∧ (r.val * 1024 + c.val) / 1024 % 2048 = r.val % 2048
      ∧ (r.val * 1024 + c.val) / 64 % 16 = c.val / 64 ∧ (r.val * 1024 + c.val) % 64 = c.val % 64 := by omega

/-- The gradient of the queries. -/
theorem v62_eq : val_main_v62 (F := Ideal) (qkv X) (dy Y)
    = (mat (packed fun b h => gradQ (Qh X b h) (Kh X b h) (Vh X b h) (Gh Y b h)) : FVec Ideal S8192x1024 .bf16) := by
  refine ext_mat _ _ fun r c => ?_
  rw [val_main_v62_apply, val_main_v61_apply, val_main_v60_apply]
  obtain ⟨e0, e1, e2, e3⟩ := packed_index r c
  refine Eq.trans (congrArg (val_main_v53 (F := Ideal) (qkv X) (dy Y)) (Eq.trans (eq_ix4 _) ?_)) (v53_eq X Y ⟨r.val / 2048, by omega⟩ ⟨c.val / 64, by omega⟩ ⟨r.val % 2048, by omega⟩ ⟨c.val % 64, by omega⟩)
  congr 1 <;> exact Fin.ext (by assumption)

/-- The gradient of the keys. -/
theorem v59_eq : val_main_v59 (F := Ideal) (qkv X) (dy Y)
    = (mat (packed fun b h => gradK (Qh X b h) (Kh X b h) (Vh X b h) (Gh Y b h)) : FVec Ideal S8192x1024 .bf16) := by
  refine ext_mat _ _ fun r c => ?_
  rw [val_main_v59_apply, val_main_v58_apply, val_main_v57_apply]
  obtain ⟨e0, e1, e2, e3⟩ := packed_index r c
  refine Eq.trans (congrArg (val_main_v52 (F := Ideal) (qkv X) (dy Y)) (Eq.trans (eq_ix4 _) ?_)) (v52_eq X Y ⟨r.val / 2048, by omega⟩ ⟨c.val / 64, by omega⟩ ⟨r.val % 2048, by omega⟩ ⟨c.val % 64, by omega⟩)
  congr 1 <;> exact Fin.ext (by assumption)

/-- The gradient of the values. -/
theorem v56_eq : val_main_v56 (F := Ideal) (qkv X) (dy Y)
    = (mat (packed fun b h => gradV (Qh X b h) (Kh X b h) (Gh Y b h)) : FVec Ideal S8192x1024 .bf16) := by
  refine ext_mat _ _ fun r c => ?_
  rw [val_main_v56_apply, val_main_v55_apply, val_main_v54_apply]
  obtain ⟨e0, e1, e2, e3⟩ := packed_index r c
  refine Eq.trans (congrArg (val_main_v38 (F := Ideal) (qkv X) (dy Y)) (Eq.trans (eq_ix4 _) ?_)) (v38_eq X Y ⟨r.val / 2048, by omega⟩ ⟨c.val / 64, by omega⟩ ⟨r.val % 2048, by omega⟩ ⟨c.val % 64, by omega⟩)
  congr 1 <;> exact Fin.ext (by assumption)

end Cert.ReferenceIdeal.AttBwd

end
-- ==== Proof.Carry.lean ====
/-
  The carries the kernel is launched with: what the keys of the later blocks leave of the stick, as logarithms.
-/
module

public import proofs.«01_k».proof.Proof.Gen.KernelIdeal.Frame
public import proofs.«01_k».proof.Proof.Ref
public import Idealize.ShloMosaic.Lib.StableHlo.RunRead

@[expose] public section

noncomputable section

namespace Cert.KernelIdeal.AttBwd

open Cert.KernelIdeal Cert.KernelIdeal.Gen
open Idealize.ShloMosaic Idealize.ShloMosaic.TcCoe Idealize.ShloMosaic.StableHlo
open Idealize.ShloMosaic.ValueIdx Idealize.ShloMosaic.WordCmp
open StickBreaking Finset

variable {F : FTy → Type} [FloatOps F]

/-- The positions divided by 256, rounding down. -/
def blockOf : IVec S2048 32 :=
  let p : IVec S2048 32 := iotaInDim S2048 32 0
  let n : IVec S_ 32 := constantI S_ 32 256#32
  let q := Host.divsi p (broadcastInDim S2048 ![] bcast_S_S2048 n)
  select (andi (cmpi .ne (signi p) (broadcastInDim S2048 ![] bcast_S_S2048 (signi n)))
      (cmpi .ne (Host.remsi p (broadcastInDim S2048 ![] bcast_S_S2048 n)) (broadcastInDim S2048 ![] bcast_S_S2048 (constantI S_ 32 0#32))))
    (subi q (broadcastInDim S2048 ![] bcast_S_S2048 (constantI S_ 32 1#32))) q

/-- Which keys lie in a block later than the one of the row. -/
def laterKeys : IVec S8x2048 1 :=
  cmpi .slt (broadcastInDim S8x2048 ![0, 1] bcast_S8x1_S8x2048_0_1 (broadcastInDim S8x1 ![0] bcast_S8_S8x1_0 (iotaInDim S8 32 0)))
    (broadcastInDim S8x2048 ![0, 1] bcast_S1x2048_S8x2048_0_1 (broadcastInDim S1x2048 ![1] bcast_S2048_S1x2048_1 blockOf))

/-- The logarithms of the later keys, and zeros. -/
def laterLogs (l : FVec F S4x16x2048x2048 .f32) : FVec F S4x16x8x2048x2048 .f32 :=
  select (broadcastInDim S4x16x8x2048x2048 ![2, 3, 4] bcast_S8x1x2048_S4x16x8x2048x2048_2_3_4 (broadcastInDim S8x1x2048 ![0, 2] bcast_S8x2048_S8x1x2048_0_2 laterKeys))
    (broadcastInDim S4x16x8x2048x2048 ![0, 1, 2, 3, 4] bcast_S4x16x1x2048x2048_S4x16x8x2048x2048_0_1_2_3_4
      (broadcastInDim S4x16x1x2048x2048 ![0, 1, 3, 4] bcast_S4x16x2048x2048_S4x16x1x2048x2048_0_1_3_4 l))
    (broadcastInDim S4x16x8x2048x2048 ![] bcast_S_S4x16x8x2048x2048 (constant S_ .f32 0x00000000#32))

/-- The carries, from the logarithms by query and key. -/
def carries (l : FVec F S4x16x2048x2048 .f32) : FVec F S4x16x8x8x2048 .f32 :=
  broadcastInDim S4x16x8x8x2048 ![0, 1, 2, 3, 4] bcast_S4x16x8x1x2048_S4x16x8x8x2048_0_1_2_3_4
    (broadcastInDim S4x16x8x1x2048 ![0, 1, 2, 4] bcast_S4x16x8x2048_S4x16x8x1x2048_0_1_2_4
      (Host.reduceAdd (laterLogs l) (constant S_ .f32 0x00000000#32) reducesTo_S4x16x8x2048x2048_S4x16x8x2048_d4 h_S_))

set_option maxRecDepth 8192 in
theorem V_carries (m : (ℓ : Loc nD τ sig) → Buf (Elt F) ℓ) (c : Dev nD) :
    V m c main_v34 = carries (Cert.ReferenceIdeal.Read.val_main_v24_0 (F := F) (m (c, Proc.devRef .tc main_arg0))) := by
  unfold V
  simp only [List.flatten_cons, List.flatten_nil, List.append_nil]
  after_reads_simp
  rfl

/-! ## The carries of real arguments -/

/-- The sign of a word. -/
def signWord (p : BitVec 32) : BitVec 32 := if p = 0 then 0 else if p.msb then -1 else 1
/-- Division of a position's word by 256, with the correction for operands of different signs. -/
def floorWord (p n : BitVec 32) : BitVec 32 :=
  Scalar.select (IntOp.andi (IntOp.cmpi .ne (signWord p) (signWord n))
      (IntOp.cmpi .ne (IntOp.remsi .host p n) 0#32))
    (IntOp.subi (IntOp.divsi .host p n) 1#32) (IntOp.divsi .host p n)

theorem floorWord_pos : ∀ s : Fin 2048, floorWord (BitVec.ofNat 32 s.val) 256#32 = BitVec.ofNat 32 (s.val / 256) := by
  decide +kernel

theorem blockOf_apply (s : Fin 2048) : blockOf (ix1 s) = BitVec.ofNat 32 (s.val / 256) := floorWord_pos s

theorem laterKeys_apply (i : Fin 8) (s : Fin 2048) : laterKeys (ix2 i s) = BitVec.ofBool (decide (i.val < s.val / 256)) := by
  unfold laterKeys
  generalize hb : blockOf = bl
  show IntOp.cmpi .slt _ _ = _
  rw [broadcastInDim_apply _ bcast_S8x1_S8x2048_0_1 _ (ix2 i s) (ix2 i 0) (fun a => match a with
      | ⟨0, _⟩ => by show i.val = if (8 : Nat) = 1 then 0 else i.val; rw [if_neg (by decide)]
      | ⟨1, _⟩ => by show 0 = if (1 : Nat) = 1 then 0 else s.val; rw [if_pos rfl]),
    broadcastInDim_apply _ bcast_S8_S8x1_0 _ (ix2 i 0) (ix1 i) (fun a => match a with
      | ⟨0, _⟩ => by show i.val = if (8 : Nat) = 1 then 0 else i.val; rw [if_neg (by decide)]),
    broadcastInDim_apply _ bcast_S1x2048_S8x2048_0_1 _ (ix2 i s) (ix2 0 s) (fun a => match a with
      | ⟨0, _⟩ => by show 0 = if (1 : Nat) = 1 then 0 else i.val; rw [if_pos rfl]
      | ⟨1, _⟩ => by show s.val = if (2048 : Nat) = 1 then 0 else s.val; rw [if_neg (by decide)]),
    broadcastInDim_apply _ bcast_S2048_S1x2048_1 _ (ix2 0 s) (ix1 s) (fun a => match a with
      | ⟨0, _⟩ => by show s.val = if (2048 : Nat) = 1 then 0 else s.val; rw [if_neg (by decide)]),
    ← hb, blockOf_apply]
  exact cmpi_slt_ofNat (by have := i.isLt; show i.val < _; omega) (by have := s.isLt; omega)

/-- The sum over the keys of the later blocks. -/
theorem sum_laterBlocks (f : Fin 2048 → ℝ) (i : Fin 8) :
    ∑ s, (if i.val < s.val / 256 then f s else 0) = ∑ b ∈ univ.filter (i < ·), ∑ i', f (pos b i') := by
  rw [sum_pos, sum_filter]
  refine sum_congr rfl fun b _ => ?_
  have e (i' : Fin 256) : (pos b i').val / 256 = b.val := by rw [pos_val]; omega
  by_cases hb : i < b
  · rw [if_pos hb]; exact sum_congr rfl fun i' _ => if_pos (by rw [e]; exact hb)
  · rw [if_neg hb]; exact sum_eq_zero fun i' _ => if_neg (by rw [e]; exact hb)

variable (l : FVec Ideal S4x16x2048x2048 .f32)

theorem laterLogs_apply (b : Fin 4) (h : Fin 16) (i : Fin 8) (t s : Fin 2048) (r : ℝ) (hl : l (ix4 b h t s) = ((r : ℝ) : EReal)) :
    laterLogs l (ix5 b h i t s) = ((if i.val < s.val / 256 then r else 0 : ℝ) : EReal) := by
  unfold laterLogs
  generalize hk : laterKeys = k
  show Scalar.select _ _ _ = _
  rw [broadcastInDim_apply _ bcast_S8x1x2048_S4x16x8x2048x2048_2_3_4 _ (ix5 b h i t s) (ix3 i 0 s) (fun a => match a with
      | ⟨0, _⟩ => by show i.val = if (8 : Nat) = 1 then 0 else i.val; rw [if_neg (by decide)]
      | ⟨1, _⟩ => by show 0 = if (1 : Nat) = 1 then 0 else t.val; rw [if_pos rfl]
      | ⟨2, _⟩ => by show s.val = if (2048 : Nat) = 1 then 0 else s.val; rw [if_neg (by decide)]),
    broadcastInDim_apply _ bcast_S8x2048_S8x1x2048_0_2 _ (ix3 i 0 s) (ix2 i s) (fun a => match a with
      | ⟨0, _⟩ => by show i.val = if (8 : Nat) = 1 then 0 else i.val; rw [if_neg (by decide)]
      | ⟨1, _⟩ => by show s.val = if (2048 : Nat) = 1 then 0 else s.val; rw [if_neg (by decide)]),
    broadcastInDim_apply _ bcast_S4x16x1x2048x2048_S4x16x8x2048x2048_0_1_2_3_4 _ (ix5 b h i t s) (ix5 b h 0 t s) (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show 0 = if (1 : Nat) = 1 then 0 else i.val; rw [if_pos rfl]
      | ⟨3, _⟩ => by show t.val = if (2048 : Nat) = 1 then 0 else t.val; rw [if_neg (by decide)]
      | ⟨4, _⟩ => by show s.val = if (2048 : Nat) = 1 then 0 else s.val; rw [if_neg (by decide)]),
    broadcastInDim_apply _ bcast_S4x16x2048x2048_S4x16x1x2048x2048_0_1_3_4 _ (ix5 b h 0 t s) (ix4 b h t s) (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show t.val = if (2048 : Nat) = 1 then 0 else t.val; rw [if_neg (by decide)]
      | ⟨3, _⟩ => by show s.val = if (2048 : Nat) = 1 then 0 else s.val; rw [if_neg (by decide)]),
    broadcastInDim_scalar_apply, ← hk, laterKeys_apply, select_ofBool, hl]
  by_cases hs : i.val < s.val / 256
  · simp [hs]
  · simp only [hs, decide_false, if_false]
    exact Ideal.ofBits_zero_f32

/-- A carry: the logarithms of the keys in later blocks. -/
theorem carries_apply (b : Fin 4) (h : Fin 16) (i e : Fin 8) (t : Fin 2048) (f : Fin 2048 → ℝ)
    (hl : ∀ s, l (ix4 b h t s) = ((f s : ℝ) : EReal)) :
    carries l (ix5 b h i e t) = ((∑ b' ∈ univ.filter (i < ·), ∑ i', f (pos b' i') : ℝ) : EReal) := by
  unfold carries
  rw [broadcastInDim_apply _ bcast_S4x16x8x1x2048_S4x16x8x8x2048_0_1_2_3_4 _ (ix5 b h i e t) (ix5 b h i 0 t) (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show i.val = if (8 : Nat) = 1 then 0 else i.val; rw [if_neg (by decide)]
      | ⟨3, _⟩ => by show 0 = if (1 : Nat) = 1 then 0 else e.val; rw [if_pos rfl]
      | ⟨4, _⟩ => by show t.val = if (2048 : Nat) = 1 then 0 else t.val; rw [if_neg (by decide)]),
    broadcastInDim_apply _ bcast_S4x16x8x2048_S4x16x8x1x2048_0_1_2_4 _ (ix5 b h i 0 t) (ix4 b h i t) (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show i.val = if (8 : Nat) = 1 then 0 else i.val; rw [if_neg (by decide)]
      | ⟨3, _⟩ => by show t.val = if (2048 : Nat) = 1 then 0 else t.val; rw [if_neg (by decide)]),
    hostReduceAdd_apply, Ideal.hostReduceAdd_single _ (by decide), ← sum_laterBlocks, coe_sum]
  refine (congrArg (· + _) (Ideal.ofBits_zero_f32 : _ = (0 : EReal))).trans ((zero_add _).trans ?_)
  refine sum_congr rfl fun s _ => ?_
  refine (congrArg (laterLogs l) (eq_ix5 _)).trans ?_
  exact laterLogs_apply l b h i t s (f s) (hl s)

end Cert.KernelIdeal.AttBwd

end
-- ==== Proof.Final.lean ====
/-
  The kernel's result: each grid point's blocks are two heads of one sequence, so the three output arrays are the
  gradients of stick-breaking attention, head by head.
-/
module

public import proofs.«01_k».proof.Proof.Body
public import proofs.«01_k».proof.Proof.Value
public import proofs.«01_k».proof.Proof.Carry
public import Idealize.ShloMosaic.Lib.Pipeline.ValueKit

@[expose] public section

noncomputable section

namespace Cert.KernelIdeal.AttBwd

open Cert.KernelIdeal Cert.KernelIdeal.Gen
open Idealize.ShloMosaic hiding ix2 ix4 ix5 eq_ix2 eq_ix4 eq_ix5
open Idealize.ShloMosaic.TcCoe Idealize.ShloMosaic.Tactic
open Idealize.ShloMosaic.ValueIdx
open Idealize.ShloMosaic.Pipeline (Dat)
open Cert.ReferenceIdeal.AttBwd (Qh Kh Vh Gh qkv dy v24_eq)
open StickBreaking

/-! ## Where the blocks lie -/

/-- The sequence of a grid point. -/
def seqOf (t : Fin cfg0.N) : Fin 4 := (grid0.coords t) 0
/-- The pair of heads of a grid point. -/
def pairOf (t : Fin cfg0.N) : Fin 8 := (grid0.coords t) 1
/-- One of the two heads of a grid point. -/
def headAt (t : Fin cfg0.N) (h : Fin 2) : Fin 16 := ⟨2 * (pairOf t).val + h.val, by omega⟩

theorem index_in : ∀ t : Fin cfg0.N, win0_0.index t = ![(seqOf t).val, (pairOf t).val] ∧ win0_1.index t = ![(seqOf t).val, 8 + (pairOf t).val]
    ∧ win0_2.index t = ![(seqOf t).val, 16 + (pairOf t).val] ∧ win0_3.index t = ![(seqOf t).val, (pairOf t).val]
    ∧ win0_4.index t = ![(seqOf t).val, (pairOf t).val, 0, 0, 0] := (by decide +kernel : ∀ t : Fin grid0.N, _)

theorem index_out : ∀ t : Fin cfg0.N, win0_5.index t = ![(seqOf t).val, (pairOf t).val] ∧ win0_6.index t = ![(seqOf t).val, (pairOf t).val]
    ∧ win0_7.index t = ![(seqOf t).val, (pairOf t).val] := (by decide +kernel : ∀ t : Fin grid0.N, _)

section
variable {F : FTy → Type} [FloatOps F] (m : (ℓ : Loc nD τ sig) → Buf (Elt F) ℓ) (c : Dev nD) (t : Fin cfg0.N)

theorem iblk0_apply (r : Fin 2048) (l : Fin 128) : iblk m c 0 t (ix2 r l) = m ((c : Thread nD τ).loc main_arg0)
    (ix2 (n0 := 8192) (n1 := 3072) ⟨(seqOf t).val * 2048 + r.val, by omega⟩ ⟨(pairOf t).val * 128 + l.val, by omega⟩) := by
  blk_ext [iblk, V_main_arg0, index_in t]

theorem iblk1_apply (r : Fin 2048) (l : Fin 128) : iblk m c 1 t (ix2 r l) = m ((c : Thread nD τ).loc main_arg0)
    (ix2 (n0 := 8192) (n1 := 3072) ⟨(seqOf t).val * 2048 + r.val, by omega⟩ ⟨(8 + (pairOf t).val) * 128 + l.val, by omega⟩) := by
  blk_ext [iblk, V_main_arg0, index_in t]

theorem iblk2_apply (r : Fin 2048) (l : Fin 128) : iblk m c 2 t (ix2 r l) = m ((c : Thread nD τ).loc main_arg0)
    (ix2 (n0 := 8192) (n1 := 3072) ⟨(seqOf t).val * 2048 + r.val, by omega⟩ ⟨(16 + (pairOf t).val) * 128 + l.val, by omega⟩) := by
  blk_ext [iblk, V_main_arg0, index_in t]

theorem iblk3_apply (r : Fin 2048) (l : Fin 128) : iblk m c 3 t (ix2 r l) = m ((c : Thread nD τ).loc main_arg1)
    (ix2 (n0 := 8192) (n1 := 1024) ⟨(seqOf t).val * 2048 + r.val, by omega⟩ ⟨(pairOf t).val * 128 + l.val, by omega⟩) := by
  blk_ext [iblk, V_main_arg1, index_in t]

theorem iblk4_apply (h : Fin 2) (i : Fin 8) (e : Fin 8) (s : Fin 2048) : iblk m c 4 t (ix5 (n0 := 1) (n1 := 2) (n2 := 8) (n3 := 8) (n4 := 2048) 0 h i e s)
    = V m c main_v34 (ix5 (n0 := 4) (n1 := 16) (n2 := 8) (n3 := 8) (n4 := 2048) (seqOf t) (headAt t h) i e s) := by
  blk_ext [iblk, index_in t, headAt]
  show _ + h.val = _
  omega

end

/-! ## Blocks of reals -/

theorem pos_eq (b : Fin 8) (i : Fin 256) (h : 256 * b.val + i.val < 2048) : (⟨256 * b.val + i.val, h⟩ : Fin 2048) = pos b i :=
  Fin.ext (by rw [pos_val]; exact congrArg (· + i.val) (mul_comm _ _))

theorem rowsOf_real (x : Vec Ideal S2048x128 .bf16) (f : Fin 2 → Fin 2048 → Fin 64 → ℝ)
    (hx : ∀ (h : Fin 2) s (d : Fin 64), x (ix2 s ⟨64 * h.val + d.val, by omega⟩) = ((f h s d : ℝ) : EReal)) : rowsOf x = rowsIn f := by
  funext h i j
  refine (hx h ⟨256 * i.val + (j 1).val, by have : (j 1).val < 256 := (j 1).isLt; omega⟩ (j 2)).trans ?_
  exact congrArg (fun r : ℝ => (r : EReal)) (congrFun (congrArg (f h) (pos_eq i (j 1) _)) _)

theorem qRows_real (x : Vec Ideal S2048x128 .bf16) (f : Fin 2 → Fin 2048 → Fin 64 → ℝ)
    (hx : ∀ (h : Fin 2) s (d : Fin 64), x (ix2 s ⟨64 * h.val + d.val, by omega⟩) = ((f h s d : ℝ) : EReal)) : qRows x = queriesIn f := by
  funext h i j
  unfold qRows
  rw [rowsOf_real x f hx]
  show ((f h (pos i (j 1)) (j 2) : ℝ) : EReal) * (Scalar.ofBits .bf16 0x3E00#16 : Ideal .bf16) = _
  rw [eighth_bf16]
  exact (EReal.coe_mul _ _).symm

theorem keysT_real (x : Vec Ideal S2048x128 .bf16) (f : Fin 2 → Fin 2048 → Fin 64 → ℝ)
    (hx : ∀ (h : Fin 2) s (d : Fin 64), x (ix2 s ⟨64 * h.val + d.val, by omega⟩) = ((f h s d : ℝ) : EReal)) : keysT x = keysIn f := by
  funext h i j
  unfold keysT
  rw [rowsOf_real x f hx]
  rfl

theorem outArr_real (f : Fin 2 → Fin 8 → FVec Ideal S256x64 .bf16) (g : Fin 2 → Fin 2048 → Fin 64 → ℝ)
    (hf : ∀ h i, f h i = mat fun s d => g h (pos i s) d) (y : S2048x128.Idx) :
    outArr f y = ((g ⟨(y 1).val / 64, by have : (y 1).val < 128 := (y 1).isLt; omega⟩ (y 0) ⟨(y 1).val % 64, Nat.mod_lt _ (by decide)⟩ : ℝ) : EReal) := by
  unfold outArr
  rw [hf]
  refine congrArg (fun r : ℝ => (r : EReal)) (congrFun (congrArg (g _) (Fin.ext ?_)) _)
  rw [pos_val]; exact Nat.div_add_mod' _ _

theorem packed_at (f : Fin 4 → Fin 16 → Fin 2048 → Fin 64 → ℝ) (r : Fin 8192) (l : Fin 1024) (b : Fin 4) (h : Fin 16) (s : Fin 2048) (d : Fin 64)
    (hr : r.val = b.val * 2048 + s.val) (hl : l.val = h.val * 64 + d.val) : packed f r l = f b h s d := by
  unfold packed
  congr 1 <;> first | (apply Fin.ext; dsimp only; omega) | skip

theorem packed_block (f : Fin 4 → Fin 16 → Fin 2048 → Fin 64 → ℝ) (t : Fin cfg0.N) (y : S2048x128.Idx) (r : Fin 8192) (l : Fin 1024)
    (hr : r.val = (seqOf t).val * 2048 + (y 0).val) (hl : l.val = (pairOf t).val * 128 + (y 1).val) :
    f (seqOf t) (headAt t ⟨(y 1).val / 64, by have : (y 1).val < 128 := (y 1).isLt; omega⟩) (y 0) ⟨(y 1).val % 64, Nat.mod_lt _ (by decide)⟩
      = packed f r l :=
  (packed_at f r l _ _ (y 0) _ hr (by
    show l.val = (2 * (pairOf t).val + (y 1).val / 64) * 64 + (y 1).val % 64
    omega)).symm

/-! ## The arrays of one device -/

section
variable (m : (ℓ : Loc nD τ sig) → Buf (Elt Ideal) ℓ) (c : Dev nD) (X : Fin 8192 → Fin 3072 → ℝ) (Y : Fin 8192 → Fin 1024 → ℝ)
  (hX : m ((c : Thread nD τ).loc main_arg0) = qkv X) (hY : m ((c : Thread nD τ).loc main_arg1) = dy Y) (t : Fin cfg0.N)

include hX in
theorem iblk0_real (h : Fin 2) (s : Fin 2048) (d : Fin 64) :
    iblk m c 0 t (ix2 s ⟨64 * h.val + d.val, by omega⟩) = ((Qh X (seqOf t) (headAt t h) s d : ℝ) : EReal) := by
  refine (iblk0_apply m c t s _).trans ((congrFun hX _).trans ?_)
  refine congrArg (fun r : ℝ => (r : EReal)) (congrArg (X _) (Fin.ext ?_))
  show (pairOf t).val * 128 + (64 * h.val + d.val) = 0 * 1024 + (2 * (pairOf t).val + h.val) * 64 + d.val
  omega

include hX in
theorem iblk1_real (h : Fin 2) (s : Fin 2048) (d : Fin 64) :
    iblk m c 1 t (ix2 s ⟨64 * h.val + d.val, by omega⟩) = ((Kh X (seqOf t) (headAt t h) s d : ℝ) : EReal) := by
  refine (iblk1_apply m c t s _).trans ((congrFun hX _).trans ?_)
  refine congrArg (fun r : ℝ => (r : EReal)) (congrArg (X _) (Fin.ext ?_))
  show (8 + (pairOf t).val) * 128 + (64 * h.val + d.val) = 1 * 1024 + (2 * (pairOf t).val + h.val) * 64 + d.val
  omega

include hX in
theorem iblk2_real (h : Fin 2) (s : Fin 2048) (d : Fin 64) :
    iblk m c 2 t (ix2 s ⟨64 * h.val + d.val, by omega⟩) = ((Vh X (seqOf t) (headAt t h) s d : ℝ) : EReal) := by
  refine (iblk2_apply m c t s _).trans ((congrFun hX _).trans ?_)
  refine congrArg (fun r : ℝ => (r : EReal)) (congrArg (X _) (Fin.ext ?_))
  show (16 + (pairOf t).val) * 128 + (64 * h.val + d.val) = 2 * 1024 + (2 * (pairOf t).val + h.val) * 64 + d.val
  omega

include hY in
theorem iblk3_real (h : Fin 2) (s : Fin 2048) (d : Fin 64) :
    iblk m c 3 t (ix2 s ⟨64 * h.val + d.val, by omega⟩) = ((Gh Y (seqOf t) (headAt t h) s d : ℝ) : EReal) := by
  refine (iblk3_apply m c t s _).trans ((congrFun hY _).trans ?_)
  refine congrArg (fun r : ℝ => (r : EReal)) (congrArg (Y _) (Fin.ext ?_))
  show (pairOf t).val * 128 + (64 * h.val + d.val) = (2 * (pairOf t).val + h.val) * 64 + d.val
  omega

include hX in
theorem carRow_real : carRow (iblk m c 4 t) = carriesIn (fun h => Qh X (seqOf t) (headAt t h)) (fun h => Kh X (seqOf t) (headAt t h)) := by
  funext h i e j
  refine (iblk4_apply m c t h i 0 _).trans ((congrFun (V_carries m c) _).trans ?_)
  refine (carries_apply _ (seqOf t) (headAt t h) i 0 ⟨256 * e.val + (j 4).val, by have : (j 4).val < 256 := (j 4).isLt; omega⟩
    (fun s => logKeep (Qh X (seqOf t) (headAt t h)) (Kh X (seqOf t) (headAt t h)) s
      ⟨256 * e.val + (j 4).val, by have : (j 4).val < 256 := (j 4).isLt; omega⟩) fun s => ?_).trans ?_
  · exact (congrFun (congrArg (Cert.ReferenceIdeal.Read.val_main_v24_0 (F := Ideal)) hX) _).trans (v24_eq X _ _ s _)
  · exact congrArg (fun r : ℝ => (r : EReal)) (Finset.sum_congr rfl fun b _ => Finset.sum_congr rfl fun i' _ => congrArg _ (pos_eq e (j 4) _))

theorem after_5 : (dats m 0 c).after 5 t = outQ (iblk m c 0 t) (iblk m c 1 t) (iblk m c 2 t) (iblk m c 3 t) (iblk m c 4 t) := rfl
theorem after_6 : (dats m 0 c).after 6 t = outK (iblk m c 0 t) (iblk m c 1 t) (iblk m c 2 t) (iblk m c 3 t) (iblk m c 4 t) := rfl
theorem after_7 : (dats m 0 c).after 7 t = outV (iblk m c 0 t) (iblk m c 1 t) (iblk m c 3 t) (iblk m c 4 t) := rfl

include hX hY in
theorem finalQ : (dats m 0 c).arrAt 5 cfg0.N
    = (mat (packed fun b h => StickBreaking.gradQ (Qh X b h) (Kh X b h) (Vh X b h) (Gh Y b h)) : FVec Ideal S8192x1024 .bf16) := by
  refine (dats m 0 c).arrAt_eq_of_covers 5 _ (by decide +kernel) fun t hf y => ?_
  blk_simp
  rw [after_5]
  refine (outArr_real _ (fun h => StickBreaking.gradQ (Qh X (seqOf t) (headAt t h)) (Kh X (seqOf t) (headAt t h)) (Vh X (seqOf t) (headAt t h))
    (Gh Y (seqOf t) (headAt t h))) (fun h i => ?_) y).trans ?_
  · rw [qRows_real _ _ (iblk0_real m c X hX t), rowsOf_real _ _ (iblk1_real m c X hX t), rowsOf_real _ _ (iblk2_real m c X hX t),
      rowsOf_real _ _ (iblk3_real m c Y hY t), keysT_real _ _ (iblk1_real m c X hX t), carRow_real m c X hX t]
    exact gradQ_eq _ _ _ _ h i
  · exact congrArg (fun r : ℝ => (r : EReal)) (packed_block (fun b h => StickBreaking.gradQ (Qh X b h) (Kh X b h) (Vh X b h) (Gh Y b h))
      t y _ _ (by blk_simp [index_out t]) (by blk_simp [index_out t]))

include hX hY in
theorem finalK : (dats m 0 c).arrAt 6 cfg0.N
    = (mat (packed fun b h => StickBreaking.gradK (Qh X b h) (Kh X b h) (Vh X b h) (Gh Y b h)) : FVec Ideal S8192x1024 .bf16) := by
  refine (dats m 0 c).arrAt_eq_of_covers 6 _ (by decide +kernel) fun t hf y => ?_
  blk_simp
  rw [after_6]
  refine (outArr_real _ (fun h => StickBreaking.gradK (Qh X (seqOf t) (headAt t h)) (Kh X (seqOf t) (headAt t h)) (Vh X (seqOf t) (headAt t h))
    (Gh Y (seqOf t) (headAt t h))) (fun h i => ?_) y).trans ?_
  · rw [qRows_real _ _ (iblk0_real m c X hX t), rowsOf_real _ _ (iblk1_real m c X hX t), rowsOf_real _ _ (iblk2_real m c X hX t),
      rowsOf_real _ _ (iblk3_real m c Y hY t), carRow_real m c X hX t]
    exact gradK_eq _ _ _ _ h i
  · exact congrArg (fun r : ℝ => (r : EReal)) (packed_block (fun b h => StickBreaking.gradK (Qh X b h) (Kh X b h) (Vh X b h) (Gh Y b h))
      t y _ _ (by blk_simp [index_out t]) (by blk_simp [index_out t]))

include hX hY in
theorem finalV : (dats m 0 c).arrAt 7 cfg0.N
    = (mat (packed fun b h => StickBreaking.gradV (Qh X b h) (Kh X b h) (Gh Y b h)) : FVec Ideal S8192x1024 .bf16) := by
  refine (dats m 0 c).arrAt_eq_of_covers 7 _ (by decide +kernel) fun t hf y => ?_
  blk_simp
  rw [after_7]
  refine (outArr_real _ (fun h => StickBreaking.gradV (Qh X (seqOf t) (headAt t h)) (Kh X (seqOf t) (headAt t h))
    (Gh Y (seqOf t) (headAt t h))) (fun h i => ?_) y).trans ?_
  · rw [qRows_real _ _ (iblk0_real m c X hX t), rowsOf_real _ _ (iblk1_real m c X hX t),
      rowsOf_real _ _ (iblk3_real m c Y hY t), carRow_real m c X hX t]
    exact gradV_eq _ _ _ h i
  · exact congrArg (fun r : ℝ => (r : EReal)) (packed_block (fun b h => StickBreaking.gradV (Qh X b h) (Kh X b h) (Gh Y b h))
      t y _ _ (by blk_simp [index_out t]) (by blk_simp [index_out t]))

end

end Cert.KernelIdeal.AttBwd

end
-- ==== Proof.Finite.lean ====
/-
  Finite inputs: arrays whose entries all have an absolute value below infinity are arrays of reals.
-/
module

public import proofs.«01_k».proof.Proof.Gen.Pre_finite
public import proofs.«01_k».proof.Proof.Ref
public import Idealize.ShloMosaic.Lib.ReduceAll

@[expose] public section

noncomputable section

namespace Cert.Pre_finite

open Idealize.ShloMosaic
open Idealize.ShloMosaic.ValueIdx
open Cert.ReferenceIdeal.AttBwd (qkv dy)
open StickBreaking

/-- The scalar's index is the only one of its shape. -/
instance : Subsingleton S_.Idx := ⟨fun a b => funext fun i => i.elim0⟩

/-- An array each of whose entries has an absolute value below infinity is an array of reals. -/
theorem real_of_below {a b : ℕ} (x : FVec Ideal ⟨2, ![a, b]⟩ .bf16) (h : ∀ j, max (x j) (-(x j)) < (⊤ : EReal)) :
    ∃ X : Fin a → Fin b → ℝ, x = mat X :=
  ⟨fun i j => (x (ix2 i j)).toReal, ext_mat _ _ fun i j => (EReal.coe_toReal
    (fun e => absurd (h (ix2 i j)) (by rw [e]; simp)) (fun e => absurd (h (ix2 i j)) (by rw [e]; simp))).symm⟩

/-- One entry's comparison with infinity, read back. -/
theorem below_of_cmp (v : Ideal .f32) (h : FloatOps.cmpf .olt (max v (-v) : Ideal .f32) (Ideal.ofBits .f32 0x7F800000#32) = 1#1) :
    max v (-v) < (⊤ : EReal) := by
  rw [Ideal.cmpf_def, inf_f32] at h
  by_contra hn
  simp [Ideal.cmp, hn] at h

/-- Both arrays are arrays of reals when the test of finiteness comes out one. -/
theorem finite_real (x : FVec Ideal S8192x3072 .bf16) (y : FVec Ideal S8192x1024 .bf16)
    (h : fn (F := Ideal) x y = fun _ => 1#1) : (∃ X, x = qkv X) ∧ ∃ Y, y = dy Y := by
  have h0 := congrFun h (fun a : Fin 0 => a.elim0)
  obtain ⟨hx, hy⟩ := IntOp.andi_eq_one.mp h0
  exact ⟨real_of_below x fun j => below_of_cmp _ (Host.reduce_andi_all _ _ _ _ _ hx j),
    real_of_below y fun j => below_of_cmp _ (Host.reduce_andi_all _ _ _ _ _ hy j)⟩

end Cert.Pre_finite

end
-- ==== Proof.Same.lean ====
/-
  The kernel and its reading over the extended reals have one and the same text: over the words their bodies, their body
  tables and their programs are equal.
-/
module

public import proofs.«01_k».proof.Proof.Gen.Kernel
public import proofs.«01_k».proof.Proof.Gen.KernelIdeal
public import proofs.«01_k».proof.Defs

@[expose] public section

noncomputable section

namespace Cert.SameText

open Idealize.ShloMosaic

attribute [local instance] Cert.Kernel.Gen.facts

set_option maxHeartbeats 4000000 in
theorem body_eq : Cert.Kernel.cc0_att_bwd (F := Bits) = Cert.KernelIdeal.cc0_att_bwd (F := Bits) := rfl

set_option maxHeartbeats 4000000 in
theorem table_eq : Cert.Kernel.defs₀ (F := Bits) = Cert.KernelIdeal.defs₀ (F := Bits) := by
  unfold Cert.Kernel.defs₀ Cert.KernelIdeal.defs₀
  refine congrArg (Idealize.ShloMosaic.Defs.onTc (τ := Cert.KernelIdeal.τ) (sig := Cert.KernelIdeal.sig) (nD := Cert.KernelIdeal.nD)) ?_
  funext l x
  match l, x with
  | 0, (t, s) => dsimp only; rw [body_eq]; rfl
  | ⟨n + 1, h⟩, _ => exact absurd h (Nat.not_lt.2 (Nat.le_add_left _ _))

set_option maxHeartbeats 4000000 in
theorem defs_eq : Cert.Kernel.defs (F := Bits) = Cert.KernelIdeal.defs (F := Bits) := by
  unfold Cert.Kernel.defs Cert.KernelIdeal.defs
  rw [table_eq]
  rfl

set_option maxHeartbeats 4000000 in
theorem main_eq : Cert.Kernel.main (F := Bits) = Cert.KernelIdeal.main (F := Bits) := rfl

end Cert.SameText

end
-- ==== Proof.Wgrad.lean ====
/-
  The weight gradients of the feed-forward layer: a block of the gradient is summed over four blocks of rows, so it is
  the product over all the rows.
-/
module

public import Idealize.ShloMosaic.Lib.Pipeline.ValueKit
public import Idealize.ShloMosaic.Lib.Pipeline.ReadBack
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read

@[expose] public section

noncomputable section

open Idealize.ShloMosaic Idealize.ShloMosaic.TcCoe Idealize.ShloMosaic.Tactic
open Idealize.ShloMosaic.Pipeline (Dat)

namespace Cert.Kernel3Ideal.Wgrad

open Cert.Kernel3Ideal Cert.Kernel3Ideal.Gen

/-- The gradient of the input weights' blocks: `Σ_r u[r,k] · dh[b,r,l]`. -/
def grad (u : FVec Ideal S8192x1024 .bf16) (dh : FVec Ideal S8x8192x704 .bf16) : FVec Ideal S8x1024x704 .f32 :=
  fun j => ∑ r : Fin 8192, u (ix2 r (j 1)) * dh (ix3 (j 0) r (j 2))

/-- What a grid point adds to the running sum. -/
def part (x0 : FVec Ideal S2048x1024 .bf16) (x1 : FVec Ideal S1x2048x704 .bf16) (i : Fin 1024) (j : Fin 704) : EReal :=
  ∑ k : Fin 2048, x0 (ix2 k i) * x1 (ix3 0 k j)

theorem pay1_apply (i : S1024x704.Idx) : (k0_pay1 : FVec Ideal S1024x704 .f32) i = 0 := Ideal.ofBits_zero_f32

theorem pay2_apply (acc : FVec Ideal S1024x704 .f32) (x0 : FVec Ideal S2048x1024 .bf16) (x1 : FVec Ideal S1x2048x704 .bf16) (j : S1024x704.Idx) :
    k0_pay2 acc x0 x1 j = acc j + part x0 x1 (j 0) (j 1) := by
  obtain ⟨i, j, rfl⟩ : ∃ a b, j = ix2 a b := ⟨j 0, j 1, eq_ix2 j⟩
  unfold k0_pay2
  pointwise
  rfl

variable (m : (ℓ : Loc nD τ sig) → Buf (Elt Ideal) ℓ) (c : Dev nD)

/-- The running sum after the last of a block's four points. -/
theorem scratch_eq (t : Fin cfg0.N) (ht : t.val % 4 = 3) (j : S1024x704.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) (j 0) (j 1) := by
  rw [Pipeline.eq_sum_fin_of_reset_step_apply_of_flush (fun n h => (outsAt0 m c n h).2) 4 (fun _ => 0)
    (fun t (j : S1024x704.Idx) => part (iblk m c 0 t) (iblk m c 1 t) (j 0) (j 1))
    (fun t h j => by rw [outsAt0_A m c t h (by omega)]; frame_out; rw [pay2_apply, pay1_apply])
    (fun t h j => by
      by_cases h3 : t.val % 4 = 3
      · rw [outsAt0_C m c t h h3]; frame_out; simp only [read_unread_whole]; rw [pay2_apply]
      · rw [outsAt0_B m c t h h3]; frame_out; simp only [read_unread_whole]; rw [pay2_apply]) t ht j, zero_add]

/-- What is written back is the running sum. -/
theorem out_eq (t : Fin cfg0.N) (h3 : t.val % 4 = 3) (j : S1x1024x704.Idx) :
    (outsAt0 m c t.val t.isLt).1 j = (outsAt0 m c t.val t.isLt).2 (ix2 (j 1) (j 2)) := by
  rw [outsAt0_C m c t (by omega) h3]
  frame_out
  generalize k0_pay2 (F := Ideal) _ _ _ = x
  unfold k0_pay3
  pointwise

theorem index_in : ∀ t : Fin cfg0.N, win0_0.index t = ![t.val % 4, 0] ∧ win0_1.index t = ![t.val / 4, t.val % 4, 0] :=
  (by decide +kernel : ∀ t : Fin grid0.N, _)

theorem index_out : ∀ t : Fin cfg0.N, win0_2.index t = ![t.val / 4, 0, 0] := (by decide +kernel : ∀ t : Fin grid0.N, _)

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out_eq m c t h3, scratch_eq m c t h3]
  refine Fin.sum_mul_add_congr (S := 4) (n := 2048) fun s k hl => ?_
  congr 1 <;> blk_ext [iblk, V_main_arg0, V_main_arg1, index_in, index_out t]

end Cert.Kernel3Ideal.Wgrad

namespace Cert.Reference3Ideal.Wgrad

open Cert.Reference3Ideal Cert.Reference3Ideal.Gen Cert.Reference3Ideal.Read

theorem value_eq (u : FVec Ideal S8192x1024 .bf16) (dh : FVec Ideal S8x8192x704 .bf16) : val_main_v9 (F := Ideal) u dh = Cert.Kernel3Ideal.Wgrad.grad u dh := by
  funext j
  rw [val_main_v9_apply, val_main_v8_apply, val_main_v7_apply, val_main_v6_apply]
  refine Finset.sum_congr rfl fun r _ => ?_
  rw [val_main_v5_apply, val_main_v4_apply, val_main_v3_apply, val_main_v1_apply]
  refine (mul_comm _ _).trans ?_
  have h0 : (j 0).val < 8 := (j 0).isLt
  have h1 : (j 1).val < 1024 := (j 1).isLt
  have h2 : (j 2).val < 704 := (j 2).isLt
  have hr := r.isLt
  refine congrArg₂ (fun x y : EReal => x * y) (congrArg u ?_) (congrArg dh ?_) <;> funext a <;> apply Fin.ext <;>
    fin_cases a <;> dsimp <;> omega

end Cert.Reference3Ideal.Wgrad

namespace Cert.Kernel4Ideal.Wgrad

open Cert.Kernel4Ideal Cert.Kernel4Ideal.Gen

/-- The gradient of the output weights: `Σ_r p[f / 704,r,f % 704] · df[r,d]`. -/
def grad (p : FVec Ideal S4x8192x704 .bf16) (df : FVec Ideal S8192x1024 .bf16) : FVec Ideal S2816x1024 .f32 :=
  fun j => ∑ r : Fin 8192, p (ix3 ⟨(j 0).val / 704, Nat.div_lt_of_lt_mul (j 0).isLt⟩ r ⟨(j 0).val % 704, Nat.mod_lt _ (by decide)⟩) * df (ix2 r (j 1))

/-- What a grid point adds to the running sum. -/
def part (x0 : FVec Ideal S1x2048x704 .bf16) (x1 : FVec Ideal S2048x1024 .bf16) (i : Fin 704) (j : Fin 1024) : EReal :=
  ∑ k : Fin 2048, x0 (ix3 0 k i) * x1 (ix2 k j)

theorem pay1_apply (i : S704x1024.Idx) : (k0_pay1 : FVec Ideal S704x1024 .f32) i = 0 := Ideal.ofBits_zero_f32

theorem pay2_apply (acc : FVec Ideal S704x1024 .f32) (x0 : FVec Ideal S1x2048x704 .bf16) (x1 : FVec Ideal S2048x1024 .bf16) (j : S704x1024.Idx) :
    k0_pay2 acc x0 x1 j = acc j + part x0 x1 (j 0) (j 1) := by
  obtain ⟨i, j, rfl⟩ : ∃ a b, j = ix2 a b := ⟨j 0, j 1, eq_ix2 j⟩
  unfold k0_pay2
  pointwise
  rfl

variable (m : (ℓ : Loc nD τ sig) → Buf (Elt Ideal) ℓ) (c : Dev nD)

/-- The running sum after the last of a block's four points. -/
theorem scratch_eq (t : Fin cfg0.N) (ht : t.val % 4 = 3) (j : S704x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) (j 0) (j 1) := by
  rw [Pipeline.eq_sum_fin_of_reset_step_apply_of_flush (fun n h => (outsAt0 m c n h).2) 4 (fun _ => 0)
    (fun t (j : S704x1024.Idx) => part (iblk m c 0 t) (iblk m c 1 t) (j 0) (j 1))
    (fun t h j => by rw [outsAt0_A m c t h (by omega)]; frame_out; rw [pay2_apply, pay1_apply])
    (fun t h j => by
      by_cases h3 : t.val % 4 = 3
      · rw [outsAt0_C m c t h h3]; frame_out; simp only [read_unread_whole]; rw [pay2_apply]
      · rw [outsAt0_B m c t h h3]; frame_out; simp only [read_unread_whole]; rw [pay2_apply]) t ht j, zero_add]

/-- What is written back is the running sum. -/
theorem out_eq (t : Fin cfg0.N) (h3 : t.val % 4 = 3) (j : S704x1024.Idx) :
    (outsAt0 m c t.val t.isLt).1 j = (outsAt0 m c t.val t.isLt).2 j := by
  rw [outsAt0_C m c t (by omega) h3]
  frame_out

theorem index_in : ∀ t : Fin cfg0.N, win0_0.index t = ![t.val / 4, t.val % 4, 0] ∧ win0_1.index t = ![t.val % 4, 0] :=
  (by decide +kernel : ∀ t : Fin grid0.N, _)

theorem index_out : ∀ t : Fin cfg0.N, win0_2.index t = ![t.val / 4, 0] := (by decide +kernel : ∀ t : Fin grid0.N, _)

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  have h0 : (y 0).val < 704 := (y 0).isLt
  blk_simp
  rw [after0_2, out_eq m c t h3, scratch_eq m c t h3]
  refine Fin.sum_mul_add_congr (S := 4) (n := 2048) fun s k hl => ?_
  congr 1 <;> blk_ext [iblk, V_main_arg0, V_main_arg1, index_in, index_out t]

end Cert.Kernel4Ideal.Wgrad

namespace Cert.Reference4Ideal.Wgrad

open Cert.Reference4Ideal Cert.Reference4Ideal.Gen Cert.Reference4Ideal.Read

theorem value_eq (p : FVec Ideal S4x8192x704 .bf16) (df : FVec Ideal S8192x1024 .bf16) : val_main_v7 (F := Ideal) p df = Cert.Kernel4Ideal.Wgrad.grad p df := by
  funext j
  rw [val_main_v7_apply, val_main_v6_apply]
  refine Finset.sum_congr rfl fun r _ => ?_
  rw [val_main_v5_apply, val_main_v3_apply, val_main_v2_apply, val_main_v1_apply]
  refine (mul_comm _ _).trans ?_
  have h0 : (j 0).val < 2816 := (j 0).isLt
  have h1 : (j 1).val < 1024 := (j 1).isLt
  have hr := r.isLt
  refine congrArg₂ (fun x y : EReal => x * y) (congrArg p ?_) (congrArg df ?_) <;> funext a <;> apply Fin.ext <;>
    fin_cases a <;> dsimp <;> omega

end Cert.Reference4Ideal.Wgrad

end
-- ==== Proof.Modulation.lean ====
/-
  The gradient through a modulated product `((x·g + b)·(1 + sc) + sh)·w`, the feed-forward layer's: blocks of 512 rows,
  four to a sequence, the scale's and the shift's gradients summed over a sequence's four blocks.
-/
module

public import Idealize.ShloMosaic.Lib.Pipeline.ValueKit
public import Idealize.ShloMosaic.Lib.Pipeline.ReadBack
public import proofs.«01_k».proof.Proof.Gen.Kernel2Ideal.Value
public import proofs.«01_k».proof.Proof.Gen.Reference2Ideal.Run
public import proofs.«01_k».proof.Proof.Gen.Reference2Ideal.Read

@[expose] public section

noncomputable section

open Idealize.ShloMosaic Idealize.ShloMosaic.TcCoe Idealize.ShloMosaic.Tactic
open Idealize.ShloMosaic.Pipeline (Dat)

namespace Cert.Kernel2Ideal.Modulation

open Cert.Kernel2Ideal Cert.Kernel2Ideal.Gen

/-- `dh` times the transposed weights: `Σ_b Σ_l dh[b,r,l] · w[b,d,l]`. -/
def du {R : ℕ} (dh : FVec Ideal ⟨3, ![8, R, 704]⟩ .bf16) (w : FVec Ideal S8x1024x704 .bf16) (r : Fin R) (d : Fin 1024) : EReal :=
  ∑ b : Fin 8, ∑ l : Fin 704, dh (ix3 b r l) * w (ix3 b d l)

/-- A grid point's product. -/
def duBlock (x0 : Vec Ideal S8x512x704 .bf16) (x1 : Vec Ideal S8x1024x704 .bf16) : FVec Ideal S512x1024 .f32 :=
  k0_pay4
    (k0_pay2 (View.ld (Val := Elt Ideal) (e' := .bf16) x0 (Rect.unit ![0, 0, 0] ![1, 512, 704] inb_S8x512x704_S1x512x704_0_0_0))
      (View.ld (Val := Elt Ideal) (e' := .bf16) x1 (Rect.unit ![0, 0, 0] ![1, 1024, 704] inb_S8x1024x704_S1x1024x704_0_0_0))
      (View.ld (Val := Elt Ideal) (e' := .bf16) x0 (Rect.unit ![1, 0, 0] ![1, 512, 704] inb_S8x512x704_S1x512x704_1_0_0))
      (View.ld (Val := Elt Ideal) (e' := .bf16) x1 (Rect.unit ![1, 0, 0] ![1, 1024, 704] inb_S8x1024x704_S1x1024x704_1_0_0))
      (View.ld (Val := Elt Ideal) (e' := .bf16) x0 (Rect.unit ![2, 0, 0] ![1, 512, 704] inb_S8x512x704_S1x512x704_2_0_0))
      (View.ld (Val := Elt Ideal) (e' := .bf16) x1 (Rect.unit ![2, 0, 0] ![1, 1024, 704] inb_S8x1024x704_S1x1024x704_2_0_0))
      (View.ld (Val := Elt Ideal) (e' := .bf16) x0 (Rect.unit ![3, 0, 0] ![1, 512, 704] inb_S8x512x704_S1x512x704_3_0_0))
      (View.ld (Val := Elt Ideal) (e' := .bf16) x1 (Rect.unit ![3, 0, 0] ![1, 1024, 704] inb_S8x1024x704_S1x1024x704_3_0_0)))
    (k0_pay3 (View.ld (Val := Elt Ideal) (e' := .bf16) x0 (Rect.unit ![4, 0, 0] ![1, 512, 704] inb_S8x512x704_S1x512x704_4_0_0)))
    (View.ld (Val := Elt Ideal) (e' := .bf16) x1 (Rect.unit ![4, 0, 0] ![1, 1024, 704] inb_S8x1024x704_S1x1024x704_4_0_0))
    (View.ld (Val := Elt Ideal) (e' := .bf16) x0 (Rect.unit ![5, 0, 0] ![1, 512, 704] inb_S8x512x704_S1x512x704_5_0_0))
    (View.ld (Val := Elt Ideal) (e' := .bf16) x1 (Rect.unit ![5, 0, 0] ![1, 1024, 704] inb_S8x1024x704_S1x1024x704_5_0_0))
    (View.ld (Val := Elt Ideal) (e' := .bf16) x0 (Rect.unit ![6, 0, 0] ![1, 512, 704] inb_S8x512x704_S1x512x704_6_0_0))
    (View.ld (Val := Elt Ideal) (e' := .bf16) x1 (Rect.unit ![6, 0, 0] ![1, 1024, 704] inb_S8x1024x704_S1x1024x704_6_0_0))
    (View.ld (Val := Elt Ideal) (e' := .bf16) x0 (Rect.unit ![7, 0, 0] ![1, 512, 704] inb_S8x512x704_S1x512x704_7_0_0))
    (View.ld (Val := Elt Ideal) (e' := .bf16) x1 (Rect.unit ![7, 0, 0] ![1, 1024, 704] inb_S8x1024x704_S1x1024x704_7_0_0))

theorem duBlock_apply (x0 : Vec Ideal S8x512x704 .bf16) (x1 : Vec Ideal S8x1024x704 .bf16) (r : Fin 512) (d : Fin 1024) :
    duBlock x0 x1 (ix2 r d) = du x0 x1 r d := by
  unfold duBlock k0_pay4 k0_pay3 k0_pay2
  pointwise
  unfold du
  rw [Fin.sum_univ_eight]

theorem pay5_apply (j : S1x1x1024.Idx) : (k0_pay5 : FVec Ideal S1x1x1024 .f32) j = 0 := Ideal.ofBits_zero_f32
theorem pay6_apply (j : S1x1x1024.Idx) : (k0_pay6 : FVec Ideal S1x1x1024 .f32) j = 0 := Ideal.ofBits_zero_f32

theorem pay7_apply (v : FVec Ideal S512x1024 .f32) (dr : FVec Ideal S512x1024 .f32) (sc : FVec Ideal S1x1x1024 .f32) (r : Fin 512) (d : Fin 1024) :
    k0_pay7 v dr sc (ix2 r d) = Ideal.ofBits .f32 1066940400#32 * dr (ix2 r d) + v (ix2 r d) * (1 + sc (ix3 0 0 d)) := by
  unfold k0_pay7
  pointwise

theorem pay8_apply (v : FVec Ideal S512x1024 .f32) (x : FVec Ideal S512x1024 .f32) (g b : FVec Ideal S1x1024 .f32) (acc : FVec Ideal S1x1x1024 .f32) (d : Fin 1024) :
    k0_pay8 v x g b acc (ix3 0 0 d) = acc (ix3 0 0 d) + ∑ r : Fin 512, v (ix2 r d) * (x (ix2 r d) * g (ix2 0 d) + b (ix2 0 d)) := by
  unfold k0_pay8
  pointwise

theorem pay1_apply (v : FVec Ideal S512x1024 .f32) (acc : FVec Ideal S1x1x1024 .f32) (d : Fin 1024) :
    k0_pay1 v acc (ix3 0 0 d) = acc (ix3 0 0 d) + ∑ r : Fin 512, v (ix2 r d) := by
  unfold k0_pay1
  pointwise

variable (m : (ℓ : Loc nD τ sig) → Buf (Elt Ideal) ℓ) (c : Dev nD)

/-- The block of the activations' gradient. -/
theorem dx_eq (t : Fin cfg0.N) (r : Fin 512) (d : Fin 1024) :
    (outsAt0 m c t.val t.isLt).1 (ix2 r d) = Ideal.ofBits .f32 1066940400#32 * iblk m c 2 t (ix2 r d) +
      du (iblk m c 0 t) (iblk m c 1 t) r d * (1 + iblk m c 6 t (ix3 0 0 d)) := by
  by_cases h : t.val % 4 = 0
  · rw [outsAt0_A m c t h]
    frame_out
    exact (pay7_apply (duBlock (iblk m c 0 t) (iblk m c 1 t)) (iblk m c 2 t) (iblk m c 6 t) r d).trans (by rw [duBlock_apply])
  · rw [outsAt0_B m c t h]
    frame_out
    exact (pay7_apply (duBlock (iblk m c 0 t) (iblk m c 1 t)) (iblk m c 2 t) (iblk m c 6 t) r d).trans (by rw [duBlock_apply])

/-- What a grid point adds to the scale's gradient. -/
def dscPart (x0 : FVec Ideal S8x512x704 .bf16) (x1 : FVec Ideal S8x1024x704 .bf16) (x : FVec Ideal S512x1024 .f32) (g b : FVec Ideal S1x1024 .f32) (d : Fin 1024) : EReal :=
  ∑ r : Fin 512, du x0 x1 r d * (x (ix2 r d) * g (ix2 0 d) + b (ix2 0 d))

/-- What a grid point adds to the shift's gradient. -/
def dshPart (x0 : FVec Ideal S8x512x704 .bf16) (x1 : FVec Ideal S8x1024x704 .bf16) (d : Fin 1024) : EReal :=
  ∑ r : Fin 512, du x0 x1 r d

theorem dsc_step (x0 : FVec Ideal S8x512x704 .bf16) (x1 : FVec Ideal S8x1024x704 .bf16) (x : FVec Ideal S512x1024 .f32) (g b : FVec Ideal S1x1024 .f32)
    (acc : FVec Ideal S1x1x1024 .f32) (j : S1x1x1024.Idx) : k0_pay8 (duBlock x0 x1) x g b acc j = acc j + dscPart x0 x1 x g b (j 2) := by
  obtain ⟨u, v, d, rfl⟩ : ∃ u v d, j = ix3 u v d := ⟨j 0, j 1, j 2, eq_ix3 j⟩
  obtain rfl : u = 0 := Subsingleton.elim _ _
  obtain rfl : v = 0 := Subsingleton.elim _ _
  rw [pay8_apply]
  simp only [duBlock_apply]
  rfl

theorem dsh_step (x0 : FVec Ideal S8x512x704 .bf16) (x1 : FVec Ideal S8x1024x704 .bf16)
    (acc : FVec Ideal S1x1x1024 .f32) (j : S1x1x1024.Idx) : k0_pay1 (duBlock x0 x1) acc j = acc j + dshPart x0 x1 (j 2) := by
  obtain ⟨u, v, d, rfl⟩ : ∃ u v d, j = ix3 u v d := ⟨j 0, j 1, j 2, eq_ix3 j⟩
  obtain rfl : u = 0 := Subsingleton.elim _ _
  obtain rfl : v = 0 := Subsingleton.elim _ _
  rw [pay1_apply]
  simp only [duBlock_apply]
  rfl

theorem dsc_eq (t : Fin cfg0.N) (ht : t.val % 4 = 3) (j : S1x1x1024.Idx) :
    (outsAt0 m c t.val t.isLt).2.1 j = ∑ s : Fin 4, (fun t : Fin cfg0.N => dscPart (iblk m c 0 t) (iblk m c 1 t) (iblk m c 3 t) (iblk m c 4 t) (iblk m c 5 t) (j 2))
      ⟨4 * (t.val / 4) + s.val, Pipeline.run_point_lt_of_flush t ht s⟩ := by
  rw [Pipeline.eq_sum_fin_of_reset_step_apply_of_flush (fun n h => (outsAt0 m c n h).2.1) 4 (fun _ => 0)
    (fun t (j : S1x1x1024.Idx) => dscPart (iblk m c 0 t) (iblk m c 1 t) (iblk m c 3 t) (iblk m c 4 t) (iblk m c 5 t) (j 2))
    (fun t h j => by
      rw [outsAt0_A m c t h]; frame_out
      exact (dsc_step (iblk m c 0 t) (iblk m c 1 t) (iblk m c 3 t) (iblk m c 4 t) (iblk m c 5 t) k0_pay5 j).trans (by rw [pay5_apply]))
    (fun t h j => by
      rw [outsAt0_B m c t h]; frame_out
      exact dsc_step (iblk m c 0 t) (iblk m c 1 t) (iblk m c 3 t) (iblk m c 4 t) (iblk m c 5 t) _ j) t ht j, zero_add]

theorem dsh_eq (t : Fin cfg0.N) (ht : t.val % 4 = 3) (j : S1x1x1024.Idx) :
    (outsAt0 m c t.val t.isLt).2.2 j = ∑ s : Fin 4, (fun t : Fin cfg0.N => dshPart (iblk m c 0 t) (iblk m c 1 t) (j 2))
      ⟨4 * (t.val / 4) + s.val, Pipeline.run_point_lt_of_flush t ht s⟩ := by
  rw [Pipeline.eq_sum_fin_of_reset_step_apply_of_flush (fun n h => (outsAt0 m c n h).2.2) 4 (fun _ => 0)
    (fun t (j : S1x1x1024.Idx) => dshPart (iblk m c 0 t) (iblk m c 1 t) (j 2))
    (fun t h j => by
      rw [outsAt0_A m c t h]; frame_out
      exact (dsh_step (iblk m c 0 t) (iblk m c 1 t) k0_pay6 j).trans (by rw [pay6_apply]))
    (fun t h j => by
      rw [outsAt0_B m c t h]; frame_out
      exact dsh_step (iblk m c 0 t) (iblk m c 1 t) _ j) t ht j, zero_add]

/-- Row `r` of sequence `s`. -/
def row (s : Fin 4) (r : Fin 2048) : Fin 8192 := ⟨s.val * 2048 + r.val, by omega⟩

/-- The activations' gradient. -/
def dx (dh : FVec Ideal S8x8192x704 .bf16) (w : FVec Ideal S8x1024x704 .bf16) (dr : FVec Ideal S8192x1024 .f32) (sc : FVec Ideal S4x1x1024 .f32) :
    FVec Ideal S8192x1024 .f32 :=
  fun j => Ideal.ofBits .f32 1066940400#32 * dr j +
    du dh w (j 0) (j 1) * (1 + sc (ix3 ⟨(j 0).val / 2048, Nat.div_lt_of_lt_mul (j 0).isLt⟩ 0 (j 1)))

/-- The scale's gradient, a sum over each sequence's rows. -/
def dsc (dh : FVec Ideal S8x8192x704 .bf16) (w : FVec Ideal S8x1024x704 .bf16) (x : FVec Ideal S8192x1024 .f32) (g b : FVec Ideal S1x1024 .f32) :
    FVec Ideal S4x1x1024 .f32 :=
  fun j => ∑ r : Fin 2048, du dh w (row (j 0) r) (j 2) * (x (ix2 (row (j 0) r) (j 2)) * g (ix2 0 (j 2)) + b (ix2 0 (j 2)))

/-- The shift's gradient. -/
def dsh (dh : FVec Ideal S8x8192x704 .bf16) (w : FVec Ideal S8x1024x704 .bf16) : FVec Ideal S4x1x1024 .f32 :=
  fun j => ∑ r : Fin 2048, du dh w (row (j 0) r) (j 2)

theorem index_in : ∀ t : Fin cfg0.N, win0_0.index t = ![0, t.val, 0] ∧ win0_1.index t = ![0, 0, 0] ∧ win0_2.index t = ![t.val, 0] ∧
    win0_3.index t = ![t.val, 0] ∧ win0_4.index t = ![0, 0] ∧ win0_5.index t = ![0, 0] ∧ win0_6.index t = ![t.val / 4, 0, 0] :=
  (by decide +kernel : ∀ t : Fin grid0.N, _)

theorem index_out : ∀ t : Fin cfg0.N, win0_7.index t = ![t.val, 0] ∧ win0_8.index t = ![t.val / 4, 0, 0] ∧ win0_9.index t = ![t.val / 4, 0, 0] :=
  (by decide +kernel : ∀ t : Fin grid0.N, _)

/-- A block's product is the whole product's block. -/
theorem du_eq (t : Fin cfg0.N) (r : Fin 512) (d : Fin 1024) (r' : Fin 8192) (d' : Fin 1024) (hr : r'.val = t.val * 512 + r.val) (hd : d' = d) :
    du (iblk m c 0 t) (iblk m c 1 t) r d = du (m ((c : Thread nD τ).loc main_arg0)) (m ((c : Thread nD τ).loc main_arg1)) r' d' := by
  subst hd
  refine Finset.sum_congr rfl fun b _ => Finset.sum_congr rfl fun l _ => ?_
  congr 1 <;> blk_ext [iblk, V_main_arg0, V_main_arg1, index_in]

theorem final_dx : (dats m 0 c).arrAt 7 cfg0.N = dx (m ((c : Thread nD τ).loc main_arg0)) (m ((c : Thread nD τ).loc main_arg1))
    (m ((c : Thread nD τ).loc main_arg2)) (m ((c : Thread nD τ).loc main_arg6)) := by
  refine (dats m 0 c).arrAt_eq_of_covers 7 _ (by decide +kernel) fun t hf y => ?_
  obtain ⟨r, d, rfl⟩ : ∃ r d, y = ix2 r d := ⟨y 0, y 1, eq_ix2 y⟩
  blk_simp
  rw [after0_7, dx_eq m c t r d]
  refine congrArg₂ (fun x y : EReal => x + y) (congrArg (fun x : EReal => _ * x) ?_)
    (congrArg₂ (fun x y : EReal => x * y) (du_eq m c t r d _ _ ?_ ?_) (congrArg (fun x : EReal => 1 + x) ?_))
  · blk_ext [iblk, V_main_arg2, index_in, index_out t]
  · blk_simp [index_out t]
  · apply Fin.ext
    blk_simp [index_out t]
  · blk_ext [iblk, V_main_arg6, index_in, index_out t]

theorem final_dsc : (dats m 0 c).arrAt 8 cfg0.N = dsc (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 8 _ (by decide +kernel) fun t hf y => ?_
  have h3 := (flush0_8 t).mp hf
  blk_simp
  rw [after0_8, dsc_eq m c t h3]
  refine Fin.sum_mul_add_congr (S := 4) (n := 512) fun s k hl => ?_
  refine congrArg₂ (fun x y : EReal => x * y) (du_eq m c _ k (y 2) _ _ ?_ ?_) (congrArg₂ (fun x y : EReal => x + y)
    (congrArg₂ (fun x y : EReal => x * y) ?_ ?_) ?_)
  · blk_simp [row, index_out t]
    dsimp only
    omega
  · apply Fin.ext
    blk_simp [index_out t]
  · blk_ext [iblk, V_main_arg3, index_in, index_out t, row]
  · blk_ext [iblk, V_main_arg4, index_in, index_out t]
  · blk_ext [iblk, V_main_arg5, index_in, index_out t]

theorem final_dsh : (dats m 0 c).arrAt 9 cfg0.N = dsh (m ((c : Thread nD τ).loc main_arg0)) (m ((c : Thread nD τ).loc main_arg1)) := by
  refine (dats m 0 c).arrAt_eq_of_covers 9 _ (by decide +kernel) fun t hf y => ?_
  have h3 := (flush0_9 t).mp hf
  blk_simp
  rw [after0_9, dsh_eq m c t h3]
  refine Fin.sum_mul_add_congr (S := 4) (n := 512) fun s k hl => ?_
  refine du_eq m c _ k (y 2) _ _ ?_ ?_
  · blk_simp [row, index_out t]
    dsimp only
    omega
  · apply Fin.ext
    blk_simp [index_out t]

end Cert.Kernel2Ideal.Modulation

namespace Cert.Reference2Ideal.Modulation

open Cert.Reference2Ideal Cert.Reference2Ideal.Gen Cert.Reference2Ideal.Read
open Cert.Kernel2Ideal.Modulation (du row)

variable (dh : FVec Ideal S8x8192x704 .bf16) (w : FVec Ideal S8x1024x704 .bf16) (dr x : FVec Ideal S8192x1024 .f32)
  (g b : FVec Ideal S1x1024 .f32) (sc : FVec Ideal S4x1x1024 .f32)

theorem du_eq (j : S8192x1024.Idx) : val_main_v22 (F := Ideal) dh w j = du dh w (j 0) (j 1) := by
  rw [val_main_v22_apply]
  refine (Fin.sum_mul_add_congr (S := 8) (n := 704) fun s k hl => ?_).symm
  rw [val_main_v21_apply, val_main_v20_apply, val_main_v19_apply, val_main_v7_apply, val_main_v6_apply, val_main_v5_apply]
  have h0 : (j 0).val < 8192 := (j 0).isLt
  have h1 : (j 1).val < 1024 := (j 1).isLt
  have hs := s.isLt
  have hk := k.isLt
  refine congrArg₂ (fun x y : EReal => x * y) (congrArg dh ?_) (congrArg w ?_) <;> funext a <;> apply Fin.ext <;>
    fin_cases a <;> dsimp <;> omega

theorem v25_eq (i : S4x2048x1024.Idx) : val_main_v25 (F := Ideal) dh w i = du dh w (row (i 0) (i 1)) (i 2) := by
  rw [val_main_v25_apply, du_eq]
  have h2 : (i 2).val < 1024 := (i 2).isLt
  refine congrArg₂ (du dh w) (Fin.ext ?_) (Fin.ext ?_)
  · change (((i 0).val * 2048 + (i 1).val) * 1024 + (i 2).val) / 1024 = (i 0).val * 2048 + (i 1).val
    omega
  · change (((i 0).val * 2048 + (i 1).val) * 1024 + (i 2).val) % 1024 = (i 2).val
    omega

theorem v8_eq (i : S4x2048x1024.Idx) : val_main_v8 (F := Ideal) x g b i = x (ix2 (row (i 0) (i 1)) (i 2)) * g (ix2 0 (i 2)) + b (ix2 0 (i 2)) := by
  rw [val_main_v8_apply, val_main_v3_apply, val_main_v2_apply, val_main_v1_apply, val_main_v0_apply]
  have h2 : (i 2).val < 1024 := (i 2).isLt
  have e0 : (((i 0).val * 2048 + (i 1).val) * 1024 + (i 2).val) / 1024 = (i 0).val * 2048 + (i 1).val := by omega
  have e1 : (((i 0).val * 2048 + (i 1).val) * 1024 + (i 2).val) % 1024 = (i 2).val := by omega
  refine congrArg₂ (fun x y : EReal => x + y) (congrArg₂ (fun x y : EReal => x * y) (congrArg x ?_) (congrArg g ?_)) (congrArg b ?_) <;>
    funext a <;> apply Fin.ext <;> fin_cases a
  exacts [e0, e1, rfl, e1, rfl, e1]

theorem dx_eq : val_main_v34 (F := Ideal) dh w dr sc = Cert.Kernel2Ideal.Modulation.dx dh w dr sc := by
  funext j
  have h0 : (j 0).val < 8192 := (j 0).isLt
  have h1 : (j 1).val < 1024 := (j 1).isLt
  rw [val_main_v34_apply, val_main_v24_apply, val_main_v23_apply, val_main_cst_2_apply, val_main_v33_apply, val_main_v32_apply,
    val_main_v31_apply, val_main_v10_apply, val_main_v9_apply, val_main_cst_0_apply, v25_eq]
  have e : ((j 0).val * 1024 + (j 1).val) / 2097152 = (j 0).val / 2048 := by omega
  have e1 : ((j 0).val * 1024 + (j 1).val) % 1024 = (j 1).val := by omega
  refine congrArg (fun x : EReal => _ + x) (congrArg₂ (fun x y : EReal => x * y) (congrArg₂ (du dh w) (Fin.ext ?_) (Fin.ext e1))
    (congrArg₂ (fun x y : EReal => x + y) Ideal.ofBits_one_f32 (congrArg sc ?_)))
  · change ((j 0).val * 1024 + (j 1).val) / 2097152 * 2048 + ((j 0).val * 1024 + (j 1).val) / 1024 % 2048 = (j 0).val
    omega
  · funext a
    apply Fin.ext
    fin_cases a
    exacts [e, rfl, e1]

/-- Row `r` of sequence `s`, the sequences an axis. -/
def cell (s : Fin 4) (r : Fin 2048) (d : Fin 1024) : S4x2048x1024.Idx := ix3 s r d

/-- The axis of size one that a sum over a sequence's rows gets back. -/
theorem idx_eq (j : S4x1x1024.Idx) (r : Fin 2048) :
    idx_main_v26 (idx_main_v27 j) r = cell (j 0) r (j 2) ∧ idx_main_v29 (idx_main_v30 j) r = cell (j 0) r (j 2) := by
  have h1 : (j 1).val < 1 := (j 1).isLt
  have h2 : (j 2).val < 1024 := (j 2).isLt
  have e0 : (((j 0).val * 1 + (j 1).val) * 1024 + (j 2).val) / 1024 = (j 0).val := by omega
  have e2 : (((j 0).val * 1 + (j 1).val) * 1024 + (j 2).val) % 1024 = (j 2).val := by omega
  constructor <;> funext a <;> apply Fin.ext <;> fin_cases a
  exacts [e0, rfl, e2, e0, rfl, e2]

theorem dsh_eq : val_main_v27 (F := Ideal) dh w = Cert.Kernel2Ideal.Modulation.dsh dh w := by
  funext j
  rw [val_main_v27_apply, val_main_v26_apply]
  refine (congrArg (fun x : EReal => x + _) Ideal.ofBits_zero_f32).trans ((zero_add _).trans (Finset.sum_congr rfl fun r _ => ?_))
  rw [(idx_eq j r).1, v25_eq]
  rfl

theorem dsc_eq : val_main_v30 (F := Ideal) dh w x g b = Cert.Kernel2Ideal.Modulation.dsc dh w x g b := by
  funext j
  rw [val_main_v30_apply, val_main_v29_apply]
  refine (congrArg (fun x : EReal => x + _) Ideal.ofBits_zero_f32).trans ((zero_add _).trans (Finset.sum_congr rfl fun r _ => ?_))
  rw [(idx_eq j r).2, val_main_v28_apply, v25_eq, v8_eq]
  exact mul_comm _ _

end Cert.Reference2Ideal.Modulation

end
-- ==== Proof.MixModulation.lean ====
/-
  The gradient through the attention layer's modulated product: seven segments of the weights' columns, blocks of 256
  rows, eight to a sequence, the scale's and the shift's gradients summed over a sequence's eight blocks.
-/
module

public import Idealize.ShloMosaic.Lib.Pipeline.ValueKit
public import Idealize.ShloMosaic.Lib.Pipeline.ReadBack
public import proofs.«01_k».proof.Proof.Gen.Kernel7Ideal.Value
public import proofs.«01_k».proof.Proof.Gen.Reference7Ideal.Run
public import proofs.«01_k».proof.Proof.Gen.Reference7Ideal.Read
public import proofs.«01_k».proof.Proof.Modulation

@[expose] public section

noncomputable section

open Idealize.ShloMosaic Idealize.ShloMosaic.TcCoe Idealize.ShloMosaic.Tactic
open Idealize.ShloMosaic.Pipeline (Dat)

namespace Cert.Kernel7Ideal.Modulation

open Cert.Kernel7Ideal Cert.Kernel7Ideal.Gen
open Cert.Kernel2Ideal.Modulation (row)

/-- Column `l` of segment `s`. -/
def col (s : Fin 7) (l : Fin 1024) : Fin 7168 := ⟨s.val * 1024 + l.val, by omega⟩

/-- The segments' gradients times their transposed weights: `Σ_s Σ_l p[s][r,l] · w[d,1024·s + l]`. -/
def du {R : ℕ} (p : Fin 7 → FVec Ideal ⟨2, ![R, 1024]⟩ .bf16) (w : FVec Ideal S1024x7168 .bf16) (r : Fin R) (d : Fin 1024) : EReal :=
  ∑ s : Fin 7, ∑ l : Fin 1024, p s (ix2 r l) * w (ix2 d (col s l))

/-- A grid point's product. -/
def duBlock (p : Fin 7 → Vec Ideal S256x1024 .bf16) (w : Vec Ideal S1024x7168 .bf16) : FVec Ideal S256x1024 .f32 :=
  k0_pay4
    (k0_pay3 (p 0) (View.ld (Val := Elt Ideal) (e' := .bf16) w (Rect.unit ![0, 0] ![1024, 1024] inb_S1024x7168_S1024x1024_0_0))
      (p 1) (View.ld (Val := Elt Ideal) (e' := .bf16) w (Rect.unit ![0, 1024] ![1024, 1024] inb_S1024x7168_S1024x1024_0_1024))
      (p 2) (View.ld (Val := Elt Ideal) (e' := .bf16) w (Rect.unit ![0, 2048] ![1024, 1024] inb_S1024x7168_S1024x1024_0_2048))
      (p 3) (View.ld (Val := Elt Ideal) (e' := .bf16) w (Rect.unit ![0, 3072] ![1024, 1024] inb_S1024x7168_S1024x1024_0_3072))
      (p 4) (View.ld (Val := Elt Ideal) (e' := .bf16) w (Rect.unit ![0, 4096] ![1024, 1024] inb_S1024x7168_S1024x1024_0_4096))
      (p 5) (View.ld (Val := Elt Ideal) (e' := .bf16) w (Rect.unit ![0, 5120] ![1024, 1024] inb_S1024x7168_S1024x1024_0_5120)))
    (p 6) (View.ld (Val := Elt Ideal) (e' := .bf16) w (Rect.unit ![0, 6144] ![1024, 1024] inb_S1024x7168_S1024x1024_0_6144))

theorem duBlock_apply (p : Fin 7 → Vec Ideal S256x1024 .bf16) (w : Vec Ideal S1024x7168 .bf16) (r : Fin 256) (d : Fin 1024) :
    duBlock p w (ix2 r d) = du p w r d := by
  unfold duBlock k0_pay4 k0_pay3
  pointwise
  unfold du
  rw [Fin.sum_univ_seven]
  simp [col]

theorem pay5_apply (j : S1x1x1024.Idx) : (k0_pay5 : FVec Ideal S1x1x1024 .f32) j = 0 := Ideal.ofBits_zero_f32
theorem pay6_apply (j : S1x1x1024.Idx) : (k0_pay6 : FVec Ideal S1x1x1024 .f32) j = 0 := Ideal.ofBits_zero_f32

theorem pay8_apply (v : FVec Ideal S256x1024 .f32) (x : FVec Ideal S256x1024 .bf16) (w : FVec Ideal S1024x1024 .bf16)
    (dr : FVec Ideal S256x1024 .f32) (sc : FVec Ideal S1x1x1024 .f32) (r : Fin 256) (d : Fin 1024) :
    k0_pay8 v x w dr sc (ix2 r d) = Ideal.ofBits .f32 1066940400#32 * dr (ix2 r d) + k0_pay4 v x w (ix2 r d) * (1 + sc (ix3 0 0 d)) := by
  unfold k0_pay8
  generalize k0_pay4 (F := Ideal) v x w = y
  pointwise

theorem pay1_apply (v : FVec Ideal S256x1024 .f32) (x : FVec Ideal S256x1024 .f32) (g b : FVec Ideal S1x1024 .f32) (acc : FVec Ideal S1x1x1024 .f32) (d : Fin 1024) :
    k0_pay1 v (k0_pay7 x g b) acc (ix3 0 0 d) = acc (ix3 0 0 d) + ∑ r : Fin 256, v (ix2 r d) * (x (ix2 r d) * g (ix2 0 d) + b (ix2 0 d)) := by
  unfold k0_pay1 k0_pay7
  pointwise

theorem pay2_apply (v : FVec Ideal S256x1024 .f32) (acc : FVec Ideal S1x1x1024 .f32) (d : Fin 1024) :
    k0_pay2 v acc (ix3 0 0 d) = acc (ix3 0 0 d) + ∑ r : Fin 256, v (ix2 r d) := by
  unfold k0_pay2
  pointwise

variable (m : (ℓ : Loc nD τ sig) → Buf (Elt Ideal) ℓ) (c : Dev nD)

/-- The segments' blocks at a grid point. -/
def parts (t : Fin cfg0.N) : Fin 7 → FVec Ideal S256x1024 .bf16 :=
  ![iblk m c 0 t, iblk m c 1 t, iblk m c 2 t, iblk m c 3 t, iblk m c 4 t, iblk m c 5 t, iblk m c 6 t]

/-- The block of the activations' gradient. -/
theorem dx_eq (t : Fin cfg0.N) (r : Fin 256) (d : Fin 1024) :
    (outsAt0 m c t.val t.isLt).1 (ix2 r d) = Ideal.ofBits .f32 1066940400#32 * iblk m c 8 t (ix2 r d) +
      du (parts m c t) (iblk m c 7 t) r d * (1 + iblk m c 12 t (ix3 0 0 d)) := by
  rw [← duBlock_apply]
  by_cases h : t.val % 8 = 0
  · rw [outsAt0_A m c t h]
    frame_out
    exact pay8_apply _ _ _ (iblk m c 8 t) (iblk m c 12 t) r d
  · rw [outsAt0_B m c t h]
    frame_out
    exact pay8_apply _ _ _ (iblk m c 8 t) (iblk m c 12 t) r d

/-- What a grid point adds to the scale's gradient. -/
def dscPart (p : Fin 7 → FVec Ideal S256x1024 .bf16) (w : FVec Ideal S1024x7168 .bf16) (x : FVec Ideal S256x1024 .f32) (g b : FVec Ideal S1x1024 .f32) (d : Fin 1024) : EReal :=
  ∑ r : Fin 256, du p w r d * (x (ix2 r d) * g (ix2 0 d) + b (ix2 0 d))

/-- What a grid point adds to the shift's gradient. -/
def dshPart (p : Fin 7 → FVec Ideal S256x1024 .bf16) (w : FVec Ideal S1024x7168 .bf16) (d : Fin 1024) : EReal :=
  ∑ r : Fin 256, du p w r d

theorem dsc_step (p : Fin 7 → FVec Ideal S256x1024 .bf16) (w : FVec Ideal S1024x7168 .bf16) (x : FVec Ideal S256x1024 .f32) (g b : FVec Ideal S1x1024 .f32)
    (acc : FVec Ideal S1x1x1024 .f32) (j : S1x1x1024.Idx) : k0_pay1 (duBlock p w) (k0_pay7 x g b) acc j = acc j + dscPart p w x g b (j 2) := by
  obtain ⟨u, v, d, rfl⟩ : ∃ u v d, j = ix3 u v d := ⟨j 0, j 1, j 2, eq_ix3 j⟩
  obtain rfl : u = 0 := Subsingleton.elim _ _
  obtain rfl : v = 0 := Subsingleton.elim _ _
  rw [pay1_apply]
  simp only [duBlock_apply]
  rfl

theorem dsh_step (p : Fin 7 → FVec Ideal S256x1024 .bf16) (w : FVec Ideal S1024x7168 .bf16)
    (acc : FVec Ideal S1x1x1024 .f32) (j : S1x1x1024.Idx) : k0_pay2 (duBlock p w) acc j = acc j + dshPart p w (j 2) := by
  obtain ⟨u, v, d, rfl⟩ : ∃ u v d, j = ix3 u v d := ⟨j 0, j 1, j 2, eq_ix3 j⟩
  obtain rfl : u = 0 := Subsingleton.elim _ _
  obtain rfl : v = 0 := Subsingleton.elim _ _
  rw [pay2_apply]
  simp only [duBlock_apply]
  rfl

theorem dsc_eq (t : Fin cfg0.N) (ht : t.val % 8 = 7) (j : S1x1x1024.Idx) :
    (outsAt0 m c t.val t.isLt).2.1 j = ∑ s : Fin 8, (fun t : Fin cfg0.N => dscPart (parts m c t) (iblk m c 7 t) (iblk m c 9 t) (iblk m c 10 t) (iblk m c 11 t) (j 2))
      ⟨8 * (t.val / 8) + s.val, Pipeline.run_point_lt_of_flush t ht s⟩ := by
  rw [Pipeline.eq_sum_fin_of_reset_step_apply_of_flush (fun n h => (outsAt0 m c n h).2.1) 8 (fun _ => 0)
    (fun t (j : S1x1x1024.Idx) => dscPart (parts m c t) (iblk m c 7 t) (iblk m c 9 t) (iblk m c 10 t) (iblk m c 11 t) (j 2))
    (fun t h j => by
      rw [outsAt0_A m c t h]; frame_out
      exact (dsc_step (parts m c t) (iblk m c 7 t) (iblk m c 9 t) (iblk m c 10 t) (iblk m c 11 t) k0_pay5 j).trans (by rw [pay5_apply]))
    (fun t h j => by
      rw [outsAt0_B m c t h]; frame_out
      exact dsc_step (parts m c t) (iblk m c 7 t) (iblk m c 9 t) (iblk m c 10 t) (iblk m c 11 t) _ j) t ht j, zero_add]

theorem dsh_eq (t : Fin cfg0.N) (ht : t.val % 8 = 7) (j : S1x1x1024.Idx) :
    (outsAt0 m c t.val t.isLt).2.2 j = ∑ s : Fin 8, (fun t : Fin cfg0.N => dshPart (parts m c t) (iblk m c 7 t) (j 2))
      ⟨8 * (t.val / 8) + s.val, Pipeline.run_point_lt_of_flush t ht s⟩ := by
  rw [Pipeline.eq_sum_fin_of_reset_step_apply_of_flush (fun n h => (outsAt0 m c n h).2.2) 8 (fun _ => 0)
    (fun t (j : S1x1x1024.Idx) => dshPart (parts m c t) (iblk m c 7 t) (j 2))
    (fun t h j => by
      rw [outsAt0_A m c t h]; frame_out
      exact (dsh_step (parts m c t) (iblk m c 7 t) k0_pay6 j).trans (by rw [pay6_apply]))
    (fun t h j => by
      rw [outsAt0_B m c t h]; frame_out
      exact dsh_step (parts m c t) (iblk m c 7 t) _ j) t ht j, zero_add]

/-- The activations' gradient. -/
def dx (p : Fin 7 → FVec Ideal S8192x1024 .bf16) (w : FVec Ideal S1024x7168 .bf16) (dr : FVec Ideal S8192x1024 .f32) (sc : FVec Ideal S4x1x1024 .f32) :
    FVec Ideal S8192x1024 .f32 :=
  fun j => Ideal.ofBits .f32 1066940400#32 * dr j +
    du p w (j 0) (j 1) * (1 + sc (ix3 ⟨(j 0).val / 2048, Nat.div_lt_of_lt_mul (j 0).isLt⟩ 0 (j 1)))

/-- The scale's gradient, a sum over each sequence's rows. -/
def dsc (p : Fin 7 → FVec Ideal S8192x1024 .bf16) (w : FVec Ideal S1024x7168 .bf16) (x : FVec Ideal S8192x1024 .f32) (g b : FVec Ideal S1x1024 .f32) :
    FVec Ideal S4x1x1024 .f32 :=
  fun j => ∑ r : Fin 2048, du p w (row (j 0) r) (j 2) * (x (ix2 (row (j 0) r) (j 2)) * g (ix2 0 (j 2)) + b (ix2 0 (j 2)))

/-- The shift's gradient. -/
def dsh (p : Fin 7 → FVec Ideal S8192x1024 .bf16) (w : FVec Ideal S1024x7168 .bf16) : FVec Ideal S4x1x1024 .f32 :=
  fun j => ∑ r : Fin 2048, du p w (row (j 0) r) (j 2)

/-- The segments' gradients as the kernel's arguments hold them. -/
def segs : Fin 7 → FVec Ideal S8192x1024 .bf16 :=
  ![m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)]

theorem index_seg : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem index_in : ∀ t : Fin cfg0.N, win0_7.index t = ![0, 0] ∧ win0_8.index t = ![t.val, 0] ∧
    win0_9.index t = ![t.val, 0] ∧ win0_10.index t = ![0, 0] ∧ win0_11.index t = ![0, 0] ∧ win0_12.index t = ![t.val / 8, 0, 0] :=
  (by decide +kernel : ∀ t : Fin grid0.N, _)

theorem index_out : ∀ t : Fin cfg0.N, win0_13.index t = ![t.val, 0] ∧ win0_14.index t = ![t.val / 8, 0, 0] ∧ win0_15.index t = ![t.val / 8, 0, 0] :=
  (by decide +kernel : ∀ t : Fin grid0.N, _)

/-- A block's product is the whole product's block. -/
theorem du_eq (t : Fin cfg0.N) (r : Fin 256) (d : Fin 1024) (r' : Fin 8192) (d' : Fin 1024) (hr : r'.val = t.val * 256 + r.val) (hd : d' = d) :
    du (parts m c t) (iblk m c 7 t) r d = du (segs m c) (m ((c : Thread nD τ).loc main_arg7)) r' d' := by
  subst hd
  have hw : ∀ s l, iblk m c 7 t (ix2 d' (col s l)) = m ((c : Thread nD τ).loc main_arg7) (ix2 d' (col s l)) := fun s l => by
    blk_ext [iblk, V_main_arg7, index_in]
  have hp : ∀ s l, parts m c t s (ix2 r l) = segs m c s (ix2 r' l) := fun s l => by
    fin_cases s <;> dsimp only [parts, segs]
    · change iblk m c 0 t (ix2 r l) = m ((c : Thread nD τ).loc main_arg0) (ix2 r' l)
      blk_ext [iblk, V_main_arg0, index_seg]
    · change iblk m c 1 t (ix2 r l) = m ((c : Thread nD τ).loc main_arg1) (ix2 r' l)
      blk_ext [iblk, V_main_arg1, index_seg]
    · change iblk m c 2 t (ix2 r l) = m ((c : Thread nD τ).loc main_arg2) (ix2 r' l)
      blk_ext [iblk, V_main_arg2, index_seg]
    · change iblk m c 3 t (ix2 r l) = m ((c : Thread nD τ).loc main_arg3) (ix2 r' l)
      blk_ext [iblk, V_main_arg3, index_seg]
    · change iblk m c 4 t (ix2 r l) = m ((c : Thread nD τ).loc main_arg4) (ix2 r' l)
      blk_ext [iblk, V_main_arg4, index_seg]
    · change iblk m c 5 t (ix2 r l) = m ((c : Thread nD τ).loc main_arg5) (ix2 r' l)
      blk_ext [iblk, V_main_arg5, index_seg]
    · change iblk m c 6 t (ix2 r l) = m ((c : Thread nD τ).loc main_arg6) (ix2 r' l)
      blk_ext [iblk, V_main_arg6, index_seg]
  refine Finset.sum_congr rfl fun s _ => Finset.sum_congr rfl fun l _ => ?_
  rw [hp, hw]

theorem final_dx : (dats m 0 c).arrAt 13 cfg0.N = dx (segs m c) (m ((c : Thread nD τ).loc main_arg7))
    (m ((c : Thread nD τ).loc main_arg8)) (m ((c : Thread nD τ).loc main_arg12)) := by
  refine (dats m 0 c).arrAt_eq_of_covers 13 _ (by decide +kernel) fun t hf y => ?_
  obtain ⟨r, d, rfl⟩ : ∃ r d, y = ix2 r d := ⟨y 0, y 1, eq_ix2 y⟩
  blk_simp
  rw [after0_13, dx_eq m c t r d]
  refine congrArg₂ (fun x y : EReal => x + y) (congrArg (fun x : EReal => _ * x) ?_)
    (congrArg₂ (fun x y : EReal => x * y) (du_eq m c t r d _ _ ?_ ?_) (congrArg (fun x : EReal => 1 + x) ?_))
  · blk_ext [iblk, V_main_arg8, index_in, index_out t]
  · blk_simp [index_out t]
  · apply Fin.ext
    blk_simp [index_out t]
  · blk_ext [iblk, V_main_arg12, index_in, index_out t]

theorem final_dsc : (dats m 0 c).arrAt 14 cfg0.N = dsc (segs m c) (m ((c : Thread nD τ).loc main_arg7))
    (m ((c : Thread nD τ).loc main_arg9)) (m ((c : Thread nD τ).loc main_arg10)) (m ((c : Thread nD τ).loc main_arg11)) := by
  refine (dats m 0 c).arrAt_eq_of_covers 14 _ (by decide +kernel) fun t hf y => ?_
  have h3 := (flush0_14 t).mp hf
  blk_simp
  rw [after0_14, dsc_eq m c t h3]
  refine Fin.sum_mul_add_congr (S := 8) (n := 256) fun s k hl => ?_
  refine congrArg₂ (fun x y : EReal => x * y) (du_eq m c _ k (y 2) _ _ ?_ ?_) (congrArg₂ (fun x y : EReal => x + y)
    (congrArg₂ (fun x y : EReal => x * y) ?_ ?_) ?_)
  · blk_simp [row, index_out t]
    dsimp only
    omega
  · apply Fin.ext
    blk_simp [index_out t]
  · blk_ext [iblk, V_main_arg9, index_in, index_out t, row]
  · blk_ext [iblk, V_main_arg10, index_in, index_out t]
  · blk_ext [iblk, V_main_arg11, index_in, index_out t]

theorem final_dsh : (dats m 0 c).arrAt 15 cfg0.N = dsh (segs m c) (m ((c : Thread nD τ).loc main_arg7)) := by
  refine (dats m 0 c).arrAt_eq_of_covers 15 _ (by decide +kernel) fun t hf y => ?_
  have h3 := (flush0_15 t).mp hf
  blk_simp
  rw [after0_15, dsh_eq m c t h3]
  refine Fin.sum_mul_add_congr (S := 8) (n := 256) fun s k hl => ?_
  refine du_eq m c _ k (y 2) _ _ ?_ ?_
  · blk_simp [row, index_out t]
    dsimp only
    omega
  · apply Fin.ext
    blk_simp [index_out t]

end Cert.Kernel7Ideal.Modulation

namespace Cert.Reference7Ideal.Modulation

open Cert.Reference7Ideal Cert.Reference7Ideal.Gen Cert.Reference7Ideal.Read
open Cert.Kernel2Ideal.Modulation (row)
open Cert.Kernel7Ideal.Modulation (du col)

variable (p0 p1 p2 p3 p4 p5 p6 : FVec Ideal S8192x1024 .bf16) (w : FVec Ideal S1024x7168 .bf16) (dr x : FVec Ideal S8192x1024 .f32)
  (g b : FVec Ideal S1x1024 .f32) (sc : FVec Ideal S4x1x1024 .f32)

/-- A column of the joined segments is a column of one of them. -/
theorem joined_eq (r : Fin 8192) (s : Fin 7) (l : Fin 1024) :
    val_main_v11 (F := Ideal) p0 p1 p2 p3 p4 p5 p6 (ix2 r (col s l)) = ![p0, p1, p2, p3, p4, p5, p6] s (ix2 r l) := by
  refine concatenate_ofFn_apply (t := S8192x7168) (s₁ := S8192x1024) (1 : Fin 2) (N := 7) ![p0, p1, p2, p3, p4, p5, p6]
    concatenates_S8192x1024_S8192x1024_S8192x1024_S8192x1024_S8192x1024_S8192x1024_S8192x1024_S8192x7168_d1 rfl 1024 rfl (ix2 r (col s l)) s ?_ (ix2 r l) ?_ ?_
  · change (s.val * 1024 + l.val) / 1024 = s.val
    omega
  · change l.val = (s.val * 1024 + l.val) % 1024
    omega
  · intro a ha
    fin_cases a
    · rfl
    · exact absurd rfl ha

theorem du_eq (j : S8192x1024.Idx) : val_main_v25 (F := Ideal) p0 p1 p2 p3 p4 p5 p6 w j = du ![p0, p1, p2, p3, p4, p5, p6] w (j 0) (j 1) := by
  rw [val_main_v25_apply]
  refine (Fin.sum_mul_add_congr (S := 7) (n := 1024) fun s k hl => ?_).symm
  refine (congrArg (fun x : EReal => x * _) (joined_eq p0 p1 p2 p3 p4 p5 p6 (j 0) s k).symm).trans ?_
  rw [val_main_v13_apply]
  refine congrArg₂ (fun x y : EReal => x * y) (congrArg (val_main_v11 (F := Ideal) p0 p1 p2 p3 p4 p5 p6) ?_) (congrArg w ?_) <;> funext a <;> apply Fin.ext <;>
    fin_cases a <;> rfl

theorem v28_eq (i : S4x2048x1024.Idx) : val_main_v28 (F := Ideal) p0 p1 p2 p3 p4 p5 p6 w i = du ![p0, p1, p2, p3, p4, p5, p6] w (row (i 0) (i 1)) (i 2) := by
  rw [val_main_v28_apply, du_eq]
  have h2 : (i 2).val < 1024 := (i 2).isLt
  refine congrArg₂ (du ![p0, p1, p2, p3, p4, p5, p6] w) (Fin.ext ?_) (Fin.ext ?_)
  · change (((i 0).val * 2048 + (i 1).val) * 1024 + (i 2).val) / 1024 = (i 0).val * 2048 + (i 1).val
    omega
  · change (((i 0).val * 2048 + (i 1).val) * 1024 + (i 2).val) % 1024 = (i 2).val
    omega

theorem v14_eq (i : S4x2048x1024.Idx) : val_main_v14 (F := Ideal) x g b i = x (ix2 (row (i 0) (i 1)) (i 2)) * g (ix2 0 (i 2)) + b (ix2 0 (i 2)) := by
  rw [val_main_v14_apply, val_main_v3_apply, val_main_v2_apply, val_main_v1_apply, val_main_v0_apply]
  have h2 : (i 2).val < 1024 := (i 2).isLt
  have e0 : (((i 0).val * 2048 + (i 1).val) * 1024 + (i 2).val) / 1024 = (i 0).val * 2048 + (i 1).val := by omega
  have e1 : (((i 0).val * 2048 + (i 1).val) * 1024 + (i 2).val) % 1024 = (i 2).val := by omega
  refine congrArg₂ (fun x y : EReal => x + y) (congrArg₂ (fun x y : EReal => x * y) (congrArg x ?_) (congrArg g ?_)) (congrArg b ?_) <;>
    funext a <;> apply Fin.ext <;> fin_cases a
  exacts [e0, e1, rfl, e1, rfl, e1]

theorem dx_eq : val_main_v37 (F := Ideal) p0 p1 p2 p3 p4 p5 p6 w dr sc = Cert.Kernel7Ideal.Modulation.dx ![p0, p1, p2, p3, p4, p5, p6] w dr sc := by
  funext j
  have h0 : (j 0).val < 8192 := (j 0).isLt
  have h1 : (j 1).val < 1024 := (j 1).isLt
  rw [val_main_v37_apply, val_main_v27_apply, val_main_v26_apply, val_main_cst_2_apply, val_main_v36_apply, val_main_v35_apply,
    val_main_v34_apply, val_main_v16_apply, val_main_v15_apply, val_main_cst_0_apply, v28_eq]
  have e : ((j 0).val * 1024 + (j 1).val) / 2097152 = (j 0).val / 2048 := by omega
  have e1 : ((j 0).val * 1024 + (j 1).val) % 1024 = (j 1).val := by omega
  refine congrArg (fun x : EReal => _ + x) (congrArg₂ (fun x y : EReal => x * y) (congrArg₂ (du ![p0, p1, p2, p3, p4, p5, p6] w) (Fin.ext ?_) (Fin.ext e1))
    (congrArg₂ (fun x y : EReal => x + y) Ideal.ofBits_one_f32 (congrArg sc ?_)))
  · change ((j 0).val * 1024 + (j 1).val) / 2097152 * 2048 + ((j 0).val * 1024 + (j 1).val) / 1024 % 2048 = (j 0).val
    omega
  · funext a
    apply Fin.ext
    fin_cases a
    exacts [e, rfl, e1]

/-- Row `r` of sequence `s`, the sequences an axis. -/
def cell (s : Fin 4) (r : Fin 2048) (d : Fin 1024) : S4x2048x1024.Idx := ix3 s r d

/-- The axis of size one that a sum over a sequence's rows gets back. -/
theorem idx_eq (j : S4x1x1024.Idx) (r : Fin 2048) :
    idx_main_v29 (idx_main_v30 j) r = cell (j 0) r (j 2) ∧ idx_main_v32 (idx_main_v33 j) r = cell (j 0) r (j 2) := by
  have h1 : (j 1).val < 1 := (j 1).isLt
  have h2 : (j 2).val < 1024 := (j 2).isLt
  have e0 : (((j 0).val * 1 + (j 1).val) * 1024 + (j 2).val) / 1024 = (j 0).val := by omega
  have e2 : (((j 0).val * 1 + (j 1).val) * 1024 + (j 2).val) % 1024 = (j 2).val := by omega
  constructor <;> funext a <;> apply Fin.ext <;> fin_cases a
  exacts [e0, rfl, e2, e0, rfl, e2]

theorem dsh_eq : val_main_v30 (F := Ideal) p0 p1 p2 p3 p4 p5 p6 w = Cert.Kernel7Ideal.Modulation.dsh ![p0, p1, p2, p3, p4, p5, p6] w := by
  funext j
  rw [val_main_v30_apply, val_main_v29_apply]
  refine (congrArg (fun x : EReal => x + _) Ideal.ofBits_zero_f32).trans ((zero_add _).trans (Finset.sum_congr rfl fun r _ => ?_))
  rw [(idx_eq j r).1, v28_eq]
  rfl

theorem dsc_eq : val_main_v33 (F := Ideal) p0 p1 p2 p3 p4 p5 p6 w x g b = Cert.Kernel7Ideal.Modulation.dsc ![p0, p1, p2, p3, p4, p5, p6] w x g b := by
  funext j
  rw [val_main_v33_apply, val_main_v32_apply]
  refine (congrArg (fun x : EReal => x + _) Ideal.ofBits_zero_f32).trans ((zero_add _).trans (Finset.sum_congr rfl fun r _ => ?_))
  rw [(idx_eq j r).2, val_main_v31_apply, v28_eq, v14_eq]
  exact mul_comm _ _

end Cert.Reference7Ideal.Modulation

end
-- ==== Proof.SquareWgrad.lean ====
/-
  The weight gradients of the three square projections: the product over all rows, summed over four blocks of rows.
-/
module

public import Idealize.ShloMosaic.Lib.Pipeline.ValueKit
public import Idealize.ShloMosaic.Lib.Pipeline.ReadBack
public import proofs.«01_k».proof.Proof.Gen.Kernel5Ideal.Value
public import proofs.«01_k».proof.Proof.Gen.Reference5Ideal.Run
public import proofs.«01_k».proof.Proof.Gen.Reference5Ideal.Read

@[expose] public section

noncomputable section

open Idealize.ShloMosaic Idealize.ShloMosaic.TcCoe Idealize.ShloMosaic.Tactic
open Idealize.ShloMosaic.Pipeline (Dat)

namespace Cert.Kernel5Ideal.Wgrad

open Cert.Kernel5Ideal Cert.Kernel5Ideal.Gen

/-- The gradient of the weights: `Σ_r x[r,i] · g[r,j]`. -/
def grad (x g : FVec Ideal S8192x1024 .bf16) : FVec Ideal S1024x1024 .f32 :=
  fun j => ∑ r : Fin 8192, x (ix2 r (j 0)) * g (ix2 r (j 1))

/-- What a grid point adds to the running sum. -/
def part (x0 x1 : FVec Ideal S2048x1024 .bf16) (i j : Fin 1024) : EReal :=
  ∑ k : Fin 2048, x0 (ix2 k i) * x1 (ix2 k j)

theorem pay1_apply (i : S1024x1024.Idx) : (k0_pay1 : FVec Ideal S1024x1024 .f32) i = 0 := Ideal.ofBits_zero_f32

theorem pay2_apply (acc : FVec Ideal S1024x1024 .f32) (x0 x1 : FVec Ideal S2048x1024 .bf16) (j : S1024x1024.Idx) :
    k0_pay2 acc x0 x1 j = acc j + part x0 x1 (j 0) (j 1) := by
  obtain ⟨i, j, rfl⟩ : ∃ a b, j = ix2 a b := ⟨j 0, j 1, eq_ix2 j⟩
  unfold k0_pay2
  pointwise
  rfl

variable (m : (ℓ : Loc nD τ sig) → Buf (Elt Ideal) ℓ) (c : Dev nD)

/-- The running sum after the last of the four points. -/
theorem scratch_eq (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) (j 0) (j 1) := by
  rw [Pipeline.eq_sum_fin_of_reset_step_apply_of_flush (fun n h => (outsAt0 m c n h).2) 4 (fun _ => 0)
    (fun t (j : S1024x1024.Idx) => part (iblk m c 0 t) (iblk m c 1 t) (j 0) (j 1))
    (fun t h j => by rw [outsAt0_A m c t (by omega) (by omega)]; frame_out; rw [pay2_apply, pay1_apply])
    (fun t h j => by
      by_cases h3 : t.val % 4 = 3
      · rw [outsAt0_C m c t (by omega) (by omega)]; frame_out; simp only [read_unread_whole]; rw [pay2_apply]
      · rw [outsAt0_B m c t (by omega) (by omega)]; frame_out; simp only [read_unread_whole]; rw [pay2_apply]) t ht j, zero_add]

/-- What is written back is the running sum. -/
theorem out_eq (t : Fin cfg0.N) (h3 : t.val % 4 = 3) (j : S1024x1024.Idx) :
    (outsAt0 m c t.val t.isLt).1 j = (outsAt0 m c t.val t.isLt).2 j := by
  rw [outsAt0_C m c t (by omega) (by omega)]
  frame_out

theorem index_in : ∀ t : Fin cfg0.N, win0_0.index t = ![t.val, 0] ∧ win0_1.index t = ![t.val, 0] :=
  (by decide +kernel : ∀ t : Fin grid0.N, _)

theorem index_out : ∀ t : Fin cfg0.N, win0_2.index t = ![0, 0] := (by decide +kernel : ∀ t : Fin grid0.N, _)

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  have ht : t.val < 4 := t.isLt
  blk_simp
  rw [after0_2, out_eq m c t (by omega), scratch_eq m c t (by omega)]
  refine Fin.sum_mul_add_congr (S := 4) (n := 2048) fun s k hl => ?_
  congr 1 <;> blk_ext [iblk, V_main_arg0, V_main_arg1, index_in, index_out t]

end Cert.Kernel5Ideal.Wgrad

namespace Cert.Reference5Ideal.Wgrad

open Cert.Reference5Ideal Cert.Reference5Ideal.Gen Cert.Reference5Ideal.Read

theorem value_eq (x g : FVec Ideal S8192x1024 .bf16) : val_main_v5 (F := Ideal) x g = Cert.Kernel5Ideal.Wgrad.grad x g := by
  funext j
  rw [val_main_v5_apply, val_main_v4_apply]
  refine Finset.sum_congr rfl fun r _ => ?_
  rw [val_main_v0_apply, val_main_v1_apply]
  refine (mul_comm _ _).trans ?_
  refine congrArg₂ (fun x y : EReal => x * y) (congrArg x ?_) (congrArg g ?_) <;> funext a <;> apply Fin.ext <;>
    fin_cases a <;> rfl

end Cert.Reference5Ideal.Wgrad

end
-- ==== Proof.Rows.lean ====
/-
  What the layers' calls compute of a row: a logistic gate, a row times a matrix or its transpose.
-/
module

public import Idealize.ShloMosaic.Lib.Pipeline.ValueKit

@[expose] public section

noncomputable section

open Idealize.ShloMosaic Idealize.ShloMosaic.TcCoe Idealize.ShloMosaic.Tactic

namespace Cert.Rows

/-- The logistic function. -/
def logistic (x : EReal) : EReal := Ideal.div 1 (1 + Ideal.exp (-x))

/-- A row times a matrix: `Σ_k x[k] · w[k,d]`. -/
def mul {K N : ℕ} (x : Fin K → EReal) (w : (⟨2, ![K, N]⟩ : Shape).Idx → EReal) (d : Fin N) : EReal := ∑ k : Fin K, x k * w (ix2 k d)

/-- A row times a transposed matrix: `Σ_k x[k] · w[d,k]`. -/
def mulT {K N : ℕ} (x : Fin K → EReal) (w : (⟨2, ![N, K]⟩ : Shape).Idx → EReal) (d : Fin N) : EReal := ∑ k : Fin K, x k * w (ix2 d k)

/-- Column `k` of the `s`-th quarter of the projection's columns. -/
def quarter (s : Fin 4) (k : Fin 1024) : Fin 4096 := ⟨s.val * 1024 + k.val, by omega⟩

/-- Row `r` of the `s`-th quarter of an array's columns. -/
abbrev quarterRow (x : (⟨2, ![8192, 4096]⟩ : Shape).Idx → EReal) (s : Fin 4) (r : Fin 8192) (k : Fin 1024) : EReal := x (ix2 r (quarter s k))

/-- Row `r` of the `t`-th block of 256 rows. -/
def row256 {N : ℕ} (hN : N = 32) (t : Fin N) (r : Fin 256) : Fin 8192 := ⟨t.val * 256 + r.val, by omega⟩

/-- Row `r` of the `t`-th block of 512 rows. -/
def row512 {N : ℕ} (hN : N = 16) (t : Fin N) (r : Fin 512) : Fin 8192 := ⟨t.val * 512 + r.val, by omega⟩

/-- Row `r` of an array. -/
abbrev row {R K : ℕ} (x : (⟨2, ![R, K]⟩ : Shape).Idx → EReal) (r : Fin R) (k : Fin K) : EReal := x (ix2 r k)

/-- A layer's input of a row: `x·g + b`. -/
def scaled {D : ℕ} (x : Fin D → EReal) (g b : (⟨2, ![1, D]⟩ : Shape).Idx → EReal) (d : Fin D) : EReal := x d * g (ix2 0 d) + b (ix2 0 d)

/-- The modulation of a row: `(x·g + b)·(1 + sc) + sh`. -/
def modulated {D : ℕ} (x : Fin D → EReal) (g b : (⟨2, ![1, D]⟩ : Shape).Idx → EReal) (sc sh : Fin D → EReal) (d : Fin D) : EReal :=
  scaled x g b d * (1 + sc d) + sh d

/-- A sequence's row of an array that has one row for each. -/
abbrev seqRow {S D : ℕ} (x : (⟨3, ![S, 1, D]⟩ : Shape).Idx → EReal) (s : Fin S) (d : Fin D) : EReal := x (ix3 s 0 d)

/-- A row's mean, of 1024 entries. -/
def mean (y : Fin 1024 → EReal) : EReal := Ideal.div (∑ k, y k) (Ideal.ofBits .f32 0x44800000#32)

/-- A row less its mean. -/
def centred (y : Fin 1024 → EReal) (d : Fin 1024) : EReal := y d - mean y

/-- One over the square root of a row's variance and the small constant. -/
def rstd (y : Fin 1024 → EReal) : EReal := Ideal.rsqrt (mean (fun k => centred y k * centred y k) + Ideal.ofBits .f32 0x3727C5AC#32)

/-- A row normalised: less its mean, times `rstd`. -/
def normed (y : Fin 1024 → EReal) (d : Fin 1024) : EReal := centred y d * rstd y

/-- A layer's input, scaled by the constant of deep residuals, and the gated output added. -/
def residual (x : Fin 1024 → EReal) (g b : (⟨2, ![1, 1024]⟩ : Shape).Idx → EReal) (gate f : Fin 1024 → EReal) (d : Fin 1024) : EReal :=
  Ideal.ofBits .f32 0x3F9837F0#32 * scaled x g b d + gate d * f d

/-- The sequence that row `r` is in: four of 2048 rows. -/
def seqOf (r : Fin 8192) : Fin 4 := ⟨r.val / 2048, Nat.div_lt_of_lt_mul r.isLt⟩

/-- Where an entry of the rows stands among the sequences, and back. -/
theorem unflat (r d : ℕ) (hd : d < 1024) : (r * 1024 + d) / 2097152 = r / 2048 ∧ (r * 1024 + d) % 1024 = d ∧
    (((r * 1024 + d) / 2097152 * 2048 + (r * 1024 + d) / 1024 % 2048) * 1024 + (r * 1024 + d) % 1024) / 1024 = r ∧
    (((r * 1024 + d) / 2097152 * 2048 + (r * 1024 + d) / 1024 % 2048) * 1024 + (r * 1024 + d) % 1024) % 1024 = d := by
  omega

theorem logistic_eq (x : EReal) : Ideal.div 1 (1 + Ideal.exp (0 - x)) = logistic x := by rw [logistic, zero_sub]

end Cert.Rows

end
-- ==== Proof.Merge.lean ====
/-
  The gradient through the attention layer's gated merge `(σ(ga)·ysb + σ(gb)·yco)·wout` and through the two products
  that made `ysb` and `yco`: blocks of 256 rows, every row by itself.
-/
module

public import Idealize.ShloMosaic.Lib.Pipeline.ValueKit
public import Idealize.ShloMosaic.Lib.Pipeline.ReadBack
public import proofs.«01_k».proof.Proof.Gen.Kernel6Ideal.Value
public import proofs.«01_k».proof.Proof.Gen.Reference6Ideal.Run
public import proofs.«01_k».proof.Proof.Gen.Reference6Ideal.Read
public import proofs.«01_k».proof.Proof.Rows

@[expose] public section

noncomputable section

open Idealize.ShloMosaic Idealize.ShloMosaic.TcCoe Idealize.ShloMosaic.Tactic
open Idealize.ShloMosaic.Pipeline (Dat)

namespace Cert.Kernel6Ideal.Merge

open Cert.Kernel6Ideal Cert.Kernel6Ideal.Gen
open Cert.Rows

/-- A branch's gradient, of a row: `dm · σ(a)` with `dm = do · woutᵀ`. -/
def dy (o a : Fin 1024 → EReal) (wout : FVec Ideal S1024x1024 .bf16) (d : Fin 1024) : EReal := mulT o wout d * logistic (a d)

/-- A gate's gradient, of a row: `dm · y · σ(a)·(1 − σ(a))`. -/
def dgate (o a y : Fin 1024 → EReal) (wout : FVec Ideal S1024x1024 .bf16) (d : Fin 1024) : EReal :=
  mulT o wout d * y d * (logistic (a d) * (1 - logistic (a d)))

theorem pay4_apply (x : Vec Ideal S256x1024 .bf16) (w : Vec Ideal S1024x1024 .bf16) (r : Fin 256) (d : Fin 1024) :
    k0_pay4 x w (ix2 r d) = mulT (row x r) w d := by
  unfold k0_pay4
  pointwise
  rfl

theorem pay5_apply (a : Vec Ideal S256x1024 .f32) (j : S256x1024.Idx) : k0_pay5 a j = logistic (a j) := by
  unfold k0_pay5
  pointwise
  exact logistic_eq _

theorem pay6_apply (a : Vec Ideal S256x1024 .f32) (j : S256x1024.Idx) : k0_pay6 a j = logistic (a j) := by
  unfold k0_pay6
  pointwise
  exact logistic_eq _

theorem pay7_apply (x : Vec Ideal S256x1024 .bf16) (w : Vec Ideal S1024x1024 .bf16) (a : Vec Ideal S256x1024 .f32) (r : Fin 256) (d : Fin 1024) :
    k0_pay7 x w a (ix2 r d) = dy (row x r) (row a r) w d := by
  unfold k0_pay7
  pointwise
  rw [pay4_apply, pay5_apply]
  rfl

theorem pay8_apply (x : Vec Ideal S256x1024 .bf16) (w : Vec Ideal S1024x1024 .bf16) (a : Vec Ideal S256x1024 .f32) (r : Fin 256) (d : Fin 1024) :
    k0_pay8 x w a (ix2 r d) = dy (row x r) (row a r) w d := by
  unfold k0_pay8
  pointwise
  rw [pay4_apply, pay6_apply]
  rfl

theorem pay9_apply (x : Vec Ideal S256x1024 .bf16) (w : Vec Ideal S1024x1024 .bf16) (a : Vec Ideal S256x1024 .f32) (y : Vec Ideal S256x1024 .bf16)
    (r : Fin 256) (d : Fin 1024) : k0_pay9 x w a y (ix2 r d) = dgate (row x r) (row a r) (row y r) w d := by
  unfold k0_pay9
  pointwise
  rw [pay4_apply, pay5_apply]
  rfl

theorem pay1_apply (x : Vec Ideal S256x1024 .bf16) (w : Vec Ideal S1024x1024 .bf16) (a : Vec Ideal S256x1024 .f32) (y : Vec Ideal S256x1024 .bf16)
    (r : Fin 256) (d : Fin 1024) : k0_pay1 (k0_pay4 x w) (k0_pay6 a) y (ix2 r d) = dgate (row x r) (row a r) (row y r) w d := by
  unfold k0_pay1
  pointwise
  rw [pay4_apply, pay6_apply]
  rfl

theorem pay2_apply (x : Vec Ideal S256x1024 .bf16) (w v : Vec Ideal S1024x1024 .bf16) (a : Vec Ideal S256x1024 .f32) (r : Fin 256) (d : Fin 1024) :
    k0_pay2 (k0_pay7 x w a) v (ix2 r d) = mulT (dy (row x r) (row a r) w) v d := by
  unfold k0_pay2
  pointwise
  simp only [pay7_apply]
  rfl

theorem pay3_apply (x : Vec Ideal S256x1024 .bf16) (w v : Vec Ideal S1024x1024 .bf16) (a : Vec Ideal S256x1024 .f32) (r : Fin 256) (d : Fin 1024) :
    k0_pay3 (k0_pay8 x w a) v (ix2 r d) = mulT (dy (row x r) (row a r) w) v d := by
  unfold k0_pay3
  pointwise
  simp only [pay8_apply]
  rfl

variable (m : (ℓ : Loc nD τ sig) → Buf (Elt Ideal) ℓ) (c : Dev nD)

theorem index_in : ∀ t : Fin cfg0.N, win0_0.index t = ![t.val, 0] ∧ win0_1.index t = ![t.val, 2] ∧ win0_2.index t = ![t.val, 3] ∧
    win0_3.index t = ![t.val, 0] ∧ win0_4.index t = ![t.val, 0] ∧ win0_5.index t = ![0, 0] ∧ win0_6.index t = ![0, 0] ∧ win0_7.index t = ![0, 0] :=
  (by decide +kernel : ∀ t : Fin grid0.N, _)

theorem index_out : ∀ t : Fin cfg0.N, win0_8.index t = ![t.val, 0] ∧ win0_9.index t = ![t.val, 0] ∧ win0_10.index t = ![t.val, 0] ∧
    win0_11.index t = ![t.val, 0] ∧ win0_12.index t = ![t.val, 0] ∧ win0_13.index t = ![t.val, 0] :=
  (by decide +kernel : ∀ t : Fin grid0.N, _)

/-- Row `r` of a grid point's block, among all rows. -/
abbrev rowAt (t : Fin cfg0.N) (r : Fin 256) : Fin 8192 := row256 rfl t r

theorem row_do (t : Fin cfg0.N) (r : Fin 256) : row (iblk m c 0 t) r = row (m ((c : Thread nD τ).loc main_arg0)) (rowAt t r) := by
  funext k
  dsimp only [row, quarterRow]
  blk_ext [rowAt, iblk, V_main_arg0, index_in, row256]

theorem row_ga (t : Fin cfg0.N) (r : Fin 256) : row (iblk m c 1 t) r = quarterRow (m ((c : Thread nD τ).loc main_arg1)) 2 (rowAt t r) := by
  funext k
  dsimp only [row, quarterRow]
  blk_ext [rowAt, iblk, V_main_arg1, index_in, row256, quarter]

theorem row_gb (t : Fin cfg0.N) (r : Fin 256) : row (iblk m c 2 t) r = quarterRow (m ((c : Thread nD τ).loc main_arg1)) 3 (rowAt t r) := by
  funext k
  dsimp only [row, quarterRow]
  blk_ext [rowAt, iblk, V_main_arg1, index_in, row256, quarter]

theorem row_ysb (t : Fin cfg0.N) (r : Fin 256) : row (iblk m c 3 t) r = row (m ((c : Thread nD τ).loc main_arg2)) (rowAt t r) := by
  funext k
  dsimp only [row, quarterRow]
  blk_ext [rowAt, iblk, V_main_arg2, index_in, row256]

theorem row_yco (t : Fin cfg0.N) (r : Fin 256) : row (iblk m c 4 t) r = row (m ((c : Thread nD τ).loc main_arg3)) (rowAt t r) := by
  funext k
  dsimp only [row, quarterRow]
  blk_ext [rowAt, iblk, V_main_arg3, index_in, row256]

theorem wsb_eq (t : Fin cfg0.N) : iblk m c 5 t = m ((c : Thread nD τ).loc main_arg4) := by
  funext j
  blk_ext [iblk, V_main_arg4, index_in]

theorem wco_eq (t : Fin cfg0.N) : iblk m c 6 t = m ((c : Thread nD τ).loc main_arg5) := by
  funext j
  blk_ext [iblk, V_main_arg5, index_in]

theorem wout_eq (t : Fin cfg0.N) : iblk m c 7 t = m ((c : Thread nD τ).loc main_arg6) := by
  funext j
  blk_ext [iblk, V_main_arg6, index_in]

/-- A branch's gradient, of every row; the gate is the `s`-th quarter of `p`'s columns. -/
def dyAll (s : Fin 4) (o : FVec Ideal S8192x1024 .bf16) (p : FVec Ideal S8192x4096 .f32) (wout : FVec Ideal S1024x1024 .bf16) : FVec Ideal S8192x1024 .bf16 :=
  fun j => dy (row o (j 0)) (quarterRow p s (j 0)) wout (j 1)

/-- A gate's gradient, of every row. -/
def dgateAll (s : Fin 4) (o : FVec Ideal S8192x1024 .bf16) (p : FVec Ideal S8192x4096 .f32) (y : FVec Ideal S8192x1024 .bf16)
    (wout : FVec Ideal S1024x1024 .bf16) : FVec Ideal S8192x1024 .bf16 :=
  fun j => dgate (row o (j 0)) (quarterRow p s (j 0)) (row y (j 0)) wout (j 1)

/-- The gradient of what a branch's product is taken of, of every row. -/
def backAll (φ : FTy) (s : Fin 4) (o : FVec Ideal S8192x1024 .bf16) (p : FVec Ideal S8192x4096 .f32) (w wout : FVec Ideal S1024x1024 .bf16) :
    FVec Ideal S8192x1024 φ :=
  fun j => mulT (dy (row o (j 0)) (quarterRow p s (j 0)) wout) w (j 1)

theorem final_dysb : (dats m 0 c).arrAt 8 cfg0.N =
    dyAll 2 (m ((c : Thread nD τ).loc main_arg0)) (m ((c : Thread nD τ).loc main_arg1)) (m ((c : Thread nD τ).loc main_arg6)) := by
  refine (dats m 0 c).arrAt_eq_of_covers 8 _ (by decide +kernel) fun t hf y => ?_
  obtain ⟨r, d, rfl⟩ : ∃ r d, y = ix2 r d := ⟨y 0, y 1, eq_ix2 y⟩
  blk_simp
  rw [after0_8, wout_eq]
  frame_out
  rw [pay7_apply, row_do, row_ga]
  refine Eq.trans (by rfl) (congrArg (dyAll 2 _ _ _) (show ix2 (rowAt t r) d = _ from ?_))
  blk_ext [index_out t, rowAt, row256]

theorem final_dyco : (dats m 0 c).arrAt 9 cfg0.N =
    dyAll 3 (m ((c : Thread nD τ).loc main_arg0)) (m ((c : Thread nD τ).loc main_arg1)) (m ((c : Thread nD τ).loc main_arg6)) := by
  refine (dats m 0 c).arrAt_eq_of_covers 9 _ (by decide +kernel) fun t hf y => ?_
  obtain ⟨r, d, rfl⟩ : ∃ r d, y = ix2 r d := ⟨y 0, y 1, eq_ix2 y⟩
  blk_simp
  rw [after0_9, wout_eq]
  frame_out
  rw [pay8_apply, row_do, row_gb]
  refine Eq.trans (by rfl) (congrArg (dyAll 3 _ _ _) (show ix2 (rowAt t r) d = _ from ?_))
  blk_ext [index_out t, rowAt, row256]

theorem final_dga : (dats m 0 c).arrAt 10 cfg0.N = dgateAll 2 (m ((c : Thread nD τ).loc main_arg0)) (m ((c : Thread nD τ).loc main_arg1))
    (m ((c : Thread nD τ).loc main_arg2)) (m ((c : Thread nD τ).loc main_arg6)) := by
  refine (dats m 0 c).arrAt_eq_of_covers 10 _ (by decide +kernel) fun t hf y => ?_
  obtain ⟨r, d, rfl⟩ : ∃ r d, y = ix2 r d := ⟨y 0, y 1, eq_ix2 y⟩
  blk_simp
  rw [after0_10, wout_eq]
  frame_out
  rw [pay9_apply, row_do, row_ga, row_ysb]
  refine Eq.trans (by rfl) (congrArg (dgateAll 2 _ _ _ _) (show ix2 (rowAt t r) d = _ from ?_))
  blk_ext [index_out t, rowAt, row256]

theorem final_dgb : (dats m 0 c).arrAt 11 cfg0.N = dgateAll 3 (m ((c : Thread nD τ).loc main_arg0)) (m ((c : Thread nD τ).loc main_arg1))
    (m ((c : Thread nD τ).loc main_arg3)) (m ((c : Thread nD τ).loc main_arg6)) := by
  refine (dats m 0 c).arrAt_eq_of_covers 11 _ (by decide +kernel) fun t hf y => ?_
  obtain ⟨r, d, rfl⟩ : ∃ r d, y = ix2 r d := ⟨y 0, y 1, eq_ix2 y⟩
  blk_simp
  rw [after0_11, wout_eq]
  frame_out
  rw [pay1_apply, row_do, row_gb, row_yco]
  refine Eq.trans (by rfl) (congrArg (dgateAll 3 _ _ _ _) (show ix2 (rowAt t r) d = _ from ?_))
  blk_ext [index_out t, rowAt, row256]

theorem final_dya : (dats m 0 c).arrAt 12 cfg0.N = backAll .bf16 2 (m ((c : Thread nD τ).loc main_arg0)) (m ((c : Thread nD τ).loc main_arg1))
    (m ((c : Thread nD τ).loc main_arg4)) (m ((c : Thread nD τ).loc main_arg6)) := by
  refine (dats m 0 c).arrAt_eq_of_covers 12 _ (by decide +kernel) fun t hf y => ?_
  obtain ⟨r, d, rfl⟩ : ∃ r d, y = ix2 r d := ⟨y 0, y 1, eq_ix2 y⟩
  blk_simp
  rw [after0_12, wout_eq, wsb_eq]
  frame_out
  rw [pay2_apply, row_do, row_ga]
  refine Eq.trans (by rfl) (congrArg (backAll .bf16 2 _ _ _ _) (show ix2 (rowAt t r) d = _ from ?_))
  blk_ext [index_out t, rowAt, row256]

theorem final_dcs : (dats m 0 c).arrAt 13 cfg0.N = backAll .f32 3 (m ((c : Thread nD τ).loc main_arg0)) (m ((c : Thread nD τ).loc main_arg1))
    (m ((c : Thread nD τ).loc main_arg5)) (m ((c : Thread nD τ).loc main_arg6)) := by
  refine (dats m 0 c).arrAt_eq_of_covers 13 _ (by decide +kernel) fun t hf y => ?_
  obtain ⟨r, d, rfl⟩ : ∃ r d, y = ix2 r d := ⟨y 0, y 1, eq_ix2 y⟩
  blk_simp
  rw [after0_13, wout_eq, wco_eq]
  frame_out
  rw [pay3_apply, row_do, row_gb]
  refine Eq.trans (by rfl) (congrArg (backAll .f32 3 _ _ _ _) (show ix2 (rowAt t r) d = _ from ?_))
  blk_ext [index_out t, rowAt, row256]

end Cert.Kernel6Ideal.Merge

namespace Cert.Reference6Ideal.Merge

open Cert.Reference6Ideal Cert.Reference6Ideal.Gen Cert.Reference6Ideal.Read
open Cert.Rows
open Cert.Kernel6Ideal.Merge (dy dgate dyAll dgateAll backAll)

variable (o ysb yco : FVec Ideal S8192x1024 .bf16) (p : FVec Ideal S8192x4096 .f32) (wsb wco wout : FVec Ideal S1024x1024 .bf16)

theorem gate_a (r : Fin 8192) (d : Fin 1024) : val_main_v16 (F := Ideal) p (ix2 r d) = logistic (quarterRow p 2 r d) := by
  rw [val_main_v16_apply, val_main_v15_apply, val_main_cst_1_apply, val_main_v14_apply, val_main_v13_apply, val_main_cst_0_apply,
    val_main_v12_apply, val_main_v11_apply, val_main_v8_apply]
  refine congrArg₂ Ideal.div Ideal.ofBits_one_f32 (congrArg₂ (fun x y : EReal => x + y) Ideal.ofBits_one_f32 (congrArg (fun x => Ideal.exp (-p x)) ?_))
  funext a
  apply Fin.ext
  fin_cases a
  · rfl
  · change 2048 + d.val = 2 * 1024 + d.val
    omega

theorem gate_b (r : Fin 8192) (d : Fin 1024) : val_main_v26 (F := Ideal) p (ix2 r d) = logistic (quarterRow p 3 r d) := by
  rw [val_main_v26_apply, val_main_v25_apply, val_main_cst_4_apply, val_main_v24_apply, val_main_v23_apply, val_main_cst_3_apply,
    val_main_v22_apply, val_main_v21_apply, val_main_v9_apply]
  refine congrArg₂ Ideal.div Ideal.ofBits_one_f32 (congrArg₂ (fun x y : EReal => x + y) Ideal.ofBits_one_f32 (congrArg (fun x => Ideal.exp (-p x)) ?_))
  funext a
  apply Fin.ext
  fin_cases a
  · rfl
  · change 3072 + d.val = 3 * 1024 + d.val
    omega

theorem dm_eq (r : Fin 8192) (d : Fin 1024) : val_main_v33 (F := Ideal) o wout (ix2 r d) = mulT (row o r) wout d := by
  rw [val_main_v33_apply]
  refine Finset.sum_congr rfl fun k _ => congrArg₂ (fun x y : EReal => x * y) (congrArg o ?_) (congrArg wout ?_) <;>
    funext a <;> apply Fin.ext <;> fin_cases a <;> rfl

theorem dysb_row (r : Fin 8192) (d : Fin 1024) : val_main_v37 (F := Ideal) o p wout (ix2 r d) = dy (row o r) (quarterRow p 2 r) wout d := by
  rw [val_main_v37_apply, gate_a, dm_eq]
  exact mul_comm _ _

theorem dyco_row (r : Fin 8192) (d : Fin 1024) : val_main_v34 (F := Ideal) o p wout (ix2 r d) = dy (row o r) (quarterRow p 3 r) wout d := by
  rw [val_main_v34_apply, gate_b, dm_eq]
  exact mul_comm _ _

theorem dysb_eq : val_main_v44 (F := Ideal) o p wout = dyAll 2 o p wout := by
  funext j
  obtain ⟨r, d, rfl⟩ : ∃ r d, j = ix2 r d := ⟨j 0, j 1, eq_ix2 j⟩
  rw [val_main_v44_apply]
  exact dysb_row o p wout r d

theorem dyco_eq : val_main_v45 (F := Ideal) o p wout = dyAll 3 o p wout := by
  funext j
  obtain ⟨r, d, rfl⟩ : ∃ r d, j = ix2 r d := ⟨j 0, j 1, eq_ix2 j⟩
  rw [val_main_v45_apply]
  exact dyco_row o p wout r d

theorem dga_eq : val_main_v46 (F := Ideal) o p ysb wout = dgateAll 2 o p ysb wout := by
  funext j
  obtain ⟨r, d, rfl⟩ : ∃ r d, j = ix2 r d := ⟨j 0, j 1, eq_ix2 j⟩
  rw [val_main_v46_apply, val_main_v39_apply, val_main_v38_apply, val_main_v19_apply, val_main_v18_apply, val_main_v17_apply, val_main_cst_2_apply,
    val_main_v1_apply, gate_a, dm_eq]
  exact congrArg (fun x : EReal => mulT (row o r) wout d * ysb (ix2 r d) * (logistic (quarterRow p 2 r d) * (x - logistic (quarterRow p 2 r d)))) Ideal.ofBits_one_f32

theorem dgb_eq : val_main_v47 (F := Ideal) o p yco wout = dgateAll 3 o p yco wout := by
  funext j
  obtain ⟨r, d, rfl⟩ : ∃ r d, j = ix2 r d := ⟨j 0, j 1, eq_ix2 j⟩
  rw [val_main_v47_apply, val_main_v36_apply, val_main_v35_apply, val_main_v29_apply, val_main_v28_apply, val_main_v27_apply, val_main_cst_5_apply,
    val_main_v2_apply, gate_b, dm_eq]
  exact congrArg (fun x : EReal => mulT (row o r) wout d * yco (ix2 r d) * (logistic (quarterRow p 3 r d) * (x - logistic (quarterRow p 3 r d)))) Ideal.ofBits_one_f32

theorem dya_eq : val_main_v48 (F := Ideal) o p wsb wout = backAll .bf16 2 o p wsb wout := by
  funext j
  rw [val_main_v48_apply, val_main_v41_apply]
  refine Finset.sum_congr rfl fun k _ => congrArg₂ (fun x y : EReal => x * y)
    ((congrArg (val_main_v37 (F := Ideal) o p wout) ?_).trans (dysb_row o p wout (j 0) k)) (congrArg wsb ?_) <;>
    funext a <;> apply Fin.ext <;> fin_cases a <;> rfl

theorem dcs_eq : val_main_v43 (F := Ideal) o p wco wout = backAll .f32 3 o p wco wout := by
  funext j
  rw [val_main_v43_apply]
  refine Finset.sum_congr rfl fun k _ => congrArg₂ (fun x y : EReal => x * y)
    ((congrArg (val_main_v34 (F := Ideal) o p wout) ?_).trans (dyco_row o p wout (j 0) k)) (congrArg wco ?_) <;>
    funext a <;> apply Fin.ext <;> fin_cases a <;> rfl

end Cert.Reference6Ideal.Merge

end
-- ==== Proof.InProj.lean ====
/-
  The attention layer's projection of the modulated activations: blocks of 256 rows, seven slabs of the weights' columns.
-/
module

public import Idealize.ShloMosaic.Lib.Pipeline.ValueKit
public import Idealize.ShloMosaic.Lib.Pipeline.ReadBack
public import proofs.«01_k».proof.Proof.Gen.Kernel8Ideal.Value
public import proofs.«01_k».proof.Proof.Gen.Reference8Ideal.Run
public import proofs.«01_k».proof.Proof.Gen.Reference8Ideal.Read
public import proofs.«01_k».proof.Proof.Rows

@[expose] public section

noncomputable section

open Idealize.ShloMosaic Idealize.ShloMosaic.TcCoe Idealize.ShloMosaic.Tactic
open Idealize.ShloMosaic.Pipeline (Dat)

namespace Cert.Kernel8Ideal.InProj

open Cert.Kernel8Ideal Cert.Kernel8Ideal.Gen
open Cert.Rows

theorem pay6_apply (x : Vec Ideal S256x1024 .f32) (g b : Vec Ideal S1x1024 .f32) (sc sh : Vec Ideal S1x1x1024 .f32) (r : Fin 256) (d : Fin 1024) :
    k0_pay6 x g b sc sh (ix2 r d) = modulated (row x r) g b (seqRow sc 0) (seqRow sh 0) d := by
  unfold k0_pay6
  pointwise
  rfl

theorem pay1_apply (u : FVec Ideal S256x1024 .bf16) (w : Vec Ideal S1024x1024 .bf16) (r : Fin 256) (d : Fin 1024) :
    k0_pay1 u w (constant S256x1024 .f32 0x00000000#32) (ix2 r d) = mul (row u r) w d := by
  unfold k0_pay1
  pointwise
  rfl

/-- The other slabs are multiplied alike. -/
theorem pay_eq (u : FVec Ideal S256x1024 .bf16) (w : Vec Ideal S1024x1024 .bf16) (j : S256x1024.Idx) :
    k0_pay2 u w j = k0_pay1 u w (constant S256x1024 .f32 0x00000000#32) j ∧ k0_pay3 u w j = k0_pay1 u w (constant S256x1024 .f32 0x00000000#32) j ∧
    k0_pay4 u w j = k0_pay1 u w (constant S256x1024 .f32 0x00000000#32) j ∧ k0_pay5 u w j = k0_pay1 u w (constant S256x1024 .f32 0x00000000#32) j :=
  ⟨rfl, rfl, rfl, rfl⟩

/-- A row times the slab of the weights' columns that starts at column `o`. -/
theorem slab_apply (u : Fin 1024 → EReal) (w : Vec Ideal S1024x7168 .bf16) (o : ℕ)
    (h : ∀ a, (![0, o] : Fin 2 → Nat) a + S1024x1024.size a ≤ S1024x7168.size a) (d : Fin 1024) (d' : Fin 7168) (hd : d'.val = o + d.val) :
    mul u (View.ld (Val := Elt Ideal) (e' := .bf16) w (Rect.unit ![0, o] S1024x1024.size h)) d = mul u w d' := by
  refine Finset.sum_congr rfl fun k _ => congrArg (fun x : EReal => u k * x) (View.ld_unit_apply_of _ _ _ _ _ _ fun a => ?_)
  fin_cases a
  · exact (Nat.zero_add _).symm
  · exact hd

/-- What a grid point writes of one slab. -/
theorem piece_apply (x : Vec Ideal S256x1024 .f32) (g b : Vec Ideal S1x1024 .f32) (sc sh : Vec Ideal S1x1x1024 .f32) (w : Vec Ideal S1024x7168 .bf16)
    (o : ℕ) (h : ∀ a, (![0, o] : Fin 2 → Nat) a + S1024x1024.size a ≤ S1024x7168.size a) (y : S256x1024.Idx) (r : Fin 256) (d' : Fin 7168)
    (hr : r.val = (y 0).val) (hd : d'.val = o + (y 1).val) :
    k0_pay1 (k0_pay6 x g b sc sh) (View.ld (Val := Elt Ideal) (e' := .bf16) w (Rect.unit ![0, o] S1024x1024.size h))
      (constant S256x1024 .f32 0x00000000#32) y = mul (modulated (row x r) g b (seqRow sc 0) (seqRow sh 0)) w d' := by
  obtain ⟨r', d, rfl⟩ : ∃ r' d, y = ix2 r' d := ⟨y 0, y 1, eq_ix2 y⟩
  obtain rfl : r = r' := Fin.ext hr
  rw [pay1_apply, slab_apply _ w o h d d' hd]
  exact congrArg (fun u => mul u w d') (funext fun k => pay6_apply x g b sc sh r k)

/-- What a grid point writes of the first three slabs. -/
theorem out7_apply (x : Vec Ideal S256x1024 .f32) (g b : Vec Ideal S1x1024 .f32) (sc sh : Vec Ideal S1x1x1024 .f32) (w : Vec Ideal S1024x7168 .bf16)
    (r : Fin 256) (d : Fin 3072) :
    out0_7 x g b sc sh w (ix2 r d) = mul (modulated (row x r) g b (seqRow sc 0) (seqRow sh 0)) w ⟨d.val, by omega⟩ := by
  unfold out0_7 k0_pay9
  canon_tiles y h
  all_goals simp (disch := decide) only [View.ld_unit_lit']
  · exact piece_apply x g b sc sh w 2048 _ y r _ h0 h1
  · exact piece_apply x g b sc sh w 1024 _ y r _ h0 h1
  · exact piece_apply x g b sc sh w 0 _ y r _ h0 (h1.trans (Nat.zero_add _).symm)

/-- What a grid point writes of the other four slabs. -/
theorem out8_apply (x : Vec Ideal S256x1024 .f32) (g b : Vec Ideal S1x1024 .f32) (sc sh : Vec Ideal S1x1x1024 .f32) (w : Vec Ideal S1024x7168 .bf16)
    (r : Fin 256) (d : Fin 4096) :
    out0_8 x g b sc sh w (ix2 r d) = mul (modulated (row x r) g b (seqRow sc 0) (seqRow sh 0)) w ⟨3072 + d.val, by omega⟩ := by
  unfold out0_8 k0_pay9
  canon_tiles y h
  all_goals simp (disch := decide) only [View.ld_unit_lit']
  · exact piece_apply x g b sc sh w 6144 _ y r _ h0 (by change 3072 + d.val = _; change d.val = _ at h1; omega)
  · exact piece_apply x g b sc sh w 5120 _ y r _ h0 (by change 3072 + d.val = _; change d.val = _ at h1; omega)
  · exact piece_apply x g b sc sh w 4096 _ y r _ h0 (by change 3072 + d.val = _; change d.val = _ at h1; omega)
  · exact piece_apply x g b sc sh w 3072 _ y r _ h0 (by change 3072 + d.val = _; change d.val = _ at h1; omega)

variable (m : (ℓ : Loc nD τ sig) → Buf (Elt Ideal) ℓ) (c : Dev nD)

theorem index_in : ∀ t : Fin cfg0.N, win0_0.index t = ![t.val, 0] ∧ win0_1.index t = ![0, 0] ∧ win0_2.index t = ![0, 0] ∧
    win0_3.index t = ![t.val / 8, 0, 0] ∧ win0_4.index t = ![t.val / 8, 0, 0] ∧ win0_5.index t = ![0, 0] :=
  (by decide +kernel : ∀ t : Fin grid0.N, _)

theorem index_out : ∀ t : Fin cfg0.N, win0_6.index t = ![t.val, 0] ∧ win0_7.index t = ![t.val, 0] ∧ win0_8.index t = ![t.val, 0] :=
  (by decide +kernel : ∀ t : Fin grid0.N, _)

/-- Row `r` of a grid point's block, among all rows. -/
abbrev rowAt (t : Fin cfg0.N) (r : Fin 256) : Fin 8192 := row256 rfl t r

theorem row_x (t : Fin cfg0.N) (r : Fin 256) : row (iblk m c 0 t) r = row (m ((c : Thread nD τ).loc main_arg0)) (rowAt t r) := by
  funext k
  dsimp only [row]
  blk_ext [rowAt, iblk, V_main_arg0, index_in, row256]

theorem g_eq (t : Fin cfg0.N) : iblk m c 1 t = m ((c : Thread nD τ).loc main_arg1) := by
  funext j
  blk_ext [iblk, V_main_arg1, index_in]

theorem b_eq (t : Fin cfg0.N) : iblk m c 2 t = m ((c : Thread nD τ).loc main_arg2) := by
  funext j
  blk_ext [iblk, V_main_arg2, index_in]

theorem row_sc (t : Fin cfg0.N) (r : Fin 256) : seqRow (iblk m c 3 t) 0 = seqRow (m ((c : Thread nD τ).loc main_arg3)) (seqOf (rowAt t r)) := by
  funext k
  dsimp only [seqRow]
  blk_ext [rowAt, iblk, V_main_arg3, index_in, row256, seqOf]

theorem row_sh (t : Fin cfg0.N) (r : Fin 256) : seqRow (iblk m c 4 t) 0 = seqRow (m ((c : Thread nD τ).loc main_arg4)) (seqOf (rowAt t r)) := by
  funext k
  dsimp only [seqRow]
  blk_ext [rowAt, iblk, V_main_arg4, index_in, row256, seqOf]

theorem w_eq (t : Fin cfg0.N) : iblk m c 5 t = m ((c : Thread nD τ).loc main_arg5) := by
  funext j
  blk_ext [iblk, V_main_arg5, index_in]

/-- The modulated activations. -/
def u (x : FVec Ideal S8192x1024 .f32) (g b : FVec Ideal S1x1024 .f32) (sc sh : FVec Ideal S4x1x1024 .f32) : FVec Ideal S8192x1024 .bf16 :=
  fun j => modulated (row x (j 0)) g b (seqRow sc (seqOf (j 0))) (seqRow sh (seqOf (j 0))) (j 1)

/-- Their product with the weights' first 3072 columns. -/
def qkv (x : FVec Ideal S8192x1024 .f32) (g b : FVec Ideal S1x1024 .f32) (sc sh : FVec Ideal S4x1x1024 .f32) (w : FVec Ideal S1024x7168 .bf16) :
    FVec Ideal S8192x3072 .bf16 :=
  fun j => mul (row (u x g b sc sh) (j 0)) w ⟨(j 1).val, (j 1).isLt.trans (by decide)⟩

/-- Their product with the other 4096 columns. -/
def rest (x : FVec Ideal S8192x1024 .f32) (g b : FVec Ideal S1x1024 .f32) (sc sh : FVec Ideal S4x1x1024 .f32) (w : FVec Ideal S1024x7168 .bf16) :
    FVec Ideal S8192x4096 .f32 :=
  fun j => mul (row (u x g b sc sh) (j 0)) w ⟨3072 + (j 1).val, Nat.add_lt_add_left (j 1).isLt 3072⟩

theorem final_u : (dats m 0 c).arrAt 6 cfg0.N = u (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, d, rfl⟩ : ∃ r d, y = ix2 r d := ⟨y 0, y 1, eq_ix2 y⟩
  blk_simp
  rw [after0_6]
  frame_out
  rw [pay6_apply, row_x, g_eq, b_eq, row_sc m c t r, row_sh m c t r]
  refine Eq.trans (by rfl) (congrArg (u _ _ _ _ _) (show ix2 (rowAt t r) d = _ from ?_))
  blk_ext [index_out t, rowAt, row256]

theorem final_qkv : (dats m 0 c).arrAt 7 cfg0.N = qkv (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨r, d, rfl⟩ : ∃ r d, y = ix2 r d := ⟨y 0, y 1, eq_ix2 y⟩
  blk_simp
  rw [after0_7]
  refine (out7_apply (iblk m c 0 t) (iblk m c 1 t) (iblk m c 2 t) (iblk m c 3 t) (iblk m c 4 t) (iblk m c 5 t) r d).trans ?_
  rw [row_x, g_eq, b_eq, row_sc m c t r, row_sh m c t r, w_eq]
  refine Eq.trans (by rfl) (congrArg (qkv _ _ _ _ _ _) (show ix2 (rowAt t r) d = _ from ?_))
  blk_ext [index_out t, rowAt, row256]

theorem final_rest : (dats m 0 c).arrAt 8 cfg0.N = rest (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨r, d, rfl⟩ : ∃ r d, y = ix2 r d := ⟨y 0, y 1, eq_ix2 y⟩
  blk_simp
  rw [after0_8]
  refine (out8_apply (iblk m c 0 t) (iblk m c 1 t) (iblk m c 2 t) (iblk m c 3 t) (iblk m c 4 t) (iblk m c 5 t) r d).trans ?_
  rw [row_x, g_eq, b_eq, row_sc m c t r, row_sh m c t r, w_eq]
  refine Eq.trans (by rfl) (congrArg (rest _ _ _ _ _ _) (show ix2 (rowAt t r) d = _ from ?_))
  blk_ext [index_out t, rowAt, row256]

end Cert.Kernel8Ideal.InProj

namespace Cert.Reference8Ideal.InProj

open Cert.Reference8Ideal Cert.Reference8Ideal.Gen Cert.Reference8Ideal.Read
open Cert.Rows
open Cert.Kernel8Ideal.InProj (u qkv rest)

variable (x : FVec Ideal S8192x1024 .f32) (g b : FVec Ideal S1x1024 .f32) (sc sh : FVec Ideal S4x1x1024 .f32) (w : FVec Ideal S1024x7168 .bf16)

theorem pos_eq (r : Fin 8192) (d : Fin 1024) : idx_main_v4 (idx_main_v11 (ix2 r d)) = ix2 r d ∧
    idx_main_v7 (idx_main_v11 (ix2 r d)) = ix3 (seqOf r) 0 d := by
  obtain ⟨e0, e1, e2, e3⟩ := unflat r.val d.val d.isLt
  constructor <;> funext a <;> apply Fin.ext <;> fin_cases a
  exacts [e2, e3, e0, rfl, e1]

theorem mod_row (r : Fin 8192) (d : Fin 1024) : val_main_v11 (F := Ideal) x g b sc sh (ix2 r d) = u x g b sc sh (ix2 r d) := by
  rw [val_main_v11_apply, val_main_v10_apply, val_main_v9_apply, val_main_v8_apply, val_main_v7_apply, val_main_v6_apply, val_main_v5_apply,
    val_main_cst_apply, val_main_v4_apply, val_main_v3_apply, val_main_v2_apply, val_main_v1_apply, val_main_v0_apply, (pos_eq r d).1, (pos_eq r d).2]
  refine congrArg₂ (fun x y : EReal => x + y) (congrArg₂ (fun x y : EReal => x * y) (congrArg₂ (fun x y : EReal => x + y)
    (congrArg (fun y : EReal => x (ix2 r d) * y) (congrArg g ?_)) (congrArg b ?_)) (congrArg (fun y : EReal => y + sc (ix3 (seqOf r) 0 d)) Ideal.ofBits_one_f32))
    (congrArg sh (pos_eq r d).2) <;> funext a <;> apply Fin.ext <;> fin_cases a <;> rfl

theorem u_eq : val_main_v15 (F := Ideal) x g b sc sh = u x g b sc sh := by
  funext j
  obtain ⟨r, d, rfl⟩ : ∃ r d, j = ix2 r d := ⟨j 0, j 1, eq_ix2 j⟩
  rw [val_main_v15_apply]
  exact mod_row x g b sc sh r d

theorem mul_row (r : Fin 8192) (d : Fin 7168) : val_main_v13 (F := Ideal) x g b sc sh w (ix2 r d) = mul (row (u x g b sc sh) r) w d := by
  rw [val_main_v13_apply]
  refine Finset.sum_congr rfl fun k _ => congrArg₂ (fun x y : EReal => x * y)
    ((congrArg (val_main_v11 (F := Ideal) x g b sc sh) ?_).trans (mod_row x g b sc sh r k)) (congrArg w ?_) <;>
    funext a <;> apply Fin.ext <;> fin_cases a <;> rfl

theorem qkv_eq : val_main_v16 (F := Ideal) x g b sc sh w = qkv x g b sc sh w := by
  funext j
  rw [val_main_v16_apply, val_main_v14_apply]
  exact (congrArg (val_main_v13 (F := Ideal) x g b sc sh w) (eq_ix2 _)).trans (mul_row x g b sc sh w (j 0) _)

theorem rest_eq : val_main_v17 (F := Ideal) x g b sc sh w = rest x g b sc sh w := by
  funext j
  rw [val_main_v17_apply]
  exact (congrArg (val_main_v13 (F := Ideal) x g b sc sh w) (eq_ix2 _)).trans (mul_row x g b sc sh w (j 0) _)

end Cert.Reference8Ideal.InProj

end
-- ==== Proof.FfnUp.lean ====
/-
  The feed-forward layer's first half: the modulated activations, their product with the two halves of the weights' slabs, and what
  the gate makes of them. Blocks of 512 rows; a loop over the four slabs of each half.
-/
module

public import Idealize.ShloMosaic.Lib.Pipeline.ValueKit
public import Idealize.ShloMosaic.Lib.Pipeline.ReadBack
public import proofs.«01_k».proof.Proof.Gen.Kernel9Ideal.Value
public import proofs.«01_k».proof.Proof.Gen.Reference9Ideal.Run
public import proofs.«01_k».proof.Proof.Gen.Reference9Ideal.Read
public import proofs.«01_k».proof.Proof.Rows

@[expose] public section

noncomputable section

open Idealize.ShloMosaic Idealize.ShloMosaic.TcCoe Idealize.ShloMosaic.Tactic
open Idealize.ShloMosaic.Pipeline (Dat)

namespace Cert.FfnUp

open Cert.Rows

/-- A row times slab `k`: `Σ_q u[q] · w[k,q,d]`. -/
def mulSlab {n : ℕ} (u : Fin 1024 → EReal) (w : (⟨3, ![n, 1024, 704]⟩ : Shape).Idx → EReal) (k : Fin n) (d : Fin 704) : EReal :=
  ∑ q : Fin 1024, u q * w (ix3 k q d)

/-- `a·σ(a)`. -/
def silu (a : EReal) : EReal := a * logistic a

/-- The derivative of `silu`, as the kernel has it. -/
def dsilu (a : EReal) : EReal := logistic a * (1 + a * (1 - logistic a))

/-- A function of the two products, in each of the four slabs: slab `k` of the first half and slab `k` of the second. -/
def up {R : ℕ} (f : EReal → EReal → EReal) (u : (⟨2, ![R, 1024]⟩ : Shape).Idx → EReal) (w : (⟨3, ![8, 1024, 704]⟩ : Shape).Idx → EReal) :
    (⟨3, ![4, R, 704]⟩ : Shape).Idx → EReal :=
  fun y => f (mulSlab (row u (y 1)) w ⟨(y 0).val, (y 0).isLt.trans (by decide : 4 < 8)⟩ (y 2))
    (mulSlab (row u (y 1)) w ⟨(y 0).val + 4, Nat.add_lt_add_right (y 0).isLt 4⟩ (y 2))

/-- What holds of every step's entries holds of all of them. -/
theorem all_of_steps {α : Type*} {n : ℕ} (L : ℕ → List α) (S : Fin n → List α) (h0 : L 0 = []) (hs : ∀ k : Fin n, L (k.val + 1) = S k ++ L k.val)
    (P : α → Prop) (hP : ∀ k, ∀ p ∈ S k, P p) : ∀ p ∈ L n, P p := by
  suffices ∀ k ≤ n, ∀ p ∈ L k, P p from this n le_rfl
  intro k
  induction k with
  | zero => intro _ p hp; rw [h0] at hp; exact absurd hp List.not_mem_nil
  | succ k ih =>
    intro hk p hp
    rw [hs ⟨k, hk⟩] at hp
    rcases List.mem_append.mp hp with hp | hp
    · exact hP _ p hp
    · exact ih (Nat.le_of_succ_le hk) p hp

theorem logistic_top : logistic ⊤ = 1 := by
  unfold Rows.logistic
  simp [Ideal.div]

theorem logistic_bot : logistic ⊥ = 0 := by
  have e : (1 : EReal) + ⊤ = ⊤ := EReal.add_top_of_ne_bot (EReal.coe_ne_bot 1)
  unfold Rows.logistic
  simp [Ideal.div, e]

theorem logistic_coe (a : ℝ) : logistic (a : EReal) = ((1 + Real.exp (-a))⁻¹ : ℝ) := by
  have h : (1 + Real.exp (-a)) ≠ 0 := (by positivity : 0 < 1 + Real.exp (-a)).ne'
  have e : (1 : EReal) + Ideal.exp (-(a : EReal)) = ((1 + Real.exp (-a) : ℝ) : EReal) := by
    rw [← EReal.coe_neg, Ideal.exp_coe, EReal.coe_add, EReal.coe_one]
  unfold Rows.logistic
  rw [e, ← EReal.coe_one, Ideal.div_coe h, EReal.coe_one, one_mul, one_div]

/-- The derivative of `silu` as differentiation has it, a product's two terms, is the kernel's. -/
theorem dsilu_eq (a : EReal) : 1 * logistic a + a * 1 * (logistic a * (1 - logistic a)) = dsilu a := by
  unfold dsilu
  induction a with
  | top =>
    have e : (1 : EReal) - 1 = 0 := by rw [← EReal.coe_one, ← EReal.coe_sub, sub_self, EReal.coe_zero]
    rw [logistic_top, e, one_mul, mul_zero, mul_zero, mul_zero, one_mul]
  | bot => rw [logistic_bot, one_mul, zero_mul, zero_mul, mul_zero, add_zero]
  | coe a =>
    rw [logistic_coe]
    norm_cast
    ring

end Cert.FfnUp

namespace Cert.Kernel9Ideal.FfnUp

open Cert.Kernel9Ideal Cert.Kernel9Ideal.Gen
open Cert.Rows Cert.FfnUp

theorem pay1_apply (x : Vec Ideal S512x1024 .f32) (g b : Vec Ideal S1x1024 .f32) (sc sh : Vec Ideal S1x1x1024 .f32) (r : Fin 512) (d : Fin 1024) :
    k0_pay1 x g b sc sh (ix2 r d) = modulated (row x r) g b (seqRow sc 0) (seqRow sh 0) d := by
  unfold k0_pay1
  pointwise
  rfl

theorem pay4_apply (u : Vec Ideal S512x1024 .bf16) (w : Vec Ideal S1x1024x704 .bf16) (r : Fin 512) (d : Fin 704) :
    k0_pay4 u w (ix2 r d) = mulSlab (row u r) w 0 d := by
  unfold k0_pay4 k0_pay3
  pointwise
  rfl

theorem pay5_apply (u : Vec Ideal S512x1024 .bf16) (w : Vec Ideal S1x1024x704 .bf16) (r : Fin 512) (d : Fin 704) :
    k0_pay5 u w (ix2 r d) = mulSlab (row u r) w 0 d := by
  unfold k0_pay5 k0_pay3
  pointwise
  rfl

theorem pay6_apply (u : Vec Ideal S512x1024 .bf16) (w : Vec Ideal S1x1024x704 .bf16) (r : Fin 512) (d : Fin 704) :
    k0_pay6 u w (ix2 r d) = logistic (mulSlab (row u r) w 0 d) := by
  unfold k0_pay6
  pointwise
  rw [pay4_apply, logistic_eq]

theorem pay8_apply (u : Vec Ideal S512x1024 .bf16) (v w : Vec Ideal S1x1024x704 .bf16) (r : Fin 512) (d : Fin 704) :
    k0_pay8 u v w (ix3 0 r d) = mulSlab (row u r) w 0 d * dsilu (mulSlab (row u r) v 0 d) := by
  unfold k0_pay8
  pointwise
  rw [pay4_apply, pay5_apply, pay6_apply]
  rfl

theorem pay9_apply (u : Vec Ideal S512x1024 .bf16) (v : Vec Ideal S1x1024x704 .bf16) (r : Fin 512) (d : Fin 704) :
    k0_pay9 u v (ix3 0 r d) = silu (mulSlab (row u r) v 0 d) := by
  unfold k0_pay9 k0_pay7
  pointwise
  rw [pay4_apply, pay6_apply]
  rfl

theorem pay10_apply (u : Vec Ideal S512x1024 .bf16) (v w : Vec Ideal S1x1024x704 .bf16) (r : Fin 512) (d : Fin 704) :
    k0_pay2 (k0_pay10 u v w) (ix3 0 r d) = silu (mulSlab (row u r) v 0 d) * mulSlab (row u r) w 0 d := by
  unfold k0_pay2 k0_pay10 k0_pay7
  pointwise
  rw [pay4_apply, pay5_apply, pay6_apply]
  rfl

/-- A row times a slab that was loaded. -/
theorem slab_apply (u : Fin 1024 → EReal) (w : Vec Ideal S8x1024x704 .bf16) (off : Fin 3 → ℕ) (h : ∀ a, off a + S1x1024x704.size a ≤ S8x1024x704.size a)
    (k : Fin 8) (hk : off = ![k.val, 0, 0]) (d : Fin 704) :
    mulSlab (n := 1) u (View.ld (Val := Elt Ideal) (e' := .bf16) w (Rect.unit off S1x1024x704.size h)) 0 d = mulSlab u w k d := by
  subst hk
  refine Finset.sum_congr rfl fun q _ => congrArg (fun x : EReal => u q * x) (View.ld_unit_apply_of _ _ _ _ _ _ fun a => ?_)
  fin_cases a
  · rfl
  · exact (Nat.zero_add _).symm
  · exact (Nat.zero_add _).symm

/-- A step's piece is a block of the whole, where it is `f` of the products of its two slabs. -/
theorem step_apply (f : EReal → EReal → EReal) (u : Vec Ideal S512x1024 .bf16) (w : Vec Ideal S8x1024x704 .bf16) (k : Fin k0_t1_loop.trips)
    (pay : Vec Ideal S1x512x704 .bf16)
    (hp : ∀ r d, pay (ix3 0 r d) = f (mulSlab (n := 1) (row u r) (View.ld (Val := Elt Ideal) (e' := .bf16) w (Rect.unit (k0_off1 k) S1x1024x704.size (k0_off1_inb k))) 0 d)
      (mulSlab (n := 1) (row u r) (View.ld (Val := Elt Ideal) (e' := .bf16) w (Rect.unit (k0_off2 k) S1x1024x704.size (k0_off2_inb k))) 0 d))
    (x : S1x512x704.Idx) :
    pay x = up f u w ((Rect.unit (s := S4x512x704) (k0_off3 k) S1x512x704.size (k0_off3_inb k)).emb x) := by
  have hk : k.val < 4 := Nat.lt_of_lt_of_le k.isLt k0_t1_abs.2.1
  obtain ⟨o, r, d, rfl⟩ : ∃ o r d, x = ix3 o r d := ⟨x 0, x 1, x 2, eq_ix3 x⟩
  obtain rfl : o = 0 := Subsingleton.elim _ _
  rw [hp, slab_apply _ w _ _ ⟨k.val, by omega⟩ (k0_off1_eq k), slab_apply _ w _ _ ⟨k.val + 4, by omega⟩ (k0_off2_eq k)]
  refine Eq.trans (by rfl) (congrArg (up f u w) (show ix3 (⟨k.val, hk⟩ : Fin 4) r d = _ from funext fun a => Fin.ext ?_))
  refine Eq.trans ?_ (Rect.idx_unit_val _ _ _ _ _).symm
  change _ = k0_off3 k a + ((ix3 0 r d : S1x512x704.Idx) a).val
  rw [k0_off3_eq]
  fin_cases a
  · rfl
  · exact (Nat.zero_add _).symm
  · exact (Nat.zero_add _).symm

section Block

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S8x1024x704 .bf16) (harg6 : arg6.IsWhole) (arg7 : Memref sig .tc .vmem S512x1024 .bf16) (harg7 : arg7.IsWhole) (arg8 : Memref sig .tc .vmem S4x512x704 .bf16) (harg8 : arg8.IsWhole) (arg9 : Memref sig .tc .vmem S4x512x704 .bf16) (harg9 : arg9.IsWhole) (arg10 : Memref sig .tc .vmem S4x512x704 .bf16) (harg10 : arg10.IsWhole)
    (x0 : Vec Ideal S512x1024 .f32) (x1 : Vec Ideal S1x1024 .f32) (x2 : Vec Ideal S1x1024 .f32) (x3 : Vec Ideal S1x1x1024 .f32) (x4 : Vec Ideal S1x1x1024 .f32) (x5 : Vec Ideal S8x1024x704 .bf16)

/-- What is left of the activations, read back, is what was stored. -/
theorem load_u : View.readAt (Elt Ideal) arg7.view (Rect.unit ![0, 0] ![512, 1024] inb_S512x1024_S512x1024_0_0).toLoadRect
    (arg7.view.writes (Elt Ideal) arg7.view.junk (kernelRun0_A.sl.H6_1 c arg1 harg1 arg2 harg2 arg3 harg3 arg4 harg4 arg5 harg5 x0 x1 x2 x3 x4)) =
    k0_pay1 x0 x1 x2 x3 x4 := by
  unfold kernelRun0_A.sl.H6_1
  frame_out

theorem load_w (off : Fin 3 → ℕ) (h : ∀ a, off a + S1x1024x704.size a ≤ S8x1024x704.size a) :
    View.readAt (Elt Ideal) arg6.view (Rect.unit (s := S8x1024x704) off S1x1024x704.size h).toLoadRect (harg6.unread x5) =
    View.ld (Val := Elt Ideal) (e' := .bf16) x5 (Rect.unit off S1x1024x704.size h) :=
  funext fun _ => congrFun (harg6.read_unread x5) _

theorem out7_apply : out0_A_7 c i arg1 harg1 arg2 harg2 arg3 harg3 arg4 harg4 arg5 harg5 arg6 harg6 arg7 harg7 arg8 harg8 arg9 harg9 arg10 harg10 x0 x1 x2 x3 x4 x5 =
    up (fun a h => h * dsilu a) (k0_pay1 x0 x1 x2 x3 x4) x5 := by
  funext y
  unfold out0_A_7
  rw [View.read_writes_junk_eq_canon]
  refine View.canon_apply_of_pieces _ _ ?_ y (cover0_A_7 c i arg1 harg1 arg2 harg2 arg3 harg3 arg4 harg4 arg5 harg5 arg6 harg6 arg7 harg7 arg8 harg8 arg9 harg9 arg10 harg10 x0 x1 x2 x3 x4 x5 y)
  unfold kernelRun0_A
  refine all_of_steps (n := k0_t1_loop.trips) (fun n => (pb_k0_t1 (F := Ideal) Variants.none c none i arg1 harg1 arg2 harg2 arg3 harg3 arg4 harg4 arg5 harg5 arg6 harg6 arg7 harg7 arg8 harg8 arg9 harg9 arg10 harg10 _ _ n).1)
    (fun k => (tripL_k0_t1 (F := Ideal) Variants.none c none i arg1 harg1 arg2 harg2 arg3 harg3 arg4 harg4 arg5 harg5 arg6 harg6 arg7 harg7 arg8 harg8 arg9 harg9 arg10 harg10 _ _ k).1) rfl (fun k => by rw [pb_k0_t1_succ]) _ fun k p hp => ?_
  unfold tripL_k0_t1 trip_k0_t1 at hp
  dsimp only at hp
  obtain rfl := List.mem_singleton.mp hp
  refine step_apply (fun a h => h * dsilu a) _ _ k _ fun r d => ?_
  change k0_pay8 _ _ _ (ix3 0 r d) = _
  rw [pay8_apply, load_u, load_w, load_w]

theorem out8_apply : out0_A_8 c i arg1 harg1 arg2 harg2 arg3 harg3 arg4 harg4 arg5 harg5 arg6 harg6 arg7 harg7 arg8 harg8 arg9 harg9 arg10 harg10 x0 x1 x2 x3 x4 x5 =
    up (fun a _ => silu a) (k0_pay1 x0 x1 x2 x3 x4) x5 := by
  funext y
  unfold out0_A_8
  rw [View.read_writes_junk_eq_canon]
  refine View.canon_apply_of_pieces _ _ ?_ y (cover0_A_8 c i arg1 harg1 arg2 harg2 arg3 harg3 arg4 harg4 arg5 harg5 arg6 harg6 arg7 harg7 arg8 harg8 arg9 harg9 arg10 harg10 x0 x1 x2 x3 x4 x5 y)
  unfold kernelRun0_A
  refine all_of_steps (n := k0_t1_loop.trips) (fun n => (pb_k0_t1 (F := Ideal) Variants.none c none i arg1 harg1 arg2 harg2 arg3 harg3 arg4 harg4 arg5 harg5 arg6 harg6 arg7 harg7 arg8 harg8 arg9 harg9 arg10 harg10 _ _ n).2.1)
    (fun k => (tripL_k0_t1 (F := Ideal) Variants.none c none i arg1 harg1 arg2 harg2 arg3 harg3 arg4 harg4 arg5 harg5 arg6 harg6 arg7 harg7 arg8 harg8 arg9 harg9 arg10 harg10 _ _ k).2.1) rfl (fun k => by rw [pb_k0_t1_succ]) _ fun k p hp => ?_
  unfold tripL_k0_t1 trip_k0_t1 at hp
  dsimp only at hp
  obtain rfl := List.mem_singleton.mp hp
  refine step_apply (fun a _ => silu a) _ _ k _ fun r d => ?_
  change k0_pay9 _ _ (ix3 0 r d) = _
  rw [pay9_apply, load_u, load_w]

theorem out9_apply : out0_A_9 c i arg1 harg1 arg2 harg2 arg3 harg3 arg4 harg4 arg5 harg5 arg6 harg6 arg7 harg7 arg8 harg8 arg9 harg9 arg10 harg10 x0 x1 x2 x3 x4 x5 =
    up (fun a h => silu a * h) (k0_pay1 x0 x1 x2 x3 x4) x5 := by
  funext y
  unfold out0_A_9
  rw [View.read_writes_junk_eq_canon]
  refine View.canon_apply_of_pieces _ _ ?_ y (cover0_A_9 c i arg1 harg1 arg2 harg2 arg3 harg3 arg4 harg4 arg5 harg5 arg6 harg6 arg7 harg7 arg8 harg8 arg9 harg9 arg10 harg10 x0 x1 x2 x3 x4 x5 y)
  unfold kernelRun0_A
  refine all_of_steps (n := k0_t1_loop.trips) (fun n => (pb_k0_t1 (F := Ideal) Variants.none c none i arg1 harg1 arg2 harg2 arg3 harg3 arg4 harg4 arg5 harg5 arg6 harg6 arg7 harg7 arg8 harg8 arg9 harg9 arg10 harg10 _ _ n).2.2)
    (fun k => (tripL_k0_t1 (F := Ideal) Variants.none c none i arg1 harg1 arg2 harg2 arg3 harg3 arg4 harg4 arg5 harg5 arg6 harg6 arg7 harg7 arg8 harg8 arg9 harg9 arg10 harg10 _ _ k).2.2) rfl (fun k => by rw [pb_k0_t1_succ]) _ fun k p hp => ?_
  unfold tripL_k0_t1 trip_k0_t1 at hp
  dsimp only at hp
  obtain rfl := List.mem_singleton.mp hp
  refine step_apply (fun a h => silu a * h) _ _ k _ fun r d => ?_
  unfold trip_k0_t1.sl.r
  change k0_pay2 (k0_pay10 _ _ _) (ix3 0 r d) = _
  rw [pay10_apply, load_u, load_w, load_w]

end Block

variable (m : (ℓ : Loc nD τ sig) → Buf (Elt Ideal) ℓ) (c : Dev nD)

theorem index_in : ∀ t : Fin cfg0.N, win0_0.index t = ![t.val, 0] ∧ win0_1.index t = ![0, 0] ∧ win0_2.index t = ![0, 0] ∧
    win0_3.index t = ![t.val / 4, 0, 0] ∧ win0_4.index t = ![t.val / 4, 0, 0] ∧ win0_5.index t = ![0, 0, 0] :=
  (by decide +kernel : ∀ t : Fin grid0.N, _)

theorem index_out : ∀ t : Fin cfg0.N, win0_6.index t = ![t.val, 0] ∧ win0_7.index t = ![0, t.val, 0] ∧ win0_8.index t = ![0, t.val, 0] ∧
    win0_9.index t = ![0, t.val, 0] :=
  (by decide +kernel : ∀ t : Fin grid0.N, _)

/-- Row `r` of a grid point's block, among all rows. -/
abbrev rowAt (t : Fin cfg0.N) (r : Fin 512) : Fin 8192 := row512 rfl t r

theorem row_x (t : Fin cfg0.N) (r : Fin 512) : row (iblk m c 0 t) r = row (m ((c : Thread nD τ).loc main_arg0)) (rowAt t r) := by
  funext k
  dsimp only [row]
  blk_ext [rowAt, iblk, V_main_arg0, index_in, row512]

theorem g_eq (t : Fin cfg0.N) : iblk m c 1 t = m ((c : Thread nD τ).loc main_arg1) := by
  funext j
  blk_ext [iblk, V_main_arg1, index_in]

theorem b_eq (t : Fin cfg0.N) : iblk m c 2 t = m ((c : Thread nD τ).loc main_arg2) := by
  funext j
  blk_ext [iblk, V_main_arg2, index_in]

theorem row_sc (t : Fin cfg0.N) (r : Fin 512) : seqRow (iblk m c 3 t) 0 = seqRow (m ((c : Thread nD τ).loc main_arg3)) (seqOf (rowAt t r)) := by
  funext k
  dsimp only [seqRow]
  blk_ext [rowAt, iblk, V_main_arg3, index_in, row512, seqOf]

theorem row_sh (t : Fin cfg0.N) (r : Fin 512) : seqRow (iblk m c 4 t) 0 = seqRow (m ((c : Thread nD τ).loc main_arg4)) (seqOf (rowAt t r)) := by
  funext k
  dsimp only [seqRow]
  blk_ext [rowAt, iblk, V_main_arg4, index_in, row512, seqOf]

theorem w_eq (t : Fin cfg0.N) : iblk m c 5 t = m ((c : Thread nD τ).loc main_arg5) := by
  funext j
  blk_ext [iblk, V_main_arg5, index_in]

/-- The modulated activations. -/
def u (x : FVec Ideal S8192x1024 .f32) (g b : FVec Ideal S1x1024 .f32) (sc sh : FVec Ideal S4x1x1024 .f32) : FVec Ideal S8192x1024 .bf16 :=
  fun j => modulated (row x (j 0)) g b (seqRow sc (seqOf (j 0))) (seqRow sh (seqOf (j 0))) (j 1)

/-- The modulated activations of the program's arguments. -/
abbrev uOf : FVec Ideal S8192x1024 .bf16 := u (m ((c : Thread nD τ).loc main_arg0)) (m ((c : Thread nD τ).loc main_arg1))
  (m ((c : Thread nD τ).loc main_arg2)) (m ((c : Thread nD τ).loc main_arg3)) (m ((c : Thread nD τ).loc main_arg4))

theorem row_u (t : Fin cfg0.N) (r : Fin 512) : row (k0_pay1 (iblk m c 0 t) (iblk m c 1 t) (iblk m c 2 t) (iblk m c 3 t) (iblk m c 4 t)) r =
    row (uOf m c) (rowAt t r) := by
  funext d
  dsimp only [row]
  rw [pay1_apply, row_x, g_eq, b_eq, row_sc m c t r, row_sh m c t r]
  rfl

theorem final_u : (dats m 0 c).arrAt 6 cfg0.N = uOf m c := by
  refine (dats m 0 c).arrAt_eq_of_covers 6 _ (by decide +kernel) fun t hf y => ?_
  obtain ⟨r, d, rfl⟩ : ∃ r d, y = ix2 r d := ⟨y 0, y 1, eq_ix2 y⟩
  blk_simp
  rw [after0_6]
  unfold outsAt0 out0_A_6 kernelRun0_A
  frame_out
  refine (congrFun (row_u m c t r) d).trans (congrArg (uOf m c) (show ix2 (rowAt t r) d = _ from ?_))
  blk_ext [index_out t, rowAt, row512]

/-- A block's rows of `up`, where they stand among all rows. -/
theorem up_block (f : EReal → EReal → EReal) (t : Fin cfg0.N) (k : Fin 4) (r : Fin 512) (d : Fin 704) :
    up f (k0_pay1 (iblk m c 0 t) (iblk m c 1 t) (iblk m c 2 t) (iblk m c 3 t) (iblk m c 4 t)) (iblk m c 5 t) (ix3 k r d) =
    up f (uOf m c) (m ((c : Thread nD τ).loc main_arg5)) (ix3 k (rowAt t r) d) := by
  rw [w_eq]
  change f (mulSlab (row _ r) _ _ d) (mulSlab (row _ r) _ _ d) = _
  rw [row_u]
  rfl

theorem final_dh : (dats m 0 c).arrAt 7 cfg0.N = up (fun a h => h * dsilu a) (uOf m c) (m ((c : Thread nD τ).loc main_arg5)) := by
  refine (dats m 0 c).arrAt_eq_of_covers 7 _ (by decide +kernel) fun t hf y => ?_
  obtain ⟨k, r, d, rfl⟩ : ∃ k r d, y = ix3 k r d := ⟨y 0, y 1, y 2, eq_ix3 y⟩
  blk_simp
  rw [after0_7]
  unfold outsAt0
  dsimp only
  rw [out7_apply]
  refine (up_block m c _ t k r d).trans (congrArg (up _ (uOf m c) _) (show ix3 k (rowAt t r) d = _ from ?_))
  blk_ext [index_out t, rowAt, row512]

theorem final_silu : (dats m 0 c).arrAt 8 cfg0.N = up (fun a _ => silu a) (uOf m c) (m ((c : Thread nD τ).loc main_arg5)) := by
  refine (dats m 0 c).arrAt_eq_of_covers 8 _ (by decide +kernel) fun t hf y => ?_
  obtain ⟨k, r, d, rfl⟩ : ∃ k r d, y = ix3 k r d := ⟨y 0, y 1, y 2, eq_ix3 y⟩
  blk_simp
  rw [after0_8]
  unfold outsAt0
  dsimp only
  rw [out8_apply]
  refine (up_block m c _ t k r d).trans (congrArg (up _ (uOf m c) _) (show ix3 k (rowAt t r) d = _ from ?_))
  blk_ext [index_out t, rowAt, row512]

theorem final_gated : (dats m 0 c).arrAt 9 cfg0.N = up (fun a h => silu a * h) (uOf m c) (m ((c : Thread nD τ).loc main_arg5)) := by
  refine (dats m 0 c).arrAt_eq_of_covers 9 _ (by decide +kernel) fun t hf y => ?_
  obtain ⟨k, r, d, rfl⟩ : ∃ k r d, y = ix3 k r d := ⟨y 0, y 1, y 2, eq_ix3 y⟩
  blk_simp
  rw [after0_9]
  unfold outsAt0
  dsimp only
  rw [out9_apply]
  refine (up_block m c _ t k r d).trans (congrArg (up _ (uOf m c) _) (show ix3 k (rowAt t r) d = _ from ?_))
  blk_ext [index_out t, rowAt, row512]

end Cert.Kernel9Ideal.FfnUp

namespace Cert.Reference9Ideal.FfnUp

open Cert.Reference9Ideal Cert.Reference9Ideal.Gen Cert.Reference9Ideal.Read
open Cert.Rows Cert.FfnUp
open Cert.Kernel9Ideal.FfnUp (u)

variable (x : FVec Ideal S8192x1024 .f32) (g b : FVec Ideal S1x1024 .f32) (sc sh : FVec Ideal S4x1x1024 .f32) (w : FVec Ideal S8x1024x704 .bf16)

theorem pos_eq (r : Fin 8192) (d : Fin 1024) : idx_main_v4 (idx_main_v11 (ix2 r d)) = ix2 r d ∧
    idx_main_v7 (idx_main_v11 (ix2 r d)) = ix3 (seqOf r) 0 d := by
  obtain ⟨e0, e1, e2, e3⟩ := unflat r.val d.val d.isLt
  constructor <;> funext a <;> apply Fin.ext <;> fin_cases a
  exacts [e2, e3, e0, rfl, e1]

theorem mod_row (r : Fin 8192) (d : Fin 1024) : val_main_v11 (F := Ideal) x g b sc sh (ix2 r d) = u x g b sc sh (ix2 r d) := by
  rw [val_main_v11_apply, val_main_v10_apply, val_main_v9_apply, val_main_v8_apply, val_main_v7_apply, val_main_v6_apply, val_main_v5_apply,
    val_main_cst_apply, val_main_v4_apply, val_main_v3_apply, val_main_v2_apply, val_main_v1_apply, val_main_v0_apply, (pos_eq r d).1, (pos_eq r d).2]
  refine congrArg₂ (fun x y : EReal => x + y) (congrArg₂ (fun x y : EReal => x * y) (congrArg₂ (fun x y : EReal => x + y)
    (congrArg (fun y : EReal => x (ix2 r d) * y) (congrArg g ?_)) (congrArg b ?_)) (congrArg (fun y : EReal => y + sc (ix3 (seqOf r) 0 d)) Ideal.ofBits_one_f32))
    (congrArg sh (pos_eq r d).2) <;> funext a <;> apply Fin.ext <;> fin_cases a <;> rfl

theorem u_eq : val_main_v29 (F := Ideal) x g b sc sh = u x g b sc sh := by
  funext j
  obtain ⟨r, d, rfl⟩ : ∃ r d, j = ix2 r d := ⟨j 0, j 1, eq_ix2 j⟩
  rw [val_main_v29_apply]
  exact mod_row x g b sc sh r d

/-- Where a column of the weights stands among the slabs. -/
theorem slab_pos (q k d j : ℕ) (hq : q < 1024) (hk : k < 8) (hd : d < 704) (hj : j = k * 704 + d) :
    (q * 5632 + j) / 5632 = q ∧ (q * 5632 + j) / 704 % 8 = k ∧ (q * 5632 + j) % 704 = d := by
  omega

theorem mul_row (r : Fin 8192) (k : Fin 8) (d : Fin 704) (i : S8192x5632.Idx) (h0 : (i 0).val = r.val) (h1 : (i 1).val = k.val * 704 + d.val) :
    val_main_v15 (F := Ideal) x g b sc sh w i = mulSlab (row (u x g b sc sh) r) w k d := by
  rw [val_main_v15_apply]
  refine Finset.sum_congr rfl fun q _ => congrArg₂ (fun x y : EReal => x * y)
    ((congrArg (val_main_v11 (F := Ideal) x g b sc sh) (?_ : _ = ix2 r q)).trans (mod_row x g b sc sh r q)) ?_
  · funext a
    apply Fin.ext
    fin_cases a
    exacts [h0, rfl]
  · rw [val_main_v14_apply, val_main_v13_apply, val_main_v12_apply]
    obtain ⟨e0, e1, e2⟩ := slab_pos q.val k.val d.val (i 1).val q.isLt k.isLt d.isLt h1
    refine congrArg w (funext fun a => Fin.ext ?_)
    fin_cases a
    exacts [e1, e0, e2]

/-- Column `d` of slab `k`, among the columns of a half. -/
def col (k : Fin 4) (d : Fin 704) : Fin 2816 := ⟨k.val * 704 + d.val, by omega⟩

theorem first_half (r : Fin 8192) (k : Fin 4) (d : Fin 704) : val_main_v16 (F := Ideal) x g b sc sh w (ix2 r (col k d)) =
    mulSlab (row (u x g b sc sh) r) w ⟨k.val, by omega⟩ d := by
  rw [val_main_v16_apply]
  exact mul_row x g b sc sh w r _ d _ rfl rfl

theorem second_half (r : Fin 8192) (k : Fin 4) (d : Fin 704) : val_main_v17 (F := Ideal) x g b sc sh w (ix2 r (col k d)) =
    mulSlab (row (u x g b sc sh) r) w ⟨k.val + 4, by omega⟩ d := by
  rw [val_main_v17_apply]
  refine mul_row x g b sc sh w r _ d _ rfl ?_
  change 2816 + (k.val * 704 + d.val) = (k.val + 4) * 704 + d.val
  omega

theorem logistic_at (i : S8192x2816.Idx) : val_main_v18_2 (F := Ideal) x g b sc sh w i = logistic (val_main_v16 (F := Ideal) x g b sc sh w i) := by
  rw [val_main_v18_2_apply, val_main_call0_v4_apply, val_main_call0_cst_0_apply, val_main_call0_v3_apply, val_main_call0_v2_apply,
    val_main_call0_cst_apply, val_main_call0_v1_apply, val_main_call0_v0_apply]
  exact congrArg₂ Ideal.div Ideal.ofBits_one_f32 (congrArg (fun y : EReal => y + Ideal.exp (-val_main_v16 (F := Ideal) x g b sc sh w i)) Ideal.ofBits_one_f32)

theorem silu_at (i : S8192x2816.Idx) : val_main_v18_0 (F := Ideal) x g b sc sh w i = silu (val_main_v16 (F := Ideal) x g b sc sh w i) := by
  rw [val_main_v18_0_apply, logistic_at]
  rfl

theorem one_at (i : S8192x2816.Idx) : val_main_v19 (F := Ideal) i = (1 : EReal) := by
  rw [val_main_v19_apply, val_main_cst_0_apply]
  exact Ideal.ofBits_one_f32

theorem dsilu_at (i : S8192x2816.Idx) : val_main_v20 (F := Ideal) x g b sc sh w i = dsilu (val_main_v16 (F := Ideal) x g b sc sh w i) := by
  rw [val_main_v20_apply, val_main_call1_v1_apply, val_main_call1_v2_apply, val_main_call1_v0_apply, val_main_v18_1_apply, val_main_call0_v7_apply,
    val_main_call0_v6_apply, val_main_call0_cst_1_apply, one_at, logistic_at]
  refine Eq.trans ?_ (dsilu_eq _)
  exact congrArg (fun y : EReal => 1 * logistic (val_main_v16 (F := Ideal) x g b sc sh w i) + val_main_v16 (F := Ideal) x g b sc sh w i * 1 *
    (logistic (val_main_v16 (F := Ideal) x g b sc sh w i) * (y - logistic (val_main_v16 (F := Ideal) x g b sc sh w i)))) Ideal.ofBits_one_f32

/-- Where an entry of the slabs stands among the columns. -/
theorem col_pos (k r d : ℕ) (hk : k < 4) (hd : d < 704) : ((r * 4 + k) * 704 + d) / 2816 = r ∧ ((r * 4 + k) * 704 + d) % 2816 = k * 704 + d := by
  omega

theorem at_col (k : Fin 4) (r : Fin 8192) (d : Fin 704) : idx_main_v22 (idx_main_v23 (ix3 k r d)) = ix2 r (col k d) := by
  obtain ⟨e0, e1⟩ := col_pos k.val r.val d.val k.isLt d.isLt
  funext a
  apply Fin.ext
  fin_cases a
  exacts [e0, e1]

theorem dh_eq : val_main_v30 (F := Ideal) x g b sc sh w = up (fun a h => h * dsilu a) (u x g b sc sh) w := by
  funext j
  obtain ⟨k, r, d, rfl⟩ : ∃ k r d, j = ix3 k r d := ⟨j 0, j 1, j 2, eq_ix3 j⟩
  rw [val_main_v30_apply, val_main_v23_apply, val_main_v22_apply, at_col, val_main_v21_apply, dsilu_at, first_half, second_half]
  rfl

theorem silu_eq : val_main_v31 (F := Ideal) x g b sc sh w = up (fun a _ => silu a) (u x g b sc sh) w := by
  funext j
  obtain ⟨k, r, d, rfl⟩ : ∃ k r d, j = ix3 k r d := ⟨j 0, j 1, j 2, eq_ix3 j⟩
  rw [val_main_v31_apply, val_main_v25_apply, val_main_v24_apply]
  refine (congrArg (val_main_v18_0 (F := Ideal) x g b sc sh w) (at_col k r d)).trans ?_
  rw [silu_at, first_half]
  rfl

theorem gated_eq : val_main_v32 (F := Ideal) x g b sc sh w = up (fun a h => silu a * h) (u x g b sc sh) w := by
  funext j
  obtain ⟨k, r, d, rfl⟩ : ∃ k r d, j = ix3 k r d := ⟨j 0, j 1, j 2, eq_ix3 j⟩
  rw [val_main_v32_apply, val_main_v28_apply, val_main_v27_apply]
  refine (congrArg (val_main_v26 (F := Ideal) x g b sc sh w) (at_col k r d)).trans ?_
  rw [val_main_v26_apply, silu_at, first_half, second_half]
  rfl

end Cert.Reference9Ideal.FfnUp

end
-- ==== Proof.DownNorm.lean ====
/-
  The ffn's second product, the residual and the normalisation: blocks of 512 rows, the inner columns in four blocks of 704.
-/
module

public import Idealize.ShloMosaic.Lib.Pipeline.ValueKit
public import Idealize.ShloMosaic.Lib.Pipeline.ReadBack
public import proofs.«01_k».proof.Proof.Gen.Kernel10Ideal.Value
public import proofs.«01_k».proof.Proof.Gen.Reference10Ideal.Run
public import proofs.«01_k».proof.Proof.Gen.Reference10Ideal.Read
public import proofs.«01_k».proof.Proof.Rows

@[expose] public section

noncomputable section

open Idealize.ShloMosaic Idealize.ShloMosaic.TcCoe Idealize.ShloMosaic.Tactic
open Idealize.ShloMosaic.Pipeline (Dat)

namespace Cert.Kernel10Ideal.DownNorm

open Cert.Kernel10Ideal Cert.Kernel10Ideal.Gen
open Cert.Rows

/-- The second product of row `r`: `Σ_s Σ_l p[s,r,l] · w[s,l,d]`. -/
def down {R : ℕ} (p : (⟨3, ![4, R, 704]⟩ : Shape).Idx → EReal) (w : S4x704x1024.Idx → EReal) (r : Fin R) (d : Fin 1024) : EReal :=
  ∑ s : Fin 4, ∑ l : Fin 704, p (ix3 s r l) * w (ix3 s l d)

theorem pay1_apply (f x : FVec Ideal S512x1024 .f32) (g b : Vec Ideal S1x1024 .f32) (gate : Vec Ideal S1x1x1024 .f32) (r : Fin 512) (d : Fin 1024) :
    k0_pay1 f (k0_pay6 x g) b gate (ix2 r d) =
      centred (residual (row x r) g b (seqRow gate 0) fun k => Ideal.ofBits .f32 0x3F000000#32 * f (ix2 r k)) d := by
  unfold k0_pay1 k0_pay6
  pointwise
  rfl

theorem pay2_apply (f x : FVec Ideal S512x1024 .f32) (g b : Vec Ideal S1x1024 .f32) (gate : Vec Ideal S1x1x1024 .f32) (r : Fin 512) (d : Fin 1) :
    k0_pay2 f (k0_pay6 x g) b gate (ix2 r d) =
      rstd (residual (row x r) g b (seqRow gate 0) fun k => Ideal.ofBits .f32 0x3F000000#32 * f (ix2 r k)) := by
  unfold k0_pay2
  pointwise
  simp only [pay1_apply]
  rfl

theorem pay3_apply (f x : FVec Ideal S512x1024 .f32) (g b : Vec Ideal S1x1024 .f32) (gate : Vec Ideal S1x1x1024 .f32) (r : Fin 512) (d : Fin 1024) :
    k0_pay3 f (k0_pay6 x g) b gate (ix2 r d) =
      normed (residual (row x r) g b (seqRow gate 0) fun k => Ideal.ofBits .f32 0x3F000000#32 * f (ix2 r k)) d := by
  unfold k0_pay3
  pointwise
  rw [pay1_apply, pay2_apply, normed]

/-- The slabs' products, added up. -/
theorem pay7_apply (p : Vec Ideal S4x512x704 .bf16) (w : Vec Ideal S4x704x1024 .bf16) (x : Vec Ideal S512x1024 .f32) (g b : Vec Ideal S1x1024 .f32)
    (gate : Vec Ideal S1x1x1024 .f32) (r : Fin 512) (d : Fin 1024) : k0_pay7 p w x g b gate (ix2 r d) = down p w r d := by
  unfold k0_pay7 k0_pay5
  pointwise
  rw [down, Fin.sum_univ_four]

variable (m : (ℓ : Loc nD τ sig) → Buf (Elt Ideal) ℓ) (c : Dev nD)

theorem index_in : ∀ t : Fin cfg0.N, win0_0.index t = ![0, t.val, 0] ∧ win0_1.index t = ![0, 0, 0] ∧ win0_2.index t = ![t.val, 0] ∧
    win0_3.index t = ![0, 0] ∧ win0_4.index t = ![0, 0] ∧ win0_5.index t = ![t.val / 4, 0, 0] :=
  (by decide +kernel : ∀ t : Fin grid0.N, _)

theorem index_out : ∀ t : Fin cfg0.N, win0_6.index t = ![t.val, 0] ∧ win0_7.index t = ![t.val, 0] ∧ win0_8.index t = ![t.val, 0] :=
  (by decide +kernel : ∀ t : Fin grid0.N, _)

/-- Row `r` of a grid point's block, among all rows. -/
abbrev rowAt (t : Fin cfg0.N) (r : Fin 512) : Fin 8192 := row512 rfl t r

theorem w_eq (t : Fin cfg0.N) : iblk m c 1 t = m ((c : Thread nD τ).loc main_arg1) := by
  funext j
  blk_ext [iblk, V_main_arg1, index_in]

theorem down_eq (t : Fin cfg0.N) (r : Fin 512) : down (iblk m c 0 t) (iblk m c 1 t) r =
    down (m ((c : Thread nD τ).loc main_arg0)) (m ((c : Thread nD τ).loc main_arg1)) (rowAt t r) := by
  funext d
  rw [w_eq]
  refine Finset.sum_congr rfl fun s _ => Finset.sum_congr rfl fun l _ => congrArg (fun x : EReal => x * _) ?_
  blk_ext [rowAt, iblk, V_main_arg0, index_in, row512]

theorem row_x (t : Fin cfg0.N) (r : Fin 512) : row (iblk m c 2 t) r = row (m ((c : Thread nD τ).loc main_arg2)) (rowAt t r) := by
  funext k
  dsimp only [row]
  blk_ext [rowAt, iblk, V_main_arg2, index_in, row512]

theorem g_eq (t : Fin cfg0.N) : iblk m c 3 t = m ((c : Thread nD τ).loc main_arg3) := by
  funext j
  blk_ext [iblk, V_main_arg3, index_in]

theorem b_eq (t : Fin cfg0.N) : iblk m c 4 t = m ((c : Thread nD τ).loc main_arg4) := by
  funext j
  blk_ext [iblk, V_main_arg4, index_in]

theorem row_gate (t : Fin cfg0.N) (r : Fin 512) : seqRow (iblk m c 5 t) 0 = seqRow (m ((c : Thread nD τ).loc main_arg5)) (seqOf (rowAt t r)) := by
  funext k
  dsimp only [seqRow]
  blk_ext [rowAt, iblk, V_main_arg5, index_in, row512, seqOf]

variable (p : FVec Ideal S4x8192x704 .bf16) (w : FVec Ideal S4x704x1024 .bf16) (x : FVec Ideal S8192x1024 .f32) (g b : FVec Ideal S1x1024 .f32)
  (gate : FVec Ideal S4x1x1024 .f32)

/-- The layer's output of row `r`, before the normalisation. -/
def resid (r : Fin 8192) : Fin 1024 → EReal :=
  residual (row x r) g b (seqRow gate (seqOf r)) fun k => Ideal.ofBits .f32 0x3F000000#32 * down p w r k

/-- The rows normalised. -/
def xh : FVec Ideal S8192x1024 .f32 := fun j => normed (resid p w x g b gate (j 0)) (j 1)

/-- One over each row's deviation. -/
def dev : FVec Ideal S8192x1 .f32 := fun j => rstd (resid p w x g b gate (j 0))

/-- The second product. -/
def f : FVec Ideal S8192x1024 .bf16 := fun j => down p w (j 0) (j 1)

theorem final_xh : (dats m 0 c).arrAt 6 cfg0.N = xh (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, d, rfl⟩ : ∃ r d, y = ix2 r d := ⟨y 0, y 1, eq_ix2 y⟩
  blk_simp
  rw [after0_6]
  frame_out
  unfold k0_pay8
  simp (disch := decide) only [View.ld_unit_lit']
  rw [pay3_apply]
  simp only [pay7_apply]
  rw [down_eq m c t r, row_x, g_eq, b_eq, row_gate m c t r]
  refine Eq.trans (by rfl) (congrArg (xh _ _ _ _ _ _) (show ix2 (rowAt t r) d = _ from ?_))
  blk_ext [index_out t, rowAt, row512]

theorem final_dev : (dats m 0 c).arrAt 7 cfg0.N = dev (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨r, d, rfl⟩ : ∃ r d, y = ix2 r d := ⟨y 0, y 1, eq_ix2 y⟩
  blk_simp
  rw [after0_7]
  frame_out
  unfold k0_pay8
  simp (disch := decide) only [View.ld_unit_lit']
  rw [pay2_apply]
  simp only [pay7_apply]
  rw [down_eq m c t r, row_x, g_eq, b_eq, row_gate m c t r]
  refine Eq.trans (by rfl) (congrArg (dev _ _ _ _ _ _) (show ix2 (rowAt t r) d = _ from ?_))
  blk_ext [index_out t, rowAt, row512]

theorem final_f : (dats m 0 c).arrAt 8 cfg0.N = f (m ((c : Thread nD τ).loc main_arg0)) (m ((c : Thread nD τ).loc main_arg1)) := by
  refine (dats m 0 c).arrAt_eq_of_covers 8 _ (by decide +kernel) fun t hf y => ?_
  obtain ⟨r, d, rfl⟩ : ∃ r d, y = ix2 r d := ⟨y 0, y 1, eq_ix2 y⟩
  blk_simp
  rw [after0_8]
  frame_out
  refine (pay7_apply (iblk m c 0 t) (iblk m c 1 t) (iblk m c 2 t) (iblk m c 3 t) (iblk m c 4 t) (iblk m c 5 t) r d).trans ?_
  rw [down_eq m c t r]
  refine Eq.trans (by rfl) (congrArg (f _ _) (show ix2 (rowAt t r) d = _ from ?_))
  blk_ext [index_out t, rowAt, row512]

end Cert.Kernel10Ideal.DownNorm

namespace Cert.Reference10Ideal.DownNorm

open Cert.Reference10Ideal Cert.Reference10Ideal.Gen Cert.Reference10Ideal.Read
open Cert.Rows
open Cert.Kernel10Ideal.DownNorm (down resid xh dev f)

variable (p : FVec Ideal S4x8192x704 .bf16) (w : FVec Ideal S4x704x1024 .bf16) (x : FVec Ideal S8192x1024 .f32) (g b : FVec Ideal S1x1024 .f32)
  (gate : FVec Ideal S4x1x1024 .f32)

theorem down_row (r : Fin 8192) (d : Fin 1024) : val_main_v5 (F := Ideal) p w (ix2 r d) = down p w r d := by
  rw [val_main_v5_apply]
  refine (Fin.sum_mul_add_congr (S := 4) (n := 704) fun s k hl => ?_).symm
  rw [val_main_v4_apply, val_main_v3_apply, val_main_v2_apply, val_main_v1_apply, val_main_v0_apply]
  have hr := r.isLt
  have hd := d.isLt
  have hs := s.isLt
  have hk := k.isLt
  refine congrArg₂ (fun x y : EReal => x * y) (congrArg p ?_) (congrArg w ?_) <;> funext a <;> apply Fin.ext <;>
    fin_cases a <;> dsimp <;> omega

theorem pos_eq (r : Fin 8192) (d : Fin 1024) : idx_main_v14 (idx_main_v17 (ix2 r d)) = ix2 r d ∧
    idx_main_v15 (idx_main_v17 (ix2 r d)) = ix3 (seqOf r) 0 d := by
  obtain ⟨e0, e1, e2, e3⟩ := unflat r.val d.val d.isLt
  constructor <;> funext a <;> apply Fin.ext <;> fin_cases a
  exacts [e2, e3, e0, rfl, e1]

theorem resid_row (r : Fin 8192) (d : Fin 1024) : val_main_v18 (F := Ideal) p w x g b gate (ix2 r d) = resid p w x g b gate r d := by
  rw [val_main_v18_apply, val_main_v17_apply, val_main_v16_apply, val_main_v15_apply, val_main_v14_apply, val_main_v13_apply, val_main_v12_apply,
    val_main_cst_0_apply, val_main_v11_apply, val_main_v10_apply, val_main_cst_apply, val_main_v9_apply, val_main_v8_apply, val_main_v7_apply,
    val_main_v6_apply, (pos_eq r d).1, (pos_eq r d).2, down_row]
  refine congrArg (fun y : EReal => y + gate (ix3 (seqOf r) 0 d) * _) (congrArg (fun y : EReal => _ * y) (congrArg₂ (fun x y : EReal => x + y)
    (congrArg (fun y : EReal => x (ix2 r d) * y) (congrArg g ?_)) (congrArg b ?_))) <;> funext a <;> apply Fin.ext <;> fin_cases a <;> rfl

theorem mean_row (r : Fin 8192) : val_main_v22 (F := Ideal) p w x g b gate (ix2 r 0) = mean (resid p w x g b gate r) := by
  rw [val_main_v22_apply, val_main_v21_apply, val_main_cst_2_apply, val_main_v20_apply, val_main_v19_apply, val_main_cst_1_apply]
  refine congrArg (fun y : EReal => Ideal.div y _) ((congrArg₂ (fun x y : EReal => x + y) Ideal.ofBits_zero_f32
    (Finset.sum_congr rfl fun k _ => (congrArg (val_main_v18 (F := Ideal) p w x g b gate) ?_).trans (resid_row p w x g b gate r k))).trans (zero_add _))
  funext a
  apply Fin.ext
  fin_cases a <;> rfl

theorem centred_row (r : Fin 8192) (d : Fin 1024) : val_main_v24 (F := Ideal) p w x g b gate (ix2 r d) = centred (resid p w x g b gate r) d := by
  rw [val_main_v24_apply, val_main_v23_apply, resid_row]
  refine congrArg (fun y : EReal => _ - y) ((congrArg (val_main_v22 (F := Ideal) p w x g b gate) ?_).trans (mean_row p w x g b gate r))
  funext a
  apply Fin.ext
  fin_cases a <;> rfl

theorem rstd_row (r : Fin 8192) : val_main_v32 (F := Ideal) p w x g b gate (ix2 r 0) = rstd (resid p w x g b gate r) := by
  rw [val_main_v32_apply, val_main_v31_apply, val_main_v30_apply, val_main_cst_5_apply, val_main_v29_apply, val_main_v28_apply, val_main_cst_4_apply,
    val_main_v27_apply, val_main_v26_apply, val_main_cst_3_apply]
  refine congrArg (fun y : EReal => Ideal.rsqrt (Ideal.div y _ + _)) ((congrArg₂ (fun x y : EReal => x + y) Ideal.ofBits_zero_f32
    (Finset.sum_congr rfl fun k _ => ?_)).trans (zero_add _))
  rw [val_main_v25_apply, show idx_main_v26 (idx_main_v27 (ix2 r 0)) k = ix2 r k by funext a; apply Fin.ext; fin_cases a <;> rfl, centred_row]
  rfl

theorem xh_eq : val_main_v36 (F := Ideal) p w x g b gate = xh p w x g b gate := by
  funext j
  obtain ⟨r, d, rfl⟩ : ∃ r d, j = ix2 r d := ⟨j 0, j 1, eq_ix2 j⟩
  rw [val_main_v36_apply, val_main_v35_apply]
  refine congrArg₂ (fun x y : EReal => x * y) ((show _ = val_main_v24 (F := Ideal) p w x g b gate (ix2 r d) from ?_).trans
    (centred_row p w x g b gate r d)) ((congrArg (val_main_v32 (F := Ideal) p w x g b gate) ?_).trans (rstd_row p w x g b gate r))
  · rw [val_main_v34_apply, val_main_v33_apply, val_main_v24_apply, val_main_v23_apply]
  · funext a
    apply Fin.ext
    fin_cases a <;> rfl

theorem dev_eq : val_main_v32 (F := Ideal) p w x g b gate = dev p w x g b gate := by
  funext j
  obtain ⟨r, d, rfl⟩ : ∃ r d, j = ix2 r d := ⟨j 0, j 1, eq_ix2 j⟩
  obtain rfl : d = 0 := Subsingleton.elim d 0
  exact rstd_row p w x g b gate r

theorem f_eq : val_main_v37 (F := Ideal) p w = f p w := by
  funext j
  obtain ⟨r, d, rfl⟩ : ∃ r d, j = ix2 r d := ⟨j 0, j 1, eq_ix2 j⟩
  rw [val_main_v37_apply]
  exact down_row p w r d

end Cert.Reference10Ideal.DownNorm

end
-- ==== Proof.Mix.lean ====
/-
  The attention layer's two branches, gated and merged, their projection, the residual and the normalisation: blocks of 256 rows.
-/
module

public import Idealize.ShloMosaic.Lib.Pipeline.ValueKit
public import Idealize.ShloMosaic.Lib.Pipeline.ReadBack
public import proofs.«01_k».proof.Proof.Gen.Kernel11Ideal.Value
public import proofs.«01_k».proof.Proof.Gen.Reference11Ideal.Run
public import proofs.«01_k».proof.Proof.Gen.Reference11Ideal.Read
public import proofs.«01_k».proof.Proof.Rows

@[expose] public section

noncomputable section

open Idealize.ShloMosaic Idealize.ShloMosaic.TcCoe Idealize.ShloMosaic.Tactic
open Idealize.ShloMosaic.Pipeline (Dat)

namespace Cert.Kernel11Ideal.Mix

open Cert.Kernel11Ideal Cert.Kernel11Ideal.Gen
open Cert.Rows

/-- The branches' products, gated and added, of a row: `σ(a)·(y·wsb) + σ(b)·(c·wco)`. -/
def merge (y z a b : Fin 1024 → EReal) (wsb wco : FVec Ideal S1024x1024 .bf16) (d : Fin 1024) : EReal :=
  logistic (a d) * mul y wsb d + logistic (b d) * mul z wco d

theorem pay1_apply (x : Vec Ideal S256x1024 .bf16) (w : Vec Ideal S1024x1024 .bf16) (r : Fin 256) (d : Fin 1024) :
    k0_pay1 x w (ix2 r d) = mul (row x r) w d := by
  unfold k0_pay1
  pointwise
  rfl

theorem pay2_apply (x : Vec Ideal S256x1024 .bf16) (w : Vec Ideal S1024x1024 .bf16) (r : Fin 256) (d : Fin 1024) :
    k0_pay2 x w (ix2 r d) = mul (row x r) w d := by
  unfold k0_pay2
  pointwise
  rfl

theorem pay3_apply (y z : Vec Ideal S256x1024 .bf16) (wsb wco : Vec Ideal S1024x1024 .bf16) (a b : Vec Ideal S256x1024 .f32) (r : Fin 256) (d : Fin 1024) :
    k0_pay3 y wsb z wco a b (ix2 r d) = merge (row y r) (row z r) (row a r) (row b r) wsb wco d := by
  unfold k0_pay3
  pointwise
  rw [pay1_apply, pay2_apply, logistic_eq, logistic_eq]
  rfl

theorem pay4_apply (y z : Vec Ideal S256x1024 .bf16) (wsb wco wout : Vec Ideal S1024x1024 .bf16) (a b : Vec Ideal S256x1024 .f32) (r : Fin 256)
    (d : Fin 1024) : k0_pay4 y wsb z wco a b wout (ix2 r d) = mul (merge (row y r) (row z r) (row a r) (row b r) wsb wco) wout d := by
  unfold k0_pay4
  pointwise
  simp only [pay3_apply]
  rfl

theorem pay6_apply (o x : FVec Ideal S256x1024 .f32) (g b : Vec Ideal S1x1024 .f32) (gate : Vec Ideal S1x1x1024 .f32) (r : Fin 256) (d : Fin 1024) :
    k0_pay6 o (k0_pay5 x g) b gate (ix2 r d) = centred (residual (row x r) g b (seqRow gate 0) (row o r)) d := by
  unfold k0_pay6 k0_pay5
  pointwise
  rfl

theorem pay7_apply (o x : FVec Ideal S256x1024 .f32) (g b : Vec Ideal S1x1024 .f32) (gate : Vec Ideal S1x1x1024 .f32) (r : Fin 256) (d : Fin 1) :
    k0_pay7 o (k0_pay5 x g) b gate (ix2 r d) = rstd (residual (row x r) g b (seqRow gate 0) (row o r)) := by
  unfold k0_pay7
  pointwise
  simp only [pay6_apply]
  rfl

theorem pay8_apply (o x : FVec Ideal S256x1024 .f32) (g b : Vec Ideal S1x1024 .f32) (gate : Vec Ideal S1x1x1024 .f32) (r : Fin 256) (d : Fin 1024) :
    k0_pay8 o (k0_pay5 x g) b gate (ix2 r d) = normed (residual (row x r) g b (seqRow gate 0) (row o r)) d := by
  unfold k0_pay8
  pointwise
  rw [pay6_apply, pay7_apply, normed]

variable (m : (ℓ : Loc nD τ sig) → Buf (Elt Ideal) ℓ) (c : Dev nD)

theorem index_in : ∀ t : Fin cfg0.N, win0_0.index t = ![t.val, 0] ∧ win0_1.index t = ![t.val, 0] ∧ win0_2.index t = ![t.val, 2] ∧
    win0_3.index t = ![t.val, 3] ∧ win0_4.index t = ![0, 0] ∧ win0_5.index t = ![0, 0] ∧ win0_6.index t = ![0, 0] ∧ win0_7.index t = ![t.val, 0] ∧
    win0_8.index t = ![0, 0] ∧ win0_9.index t = ![0, 0] ∧ win0_10.index t = ![t.val / 8, 0, 0] :=
  (by decide +kernel : ∀ t : Fin grid0.N, _)

theorem index_out : ∀ t : Fin cfg0.N, win0_11.index t = ![t.val, 0] ∧ win0_12.index t = ![t.val, 0] ∧ win0_13.index t = ![t.val, 0] ∧
    win0_14.index t = ![t.val, 0] ∧ win0_15.index t = ![t.val, 0] ∧ win0_16.index t = ![t.val, 0] :=
  (by decide +kernel : ∀ t : Fin grid0.N, _)

/-- Row `r` of a grid point's block, among all rows. -/
abbrev rowAt (t : Fin cfg0.N) (r : Fin 256) : Fin 8192 := row256 rfl t r

theorem row_y (t : Fin cfg0.N) (r : Fin 256) : row (iblk m c 0 t) r = row (m ((c : Thread nD τ).loc main_arg0)) (rowAt t r) := by
  funext k
  dsimp only [row]
  blk_ext [rowAt, iblk, V_main_arg0, index_in, row256]

theorem row_z (t : Fin cfg0.N) (r : Fin 256) : row (iblk m c 1 t) r = row (m ((c : Thread nD τ).loc main_arg1)) (rowAt t r) := by
  funext k
  dsimp only [row]
  blk_ext [rowAt, iblk, V_main_arg1, index_in, row256]

theorem row_ga (t : Fin cfg0.N) (r : Fin 256) : row (iblk m c 2 t) r = quarterRow (m ((c : Thread nD τ).loc main_arg2)) 2 (rowAt t r) := by
  funext k
  dsimp only [row, quarterRow]
  blk_ext [rowAt, iblk, V_main_arg2, index_in, row256, quarter]

theorem row_gb (t : Fin cfg0.N) (r : Fin 256) : row (iblk m c 3 t) r = quarterRow (m ((c : Thread nD τ).loc main_arg2)) 3 (rowAt t r) := by
  funext k
  dsimp only [row, quarterRow]
  blk_ext [rowAt, iblk, V_main_arg2, index_in, row256, quarter]

theorem wsb_eq (t : Fin cfg0.N) : iblk m c 4 t = m ((c : Thread nD τ).loc main_arg3) := by
  funext j
  blk_ext [iblk, V_main_arg3, index_in]

theorem wco_eq (t : Fin cfg0.N) : iblk m c 5 t = m ((c : Thread nD τ).loc main_arg4) := by
  funext j
  blk_ext [iblk, V_main_arg4, index_in]

theorem wout_eq (t : Fin cfg0.N) : iblk m c 6 t = m ((c : Thread nD τ).loc main_arg5) := by
  funext j
  blk_ext [iblk, V_main_arg5, index_in]

theorem row_x (t : Fin cfg0.N) (r : Fin 256) : row (iblk m c 7 t) r = row (m ((c : Thread nD τ).loc main_arg6)) (rowAt t r) := by
  funext k
  dsimp only [row]
  blk_ext [rowAt, iblk, V_main_arg6, index_in, row256]

theorem g_eq (t : Fin cfg0.N) : iblk m c 8 t = m ((c : Thread nD τ).loc main_arg7) := by
  funext j
  blk_ext [iblk, V_main_arg7, index_in]

theorem b_eq (t : Fin cfg0.N) : iblk m c 9 t = m ((c : Thread nD τ).loc main_arg8) := by
  funext j
  blk_ext [iblk, V_main_arg8, index_in]

theorem row_gate (t : Fin cfg0.N) (r : Fin 256) : seqRow (iblk m c 10 t) 0 = seqRow (m ((c : Thread nD τ).loc main_arg9)) (seqOf (rowAt t r)) := by
  funext k
  dsimp only [seqRow]
  blk_ext [rowAt, iblk, V_main_arg9, index_in, row256, seqOf]

variable (y z : FVec Ideal S8192x1024 .bf16) (p : FVec Ideal S8192x4096 .f32) (wsb wco wout : FVec Ideal S1024x1024 .bf16)
  (x : FVec Ideal S8192x1024 .f32) (g b : FVec Ideal S1x1024 .f32) (gate : FVec Ideal S4x1x1024 .f32)

/-- A branch's product. -/
def branch : FVec Ideal S8192x1024 .bf16 := fun j => mul (row y (j 0)) wsb (j 1)

/-- The merged branches; the gates are the last two quarters of `p`'s columns. -/
def merged : FVec Ideal S8192x1024 .bf16 :=
  fun j => merge (row y (j 0)) (row z (j 0)) (quarterRow p 2 (j 0)) (quarterRow p 3 (j 0)) wsb wco (j 1)

/-- Their projection. -/
def out : FVec Ideal S8192x1024 .bf16 := fun j => mul (row (merged y z p wsb wco) (j 0)) wout (j 1)

/-- The layer's output of row `r`, before the normalisation. -/
def resid (r : Fin 8192) : Fin 1024 → EReal := residual (row x r) g b (seqRow gate (seqOf r)) (row (out y z p wsb wco wout) r)

/-- The rows normalised. -/
def xh : FVec Ideal S8192x1024 .f32 := fun j => normed (resid y z p wsb wco wout x g b gate (j 0)) (j 1)

/-- One over each row's deviation. -/
def dev : FVec Ideal S8192x1 .f32 := fun j => rstd (resid y z p wsb wco wout x g b gate (j 0))

theorem row_out (t : Fin cfg0.N) (r : Fin 256) :
    row (k0_pay4 (iblk m c 0 t) (iblk m c 4 t) (iblk m c 1 t) (iblk m c 5 t) (iblk m c 2 t) (iblk m c 3 t) (iblk m c 6 t)) r =
      row (out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) (rowAt t r) := by
  funext d
  refine (pay4_apply _ _ _ _ _ _ _ r d).trans ?_
  rw [row_y, row_z, row_ga m c t r, row_gb m c t r, wsb_eq, wco_eq, wout_eq]
  rfl

theorem final_xh : (dats m 0 c).arrAt 11 cfg0.N = xh (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  obtain ⟨r, d, rfl⟩ : ∃ r d, y = ix2 r d := ⟨y 0, y 1, eq_ix2 y⟩
  blk_simp
  rw [after0_11]
  frame_out
  unfold k0_pay12 k0_pay13
  simp (disch := decide) only [View.ld_unit_lit']
  rw [pay8_apply, row_out, row_x, g_eq, b_eq, row_gate m c t r]
  refine Eq.trans (by rfl) (congrArg (xh _ _ _ _ _ _ _ _ _ _) (show ix2 (rowAt t r) d = _ from ?_))
  blk_ext [index_out t, rowAt, row256]

theorem final_dev : (dats m 0 c).arrAt 12 cfg0.N = dev (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  obtain ⟨r, d, rfl⟩ : ∃ r d, y = ix2 r d := ⟨y 0, y 1, eq_ix2 y⟩
  blk_simp
  rw [after0_12]
  frame_out
  unfold k0_pay12 k0_pay13
  simp (disch := decide) only [View.ld_unit_lit']
  rw [pay7_apply, row_out, row_x, g_eq, b_eq, row_gate m c t r]
  refine Eq.trans (by rfl) (congrArg (dev _ _ _ _ _ _ _ _ _ _) (show ix2 (rowAt t r) d = _ from ?_))
  blk_ext [index_out t, rowAt, row256]

theorem final_ysb : (dats m 0 c).arrAt 13 cfg0.N = branch (m ((c : Thread nD τ).loc main_arg0)) (m ((c : Thread nD τ).loc main_arg3))
     := by
  refine (dats m 0 c).arrAt_eq_of_covers 13 _ (by decide +kernel) fun t hf y => ?_
  obtain ⟨r, d, rfl⟩ : ∃ r d, y = ix2 r d := ⟨y 0, y 1, eq_ix2 y⟩
  blk_simp
  rw [after0_13]
  frame_out
  refine (pay1_apply (iblk m c 0 t) (iblk m c 4 t) r d).trans ?_
  rw [row_y, wsb_eq]
  refine Eq.trans (by rfl) (congrArg (branch _ _) (show ix2 (rowAt t r) d = _ from ?_))
  blk_ext [index_out t, rowAt, row256]

theorem final_yco : (dats m 0 c).arrAt 14 cfg0.N = branch (m ((c : Thread nD τ).loc main_arg1)) (m ((c : Thread nD τ).loc main_arg4))
     := by
  refine (dats m 0 c).arrAt_eq_of_covers 14 _ (by decide +kernel) fun t hf y => ?_
  obtain ⟨r, d, rfl⟩ : ∃ r d, y = ix2 r d := ⟨y 0, y 1, eq_ix2 y⟩
  blk_simp
  rw [after0_14]
  frame_out
  refine (pay2_apply (iblk m c 1 t) (iblk m c 5 t) r d).trans ?_
  rw [row_z, wco_eq]
  refine Eq.trans (by rfl) (congrArg (branch _ _) (show ix2 (rowAt t r) d = _ from ?_))
  blk_ext [index_out t, rowAt, row256]

theorem final_merged : (dats m 0 c).arrAt 15 cfg0.N = merged (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 15 _ (by decide +kernel) fun t hf y => ?_
  obtain ⟨r, d, rfl⟩ : ∃ r d, y = ix2 r d := ⟨y 0, y 1, eq_ix2 y⟩
  blk_simp
  rw [after0_15]
  frame_out
  rw [pay3_apply, row_y, row_z, row_ga m c t r, row_gb m c t r, wsb_eq, wco_eq]
  refine Eq.trans (by rfl) (congrArg (merged _ _ _ _ _) (show ix2 (rowAt t r) d = _ from ?_))
  blk_ext [index_out t, rowAt, row256]

theorem final_out : (dats m 0 c).arrAt 16 cfg0.N = out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 16 _ (by decide +kernel) fun t hf y => ?_
  obtain ⟨r, d, rfl⟩ : ∃ r d, y = ix2 r d := ⟨y 0, y 1, eq_ix2 y⟩
  blk_simp
  rw [after0_16]
  frame_out
  unfold k0_pay12
  simp (disch := decide) only [View.ld_unit_lit']
  refine (congrFun (row_out m c t r) d).trans ?_
  refine Eq.trans (by rfl) (congrArg (out _ _ _ _ _ _) (show ix2 (rowAt t r) d = _ from ?_))
  blk_ext [index_out t, rowAt, row256]

end Cert.Kernel11Ideal.Mix

namespace Cert.Reference11Ideal.Mix

open Cert.Reference11Ideal Cert.Reference11Ideal.Gen Cert.Reference11Ideal.Read
open Cert.Rows
open Cert.Kernel11Ideal.Mix (branch merged out resid xh dev)

variable (y z : FVec Ideal S8192x1024 .bf16) (p : FVec Ideal S8192x4096 .f32) (wsb wco wout : FVec Ideal S1024x1024 .bf16)
  (x : FVec Ideal S8192x1024 .f32) (g b : FVec Ideal S1x1024 .f32) (gate : FVec Ideal S4x1x1024 .f32)

theorem gate_a (r : Fin 8192) (d : Fin 1024) : val_main_v16 (F := Ideal) p (ix2 r d) = logistic (quarterRow p 2 r d) := by
  rw [val_main_v16_apply, val_main_v15_apply, val_main_cst_0_apply, val_main_v14_apply, val_main_v13_apply, val_main_cst_apply,
    val_main_v12_apply, val_main_v11_apply, val_main_v7_apply]
  refine congrArg₂ Ideal.div Ideal.ofBits_one_f32 (congrArg₂ (fun x y : EReal => x + y) Ideal.ofBits_one_f32 (congrArg (fun x => Ideal.exp (-p x)) ?_))
  funext a
  apply Fin.ext
  fin_cases a
  · rfl
  · change 2048 + d.val = 2 * 1024 + d.val
    omega

theorem gate_b (r : Fin 8192) (d : Fin 1024) : val_main_v23 (F := Ideal) p (ix2 r d) = logistic (quarterRow p 3 r d) := by
  rw [val_main_v23_apply, val_main_v22_apply, val_main_cst_2_apply, val_main_v21_apply, val_main_v20_apply, val_main_cst_1_apply,
    val_main_v19_apply, val_main_v18_apply, val_main_v8_apply]
  refine congrArg₂ Ideal.div Ideal.ofBits_one_f32 (congrArg₂ (fun x y : EReal => x + y) Ideal.ofBits_one_f32 (congrArg (fun x => Ideal.exp (-p x)) ?_))
  funext a
  apply Fin.ext
  fin_cases a
  · rfl
  · change 3072 + d.val = 3 * 1024 + d.val
    omega

theorem ysb_row (r : Fin 8192) (d : Fin 1024) : val_main_v9 (F := Ideal) y wsb (ix2 r d) = mul (row y r) wsb d := by
  rw [val_main_v9_apply]
  refine Finset.sum_congr rfl fun k _ => congrArg₂ (fun x y : EReal => x * y) (congrArg y ?_) (congrArg wsb ?_) <;>
    funext a <;> apply Fin.ext <;> fin_cases a <;> rfl

theorem yco_row (r : Fin 8192) (d : Fin 1024) : val_main_v10 (F := Ideal) z wco (ix2 r d) = mul (row z r) wco d := by
  rw [val_main_v10_apply]
  refine Finset.sum_congr rfl fun k _ => congrArg₂ (fun x y : EReal => x * y) (congrArg z ?_) (congrArg wco ?_) <;>
    funext a <;> apply Fin.ext <;> fin_cases a <;> rfl

theorem merged_row (r : Fin 8192) (d : Fin 1024) : val_main_v25 (F := Ideal) y z p wsb wco (ix2 r d) = merged y z p wsb wco (ix2 r d) := by
  rw [val_main_v25_apply, val_main_v24_apply, val_main_v17_apply, gate_a, gate_b, ysb_row, yco_row]
  rfl

theorem out_row (r : Fin 8192) (d : Fin 1024) :
    val_main_v26 (F := Ideal) y z p wsb wco wout (ix2 r d) = out y z p wsb wco wout (ix2 r d) := by
  rw [val_main_v26_apply]
  change _ = mul (row (merged y z p wsb wco) r) wout d
  refine Finset.sum_congr rfl fun k _ => congrArg₂ (fun x y : EReal => x * y)
    ((congrArg (val_main_v25 (F := Ideal) y z p wsb wco) ?_).trans (merged_row y z p wsb wco r k)) (congrArg wout ?_) <;>
    funext a <;> apply Fin.ext <;> fin_cases a <;> rfl

theorem pos_eq (r : Fin 8192) (d : Fin 1024) : idx_main_v33 (idx_main_v36 (ix2 r d)) = ix2 r d ∧
    idx_main_v34 (idx_main_v36 (ix2 r d)) = ix3 (seqOf r) 0 d := by
  obtain ⟨e0, e1, e2, e3⟩ := unflat r.val d.val d.isLt
  constructor <;> funext a <;> apply Fin.ext <;> fin_cases a
  exacts [e2, e3, e0, rfl, e1]

theorem resid_row (r : Fin 8192) (d : Fin 1024) :
    val_main_v37 (F := Ideal) y z p wsb wco wout x g b gate (ix2 r d) = resid y z p wsb wco wout x g b gate r d := by
  rw [val_main_v37_apply, val_main_v36_apply, val_main_v35_apply, val_main_v34_apply, val_main_v33_apply, val_main_v32_apply, val_main_v31_apply,
    val_main_cst_3_apply, val_main_v30_apply, val_main_v29_apply, val_main_v28_apply, val_main_v27_apply, (pos_eq r d).1, (pos_eq r d).2, out_row]
  refine congrArg (fun y : EReal => y + gate (ix3 (seqOf r) 0 d) * _) (congrArg (fun y : EReal => _ * y) (congrArg₂ (fun x y : EReal => x + y)
    (congrArg (fun y : EReal => x (ix2 r d) * y) (congrArg g ?_)) (congrArg b ?_))) <;> funext a <;> apply Fin.ext <;> fin_cases a <;> rfl

theorem mean_row (r : Fin 8192) : val_main_v41 (F := Ideal) y z p wsb wco wout x g b gate (ix2 r 0) = mean (resid y z p wsb wco wout x g b gate r) := by
  rw [val_main_v41_apply, val_main_v40_apply, val_main_cst_5_apply, val_main_v39_apply, val_main_v38_apply, val_main_cst_4_apply]
  refine congrArg (fun y : EReal => Ideal.div y _) ((congrArg₂ (fun x y : EReal => x + y) Ideal.ofBits_zero_f32
    (Finset.sum_congr rfl fun k _ => (congrArg (val_main_v37 (F := Ideal) y z p wsb wco wout x g b gate) ?_).trans (resid_row y z p wsb wco wout x g b gate r k))).trans (zero_add _))
  funext a
  apply Fin.ext
  fin_cases a <;> rfl

theorem centred_row (r : Fin 8192) (d : Fin 1024) : val_main_v43 (F := Ideal) y z p wsb wco wout x g b gate (ix2 r d) = centred (resid y z p wsb wco wout x g b gate r) d := by
  rw [val_main_v43_apply, val_main_v42_apply, resid_row]
  refine congrArg (fun y : EReal => _ - y) ((congrArg (val_main_v41 (F := Ideal) y z p wsb wco wout x g b gate) ?_).trans (mean_row y z p wsb wco wout x g b gate r))
  funext a
  apply Fin.ext
  fin_cases a <;> rfl

theorem rstd_row (r : Fin 8192) : val_main_v51 (F := Ideal) y z p wsb wco wout x g b gate (ix2 r 0) = rstd (resid y z p wsb wco wout x g b gate r) := by
  rw [val_main_v51_apply, val_main_v50_apply, val_main_v49_apply, val_main_cst_8_apply, val_main_v48_apply, val_main_v47_apply, val_main_cst_7_apply,
    val_main_v46_apply, val_main_v45_apply, val_main_cst_6_apply]
  refine congrArg (fun y : EReal => Ideal.rsqrt (Ideal.div y _ + _)) ((congrArg₂ (fun x y : EReal => x + y) Ideal.ofBits_zero_f32
    (Finset.sum_congr rfl fun k _ => ?_)).trans (zero_add _))
  rw [val_main_v44_apply, show idx_main_v45 (idx_main_v46 (ix2 r 0)) k = ix2 r k by funext a; apply Fin.ext; fin_cases a <;> rfl, centred_row]
  rfl

theorem xh_eq : val_main_v55 (F := Ideal) y z p wsb wco wout x g b gate = xh y z p wsb wco wout x g b gate := by
  funext j
  obtain ⟨r, d, rfl⟩ : ∃ r d, j = ix2 r d := ⟨j 0, j 1, eq_ix2 j⟩
  rw [val_main_v55_apply, val_main_v54_apply]
  refine congrArg₂ (fun x y : EReal => x * y) ((show _ = val_main_v43 (F := Ideal) y z p wsb wco wout x g b gate (ix2 r d) from ?_).trans
    (centred_row y z p wsb wco wout x g b gate r d)) ((congrArg (val_main_v51 (F := Ideal) y z p wsb wco wout x g b gate) ?_).trans (rstd_row y z p wsb wco wout x g b gate r))
  · rw [val_main_v53_apply, val_main_v52_apply, val_main_v43_apply, val_main_v42_apply]
  · funext a
    apply Fin.ext
    fin_cases a <;> rfl

theorem dev_eq : val_main_v51 (F := Ideal) y z p wsb wco wout x g b gate = dev y z p wsb wco wout x g b gate := by
  funext j
  obtain ⟨r, d, rfl⟩ : ∃ r d, j = ix2 r d := ⟨j 0, j 1, eq_ix2 j⟩
  obtain rfl : d = 0 := Subsingleton.elim d 0
  exact rstd_row y z p wsb wco wout x g b gate r

theorem ysb_eq : val_main_v56 (F := Ideal) y wsb = branch y wsb := by
  funext j
  obtain ⟨r, d, rfl⟩ : ∃ r d, j = ix2 r d := ⟨j 0, j 1, eq_ix2 j⟩
  rw [val_main_v56_apply]
  exact ysb_row y wsb r d

theorem yco_eq : val_main_v57 (F := Ideal) z wco = branch z wco := by
  funext j
  obtain ⟨r, d, rfl⟩ : ∃ r d, j = ix2 r d := ⟨j 0, j 1, eq_ix2 j⟩
  rw [val_main_v57_apply]
  exact yco_row z wco r d

theorem merged_eq : val_main_v58 (F := Ideal) y z p wsb wco = merged y z p wsb wco := by
  funext j
  obtain ⟨r, d, rfl⟩ : ∃ r d, j = ix2 r d := ⟨j 0, j 1, eq_ix2 j⟩
  rw [val_main_v58_apply]
  exact merged_row y z p wsb wco r d

theorem out_eq : val_main_v59 (F := Ideal) y z p wsb wco wout = out y z p wsb wco wout := by
  funext j
  obtain ⟨r, d, rfl⟩ : ∃ r d, j = ix2 r d := ⟨j 0, j 1, eq_ix2 j⟩
  rw [val_main_v59_apply]
  exact out_row y z p wsb wco wout r d

end Cert.Reference11Ideal.Mix

end
-- ==== Proof.lean ====
/-
  The attention's gradient with respect to its queries, keys and values: the kernel runs to the end with its arguments
  untouched and every semaphore at zero, so does the reference, and from finite inputs both leave the same three arrays.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Value
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8.Value
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9.Value
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10.Value
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11.Value
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite
public import proofs.«01_k».proof.Proof.Final
public import proofs.«01_k».proof.Proof.Finite
public import proofs.«01_k».proof.Proof.Same
public import proofs.«01_k».proof.Proof.Wgrad
public import proofs.«01_k».proof.Proof.Modulation
public import proofs.«01_k».proof.Proof.MixModulation
public import proofs.«01_k».proof.Proof.SquareWgrad
public import proofs.«01_k».proof.Proof.Merge
public import proofs.«01_k».proof.Proof.InProj
public import proofs.«01_k».proof.Proof.FfnUp
public import proofs.«01_k».proof.Proof.DownNorm
public import proofs.«01_k».proof.Proof.Mix
public import Idealize.ShloMosaic.Adequacy
public import Idealize.ShloMosaic.Init

@[expose] public section

noncomputable section

namespace Cert.Proof

open Idealize.ShloMosaic Idealize.SL.Sem
open Cert.KernelIdeal.AttBwd Cert.ReferenceIdeal.AttBwd Cert.Pre_finite
open StickBreaking

theorem frame_kernel : Cert.quiescent_Kernel := by
  unfold Cert.quiescent_Kernel
  rw [SameText.main_eq, SameText.defs_eq]
  intro m ρ _
  exact (θ_run Cert.KernelIdeal.defs _ _).mono (fun _ h => ⟨fun c => args_kept m h.1 c, h.2⟩) (run_main (F := Bits) m ρ)

theorem frame_kernelIdeal : Cert.quiescent_KernelIdeal := fun m ρ _ =>
  (θ_run Cert.KernelIdeal.defs _ _).mono (fun _ h => ⟨fun c => args_kept m h.1 c, h.2⟩) (run_main (F := Ideal) m ρ)

theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From finite inputs the kernel and the reference leave the same gradients. -/
theorem algebraic : Cert.algebraic_KernelIdeal_ReferenceIdeal_pre_finite := by
  intro m ρ m' ρ' hfin hagree
  choose X hX using fun c => (finite_real _ _ (hfin c)).1
  choose Y hY using fun c => (finite_real _ _ (hfin c)).2
  refine ⟨fun c => (mat (packed fun b h => StickBreaking.gradQ (Qh (X c) b h) (Kh (X c) b h) (Vh (X c) b h) (Gh (Y c) b h)) : FVec Ideal Cert.KernelIdeal.S8192x1024 .bf16),
    fun c => (mat (packed fun b h => StickBreaking.gradK (Qh (X c) b h) (Kh (X c) b h) (Vh (X c) b h) (Gh (Y c) b h)) : FVec Ideal Cert.KernelIdeal.S8192x1024 .bf16),
    fun c => (mat (packed fun b h => StickBreaking.gradV (Qh (X c) b h) (Kh (X c) b h) (Gh (Y c) b h)) : FVec Ideal Cert.KernelIdeal.S8192x1024 .bf16),
    (θ_run Cert.KernelIdeal.defs _ _).mono (fun _ h c => ⟨?_, ?_, ?_, args_kept m h.1 c⟩) (run_main (F := Ideal) m ρ),
    (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')⟩
  · exact ((h.1 c).1 5).trans (finalQ m c (X c) (Y c) (hX c) (hY c))
  · exact ((h.1 c).1 6).trans (finalK m c (X c) (Y c) (hX c) (hY c))
  · exact ((h.1 c).1 7).trans (finalV m c (X c) (Y c) (hX c) (hY c))
  · rw [Cert.ReferenceIdeal.Read.val_main_v62_eq]
    exact (congrArg₂ (Cert.ReferenceIdeal.Read.val_main_v62 (F := Ideal)) ((hagree c).1.trans (hX c)) ((hagree c).2.trans (hY c))).trans (v62_eq _ _)
  · rw [Cert.ReferenceIdeal.Read.val_main_v59_eq]
    exact (congrArg₂ (Cert.ReferenceIdeal.Read.val_main_v59 (F := Ideal)) ((hagree c).1.trans (hX c)) ((hagree c).2.trans (hY c))).trans (v59_eq _ _)
  · rw [Cert.ReferenceIdeal.Read.val_main_v56_eq]
    exact (congrArg₂ (Cert.ReferenceIdeal.Read.val_main_v56 (F := Ideal)) ((hagree c).1.trans (hX c)) ((hagree c).2.trans (hY c))).trans (v56_eq _ _)

theorem frame_reference2Ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference7Ideal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6Ideal : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem frame_reference8Ideal : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem frame_reference9Ideal : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem frame_reference10Ideal : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem frame_reference11Ideal : Cert.quiescent_Reference11Ideal := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

/-- The feed-forward layer's gradient through its modulated product. -/
theorem algebraic2 : Cert.algebraic_Kernel2Ideal_Reference2Ideal := by
  intro m ρ m' ρ' _ hagree
  refine ⟨fun c => Cert.Kernel2Ideal.Modulation.dx (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)), fun c => Cert.Kernel2Ideal.Modulation.dsc (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), fun c => Cert.Kernel2Ideal.Modulation.dsh (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(Cert.Kernel2Ideal.Value.post7 m r h c).trans (Cert.Kernel2Ideal.Modulation.final_dx m c), (Cert.Kernel2Ideal.Value.post8 m r h c).trans (Cert.Kernel2Ideal.Modulation.final_dsc m c), (Cert.Kernel2Ideal.Value.post9 m r h c).trans (Cert.Kernel2Ideal.Modulation.final_dsh m c), Cert.Kernel2Ideal.Value.kept_main_arg0 m r h c, Cert.Kernel2Ideal.Value.kept_main_arg1 m r h c, Cert.Kernel2Ideal.Value.kept_main_arg2 m r h c, Cert.Kernel2Ideal.Value.kept_main_arg3 m r h c, Cert.Kernel2Ideal.Value.kept_main_arg4 m r h c, Cert.Kernel2Ideal.Value.kept_main_arg5 m r h c, Cert.Kernel2Ideal.Value.kept_main_arg6 m r h c⟩)
      (Cert.Kernel2Ideal.Gen.run_main (F := Ideal) m ρ),
    (θ_run Cert.Reference2Ideal.defs _ _).mono (fun _ h c => ⟨(h c).1.trans ?_, (h c).2.1.trans ?_, (h c).2.2.1.trans ?_, (h c).2.2.2⟩)
      (Cert.Reference2Ideal.Value.run (F := Ideal) m' ρ')⟩
  · obtain ⟨e0, e1, e2, _, _, _, e6⟩ := hagree c
    rw [Cert.Reference2Ideal.Read.val_main_v34_eq, e0, e1, e2, e6]
    exact Cert.Reference2Ideal.Modulation.dx_eq _ _ _ _
  · obtain ⟨e0, e1, _, e3, e4, e5, _⟩ := hagree c
    rw [Cert.Reference2Ideal.Read.val_main_v30_eq, e0, e1, e3, e4, e5]
    exact Cert.Reference2Ideal.Modulation.dsc_eq _ _ _ _ _
  · obtain ⟨e0, e1, _, _, _, _, _⟩ := hagree c
    rw [Cert.Reference2Ideal.Read.val_main_v27_eq, e0, e1]
    exact Cert.Reference2Ideal.Modulation.dsh_eq _ _

/-- The gradient of the feed-forward layer's input weights. -/
theorem algebraic3 : Cert.algebraic_Kernel3Ideal_Reference3Ideal := by
  intro m ρ m' ρ' _ hagree
  refine ⟨fun c => Cert.Kernel3Ideal.Wgrad.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(Cert.Kernel3Ideal.Value.post2 m r h c).trans (Cert.Kernel3Ideal.Wgrad.final m c), Cert.Kernel3Ideal.Value.kept_main_arg0 m r h c, Cert.Kernel3Ideal.Value.kept_main_arg1 m r h c⟩)
      (Cert.Kernel3Ideal.Gen.run_main (F := Ideal) m ρ),
    (θ_run Cert.Reference3Ideal.defs _ _).mono (fun _ h c => ⟨(h c).1.trans ?_, (h c).2⟩)
      (Cert.Reference3Ideal.Value.run (F := Ideal) m' ρ')⟩
  obtain ⟨e0, e1⟩ := hagree c
  rw [Cert.Reference3Ideal.Read.val_main_v9_eq, e0, e1]
  exact Cert.Reference3Ideal.Wgrad.value_eq _ _

/-- The gradient of the feed-forward layer's output weights. -/
theorem algebraic4 : Cert.algebraic_Kernel4Ideal_Reference4Ideal := by
  intro m ρ m' ρ' _ hagree
  refine ⟨fun c => Cert.Kernel4Ideal.Wgrad.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(Cert.Kernel4Ideal.Value.post2 m r h c).trans (Cert.Kernel4Ideal.Wgrad.final m c), Cert.Kernel4Ideal.Value.kept_main_arg0 m r h c, Cert.Kernel4Ideal.Value.kept_main_arg1 m r h c⟩)
      (Cert.Kernel4Ideal.Gen.run_main (F := Ideal) m ρ),
    (θ_run Cert.Reference4Ideal.defs _ _).mono (fun _ h c => ⟨(h c).1.trans ?_, (h c).2⟩)
      (Cert.Reference4Ideal.Value.run (F := Ideal) m' ρ')⟩
  obtain ⟨e0, e1⟩ := hagree c
  rw [Cert.Reference4Ideal.Read.val_main_v7_eq, e0, e1]
  exact Cert.Reference4Ideal.Wgrad.value_eq _ _

/-- The attention layer's gradient through its modulated product. -/
theorem algebraic7 : Cert.algebraic_Kernel7Ideal_Reference7Ideal := by
  intro m ρ m' ρ' _ hagree
  refine ⟨fun c => Cert.Kernel7Ideal.Modulation.dx (Cert.Kernel7Ideal.Modulation.segs m c) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg12)), fun c => Cert.Kernel7Ideal.Modulation.dsc (Cert.Kernel7Ideal.Modulation.segs m c) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)), fun c => Cert.Kernel7Ideal.Modulation.dsh (Cert.Kernel7Ideal.Modulation.segs m c) (m ((c.tc : Thread Cert.Kernel7Ideal.nD Cert.Kernel7Ideal.τ).loc Cert.Kernel7Ideal.main_arg7)),
    (θ_run Cert.Kernel7Ideal.defs _ _).mono (fun r h c => ⟨(Cert.Kernel7Ideal.Value.post13 m r h c).trans (Cert.Kernel7Ideal.Modulation.final_dx m c), (Cert.Kernel7Ideal.Value.post14 m r h c).trans (Cert.Kernel7Ideal.Modulation.final_dsc m c), (Cert.Kernel7Ideal.Value.post15 m r h c).trans (Cert.Kernel7Ideal.Modulation.final_dsh m c), Cert.Kernel7Ideal.Value.kept_main_arg0 m r h c, Cert.Kernel7Ideal.Value.kept_main_arg1 m r h c, Cert.Kernel7Ideal.Value.kept_main_arg2 m r h c, Cert.Kernel7Ideal.Value.kept_main_arg3 m r h c, Cert.Kernel7Ideal.Value.kept_main_arg4 m r h c, Cert.Kernel7Ideal.Value.kept_main_arg5 m r h c, Cert.Kernel7Ideal.Value.kept_main_arg6 m r h c, Cert.Kernel7Ideal.Value.kept_main_arg7 m r h c, Cert.Kernel7Ideal.Value.kept_main_arg8 m r h c, Cert.Kernel7Ideal.Value.kept_main_arg9 m r h c, Cert.Kernel7Ideal.Value.kept_main_arg10 m r h c, Cert.Kernel7Ideal.Value.kept_main_arg11 m r h c, Cert.Kernel7Ideal.Value.kept_main_arg12 m r h c⟩)
      (Cert.Kernel7Ideal.Gen.run_main (F := Ideal) m ρ),
    (θ_run Cert.Reference7Ideal.defs _ _).mono (fun _ h c => ⟨(h c).1.trans ?_, (h c).2.1.trans ?_, (h c).2.2.1.trans ?_, (h c).2.2.2⟩)
      (Cert.Reference7Ideal.Value.run (F := Ideal) m' ρ')⟩
  · obtain ⟨e0, e1, e2, e3, e4, e5, e6, e7, e8, _, _, _, e12⟩ := hagree c
    rw [Cert.Reference7Ideal.Read.val_main_v37_eq, e0, e1, e2, e3, e4, e5, e6, e7, e8, e12]
    exact Cert.Reference7Ideal.Modulation.dx_eq _ _ _ _ _ _ _ _ _ _
  · obtain ⟨e0, e1, e2, e3, e4, e5, e6, e7, _, e9, e10, e11, _⟩ := hagree c
    rw [Cert.Reference7Ideal.Read.val_main_v33_eq, e0, e1, e2, e3, e4, e5, e6, e7, e9, e10, e11]
    exact Cert.Reference7Ideal.Modulation.dsc_eq _ _ _ _ _ _ _ _ _ _ _
  · obtain ⟨e0, e1, e2, e3, e4, e5, e6, e7, _, _, _, _, _⟩ := hagree c
    rw [Cert.Reference7Ideal.Read.val_main_v30_eq, e0, e1, e2, e3, e4, e5, e6, e7]
    exact Cert.Reference7Ideal.Modulation.dsh_eq _ _ _ _ _ _ _ _

/-- The gradient of a square weight. -/
theorem algebraic5 : Cert.algebraic_Kernel5Ideal_Reference5Ideal := by
  intro m ρ m' ρ' _ hagree
  refine ⟨fun c => Cert.Kernel5Ideal.Wgrad.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ⟨(Cert.Kernel5Ideal.Value.post2 m r h c).trans (Cert.Kernel5Ideal.Wgrad.final m c), Cert.Kernel5Ideal.Value.kept_main_arg0 m r h c, Cert.Kernel5Ideal.Value.kept_main_arg1 m r h c⟩)
      (Cert.Kernel5Ideal.Gen.run_main (F := Ideal) m ρ),
    (θ_run Cert.Reference5Ideal.defs _ _).mono (fun _ h c => ⟨(h c).1.trans ?_, (h c).2⟩)
      (Cert.Reference5Ideal.Value.run (F := Ideal) m' ρ')⟩
  obtain ⟨e0, e1⟩ := hagree c
  rw [Cert.Reference5Ideal.Read.val_main_v5_eq, e0, e1]
  exact Cert.Reference5Ideal.Wgrad.value_eq _ _

/-- The attention layer's gradient through its merged branches. -/
theorem algebraic6 : Cert.algebraic_Kernel6Ideal_Reference6Ideal := by
  intro m ρ m' ρ' _ hagree
  refine ⟨fun c => Cert.Kernel6Ideal.Merge.dyAll 2 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg6)),
    fun c => Cert.Kernel6Ideal.Merge.dyAll 3 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg6)),
    fun c => Cert.Kernel6Ideal.Merge.dgateAll 2 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg6)),
    fun c => Cert.Kernel6Ideal.Merge.dgateAll 3 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg6)),
    fun c => Cert.Kernel6Ideal.Merge.backAll .bf16 2 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg6)),
    fun c => Cert.Kernel6Ideal.Merge.backAll .f32 3 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)),
    (θ_run Cert.Kernel6Ideal.defs _ _).mono (fun r h c => ⟨(Cert.Kernel6Ideal.Value.post8 m r h c).trans (Cert.Kernel6Ideal.Merge.final_dysb m c), (Cert.Kernel6Ideal.Value.post9 m r h c).trans (Cert.Kernel6Ideal.Merge.final_dyco m c), (Cert.Kernel6Ideal.Value.post10 m r h c).trans (Cert.Kernel6Ideal.Merge.final_dga m c), (Cert.Kernel6Ideal.Value.post11 m r h c).trans (Cert.Kernel6Ideal.Merge.final_dgb m c), (Cert.Kernel6Ideal.Value.post12 m r h c).trans (Cert.Kernel6Ideal.Merge.final_dya m c), (Cert.Kernel6Ideal.Value.post13 m r h c).trans (Cert.Kernel6Ideal.Merge.final_dcs m c), Cert.Kernel6Ideal.Value.kept_main_arg0 m r h c, Cert.Kernel6Ideal.Value.kept_main_arg1 m r h c, Cert.Kernel6Ideal.Value.kept_main_arg2 m r h c, Cert.Kernel6Ideal.Value.kept_main_arg3 m r h c, Cert.Kernel6Ideal.Value.kept_main_arg4 m r h c, Cert.Kernel6Ideal.Value.kept_main_arg5 m r h c, Cert.Kernel6Ideal.Value.kept_main_arg6 m r h c⟩)
      (Cert.Kernel6Ideal.Gen.run_main (F := Ideal) m ρ),
    (θ_run Cert.Reference6Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference6Ideal.Value.run (F := Ideal) m' ρ')⟩
  · obtain ⟨e0, e1, _, _, _, _, e6⟩ := hagree c
    rw [Cert.Reference6Ideal.Read.val_main_v44_eq, e0, e1, e6]
    exact Cert.Reference6Ideal.Merge.dysb_eq _ _ _
  · obtain ⟨e0, e1, _, _, _, _, e6⟩ := hagree c
    rw [Cert.Reference6Ideal.Read.val_main_v45_eq, e0, e1, e6]
    exact Cert.Reference6Ideal.Merge.dyco_eq _ _ _
  · obtain ⟨e0, e1, e2, _, _, _, e6⟩ := hagree c
    rw [Cert.Reference6Ideal.Read.val_main_v46_eq, e0, e1, e2, e6]
    exact Cert.Reference6Ideal.Merge.dga_eq _ _ _ _
  · obtain ⟨e0, e1, _, e3, _, _, e6⟩ := hagree c
    rw [Cert.Reference6Ideal.Read.val_main_v47_eq, e0, e1, e3, e6]
    exact Cert.Reference6Ideal.Merge.dgb_eq _ _ _ _
  · obtain ⟨e0, e1, _, _, e4, _, e6⟩ := hagree c
    rw [Cert.Reference6Ideal.Read.val_main_v48_eq, e0, e1, e4, e6]
    exact Cert.Reference6Ideal.Merge.dya_eq _ _ _ _
  · obtain ⟨e0, e1, _, _, _, e5, e6⟩ := hagree c
    rw [Cert.Reference6Ideal.Read.val_main_v43_eq, e0, e1, e5, e6]
    exact Cert.Reference6Ideal.Merge.dcs_eq _ _ _ _

/-- The attention layer's modulated projection. -/
theorem algebraic8 : Cert.algebraic_Kernel8Ideal_Reference8Ideal := by
  intro m ρ m' ρ' _ hagree
  refine ⟨fun c => Cert.Kernel8Ideal.InProj.u (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    fun c => Cert.Kernel8Ideal.InProj.qkv (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)),
    fun c => Cert.Kernel8Ideal.InProj.rest (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)),
    (θ_run Cert.Kernel8Ideal.defs _ _).mono (fun r h c => ⟨(Cert.Kernel8Ideal.Value.post6 m r h c).trans (Cert.Kernel8Ideal.InProj.final_u m c), (Cert.Kernel8Ideal.Value.post7 m r h c).trans (Cert.Kernel8Ideal.InProj.final_qkv m c), (Cert.Kernel8Ideal.Value.post8 m r h c).trans (Cert.Kernel8Ideal.InProj.final_rest m c), Cert.Kernel8Ideal.Value.kept_main_arg0 m r h c, Cert.Kernel8Ideal.Value.kept_main_arg1 m r h c, Cert.Kernel8Ideal.Value.kept_main_arg2 m r h c, Cert.Kernel8Ideal.Value.kept_main_arg3 m r h c, Cert.Kernel8Ideal.Value.kept_main_arg4 m r h c, Cert.Kernel8Ideal.Value.kept_main_arg5 m r h c⟩)
      (Cert.Kernel8Ideal.Gen.run_main (F := Ideal) m ρ),
    (θ_run Cert.Reference8Ideal.defs _ _).mono (fun _ h c => ⟨(h c).1.trans ?_, (h c).2.1.trans ?_, (h c).2.2.1.trans ?_, (h c).2.2.2⟩)
      (Cert.Reference8Ideal.Value.run (F := Ideal) m' ρ')⟩
  · obtain ⟨e0, e1, e2, e3, e4, _⟩ := hagree c
    rw [Cert.Reference8Ideal.Read.val_main_v15_eq, e0, e1, e2, e3, e4]
    exact Cert.Reference8Ideal.InProj.u_eq _ _ _ _ _
  · obtain ⟨e0, e1, e2, e3, e4, e5⟩ := hagree c
    rw [Cert.Reference8Ideal.Read.val_main_v16_eq, e0, e1, e2, e3, e4, e5]
    exact Cert.Reference8Ideal.InProj.qkv_eq _ _ _ _ _ _
  · obtain ⟨e0, e1, e2, e3, e4, e5⟩ := hagree c
    rw [Cert.Reference8Ideal.Read.val_main_v17_eq, e0, e1, e2, e3, e4, e5]
    exact Cert.Reference8Ideal.InProj.rest_eq _ _ _ _ _ _

/-- The feed-forward layers' first half. -/
theorem algebraic9 : Cert.algebraic_Kernel9Ideal_Reference9Ideal := by
  intro m ρ m' ρ' _ hagree
  refine ⟨fun c => Cert.Kernel9Ideal.FfnUp.uOf m c,
    fun c => Cert.FfnUp.up (fun a h => h * Cert.FfnUp.dsilu a) (Cert.Kernel9Ideal.FfnUp.uOf m c) (m ((c.tc : Thread Cert.Kernel9Ideal.nD Cert.Kernel9Ideal.τ).loc Cert.Kernel9Ideal.main_arg5)),
    fun c => Cert.FfnUp.up (fun a _ => Cert.FfnUp.silu a) (Cert.Kernel9Ideal.FfnUp.uOf m c) (m ((c.tc : Thread Cert.Kernel9Ideal.nD Cert.Kernel9Ideal.τ).loc Cert.Kernel9Ideal.main_arg5)),
    fun c => Cert.FfnUp.up (fun a h => Cert.FfnUp.silu a * h) (Cert.Kernel9Ideal.FfnUp.uOf m c) (m ((c.tc : Thread Cert.Kernel9Ideal.nD Cert.Kernel9Ideal.τ).loc Cert.Kernel9Ideal.main_arg5)),
    (θ_run Cert.Kernel9Ideal.defs _ _).mono (fun r h c => ⟨(Cert.Kernel9Ideal.Value.post6 m r h c).trans (Cert.Kernel9Ideal.FfnUp.final_u m c), (Cert.Kernel9Ideal.Value.post7 m r h c).trans (Cert.Kernel9Ideal.FfnUp.final_dh m c), (Cert.Kernel9Ideal.Value.post8 m r h c).trans (Cert.Kernel9Ideal.FfnUp.final_silu m c), (Cert.Kernel9Ideal.Value.post9 m r h c).trans (Cert.Kernel9Ideal.FfnUp.final_gated m c), Cert.Kernel9Ideal.Value.kept_main_arg0 m r h c, Cert.Kernel9Ideal.Value.kept_main_arg1 m r h c, Cert.Kernel9Ideal.Value.kept_main_arg2 m r h c, Cert.Kernel9Ideal.Value.kept_main_arg3 m r h c, Cert.Kernel9Ideal.Value.kept_main_arg4 m r h c, Cert.Kernel9Ideal.Value.kept_main_arg5 m r h c⟩)
      (Cert.Kernel9Ideal.Gen.run_main (F := Ideal) m ρ),
    (θ_run Cert.Reference9Ideal.defs _ _).mono (fun _ h c => ⟨(h c).1.trans ?_, (h c).2.1.trans ?_, (h c).2.2.1.trans ?_, (h c).2.2.2.1.trans ?_, (h c).2.2.2.2⟩)
      (Cert.Reference9Ideal.Value.run (F := Ideal) m' ρ')⟩
  · obtain ⟨e0, e1, e2, e3, e4, _⟩ := hagree c
    rw [Cert.Reference9Ideal.Read.val_main_v29_eq, e0, e1, e2, e3, e4]
    exact Cert.Reference9Ideal.FfnUp.u_eq _ _ _ _ _
  · obtain ⟨e0, e1, e2, e3, e4, e5⟩ := hagree c
    rw [Cert.Reference9Ideal.Read.val_main_v30_eq, e0, e1, e2, e3, e4, e5]
    exact Cert.Reference9Ideal.FfnUp.dh_eq _ _ _ _ _ _
  · obtain ⟨e0, e1, e2, e3, e4, e5⟩ := hagree c
    rw [Cert.Reference9Ideal.Read.val_main_v31_eq, e0, e1, e2, e3, e4, e5]
    exact Cert.Reference9Ideal.FfnUp.silu_eq _ _ _ _ _ _
  · obtain ⟨e0, e1, e2, e3, e4, e5⟩ := hagree c
    rw [Cert.Reference9Ideal.Read.val_main_v32_eq, e0, e1, e2, e3, e4, e5]
    exact Cert.Reference9Ideal.FfnUp.gated_eq _ _ _ _ _ _

/-- The feed-forward layer's second product, residual and normalisation. -/
theorem algebraic10 : Cert.algebraic_Kernel10Ideal_Reference10Ideal := by
  intro m ρ m' ρ' _ hagree
  refine ⟨fun c => Cert.Kernel10Ideal.DownNorm.xh (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)),
    fun c => Cert.Kernel10Ideal.DownNorm.dev (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)),
    fun c => Cert.Kernel10Ideal.DownNorm.f (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun r h c => ⟨(Cert.Kernel10Ideal.Value.post6 m r h c).trans (Cert.Kernel10Ideal.DownNorm.final_xh m c), (Cert.Kernel10Ideal.Value.post7 m r h c).trans (Cert.Kernel10Ideal.DownNorm.final_dev m c), (Cert.Kernel10Ideal.Value.post8 m r h c).trans (Cert.Kernel10Ideal.DownNorm.final_f m c), Cert.Kernel10Ideal.Value.kept_main_arg0 m r h c, Cert.Kernel10Ideal.Value.kept_main_arg1 m r h c, Cert.Kernel10Ideal.Value.kept_main_arg2 m r h c, Cert.Kernel10Ideal.Value.kept_main_arg3 m r h c, Cert.Kernel10Ideal.Value.kept_main_arg4 m r h c, Cert.Kernel10Ideal.Value.kept_main_arg5 m r h c⟩)
      (Cert.Kernel10Ideal.Gen.run_main (F := Ideal) m ρ),
    (θ_run Cert.Reference10Ideal.defs _ _).mono (fun _ h c => ⟨(h c).1.trans ?_, (h c).2.1.trans ?_, (h c).2.2.1.trans ?_, (h c).2.2.2⟩)
      (Cert.Reference10Ideal.Value.run (F := Ideal) m' ρ')⟩
  · obtain ⟨e0, e1, e2, e3, e4, e5⟩ := hagree c
    rw [Cert.Reference10Ideal.Read.val_main_v36_eq, e0, e1, e2, e3, e4, e5]
    exact Cert.Reference10Ideal.DownNorm.xh_eq _ _ _ _ _ _
  · obtain ⟨e0, e1, e2, e3, e4, e5⟩ := hagree c
    rw [Cert.Reference10Ideal.Read.val_main_v32_eq, e0, e1, e2, e3, e4, e5]
    exact Cert.Reference10Ideal.DownNorm.dev_eq _ _ _ _ _ _
  · obtain ⟨e0, e1, _, _, _, _⟩ := hagree c
    rw [Cert.Reference10Ideal.Read.val_main_v37_eq, e0, e1]
    exact Cert.Reference10Ideal.DownNorm.f_eq _ _

/-- The attention layer's merged branches, projection, residual and normalisation. -/
theorem algebraic11 : Cert.algebraic_Kernel11Ideal_Reference11Ideal := by
  intro m ρ m' ρ' _ hagree
  refine ⟨fun c => Cert.Kernel11Ideal.Mix.xh (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)),
    fun c => Cert.Kernel11Ideal.Mix.dev (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9)),
    fun c => Cert.Kernel11Ideal.Mix.branch (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg3)),
    fun c => Cert.Kernel11Ideal.Mix.branch (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg4)),
    fun c => Cert.Kernel11Ideal.Mix.merged (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => Cert.Kernel11Ideal.Mix.out (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)),
    (θ_run Cert.Kernel11Ideal.defs _ _).mono (fun r h c => ⟨(Cert.Kernel11Ideal.Value.post11 m r h c).trans (Cert.Kernel11Ideal.Mix.final_xh m c), (Cert.Kernel11Ideal.Value.post12 m r h c).trans (Cert.Kernel11Ideal.Mix.final_dev m c), (Cert.Kernel11Ideal.Value.post13 m r h c).trans (Cert.Kernel11Ideal.Mix.final_ysb m c), (Cert.Kernel11Ideal.Value.post14 m r h c).trans (Cert.Kernel11Ideal.Mix.final_yco m c), (Cert.Kernel11Ideal.Value.post15 m r h c).trans (Cert.Kernel11Ideal.Mix.final_merged m c), (Cert.Kernel11Ideal.Value.post16 m r h c).trans (Cert.Kernel11Ideal.Mix.final_out m c), Cert.Kernel11Ideal.Value.kept_main_arg0 m r h c, Cert.Kernel11Ideal.Value.kept_main_arg1 m r h c, Cert.Kernel11Ideal.Value.kept_main_arg2 m r h c, Cert.Kernel11Ideal.Value.kept_main_arg3 m r h c, Cert.Kernel11Ideal.Value.kept_main_arg4 m r h c, Cert.Kernel11Ideal.Value.kept_main_arg5 m r h c, Cert.Kernel11Ideal.Value.kept_main_arg6 m r h c, Cert.Kernel11Ideal.Value.kept_main_arg7 m r h c, Cert.Kernel11Ideal.Value.kept_main_arg8 m r h c, Cert.Kernel11Ideal.Value.kept_main_arg9 m r h c⟩)
      (Cert.Kernel11Ideal.Gen.run_main (F := Ideal) m ρ),
    (θ_run Cert.Reference11Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference11Ideal.Value.run (F := Ideal) m' ρ')⟩
  · obtain ⟨e0, e1, e2, e3, e4, e5, e6, e7, e8, e9⟩ := hagree c
    rw [Cert.Reference11Ideal.Read.val_main_v55_eq, e0, e1, e2, e3, e4, e5, e6, e7, e8, e9]
    exact Cert.Reference11Ideal.Mix.xh_eq _ _ _ _ _ _ _ _ _ _
  · obtain ⟨e0, e1, e2, e3, e4, e5, e6, e7, e8, e9⟩ := hagree c
    rw [Cert.Reference11Ideal.Read.val_main_v51_eq, e0, e1, e2, e3, e4, e5, e6, e7, e8, e9]
    exact Cert.Reference11Ideal.Mix.dev_eq _ _ _ _ _ _ _ _ _ _
  · obtain ⟨e0, _, _, e3, _, _, _, _, _, _⟩ := hagree c
    rw [Cert.Reference11Ideal.Read.val_main_v56_eq, e0, e3]
    exact Cert.Reference11Ideal.Mix.ysb_eq _ _
  · obtain ⟨_, e1, _, _, e4, _, _, _, _, _⟩ := hagree c
    rw [Cert.Reference11Ideal.Read.val_main_v57_eq, e1, e4]
    exact Cert.Reference11Ideal.Mix.yco_eq _ _
  · obtain ⟨e0, e1, e2, e3, e4, _, _, _, _, _⟩ := hagree c
    rw [Cert.Reference11Ideal.Read.val_main_v58_eq, e0, e1, e2, e3, e4]
    exact Cert.Reference11Ideal.Mix.merged_eq _ _ _ _ _
  · obtain ⟨e0, e1, e2, e3, e4, e5, _, _, _, _⟩ := hagree c
    rw [Cert.Reference11Ideal.Read.val_main_v59_eq, e0, e1, e2, e3, e4, e5]
    exact Cert.Reference11Ideal.Mix.out_eq _ _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel7.Gen.facts, Cert.Kernel7Ideal.Gen.facts, Cert.Reference7Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  Cert.Pre_finite.Gen.facts,
  frame_kernel, frame_kernelIdeal, fun m ρ _ => frame_kernelIdeal m ρ trivial, frame_referenceIdeal, fun m ρ _ => frame_referenceIdeal m ρ trivial,
  fun m ρ _ => Cert.Kernel2.Gen.frame (F := Bits) m ρ, fun m ρ _ => Cert.Kernel2Ideal.Gen.frame (F := Ideal) m ρ, frame_reference2Ideal,
  fun m ρ _ => Cert.Kernel3.Gen.frame (F := Bits) m ρ, fun m ρ _ => Cert.Kernel3Ideal.Gen.frame (F := Ideal) m ρ, frame_reference3Ideal,
  fun m ρ _ => Cert.Kernel4.Gen.frame (F := Bits) m ρ, fun m ρ _ => Cert.Kernel4Ideal.Gen.frame (F := Ideal) m ρ, frame_reference4Ideal,
  fun m ρ _ => Cert.Kernel7.Gen.frame (F := Bits) m ρ, fun m ρ _ => Cert.Kernel7Ideal.Gen.frame (F := Ideal) m ρ, frame_reference7Ideal,
  fun m ρ _ => Cert.Kernel5.Gen.frame (F := Bits) m ρ, fun m ρ _ => Cert.Kernel5Ideal.Gen.frame (F := Ideal) m ρ, frame_reference5Ideal,
  fun m ρ _ => Cert.Kernel6.Gen.frame (F := Bits) m ρ, fun m ρ _ => Cert.Kernel6Ideal.Gen.frame (F := Ideal) m ρ, frame_reference6Ideal,
  fun m ρ _ => Cert.Kernel8.Gen.frame (F := Bits) m ρ, fun m ρ _ => Cert.Kernel8Ideal.Gen.frame (F := Ideal) m ρ, frame_reference8Ideal,
  fun m ρ _ => Cert.Kernel9.Gen.frame (F := Bits) m ρ, fun m ρ _ => Cert.Kernel9Ideal.Gen.frame (F := Ideal) m ρ, frame_reference9Ideal,
  fun m ρ _ => Cert.Kernel10.Gen.frame (F := Bits) m ρ, fun m ρ _ => Cert.Kernel10Ideal.Gen.frame (F := Ideal) m ρ, frame_reference10Ideal,
  fun m ρ _ => Cert.Kernel11.Gen.frame (F := Bits) m ρ, fun m ρ _ => Cert.Kernel11Ideal.Gen.frame (F := Ideal) m ρ, frame_reference11Ideal,
  trivial, algebraic, trivial, algebraic2, trivial, algebraic3, trivial, algebraic4, trivial, algebraic7, trivial, algebraic5, trivial, algebraic6, trivial, algebraic8, trivial, algebraic9, trivial, algebraic10, trivial, algebraic11⟩

end Cert.Proof

end
